-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_ret [hPre_finite_ret : Cert.Pre_finite_ret.Facts] (m : (ℓ : Loc Cert.RetIdeal.nD Cert.RetIdeal.τ Cert.RetIdeal.sig) → Buf (Elt Ideal) ℓ) : Prop :=
  ∀ c : Dev Cert.RetIdeal.nD,
    (Cert.Pre_finite_ret.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_ret [hPre_finite_ret : Cert.Pre_finite_ret.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_ret.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_MlpA (m : (ℓ : Loc Cert.MlpA.nD Cert.MlpA.τ Cert.MlpA.sig) → Buf (Elt Bits) ℓ) : Prop :=
  True

def Pre_MlpAIdeal (m : (ℓ : Loc Cert.MlpAIdeal.nD Cert.MlpAIdeal.τ Cert.MlpAIdeal.sig) → Buf (Elt Ideal) ℓ) : Prop :=
  True

def Pre_MlpAIdeal_finite_a [hPre_finite_a : Cert.Pre_finite_a.Facts] (m : (ℓ : Loc Cert.MlpAIdeal.nD Cert.MlpAIdeal.τ Cert.MlpAIdeal.sig) → Buf (Elt Ideal) ℓ) : Prop :=
  ∀ c : Dev Cert.MlpAIdeal.nD,
    (Cert.Pre_finite_a.fn (F := Ideal) (m ((c.tc : Thread Cert.MlpAIdeal.nD Cert.MlpAIdeal.τ).loc Cert.MlpAIdeal.main_arg0)) (m ((c.tc : Thread Cert.MlpAIdeal.nD Cert.MlpAIdeal.τ).loc Cert.MlpAIdeal.main_arg1)) (m ((c.tc : Thread Cert.MlpAIdeal.nD Cert.MlpAIdeal.τ).loc Cert.MlpAIdeal.main_arg2)) (m ((c.tc : Thread Cert.MlpAIdeal.nD Cert.MlpAIdeal.τ).loc Cert.MlpAIdeal.main_arg3)) (m ((c.tc : Thread Cert.MlpAIdeal.nD Cert.MlpAIdeal.τ).loc Cert.MlpAIdeal.main_arg4)) (m ((c.tc : Thread Cert.MlpAIdeal.nD Cert.MlpAIdeal.τ).loc Cert.MlpAIdeal.main_arg5))) = (fun _ => 1#1)

def Pre_MlpARefIdeal (m : (ℓ : Loc Cert.MlpARefIdeal.nD Cert.MlpARefIdeal.τ Cert.MlpARefIdeal.sig) → Buf (Elt Ideal) ℓ) : Prop :=
  True

def Pre_MlpARefIdeal_finite_a [hPre_finite_a : Cert.Pre_finite_a.Facts] (m : (ℓ : Loc Cert.MlpARefIdeal.nD Cert.MlpARefIdeal.τ Cert.MlpARefIdeal.sig) → Buf (Elt Ideal) ℓ) : Prop :=
  ∀ c : Dev Cert.MlpARefIdeal.nD,
    (Cert.Pre_finite_a.fn (F := Ideal) (m ((c.tc : Thread Cert.MlpARefIdeal.nD Cert.MlpARefIdeal.τ).loc Cert.MlpARefIdeal.main_arg0)) (m ((c.tc : Thread Cert.MlpARefIdeal.nD Cert.MlpARefIdeal.τ).loc Cert.MlpARefIdeal.main_arg1)) (m ((c.tc : Thread Cert.MlpARefIdeal.nD Cert.MlpARefIdeal.τ).loc Cert.MlpARefIdeal.main_arg2)) (m ((c.tc : Thread Cert.MlpARefIdeal.nD Cert.MlpARefIdeal.τ).loc Cert.MlpARefIdeal.main_arg3)) (m ((c.tc : Thread Cert.MlpARefIdeal.nD Cert.MlpARefIdeal.τ).loc Cert.MlpARefIdeal.main_arg4)) (m ((c.tc : Thread Cert.MlpARefIdeal.nD Cert.MlpARefIdeal.τ).loc Cert.MlpARefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in [hPre_finite_in : Cert.Pre_finite_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))) = (fun _ => 1#1)

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBIdeal_finite_b [hPre_finite_b : Cert.Pre_finite_b.Facts] (m : (ℓ : Loc Cert.MlpBIdeal.nD Cert.MlpBIdeal.τ Cert.MlpBIdeal.sig) → Buf (Elt Ideal) ℓ) : Prop :=
  ∀ c : Dev Cert.MlpBIdeal.nD,
    (Cert.Pre_finite_b.fn (F := Ideal) (m ((c.tc : Thread Cert.MlpBIdeal.nD Cert.MlpBIdeal.τ).loc Cert.MlpBIdeal.main_arg0)) (m ((c.tc : Thread Cert.MlpBIdeal.nD Cert.MlpBIdeal.τ).loc Cert.MlpBIdeal.main_arg1)) (m ((c.tc : Thread Cert.MlpBIdeal.nD Cert.MlpBIdeal.τ).loc Cert.MlpBIdeal.main_arg2)) (m ((c.tc : Thread Cert.MlpBIdeal.nD Cert.MlpBIdeal.τ).loc Cert.MlpBIdeal.main_arg3)) (m ((c.tc : Thread Cert.MlpBIdeal.nD Cert.MlpBIdeal.τ).loc Cert.MlpBIdeal.main_arg4))) = (fun _ => 1#1)

def Pre_MlpBRefIdeal (m : (ℓ : Loc Cert.MlpBRefIdeal.nD Cert.MlpBRefIdeal.τ Cert.MlpBRefIdeal.sig) → Buf (Elt Ideal) ℓ) : Prop :=
  True

def Pre_MlpBRefIdeal_finite_b [hPre_finite_b : Cert.Pre_finite_b.Facts] (m : (ℓ : Loc Cert.MlpBRefIdeal.nD Cert.MlpBRefIdeal.τ Cert.MlpBRefIdeal.sig) → Buf (Elt Ideal) ℓ) : Prop :=
  ∀ c : Dev Cert.MlpBRefIdeal.nD,
    (Cert.Pre_finite_b.fn (F := Ideal) (m ((c.tc : Thread Cert.MlpBRefIdeal.nD Cert.MlpBRefIdeal.τ).loc Cert.MlpBRefIdeal.main_arg0)) (m ((c.tc : Thread Cert.MlpBRefIdeal.nD Cert.MlpBRefIdeal.τ).loc Cert.MlpBRefIdeal.main_arg1)) (m ((c.tc : Thread Cert.MlpBRefIdeal.nD Cert.MlpBRefIdeal.τ).loc Cert.MlpBRefIdeal.main_arg2)) (m ((c.tc : Thread Cert.MlpBRefIdeal.nD Cert.MlpBRefIdeal.τ).loc Cert.MlpBRefIdeal.main_arg3)) (m ((c.tc : Thread Cert.MlpBRefIdeal.nD Cert.MlpBRefIdeal.τ).loc Cert.MlpBRefIdeal.main_arg4))) = (fun _ => 1#1)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4)
      ∧ r.2.mem ((c.tc : Thread Cert.Ret.nD Cert.Ret.τ).loc Cert.Ret.main_arg5) = m ((c.tc : Thread Cert.Ret.nD Cert.Ret.τ).loc Cert.Ret.main_arg5))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5))
      ∧ r.2.sem = fun _ => 0)

def quiescent_RetIdeal_pre_finite_ret [hRetIdeal : Cert.RetIdeal.Facts] [hPre_finite_ret : Cert.Pre_finite_ret.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_ret m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5))
      ∧ r.2.sem = fun _ => 0)

def quiescent_RetRefIdeal_pre_finite_ret [hRetRefIdeal : Cert.RetRefIdeal.Facts] [hPre_finite_ret : Cert.Pre_finite_ret.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_ret m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MlpA [hMlpA : Cert.MlpA.Facts] : Prop :=
  ∀ (m : (ℓ : Loc Cert.MlpA.nD Cert.MlpA.τ Cert.MlpA.sig) → Buf (Elt Bits) ℓ) (g : Dev Cert.MlpA.nD → PrngReg), Pre_MlpA m →
    θ_run (Cert.MlpA.defs (F := Bits)) (onTc (τ := Cert.MlpA.τ) (Cert.MlpA.main (F := Bits))) ⟨m, fun _ => 0, g⟩ (fun r => (∀ c : Dev Cert.MlpA.nD,
      r.2.mem ((c.tc : Thread Cert.MlpA.nD Cert.MlpA.τ).loc Cert.MlpA.main_arg0) = m ((c.tc : Thread Cert.MlpA.nD Cert.MlpA.τ).loc Cert.MlpA.main_arg0)
      ∧ r.2.mem ((c.tc : Thread Cert.MlpA.nD Cert.MlpA.τ).loc Cert.MlpA.main_arg1) = m ((c.tc : Thread Cert.MlpA.nD Cert.MlpA.τ).loc Cert.MlpA.main_arg1)
      ∧ r.2.mem ((c.tc : Thread Cert.MlpA.nD Cert.MlpA.τ).loc Cert.MlpA.main_arg2) = m ((c.tc : Thread Cert.MlpA.nD Cert.MlpA.τ).loc Cert.MlpA.main_arg2)
      ∧ r.2.mem ((c.tc : Thread Cert.MlpA.nD Cert.MlpA.τ).loc Cert.MlpA.main_arg3) = m ((c.tc : Thread Cert.MlpA.nD Cert.MlpA.τ).loc Cert.MlpA.main_arg3)
      ∧ r.2.mem ((c.tc : Thread Cert.MlpA.nD Cert.MlpA.τ).loc Cert.MlpA.main_arg4) = m ((c.tc : Thread Cert.MlpA.nD Cert.MlpA.τ).loc Cert.MlpA.main_arg4)
      ∧ r.2.mem ((c.tc : Thread Cert.MlpA.nD Cert.MlpA.τ).loc Cert.MlpA.main_arg5) = m ((c.tc : Thread Cert.MlpA.nD Cert.MlpA.τ).loc Cert.MlpA.main_arg5))
      ∧ r.2.sem = fun _ => 0)

def quiescent_MlpAIdeal [hMlpAIdeal : Cert.MlpAIdeal.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
      ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4)
      ∧ r.2.mem ((c.tc : Thread Cert.MlpAIdeal.nD Cert.MlpAIdeal.τ).loc Cert.MlpAIdeal.main_arg5) = m ((c.tc : Thread Cert.MlpAIdeal.nD Cert.MlpAIdeal.τ).loc Cert.MlpAIdeal.main_arg5))
      ∧ r.2.sem = fun _ => 0)

def quiescent_MlpAIdeal_pre_finite_a [hMlpAIdeal : Cert.MlpAIdeal.Facts] [hPre_finite_a : Cert.Pre_finite_a.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal_finite_a m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
      ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4)
      ∧ r.2.mem ((c.tc : Thread Cert.MlpAIdeal.nD Cert.MlpAIdeal.τ).loc Cert.MlpAIdeal.main_arg5) = m ((c.tc : Thread Cert.MlpAIdeal.nD Cert.MlpAIdeal.τ).loc Cert.MlpAIdeal.main_arg5))
      ∧ r.2.sem = fun _ => 0)

def quiescent_MlpARefIdeal [hMlpARefIdeal : Cert.MlpARefIdeal.Facts] : Prop :=
  ∀ (m : (ℓ : Loc Cert.MlpARefIdeal.nD Cert.MlpARefIdeal.τ Cert.MlpARefIdeal.sig) → Buf (Elt Ideal) ℓ) (g : Dev Cert.MlpARefIdeal.nD → PrngReg), Pre_MlpARefIdeal m →
    θ_run (Cert.MlpARefIdeal.defs (F := Ideal)) (onTc (τ := Cert.MlpARefIdeal.τ) (Cert.MlpARefIdeal.main (F := Ideal))) ⟨m, fun _ => 0, g⟩ (fun r => (∀ c : Dev Cert.MlpARefIdeal.nD,
      r.2.mem ((c.tc : Thread Cert.MlpARefIdeal.nD Cert.MlpARefIdeal.τ).loc Cert.MlpARefIdeal.main_arg0) = m ((c.tc : Thread Cert.MlpARefIdeal.nD Cert.MlpARefIdeal.τ).loc Cert.MlpARefIdeal.main_arg0)
      ∧ r.2.mem ((c.tc : Thread Cert.MlpARefIdeal.nD Cert.MlpARefIdeal.τ).loc Cert.MlpARefIdeal.main_arg1) = m ((c.tc : Thread Cert.MlpARefIdeal.nD Cert.MlpARefIdeal.τ).loc Cert.MlpARefIdeal.main_arg1)
      ∧ r.2.mem ((c.tc : Thread Cert.MlpARefIdeal.nD Cert.MlpARefIdeal.τ).loc Cert.MlpARefIdeal.main_arg2) = m ((c.tc : Thread Cert.MlpARefIdeal.nD Cert.MlpARefIdeal.τ).loc Cert.MlpARefIdeal.main_arg2)
      ∧ r.2.mem ((c.tc : Thread Cert.MlpARefIdeal.nD Cert.MlpARefIdeal.τ).loc Cert.MlpARefIdeal.main_arg3) = m ((c.tc : Thread Cert.MlpARefIdeal.nD Cert.MlpARefIdeal.τ).loc Cert.MlpARefIdeal.main_arg3)
      ∧ r.2.mem ((c.tc : Thread Cert.MlpARefIdeal.nD Cert.MlpARefIdeal.τ).loc Cert.MlpARefIdeal.main_arg4) = m ((c.tc : Thread Cert.MlpARefIdeal.nD Cert.MlpARefIdeal.τ).loc Cert.MlpARefIdeal.main_arg4)
      ∧ r.2.mem ((c.tc : Thread Cert.MlpARefIdeal.nD Cert.MlpARefIdeal.τ).loc Cert.MlpARefIdeal.main_arg5) = m ((c.tc : Thread Cert.MlpARefIdeal.nD Cert.MlpARefIdeal.τ).loc Cert.MlpARefIdeal.main_arg5))
      ∧ r.2.sem = fun _ => 0)

def quiescent_MlpARefIdeal_pre_finite_a [hMlpARefIdeal : Cert.MlpARefIdeal.Facts] [hPre_finite_a : Cert.Pre_finite_a.Facts] : Prop :=
  ∀ (m : (ℓ : Loc Cert.MlpARefIdeal.nD Cert.MlpARefIdeal.τ Cert.MlpARefIdeal.sig) → Buf (Elt Ideal) ℓ) (g : Dev Cert.MlpARefIdeal.nD → PrngReg), Pre_MlpARefIdeal_finite_a m →
    θ_run (Cert.MlpARefIdeal.defs (F := Ideal)) (onTc (τ := Cert.MlpARefIdeal.τ) (Cert.MlpARefIdeal.main (F := Ideal))) ⟨m, fun _ => 0, g⟩ (fun r => (∀ c : Dev Cert.MlpARefIdeal.nD,
      r.2.mem ((c.tc : Thread Cert.MlpARefIdeal.nD Cert.MlpARefIdeal.τ).loc Cert.MlpARefIdeal.main_arg0) = m ((c.tc : Thread Cert.MlpARefIdeal.nD Cert.MlpARefIdeal.τ).loc Cert.MlpARefIdeal.main_arg0)
      ∧ r.2.mem ((c.tc : Thread Cert.MlpARefIdeal.nD Cert.MlpARefIdeal.τ).loc Cert.MlpARefIdeal.main_arg1) = m ((c.tc : Thread Cert.MlpARefIdeal.nD Cert.MlpARefIdeal.τ).loc Cert.MlpARefIdeal.main_arg1)
      ∧ r.2.mem ((c.tc : Thread Cert.MlpARefIdeal.nD Cert.MlpARefIdeal.τ).loc Cert.MlpARefIdeal.main_arg2) = m ((c.tc : Thread Cert.MlpARefIdeal.nD Cert.MlpARefIdeal.τ).loc Cert.MlpARefIdeal.main_arg2)
      ∧ r.2.mem ((c.tc : Thread Cert.MlpARefIdeal.nD Cert.MlpARefIdeal.τ).loc Cert.MlpARefIdeal.main_arg3) = m ((c.tc : Thread Cert.MlpARefIdeal.nD Cert.MlpARefIdeal.τ).loc Cert.MlpARefIdeal.main_arg3)
      ∧ r.2.mem ((c.tc : Thread Cert.MlpARefIdeal.nD Cert.MlpARefIdeal.τ).loc Cert.MlpARefIdeal.main_arg4) = m ((c.tc : Thread Cert.MlpARefIdeal.nD Cert.MlpARefIdeal.τ).loc Cert.MlpARefIdeal.main_arg4)
      ∧ r.2.mem ((c.tc : Thread Cert.MlpARefIdeal.nD Cert.MlpARefIdeal.τ).loc Cert.MlpARefIdeal.main_arg5) = m ((c.tc : Thread Cert.MlpARefIdeal.nD Cert.MlpARefIdeal.τ).loc Cert.MlpARefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjRefIdeal_pre_finite_in [hInProjRefIdeal : Cert.InProjRefIdeal.Facts] [hPre_finite_in : Cert.Pre_finite_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBIdeal_pre_finite_b [hMlpBIdeal : Cert.MlpBIdeal.Facts] [hPre_finite_b : Cert.Pre_finite_b.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal_finite_b m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBRefIdeal [hMlpBRefIdeal : Cert.MlpBRefIdeal.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MlpBRefIdeal_pre_finite_b [hMlpBRefIdeal : Cert.MlpBRefIdeal.Facts] [hPre_finite_b : Cert.Pre_finite_b.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal_finite_b m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def preserves_Ret_RetIdeal : Prop :=
  True

def algebraic_RetIdeal_RetRefIdeal_pre_finite_ret [hRetIdeal : Cert.RetIdeal.Facts] [hRetRefIdeal : Cert.RetRefIdeal.Facts] [hPre_finite_ret : Cert.Pre_finite_ret.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_ret m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)
      ∧ m' ((c.tc : Thread Cert.RetRefIdeal.nD Cert.RetRefIdeal.τ).loc Cert.RetRefIdeal.main_arg5) = m ((c.tc : Thread Cert.RetIdeal.nD Cert.RetIdeal.τ).loc Cert.RetIdeal.main_arg5)) →
    ∃ (v0 : (c : Dev Cert.RetIdeal.nD) → Buf (Elt Ideal) ((c.tc : Thread Cert.RetIdeal.nD Cert.RetIdeal.τ).loc Cert.RetIdeal.main_v317_0)) (v1 : (c : Dev Cert.RetIdeal.nD) → Buf (Elt Ideal) ((c.tc : Thread Cert.RetIdeal.nD Cert.RetIdeal.τ).loc Cert.RetIdeal.main_v317_1)) (v2 : (c : Dev Cert.RetIdeal.nD) → Buf (Elt Ideal) ((c.tc : Thread Cert.RetIdeal.nD Cert.RetIdeal.τ).loc Cert.RetIdeal.main_v317_2)) (v3 : (c : Dev Cert.RetIdeal.nD) → Buf (Elt Ideal) ((c.tc : Thread Cert.RetIdeal.nD Cert.RetIdeal.τ).loc Cert.RetIdeal.main_v317_3)) (v4 : (c : Dev Cert.RetIdeal.nD) → Buf (Elt Ideal) ((c.tc : Thread Cert.RetIdeal.nD Cert.RetIdeal.τ).loc Cert.RetIdeal.main_v317_4)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v317_0) = v0 c
          ∧ r.2.mem ((c.tc : Thread Cert.RetIdeal.nD Cert.RetIdeal.τ).loc Cert.RetIdeal.main_v317_1) = v1 c
          ∧ r.2.mem ((c.tc : Thread Cert.RetIdeal.nD Cert.RetIdeal.τ).loc Cert.RetIdeal.main_v317_2) = v2 c
          ∧ r.2.mem ((c.tc : Thread Cert.RetIdeal.nD Cert.RetIdeal.τ).loc Cert.RetIdeal.main_v317_3) = v3 c
          ∧ r.2.mem ((c.tc : Thread Cert.RetIdeal.nD Cert.RetIdeal.τ).loc Cert.RetIdeal.main_v317_4) = v4 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
          ∧ r.2.mem ((c.tc : Thread Cert.RetIdeal.nD Cert.RetIdeal.τ).loc Cert.RetIdeal.main_arg5) = m ((c.tc : Thread Cert.RetIdeal.nD Cert.RetIdeal.τ).loc Cert.RetIdeal.main_arg5))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v1055) = v0 c
          ∧ r.2.mem ((c.tc : Thread Cert.RetRefIdeal.nD Cert.RetRefIdeal.τ).loc Cert.RetRefIdeal.main_v1056) = v1 c
          ∧ r.2.mem ((c.tc : Thread Cert.RetRefIdeal.nD Cert.RetRefIdeal.τ).loc Cert.RetRefIdeal.main_v1057) = v2 c
          ∧ r.2.mem ((c.tc : Thread Cert.RetRefIdeal.nD Cert.RetRefIdeal.τ).loc Cert.RetRefIdeal.main_v1058) = v3 c
          ∧ r.2.mem ((c.tc : Thread Cert.RetRefIdeal.nD Cert.RetRefIdeal.τ).loc Cert.RetRefIdeal.main_v1059) = v4 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4)
          ∧ r.2.mem ((c.tc : Thread Cert.RetRefIdeal.nD Cert.RetRefIdeal.τ).loc Cert.RetRefIdeal.main_arg5) = m' ((c.tc : Thread Cert.RetRefIdeal.nD Cert.RetRefIdeal.τ).loc Cert.RetRefIdeal.main_arg5))

def preserves_Mix_MixIdeal : Prop :=
  IdealRules.named_const.Statement Cert.MixIdeal.κ "gelu_a" .f32 0x3D372713#32 ((8943 / 200000 : ℝ) : EReal)
  ∧ IdealRules.named_const.Statement Cert.MixIdeal.κ "gelu_3a" .f32 0x3E095D4F#32 ((26829 / 200000 : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v40_0)) (v1 : (c : Dev Cert.MixIdeal.nD) → Buf (Elt Ideal) ((c.tc : Thread Cert.MixIdeal.nD Cert.MixIdeal.τ).loc Cert.MixIdeal.main_v40_1)) (v2 : (c : Dev Cert.MixIdeal.nD) → Buf (Elt Ideal) ((c.tc : Thread Cert.MixIdeal.nD Cert.MixIdeal.τ).loc Cert.MixIdeal.main_v40_2)) (v3 : (c : Dev Cert.MixIdeal.nD) → Buf (Elt Ideal) ((c.tc : Thread Cert.MixIdeal.nD Cert.MixIdeal.τ).loc Cert.MixIdeal.main_v40_3)) (v4 : (c : Dev Cert.MixIdeal.nD) → Buf (Elt Ideal) ((c.tc : Thread Cert.MixIdeal.nD Cert.MixIdeal.τ).loc Cert.MixIdeal.main_v40_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v40_0) = v0 c
          ∧ r.2.mem ((c.tc : Thread Cert.MixIdeal.nD Cert.MixIdeal.τ).loc Cert.MixIdeal.main_v40_1) = v1 c
          ∧ r.2.mem ((c.tc : Thread Cert.MixIdeal.nD Cert.MixIdeal.τ).loc Cert.MixIdeal.main_v40_2) = v2 c
          ∧ r.2.mem ((c.tc : Thread Cert.MixIdeal.nD Cert.MixIdeal.τ).loc Cert.MixIdeal.main_v40_3) = v3 c
          ∧ r.2.mem ((c.tc : Thread Cert.MixIdeal.nD Cert.MixIdeal.τ).loc Cert.MixIdeal.main_v40_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v83) = v0 c
          ∧ r.2.mem ((c.tc : Thread Cert.MixRefIdeal.nD Cert.MixRefIdeal.τ).loc Cert.MixRefIdeal.main_v103) = v1 c
          ∧ r.2.mem ((c.tc : Thread Cert.MixRefIdeal.nD Cert.MixRefIdeal.τ).loc Cert.MixRefIdeal.main_v81) = v2 c
          ∧ r.2.mem ((c.tc : Thread Cert.MixRefIdeal.nD Cert.MixRefIdeal.τ).loc Cert.MixRefIdeal.main_v90) = v3 c
          ∧ r.2.mem ((c.tc : Thread Cert.MixRefIdeal.nD Cert.MixRefIdeal.τ).loc Cert.MixRefIdeal.main_v104) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MlpA_MlpAIdeal : Prop :=
  True

def algebraic_MlpAIdeal_MlpARefIdeal_pre_finite_a [hMlpAIdeal : Cert.MlpAIdeal.Facts] [hMlpARefIdeal : Cert.MlpARefIdeal.Facts] [hPre_finite_a : Cert.Pre_finite_a.Facts] : Prop :=
  ∀ (m : (ℓ : Loc Cert.MlpAIdeal.nD Cert.MlpAIdeal.τ Cert.MlpAIdeal.sig) → Buf (Elt Ideal) ℓ) (g : Dev Cert.MlpAIdeal.nD → PrngReg)
    (m' : (ℓ : Loc Cert.MlpARefIdeal.nD Cert.MlpARefIdeal.τ Cert.MlpARefIdeal.sig) → Buf (Elt Ideal) ℓ) (g' : Dev Cert.MlpARefIdeal.nD → PrngReg), Pre_MlpAIdeal_finite_a m →
    (∀ c : Dev Cert.MlpAIdeal.nD,
      m' ((c.tc : Thread Cert.MlpARefIdeal.nD Cert.MlpARefIdeal.τ).loc Cert.MlpARefIdeal.main_arg0) = m ((c.tc : Thread Cert.MlpAIdeal.nD Cert.MlpAIdeal.τ).loc Cert.MlpAIdeal.main_arg0)
      ∧ m' ((c.tc : Thread Cert.MlpARefIdeal.nD Cert.MlpARefIdeal.τ).loc Cert.MlpARefIdeal.main_arg1) = m ((c.tc : Thread Cert.MlpAIdeal.nD Cert.MlpAIdeal.τ).loc Cert.MlpAIdeal.main_arg1)
      ∧ m' ((c.tc : Thread Cert.MlpARefIdeal.nD Cert.MlpARefIdeal.τ).loc Cert.MlpARefIdeal.main_arg2) = m ((c.tc : Thread Cert.MlpAIdeal.nD Cert.MlpAIdeal.τ).loc Cert.MlpAIdeal.main_arg2)
      ∧ m' ((c.tc : Thread Cert.MlpARefIdeal.nD Cert.MlpARefIdeal.τ).loc Cert.MlpARefIdeal.main_arg3) = m ((c.tc : Thread Cert.MlpAIdeal.nD Cert.MlpAIdeal.τ).loc Cert.MlpAIdeal.main_arg3)
      ∧ m' ((c.tc : Thread Cert.MlpARefIdeal.nD Cert.MlpARefIdeal.τ).loc Cert.MlpARefIdeal.main_arg4) = m ((c.tc : Thread Cert.MlpAIdeal.nD Cert.MlpAIdeal.τ).loc Cert.MlpAIdeal.main_arg4)
      ∧ m' ((c.tc : Thread Cert.MlpARefIdeal.nD Cert.MlpARefIdeal.τ).loc Cert.MlpARefIdeal.main_arg5) = m ((c.tc : Thread Cert.MlpAIdeal.nD Cert.MlpAIdeal.τ).loc Cert.MlpAIdeal.main_arg5)) →
    ∃ (v0 : (c : Dev Cert.MlpAIdeal.nD) → Buf (Elt Ideal) ((c.tc : Thread Cert.MlpAIdeal.nD Cert.MlpAIdeal.τ).loc Cert.MlpAIdeal.main_v6_0)) (v1 : (c : Dev Cert.MlpAIdeal.nD) → Buf (Elt Ideal) ((c.tc : Thread Cert.MlpAIdeal.nD Cert.MlpAIdeal.τ).loc Cert.MlpAIdeal.main_v6_1)) (v2 : (c : Dev Cert.MlpAIdeal.nD) → Buf (Elt Ideal) ((c.tc : Thread Cert.MlpAIdeal.nD Cert.MlpAIdeal.τ).loc Cert.MlpAIdeal.main_v6_2)) (v3 : (c : Dev Cert.MlpAIdeal.nD) → Buf (Elt Ideal) ((c.tc : Thread Cert.MlpAIdeal.nD Cert.MlpAIdeal.τ).loc Cert.MlpAIdeal.main_v6_3)) (v4 : (c : Dev Cert.MlpAIdeal.nD) → Buf (Elt Ideal) ((c.tc : Thread Cert.MlpAIdeal.nD Cert.MlpAIdeal.τ).loc Cert.MlpAIdeal.main_v6_4)),
      θ_run (Cert.MlpAIdeal.defs (F := Ideal)) (onTc (τ := Cert.MlpAIdeal.τ) (Cert.MlpAIdeal.main (F := Ideal))) ⟨m, fun _ => 0, g⟩ (fun r => ∀ c : Dev Cert.MlpAIdeal.nD,
          r.2.mem ((c.tc : Thread Cert.MlpAIdeal.nD Cert.MlpAIdeal.τ).loc Cert.MlpAIdeal.main_v6_0) = v0 c
          ∧ r.2.mem ((c.tc : Thread Cert.MlpAIdeal.nD Cert.MlpAIdeal.τ).loc Cert.MlpAIdeal.main_v6_1) = v1 c
          ∧ r.2.mem ((c.tc : Thread Cert.MlpAIdeal.nD Cert.MlpAIdeal.τ).loc Cert.MlpAIdeal.main_v6_2) = v2 c
          ∧ r.2.mem ((c.tc : Thread Cert.MlpAIdeal.nD Cert.MlpAIdeal.τ).loc Cert.MlpAIdeal.main_v6_3) = v3 c
          ∧ r.2.mem ((c.tc : Thread Cert.MlpAIdeal.nD Cert.MlpAIdeal.τ).loc Cert.MlpAIdeal.main_v6_4) = v4 c
          ∧ r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
          ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
          ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
          ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
          ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4)
          ∧ r.2.mem ((c.tc : Thread Cert.MlpAIdeal.nD Cert.MlpAIdeal.τ).loc Cert.MlpAIdeal.main_arg5) = m ((c.tc : Thread Cert.MlpAIdeal.nD Cert.MlpAIdeal.τ).loc Cert.MlpAIdeal.main_arg5))
      ∧ θ_run (Cert.MlpARefIdeal.defs (F := Ideal)) (onTc (τ := Cert.MlpARefIdeal.τ) (Cert.MlpARefIdeal.main (F := Ideal))) ⟨m', fun _ => 0, g'⟩ (fun r => ∀ c : Dev Cert.MlpARefIdeal.nD,
          r.2.mem ((c.tc : Thread Cert.MlpARefIdeal.nD Cert.MlpARefIdeal.τ).loc Cert.MlpARefIdeal.main_v91) = v0 c
          ∧ r.2.mem ((c.tc : Thread Cert.MlpARefIdeal.nD Cert.MlpARefIdeal.τ).loc Cert.MlpARefIdeal.main_v64) = v1 c
          ∧ r.2.mem ((c.tc : Thread Cert.MlpARefIdeal.nD Cert.MlpARefIdeal.τ).loc Cert.MlpARefIdeal.main_v86) = v2 c
          ∧ r.2.mem ((c.tc : Thread Cert.MlpARefIdeal.nD Cert.MlpARefIdeal.τ).loc Cert.MlpARefIdeal.main_v92) = v3 c
          ∧ r.2.mem ((c.tc : Thread Cert.MlpARefIdeal.nD Cert.MlpARefIdeal.τ).loc Cert.MlpARefIdeal.main_v93) = v4 c
          ∧ r.2.mem ((c.tc : Thread Cert.MlpARefIdeal.nD Cert.MlpARefIdeal.τ).loc Cert.MlpARefIdeal.main_arg0) = m' ((c.tc : Thread Cert.MlpARefIdeal.nD Cert.MlpARefIdeal.τ).loc Cert.MlpARefIdeal.main_arg0)
          ∧ r.2.mem ((c.tc : Thread Cert.MlpARefIdeal.nD Cert.MlpARefIdeal.τ).loc Cert.MlpARefIdeal.main_arg1) = m' ((c.tc : Thread Cert.MlpARefIdeal.nD Cert.MlpARefIdeal.τ).loc Cert.MlpARefIdeal.main_arg1)
          ∧ r.2.mem ((c.tc : Thread Cert.MlpARefIdeal.nD Cert.MlpARefIdeal.τ).loc Cert.MlpARefIdeal.main_arg2) = m' ((c.tc : Thread Cert.MlpARefIdeal.nD Cert.MlpARefIdeal.τ).loc Cert.MlpARefIdeal.main_arg2)
          ∧ r.2.mem ((c.tc : Thread Cert.MlpARefIdeal.nD Cert.MlpARefIdeal.τ).loc Cert.MlpARefIdeal.main_arg3) = m' ((c.tc : Thread Cert.MlpARefIdeal.nD Cert.MlpARefIdeal.τ).loc Cert.MlpARefIdeal.main_arg3)
          ∧ r.2.mem ((c.tc : Thread Cert.MlpARefIdeal.nD Cert.MlpARefIdeal.τ).loc Cert.MlpARefIdeal.main_arg4) = m' ((c.tc : Thread Cert.MlpARefIdeal.nD Cert.MlpARefIdeal.τ).loc Cert.MlpARefIdeal.main_arg4)
          ∧ r.2.mem ((c.tc : Thread Cert.MlpARefIdeal.nD Cert.MlpARefIdeal.τ).loc Cert.MlpARefIdeal.main_arg5) = m' ((c.tc : Thread Cert.MlpARefIdeal.nD Cert.MlpARefIdeal.τ).loc Cert.MlpARefIdeal.main_arg5))

def preserves_InProj_InProjIdeal : Prop :=
  True

def algebraic_InProjIdeal_InProjRefIdeal_pre_finite_in [hInProjIdeal : Cert.InProjIdeal.Facts] [hInProjRefIdeal : Cert.InProjRefIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_in m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v55) = v0 c
          ∧ r.2.mem ((c.tc : Thread Cert.InProjRefIdeal.nD Cert.InProjRefIdeal.τ).loc Cert.InProjRefIdeal.main_v33) = v1 c
          ∧ r.2.mem ((c.tc : Thread Cert.InProjRefIdeal.nD Cert.InProjRefIdeal.τ).loc Cert.InProjRefIdeal.main_v56) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_MlpB_MlpBIdeal : Prop :=
  True

def algebraic_MlpBIdeal_MlpBRefIdeal_pre_finite_b [hMlpBIdeal : Cert.MlpBIdeal.Facts] [hMlpBRefIdeal : Cert.MlpBRefIdeal.Facts] [hPre_finite_b : Cert.Pre_finite_b.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBRefIdeal.nD Cert.MlpBRefIdeal.τ Cert.MlpBRefIdeal.sig) → Buf (Elt Ideal) ℓ) (g' : Dev Cert.MlpBRefIdeal.nD → PrngReg), Pre_MlpBIdeal_finite_b m →
    (∀ c : Dev Cert.MlpBIdeal.nD,
      m' ((c.tc : Thread Cert.MlpBRefIdeal.nD Cert.MlpBRefIdeal.τ).loc Cert.MlpBRefIdeal.main_arg0) = m ((c.tc : Thread Cert.MlpBIdeal.nD Cert.MlpBIdeal.τ).loc Cert.MlpBIdeal.main_arg0)
      ∧ m' ((c.tc : Thread Cert.MlpBRefIdeal.nD Cert.MlpBRefIdeal.τ).loc Cert.MlpBRefIdeal.main_arg1) = m ((c.tc : Thread Cert.MlpBIdeal.nD Cert.MlpBIdeal.τ).loc Cert.MlpBIdeal.main_arg1)
      ∧ m' ((c.tc : Thread Cert.MlpBRefIdeal.nD Cert.MlpBRefIdeal.τ).loc Cert.MlpBRefIdeal.main_arg2) = m ((c.tc : Thread Cert.MlpBIdeal.nD Cert.MlpBIdeal.τ).loc Cert.MlpBIdeal.main_arg2)
      ∧ m' ((c.tc : Thread Cert.MlpBRefIdeal.nD Cert.MlpBRefIdeal.τ).loc Cert.MlpBRefIdeal.main_arg3) = m ((c.tc : Thread Cert.MlpBIdeal.nD Cert.MlpBIdeal.τ).loc Cert.MlpBIdeal.main_arg3)
      ∧ m' ((c.tc : Thread Cert.MlpBRefIdeal.nD Cert.MlpBRefIdeal.τ).loc Cert.MlpBRefIdeal.main_arg4) = m ((c.tc : Thread Cert.MlpBIdeal.nD Cert.MlpBIdeal.τ).loc Cert.MlpBIdeal.main_arg4)) →
    ∃ (v0 : (c : Dev Cert.MlpBIdeal.nD) → Buf (Elt Ideal) ((c.tc : Thread Cert.MlpBIdeal.nD Cert.MlpBIdeal.τ).loc Cert.MlpBIdeal.main_v8_0)) (v1 : (c : Dev Cert.MlpBIdeal.nD) → Buf (Elt Ideal) ((c.tc : Thread Cert.MlpBIdeal.nD Cert.MlpBIdeal.τ).loc Cert.MlpBIdeal.main_v8_1)) (v2 : (c : Dev Cert.MlpBIdeal.nD) → Buf (Elt Ideal) ((c.tc : Thread Cert.MlpBIdeal.nD Cert.MlpBIdeal.τ).loc Cert.MlpBIdeal.main_v8_2)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v8_0) = v0 c
          ∧ r.2.mem ((c.tc : Thread Cert.MlpBIdeal.nD Cert.MlpBIdeal.τ).loc Cert.MlpBIdeal.main_v8_1) = v1 c
          ∧ r.2.mem ((c.tc : Thread Cert.MlpBIdeal.nD Cert.MlpBIdeal.τ).loc Cert.MlpBIdeal.main_v8_2) = v2 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ θ_run (Cert.MlpBRefIdeal.defs (F := Ideal)) (onTc (τ := Cert.MlpBRefIdeal.τ) (Cert.MlpBRefIdeal.main (F := Ideal))) ⟨m', fun _ => 0, g'⟩ (fun r => ∀ c : Dev Cert.MlpBRefIdeal.nD,
          r.2.mem ((c.tc : Thread Cert.MlpBRefIdeal.nD Cert.MlpBRefIdeal.τ).loc Cert.MlpBRefIdeal.main_v45) = v0 c
          ∧ r.2.mem ((c.tc : Thread Cert.MlpBRefIdeal.nD Cert.MlpBRefIdeal.τ).loc Cert.MlpBRefIdeal.main_v23) = v1 c
          ∧ r.2.mem ((c.tc : Thread Cert.MlpBRefIdeal.nD Cert.MlpBRefIdeal.τ).loc Cert.MlpBRefIdeal.main_v46) = v2 c
          ∧ r.2.mem ((c.tc : Thread Cert.MlpBRefIdeal.nD Cert.MlpBRefIdeal.τ).loc Cert.MlpBRefIdeal.main_arg0) = m' ((c.tc : Thread Cert.MlpBRefIdeal.nD Cert.MlpBRefIdeal.τ).loc Cert.MlpBRefIdeal.main_arg0)
          ∧ r.2.mem ((c.tc : Thread Cert.MlpBRefIdeal.nD Cert.MlpBRefIdeal.τ).loc Cert.MlpBRefIdeal.main_arg1) = m' ((c.tc : Thread Cert.MlpBRefIdeal.nD Cert.MlpBRefIdeal.τ).loc Cert.MlpBRefIdeal.main_arg1)
          ∧ r.2.mem ((c.tc : Thread Cert.MlpBRefIdeal.nD Cert.MlpBRefIdeal.τ).loc Cert.MlpBRefIdeal.main_arg2) = m' ((c.tc : Thread Cert.MlpBRefIdeal.nD Cert.MlpBRefIdeal.τ).loc Cert.MlpBRefIdeal.main_arg2)
          ∧ r.2.mem ((c.tc : Thread Cert.MlpBRefIdeal.nD Cert.MlpBRefIdeal.τ).loc Cert.MlpBRefIdeal.main_arg3) = m' ((c.tc : Thread Cert.MlpBRefIdeal.nD Cert.MlpBRefIdeal.τ).loc Cert.MlpBRefIdeal.main_arg3)
          ∧ r.2.mem ((c.tc : Thread Cert.MlpBRefIdeal.nD Cert.MlpBRefIdeal.τ).loc Cert.MlpBRefIdeal.main_arg4) = m' ((c.tc : Thread Cert.MlpBRefIdeal.nD Cert.MlpBRefIdeal.τ).loc Cert.MlpBRefIdeal.main_arg4))

def Claim : Prop :=
  ∃ (hRet : Cert.Ret.Facts) (hRetIdeal : Cert.RetIdeal.Facts) (hRetRefIdeal : Cert.RetRefIdeal.Facts) (hMix : Cert.Mix.Facts) (hMixIdeal : Cert.MixIdeal.Facts) (hMixRefIdeal : Cert.MixRefIdeal.Facts) (hMlpA : Cert.MlpA.Facts) (hMlpAIdeal : Cert.MlpAIdeal.Facts) (hMlpARefIdeal : Cert.MlpARefIdeal.Facts) (hInProj : Cert.InProj.Facts) (hInProjIdeal : Cert.InProjIdeal.Facts) (hInProjRefIdeal : Cert.InProjRefIdeal.Facts) (hMlpB : Cert.MlpB.Facts) (hMlpBIdeal : Cert.MlpBIdeal.Facts) (hMlpBRefIdeal : Cert.MlpBRefIdeal.Facts) (hPre_finite_ret : Cert.Pre_finite_ret.Facts) (hPre_finite_mix : Cert.Pre_finite_mix.Facts) (hPre_finite_a : Cert.Pre_finite_a.Facts) (hPre_finite_in : Cert.Pre_finite_in.Facts) (hPre_finite_b : Cert.Pre_finite_b.Facts),
    quiescent_Ret (hRet := hRet)
    ∧ quiescent_RetIdeal (hRetIdeal := hRetIdeal)
    ∧ quiescent_RetIdeal_pre_finite_ret (hRetIdeal := hRetIdeal) (hPre_finite_ret := hPre_finite_ret)
    ∧ quiescent_RetRefIdeal (hRetRefIdeal := hRetRefIdeal)
    ∧ quiescent_RetRefIdeal_pre_finite_ret (hRetRefIdeal := hRetRefIdeal) (hPre_finite_ret := hPre_finite_ret)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_MlpA (hMlpA := hMlpA)
    ∧ quiescent_MlpAIdeal (hMlpAIdeal := hMlpAIdeal)
    ∧ quiescent_MlpAIdeal_pre_finite_a (hMlpAIdeal := hMlpAIdeal) (hPre_finite_a := hPre_finite_a)
    ∧ quiescent_MlpARefIdeal (hMlpARefIdeal := hMlpARefIdeal)
    ∧ quiescent_MlpARefIdeal_pre_finite_a (hMlpARefIdeal := hMlpARefIdeal) (hPre_finite_a := hPre_finite_a)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjRefIdeal (hInProjRefIdeal := hInProjRefIdeal)
    ∧ quiescent_InProjRefIdeal_pre_finite_in (hInProjRefIdeal := hInProjRefIdeal) (hPre_finite_in := hPre_finite_in)
    ∧ quiescent_MlpB (hMlpB := hMlpB)
    ∧ quiescent_MlpBIdeal (hMlpBIdeal := hMlpBIdeal)
    ∧ quiescent_MlpBIdeal_pre_finite_b (hMlpBIdeal := hMlpBIdeal) (hPre_finite_b := hPre_finite_b)
    ∧ quiescent_MlpBRefIdeal (hMlpBRefIdeal := hMlpBRefIdeal)
    ∧ quiescent_MlpBRefIdeal_pre_finite_b (hMlpBRefIdeal := hMlpBRefIdeal) (hPre_finite_b := hPre_finite_b)
    ∧ preserves_Ret_RetIdeal
    ∧ algebraic_RetIdeal_RetRefIdeal_pre_finite_ret (hRetIdeal := hRetIdeal) (hRetRefIdeal := hRetRefIdeal) (hPre_finite_ret := hPre_finite_ret)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_MlpA_MlpAIdeal
    ∧ algebraic_MlpAIdeal_MlpARefIdeal_pre_finite_a (hMlpAIdeal := hMlpAIdeal) (hMlpARefIdeal := hMlpARefIdeal) (hPre_finite_a := hPre_finite_a)
    ∧ preserves_InProj_InProjIdeal
    ∧ algebraic_InProjIdeal_InProjRefIdeal_pre_finite_in (hInProjIdeal := hInProjIdeal) (hInProjRefIdeal := hInProjRefIdeal) (hPre_finite_in := hPre_finite_in)
    ∧ preserves_MlpB_MlpBIdeal
    ∧ algebraic_MlpBIdeal_MlpBRefIdeal_pre_finite_b (hMlpBIdeal := hMlpBIdeal) (hMlpBRefIdeal := hMlpBRefIdeal) (hPre_finite_b := hPre_finite_b)
-- ==== Pre_finite_a.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x1024x4096 .f32) (main_arg5 : FVec F S1x4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x8192x1024 .f32) (main_arg1 : FVec F S1x8192x1024 .f32) (main_arg2 : FVec F S1x1024 .f32) (main_arg3 : FVec F S1x1024 .f32) (main_arg4 : FVec F S1x1024x4096 .f32) (main_arg5 : FVec F S1x4096x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite_b.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x8192x4096 : Shape := ⟨3, ![1, 8192, 4096]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x8192x4096 : S_.BroadcastsInDim S1x8192x4096 (![] : Fin 0 → Fin S1x8192x4096.rank)
  reducesTo_S1x8192x4096_S_d0_1_2 : S1x8192x4096.ReducesTo [0, 1, 2] S_

variable [Facts]

def fn_part1 {F : FTy → Type} [FloatOps F] (main_v13 : IVec S_ 1) (main_v16 : IVec S1x8192x4096 1) : IVec S_ 1 :=
  let main_c_5 : IVec S_ 1 := constantI S_ 1 1#1
  let main_v17 : IVec S_ 1 := (fun x v => Host.reduce IntOp.andi x v reducesTo_S1x8192x4096_S_d0_1_2 h_S_) main_v16 main_c_5
  let main_v18 : IVec S_ 1 := andi main_v13 main_v17
  main_v18

def fn {F : FTy → Type} [FloatOps F] (main_arg0 : FVec F S1x8192x1024 .f32) (main_arg1 : FVec F S1x1024 .f32) (main_arg2 : FVec F S1x1024x4096 .f32) (main_arg3 : FVec F S1x8192x1024 .f32) (main_arg4 : FVec F S1x8192x4096 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4096 .f32 := Host.absf main_arg2
  let main_cst_2 : FVec F S_ .f32 := constant S_ .f32 0x7F800000#32
  let main_v10 : FVec F S1x1024x4096 .f32 := broadcastInDim S1x1024x4096 ![] bcast_S_S1x1024x4096 main_cst_2
  let main_v11 : IVec S1x1024x4096 1 := cmpf .olt main_v9 main_v10
  let main_c_3 : IVec S_ 1 := constantI S_ 1 1#1
  let main_v12 : IVec S_ 1 := (fun x v => Host.reduce IntOp.andi x v reducesTo_S1x1024x4096_S_d0_1_2 h_S_) main_v11 main_c_3
  let main_v13 : IVec S_ 1 := andi main_v8 main_v12
  let main_v14 : FVec F S1x8192x4096 .f32 := Host.absf main_arg4
  let main_cst_4 : FVec F S_ .f32 := constant S_ .f32 0x7F800000#32
  let main_v15 : FVec F S1x8192x4096 .f32 := broadcastInDim S1x8192x4096 ![] bcast_S_S1x8192x4096 main_cst_4
  let main_v16 : IVec S1x8192x4096 1 := cmpf .olt main_v14 main_v15
  fn_part1 (F := F) main_v13 main_v16
-- ==== Pre_finite_in.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part2 {F : FTy → Type} [FloatOps F] (main_arg7 : FVec F S1x8192x512 .f32) (main_v33 : IVec S_ 1) : IVec S_ 1 :=
  let main_v34 : FVec F S1x8192x512 .f32 := Host.absf main_arg7
  let main_cst_12 : FVec F S_ .f32 := constant S_ .f32 0x7F800000#32
  let main_v35 : FVec F S1x8192x512 .f32 := broadcastInDim S1x8192x512 ![] bcast_S_S1x8192x512 main_cst_12
  let main_v36 : IVec S1x8192x512 1 := cmpf .olt main_v34 main_v35
  let main_c_13 : IVec S_ 1 := constantI S_ 1 1#1
  let main_v37 : IVec S_ 1 := (fun x v => Host.reduce IntOp.andi x v reducesTo_S1x8192x512_S_d0_1_2 h_S_) main_v36 main_c_13
  let main_v38 : IVec S_ 1 := andi main_v33 main_v37
  main_v38

def fn_part1 {F : FTy → Type} [FloatOps F] (main_arg4 : FVec F S1x8192x512 .f32) (main_arg5 : FVec F S1x8192x512 .f32) (main_arg6 : FVec F S1x8192x512 .f32) (main_arg7 : FVec F S1x8192x512 .f32) (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  let main_v19 : FVec F S1x8192x512 .f32 := Host.absf main_arg4
  let main_cst_6 : FVec F S_ .f32 := constant S_ .f32 0x7F800000#32
  let main_v20 : FVec F S1x8192x512 .f32 := broadcastInDim S1x8192x512 ![] bcast_S_S1x8192x512 main_cst_6
  let main_v21 : IVec S1x8192x512 1 := cmpf .olt main_v19 main_v20
  let main_c_7 : IVec S_ 1 := constantI S_ 1 1#1
  let main_v22 : IVec S_ 1 := (fun x v => Host.reduce IntOp.andi x v reducesTo_S1x8192x512_S_d0_1_2 h_S_) main_v21 main_c_7
  let main_v23 : IVec S_ 1 := andi main_v18 main_v22
  let main_v24 : FVec F S1x8192x512 .f32 := Host.absf main_arg5
  let main_cst_8 : FVec F S_ .f32 := constant S_ .f32 0x7F800000#32
  let main_v25 : FVec F S1x8192x512 .f32 := broadcastInDim S1x8192x512 ![] bcast_S_S1x8192x512 main_cst_8
  let main_v26 : IVec S1x8192x512 1 := cmpf .olt main_v24 main_v25
  let main_c_9 : IVec S_ 1 := constantI S_ 1 1#1
  let main_v27 : IVec S_ 1 := (fun x v => Host.reduce IntOp.andi x v reducesTo_S1x8192x512_S_d0_1_2 h_S_) main_v26 main_c_9
  let main_v28 : IVec S_ 1 := andi main_v23 main_v27
  let main_v29 : FVec F S1x8192x512 .f32 := Host.absf main_arg6
  let main_cst_10 : FVec F S_ .f32 := constant S_ .f32 0x7F800000#32
  let main_v30 : FVec F S1x8192x512 .f32 := broadcastInDim S1x8192x512 ![] bcast_S_S1x8192x512 main_cst_10
  let main_v31 : IVec S1x8192x512 1 := cmpf .olt main_v29 main_v30
  let main_c_11 : IVec S_ 1 := constantI S_ 1 1#1
  let main_v32 : IVec S_ 1 := (fun x v => Host.reduce IntOp.andi x v reducesTo_S1x8192x512_S_d0_1_2 h_S_) main_v31 main_c_11
  let main_v33 : IVec S_ 1 := andi main_v28 main_v32
  fn_part2 (F := F) main_arg7 main_v33

def fn {F : FTy → Type} [FloatOps F] (main_arg0 : FVec F S1x8192x1024 .f32) (main_arg1 : FVec F S1x1024 .f32) (main_arg2 : FVec F S1x1024x2560 .f32) (main_arg3 : FVec F S1x8192x512 .f32) (main_arg4 : FVec F S1x8192x512 .f32) (main_arg5 : FVec F S1x8192x512 .f32) (main_arg6 : FVec F S1x8192x512 .f32) (main_arg7 : FVec F S1x8192x512 .f32) (main_arg8 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2560 .f32 := Host.absf main_arg2
  let main_cst_2 : FVec F S_ .f32 := constant S_ .f32 0x7F800000#32
  let main_v10 : FVec F S1x1024x2560 .f32 := broadcastInDim S1x1024x2560 ![] bcast_S_S1x1024x2560 main_cst_2
  let main_v11 : IVec S1x1024x2560 1 := cmpf .olt main_v9 main_v10
  let main_c_3 : IVec S_ 1 := constantI S_ 1 1#1
  let main_v12 : IVec S_ 1 := (fun x v => Host.reduce IntOp.andi x v reducesTo_S1x1024x2560_S_d0_1_2 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_arg4 main_arg5 main_arg6 main_arg7 main_v13 main_v16
-- ==== Pre_finite_mix.lean ====
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x8192x1024 : Shape := ⟨3, ![1, 8192, 1024]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_arg4 : FVec F S1x1024 .f32) (main_arg5 : FVec F S1x8192x1024 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x8192x1024 .f32 := Host.absf main_arg5
  let main_cst_8 : FVec F S_ .f32 := constant S_ .f32 0x7F800000#32
  let main_v25 : FVec F S1x8192x1024 .f32 := broadcastInDim S1x8192x1024 ![] bcast_S_S1x8192x1024 main_cst_8
  let main_v26 : IVec S1x8192x1024 1 := cmpf .olt main_v24 main_v25
  let main_c_9 : IVec S_ 1 := constantI S_ 1 1#1
  let main_v27 : IVec S_ 1 := (fun x v => Host.reduce IntOp.andi x v reducesTo_S1x8192x1024_S_d0_1_2 h_S_) main_v26 main_c_9
  let main_v28 : IVec S_ 1 := andi main_v23 main_v27
  main_v28

def fn {F : FTy → Type} [FloatOps F] (main_arg0 : FVec F S1x8192x512 .f32) (main_arg1 : FVec F S1x8192x512 .f32) (main_arg2 : FVec F S1x512x1024 .f32) (main_arg3 : FVec F S1x1024x1024 .f32) (main_arg4 : FVec F S1x1024 .f32) (main_arg5 : FVec F S1x8192x1024 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x512 .f32 := Host.absf main_arg1
  let main_cst_0 : FVec F S_ .f32 := constant S_ .f32 0x7F800000#32
  let main_v5 : FVec F S1x8192x512 .f32 := broadcastInDim S1x8192x512 ![] bcast_S_S1x8192x512 main_cst_0
  let main_v6 : IVec S1x8192x512 1 := cmpf .olt main_v4 main_v5
  let main_c_1 : IVec S_ 1 := constantI S_ 1 1#1
  let main_v7 : IVec S_ 1 := (fun x v => Host.reduce IntOp.andi x v reducesTo_S1x8192x512_S_d0_1_2 h_S_) main_v6 main_c_1
  let main_v8 : IVec S_ 1 := andi main_v3 main_v7
  let main_v9 : FVec F S1x512x1024 .f32 := Host.absf main_arg2
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_c_3 : IVec S_ 1 := constantI S_ 1 1#1
  let main_v12 : IVec S_ 1 := (fun x v => Host.reduce IntOp.andi x v reducesTo_S1x512x1024_S_d0_1_2 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_v13 main_v16
-- ==== Pre_finite_ret.lean ====
abbrev S1x8192x512 : Shape := ⟨3, ![1, 8192, 512]⟩
abbrev S1x512 : Shape := ⟨2, ![1, 512]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x8192x512 .f32) (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x8192x512 .f32 := Host.absf main_arg5
  let main_cst_8 : FVec F S_ .f32 := constant S_ .f32 0x7F800000#32
  let main_v25 : FVec F S1x8192x512 .f32 := broadcastInDim S1x8192x512 ![] bcast_S_S1x8192x512 main_cst_8
  let main_v26 : IVec S1x8192x512 1 := cmpf .olt main_v24 main_v25
  let main_c_9 : IVec S_ 1 := constantI S_ 1 1#1
  let main_v27 : IVec S_ 1 := (fun x v => Host.reduce IntOp.andi x v reducesTo_S1x8192x512_S_d0_1_2 h_S_) main_v26 main_c_9
  let main_v28 : IVec S_ 1 := andi main_v23 main_v27
  main_v28

def fn {F : FTy → Type} [FloatOps F] (main_arg0 : FVec F S1x8192x512 .f32) (main_arg1 : FVec F S1x8192x512 .f32) (main_arg2 : FVec F S1x8192x512 .f32) (main_arg3 : FVec F S1x8192x512 .f32) (main_arg4 : FVec F S1x512 .f32) (main_arg5 : FVec F S1x8192x512 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_v4 : FVec F S1x8192x512 .f32 := Host.absf main_arg1
  let main_cst_0 : FVec F S_ .f32 := constant S_ .f32 0x7F800000#32
  let main_v5 : FVec F S1x8192x512 .f32 := broadcastInDim S1x8192x512 ![] bcast_S_S1x8192x512 main_cst_0
  let main_v6 : IVec S1x8192x512 1 := cmpf .olt main_v4 main_v5
  let main_c_1 : IVec S_ 1 := constantI S_ 1 1#1
  let main_v7 : IVec S_ 1 := (fun x v => Host.reduce IntOp.andi x v reducesTo_S1x8192x512_S_d0_1_2 h_S_) main_v6 main_c_1
  let main_v8 : IVec S_ 1 := andi main_v3 main_v7
  let main_v9 : FVec F S1x8192x512 .f32 := Host.absf main_arg2
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  let main_c_3 : IVec S_ 1 := constantI S_ 1 1#1
  let main_v12 : IVec S_ 1 := (fun x v => Host.reduce IntOp.andi x v reducesTo_S1x8192x512_S_d0_1_2 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_arg4 main_arg5 main_v13 main_v16
-- ==== Ret.lean ====
abbrev S1x8192x512 : Shape := ⟨3, ![1, 8192, 512]⟩
abbrev S1x512 : Shape := ⟨2, ![1, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S3 : Shape := ⟨1, ![3]⟩
abbrev S1 : Shape := ⟨1, ![1]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8192x512 : Shape := ⟨2, ![8192, 512]⟩
abbrev S8192x4x128 : Shape := ⟨3, ![8192, 4, 128]⟩
abbrev S8192x1x128 : Shape := ⟨3, ![8192, 1, 128]⟩
abbrev S8192x4x64 : Shape := ⟨3, ![8192, 4, 64]⟩
abbrev S64x128x4x128 : Shape := ⟨4, ![64, 128, 4, 128]⟩
abbrev S128x4x128 : Shape := ⟨3, ![128, 4, 128]⟩
abbrev S1x128x4x128 : Shape := ⟨4, ![1, 128, 4, 128]⟩
abbrev S64x4x128x128 : Shape := ⟨4, ![64, 4, 128, 128]⟩
abbrev S1x4x128x128 : Shape := ⟨4, ![1, 4, 128, 128]⟩
abbrev S16x4x128x128 : Shape := ⟨4, ![16, 4, 128, 128]⟩
abbrev S512x512 : Shape := ⟨2, ![512, 512]⟩
abbrev S4x4x128x128 : Shape := ⟨4, ![4, 4, 128, 128]⟩
abbrev S512x128 : Shape := ⟨2, ![512, 128]⟩
abbrev S16x128x128 : Shape := ⟨3, ![16, 128, 128]⟩
abbrev S16x128 : Shape := ⟨2, ![16, 128]⟩
abbrev S16x128x1 : Shape := ⟨3, ![16, 128, 1]⟩
abbrev S1x1x128 : Shape := ⟨3, ![1, 1, 128]⟩
abbrev S16x1x128 : Shape := ⟨3, ![16, 1, 128]⟩

abbrev nBuf : Space → Nat
  | .hbm => 366
  | .vmem => 31
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S1x512, .f32⟩
  | 5 => ⟨S1x8192x512, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S8192, .f32⟩
  | 30 => ⟨S8192x1, .f32⟩
  | 31 => ⟨S1x64, .f32⟩
  | 32 => ⟨S8192x64, .f32⟩
  | 33 => ⟨S8192x64, .f32⟩
  | 34 => ⟨S8192x64, .f32⟩
  | 35 => ⟨S8192x64, .f32⟩
  | 36 => ⟨S8192x128, .f32⟩
  | 37 => ⟨S8192x64, .f32⟩
  | 38 => ⟨S8192x128, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S3, .f32⟩
  | 47 => ⟨S_, .f32⟩
  | 48 => ⟨S3, .f32⟩
  | 49 => ⟨S3, .f32⟩
  | 50 => ⟨S1, .f32⟩
  | 51 => ⟨S_, .f32⟩
  | 52 => ⟨S3, .f32⟩
  | 53 => ⟨S3, .f32⟩
  | 54 => ⟨S3, .f32⟩
  | 55 => ⟨S3, .f32⟩
  | 56 => ⟨S1, .f32⟩
  | 57 => ⟨S3, .f32⟩
  | 58 => ⟨S3, .f32⟩
  | 59 => ⟨S3, .f32⟩
  | 60 => ⟨S1, .f32⟩
  | 61 => ⟨S4, .f32⟩
  | 62 => ⟨S4, .f32⟩
  | 63 => ⟨S_, .f32⟩
  | 64 => ⟨S4, .f32⟩
  | 65 => ⟨S4, .f32⟩
  | 66 => ⟨S4, .f32⟩
  | 67 => ⟨S128, .f32⟩
  | 68 => ⟨S128x1, .f32⟩
  | 69 => ⟨S1x128, .f32⟩
  | 70 => ⟨S128x128, .f32⟩
  | 71 => ⟨S128x128, .f32⟩
  | 72 => ⟨S128x128, .f32⟩
  | 73 => ⟨S1x128x128, .f32⟩
  | 74 => ⟨S_, .f32⟩
  | 75 => ⟨S1x128x128, .f32⟩
  | 76 => ⟨S1x128x128, .i1⟩
  | 77 => ⟨S_, .f32⟩
  | 78 => ⟨S128x128, .f32⟩
  | 79 => ⟨S128x128, .f32⟩
  | 80 => ⟨S1x128x128, .f32⟩
  | 81 => ⟨S4x1x1, .f32⟩
  | 82 => ⟨S4x128x128, .f32⟩
  | 83 => ⟨S4x128x128, .f32⟩
  | 84 => ⟨S4x128x128, .f32⟩
  | 85 => ⟨S4x128x128, .f32⟩
  | 86 => ⟨S_, .f32⟩
  | 87 => ⟨S_, .f32⟩
  | 88 => ⟨S4x128x128, .i1⟩
  | 89 => ⟨S4x128x128, .f32⟩
  | 90 => ⟨S4x128x128, .f32⟩
  | 91 => ⟨S_, .f32⟩
  | 92 => ⟨S128, .f32⟩
  | 93 => ⟨S128, .f32⟩
  | 94 => ⟨S1x128, .f32⟩
  | 95 => ⟨S4x1, .f32⟩
  | 96 => ⟨S4x128, .f32⟩
  | 97 => ⟨S4x128, .f32⟩
  | 98 => ⟨S4x128, .f32⟩
  | 99 => ⟨S4x128, .f32⟩
  | 100 => ⟨S_, .f32⟩
  | 101 => ⟨S128, .f32⟩
  | 102 => ⟨S128, .f32⟩
  | 103 => ⟨S1x128, .f32⟩
  | 104 => ⟨S4x1, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4, .f32⟩
  | 111 => ⟨S4, .f32⟩
  | 112 => ⟨S4, .f32⟩
  | 113 => ⟨S4x128x1, .f32⟩
  | 114 => ⟨S4x128x128, .f32⟩
  | 115 => ⟨S4x128x1, .f32⟩
  | 116 => ⟨S4x128x128, .f32⟩
  | 117 => ⟨S4x1x1, .f32⟩
  | 118 => ⟨S4x128x128, .f32⟩
  | 119 => ⟨S8192x512, .f32⟩
  | 120 => ⟨S8192x4x128, .f32⟩
  | 121 => ⟨S8192x1x128, .f32⟩
  | 122 => ⟨S8192x4x128, .f32⟩
  | 123 => ⟨S8192x4x128, .f32⟩
  | 124 => ⟨S8192x4x64, .f32⟩
  | 125 => ⟨S8192x4x64, .f32⟩
  | 126 => ⟨S8192x4x128, .f32⟩
  | 127 => ⟨S8192x1x128, .f32⟩
  | _ => ⟨S1x8192x512, .f32⟩

abbrev hbmTy0_1 (i : Nat) : BufTy := match i % 128 with
  | 0 => ⟨S8192x4x128, .f32⟩
  | 1 => ⟨S8192x4x128, .f32⟩
  | 2 => ⟨S8192x4x128, .f32⟩
  | 3 => ⟨S8192x512, .f32⟩
  | 4 => ⟨S8192x512, .bf16⟩
  | 5 => ⟨S8192x512, .f32⟩
  | 6 => ⟨S8192x4x128, .f32⟩
  | 7 => ⟨S8192x1x128, .f32⟩
  | 8 => ⟨S8192x4x128, .f32⟩
  | 9 => ⟨S8192x4x128, .f32⟩
  | 10 => ⟨S8192x4x64, .f32⟩
  | 11 => ⟨S8192x4x64, .f32⟩
  | 12 => ⟨S8192x4x128, .f32⟩
  | 13 => ⟨S8192x1x128, .f32⟩
  | 14 => ⟨S8192x4x128, .f32⟩
  | 15 => ⟨S8192x4x128, .f32⟩
  | 16 => ⟨S8192x4x128, .f32⟩
  | 17 => ⟨S_, .f32⟩
  | 18 => ⟨S8192x4x128, .f32⟩
  | 19 => ⟨S8192x4x128, .f32⟩
  | 20 => ⟨S8192x512, .f32⟩
  | 21 => ⟨S8192x512, .bf16⟩
  | 22 => ⟨S8192x512, .f32⟩
  | 23 => ⟨S8192x512, .bf16⟩
  | 24 => ⟨S8192x512, .f32⟩
  | 25 => ⟨S64x128x4x128, .f32⟩
  | 26 => ⟨S8192x512, .f32⟩
  | 27 => ⟨S64x128x4x128, .f32⟩
  | 28 => ⟨S128x4x128, .f32⟩
  | 29 => ⟨S1x128x4x128, .f32⟩
  | 30 => ⟨S64x128x4x128, .f32⟩
  | 31 => ⟨S64x128x4x128, .f32⟩
  | 32 => ⟨S64x4x128x128, .f32⟩
  | 33 => ⟨S_, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S1x8192x512, .f32⟩

abbrev hbmTy0_2 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S16x4x128x128, .f32⟩
  | 98 => ⟨S16x4x128x128, .f32⟩
  | 99 => ⟨S16x4x128x128, .f32⟩
  | 100 => ⟨S16x4x128x128, .f32⟩
  | 101 => ⟨S64x4x128x128, .f32⟩
  | 102 => ⟨S8192x512, .f32⟩
  | 103 => ⟨S64x4x128x128, .bf16⟩
  | 104 => ⟨S8192x512, .f32⟩
  | 105 => ⟨S8192x512, .bf16⟩
  | 106 => ⟨S8192x512, .bf16⟩
  | 107 => ⟨S8192x512, .bf16⟩
  | 108 => ⟨S8192x512, .bf16⟩
  | 109 => ⟨S1x512, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x4x128x128, .bf16⟩
  | .local _ .vmem, ⟨14, _⟩ => ⟨S4x4x128x128, .bf16⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S1x512, .f32⟩
  | .local _ .vmem, ⟨30, _⟩ => ⟨S4x128x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_cst_0 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_11 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_12 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_13 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317_0 : Ref sig .tc := ⟨.hbm, 361, rfl⟩
abbrev main_v317_1 : Ref sig .tc := ⟨.hbm, 362, rfl⟩
abbrev main_v317_2 : Ref sig .tc := ⟨.hbm, 363, rfl⟩
abbrev main_v317_3 : Ref sig .tc := ⟨.hbm, 364, rfl⟩
abbrev main_v317_4 : Ref sig .tc := ⟨.hbm, 365, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== RetRefIdeal.lean ====
abbrev S1x8192x512 : Shape := ⟨3, ![1, 8192, 512]⟩
abbrev S1x512 : Shape := ⟨2, ![1, 512]⟩
abbrev S8192x512 : Shape := ⟨2, ![8192, 512]⟩
abbrev S512 : Shape := ⟨1, ![512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S3 : Shape := ⟨1, ![3]⟩
abbrev S1 : Shape := ⟨1, ![1]⟩
abbrev S4 : Shape := ⟨1, ![4]⟩
abbrev S64x128x4x128 : Shape := ⟨4, ![64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S64x4x128x128 : Shape := ⟨4, ![64, 4, 128, 128]⟩
abbrev S1x4x128x128 : Shape := ⟨4, ![1, 4, 128, 128]⟩
abbrev S4x1 : Shape := ⟨2, ![4, 1]⟩
abbrev S4x128 : Shape := ⟨2, ![4, 128]⟩
abbrev S128x4 : Shape := ⟨2, ![128, 4]⟩
abbrev S1x128x4x1 : Shape := ⟨4, ![1, 128, 4, 1]⟩
abbrev S0x4x128x128 : Shape := ⟨4, ![0, 4, 128, 128]⟩
abbrev S16x4x128x128 : Shape := ⟨4, ![16, 4, 128, 128]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 1144
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S1x512, .f32⟩
  | 5 => ⟨S1x8192x512, .f32⟩
  | 6 => ⟨S8192x512, .f32⟩
  | 7 => ⟨S8192x512, .f32⟩
  | 8 => ⟨S8192x512, .f32⟩
  | 9 => ⟨S8192x512, .f32⟩
  | 10 => ⟨S512, .f32⟩
  | 11 => ⟨S8192x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S8192, .f32⟩
  | 21 => ⟨S8192x1, .f32⟩
  | 22 => ⟨S1x64, .f32⟩
  | 23 => ⟨S8192x64, .f32⟩
  | 24 => ⟨S8192x64, .f32⟩
  | 25 => ⟨S8192x64, .f32⟩
  | 26 => ⟨S8192x64, .f32⟩
  | 27 => ⟨S8192x1x64, .f32⟩
  | 28 => ⟨S8192x64, .f32⟩
  | 29 => ⟨S8192x1x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x128, .f32⟩
  | 43 => ⟨S8192x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S8192, .f32⟩
  | 53 => ⟨S8192x1, .f32⟩
  | 54 => ⟨S1x64, .f32⟩
  | 55 => ⟨S8192x64, .f32⟩
  | 56 => ⟨S8192x64, .f32⟩
  | 57 => ⟨S8192x64, .f32⟩
  | 58 => ⟨S8192x64, .f32⟩
  | 59 => ⟨S8192x1x64, .f32⟩
  | 60 => ⟨S8192x64, .f32⟩
  | 61 => ⟨S8192x1x64, .f32⟩
  | 62 => ⟨S8192x4x64, .f32⟩
  | 63 => ⟨S8192x4x64, .f32⟩
  | 64 => ⟨S8192x4x64, .f32⟩
  | 65 => ⟨S8192x4x64, .f32⟩
  | 66 => ⟨S8192x4x64, .f32⟩
  | 67 => ⟨S8192x4x64, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S8192x4x128, .f32⟩
  | 75 => ⟨S_, .f32⟩
  | 76 => ⟨S8192x4x128, .f32⟩
  | 77 => ⟨S8192x4x128, .f32⟩
  | 78 => ⟨S8192x4x128, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S3, .f32⟩
  | 87 => ⟨S_, .f32⟩
  | 88 => ⟨S3, .f32⟩
  | 89 => ⟨S3, .f32⟩
  | 90 => ⟨S1, .f32⟩
  | 91 => ⟨S_, .f32⟩
  | 92 => ⟨S3, .f32⟩
  | 93 => ⟨S3, .f32⟩
  | 94 => ⟨S3, .f32⟩
  | 95 => ⟨S3, .f32⟩
  | 96 => ⟨S1, .f32⟩
  | 97 => ⟨S3, .f32⟩
  | 98 => ⟨S3, .f32⟩
  | 99 => ⟨S3, .f32⟩
  | 100 => ⟨S1, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S64x128x4x128, .f32⟩
  | 108 => ⟨S64x128x4x128, .f32⟩
  | 109 => ⟨S64x128x4x128, .f32⟩
  | 110 => ⟨S128, .f32⟩
  | 111 => ⟨S128x1, .f32⟩
  | 112 => ⟨S1x128, .f32⟩
  | 113 => ⟨S128x128, .f32⟩
  | 114 => ⟨S128x128, .f32⟩
  | 115 => ⟨S128x128, .f32⟩
  | 116 => ⟨S1x128x128, .f32⟩
  | 117 => ⟨S_, .f32⟩
  | 118 => ⟨S1x128x128, .f32⟩
  | 119 => ⟨S1x128x128, .i1⟩
  | 120 => ⟨S_, .f32⟩
  | 121 => ⟨S128x128, .f32⟩
  | 122 => ⟨S128x128, .f32⟩
  | 123 => ⟨S1x128x128, .f32⟩
  | 124 => ⟨S4x1x1, .f32⟩
  | 125 => ⟨S4x128x128, .f32⟩
  | 126 => ⟨S4x128x128, .f32⟩
  | 127 => ⟨S4x128x128, .f32⟩
  | _ => ⟨S1x8192x512, .f32⟩

abbrev hbmTy0_1 (i : Nat) : BufTy := match i % 128 with
  | 0 => ⟨S4x128x128, .f32⟩
  | 1 => ⟨S_, .f32⟩
  | 2 => ⟨S_, .f32⟩
  | 3 => ⟨S4x128x128, .i1⟩
  | 4 => ⟨S4x128x128, .f32⟩
  | 5 => ⟨S4x128x128, .f32⟩
  | 6 => ⟨S64x4x128x128, .f32⟩
  | 7 => ⟨S1x4x128x128, .f32⟩
  | 8 => ⟨S64x4x128x128, .f32⟩
  | 9 => ⟨S64x4x128x128, .f32⟩
  | 10 => ⟨S64x4x128x128, .f32⟩
  | 11 => ⟨S64x128x4x128, .f32⟩
  | 12 => ⟨S_, .f32⟩
  | 13 => ⟨S128, .f32⟩
  | 14 => ⟨S128, .f32⟩
  | 15 => ⟨S1x128, .f32⟩
  | 16 => ⟨S4x1, .f32⟩
  | 17 => ⟨S4x128, .f32⟩
  | 18 => ⟨S4x128, .f32⟩
  | 19 => ⟨S4x128, .f32⟩
  | 20 => ⟨S4x128, .f32⟩
  | 21 => ⟨S128x4, .f32⟩
  | 22 => ⟨S1x128x4x1, .f32⟩
  | 23 => ⟨S64x128x4x128, .f32⟩
  | 24 => ⟨S64x128x4x128, .f32⟩
  | 25 => ⟨S64x4x128x128, .f32⟩
  | 26 => ⟨S_, .f32⟩
  | 27 => ⟨S4, .f32⟩
  | 28 => ⟨S4, .f32⟩
  | 29 => ⟨S4, .f32⟩
  | 30 => ⟨S4x1x1, .f32⟩
  | 31 => ⟨S_, .f32⟩
  | 32 => ⟨S4x128x128, .f32⟩
  | 33 => ⟨S0x4x128x128, .f32⟩
  | 34 => ⟨S64x4x128x128, .f32⟩
  | 35 => ⟨S_, .f32⟩
  | 36 => ⟨S0x4x128x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x128x128, .f32⟩
  | 46 => ⟨S4x128x128, .f32⟩
  | 47 => ⟨S1x4x128x128, .f32⟩
  | 48 => ⟨S4x128x128, .f32⟩
  | 49 => ⟨S4x128x128, .f32⟩
  | 50 => ⟨S4x128x128, .f32⟩
  | 51 => ⟨S4x128x128, .f32⟩
  | 52 => ⟨S1x4x128x128, .f32⟩
  | 53 => ⟨S4x128x128, .f32⟩
  | 54 => ⟨S4x128x128, .f32⟩
  | 55 => ⟨S4x128x128, .f32⟩
  | 56 => ⟨S4x128x128, .f32⟩
  | 57 => ⟨S1x4x128x128, .f32⟩
  | 58 => ⟨S4x128x128, .f32⟩
  | 59 => ⟨S4x128x128, .f32⟩
  | 60 => ⟨S4x128x128, .f32⟩
  | 61 => ⟨S4x128x128, .f32⟩
  | 62 => ⟨S1x4x128x128, .f32⟩
  | 63 => ⟨S4x128x128, .f32⟩
  | 64 => ⟨S4x128x128, .f32⟩
  | 65 => ⟨S4x128x128, .f32⟩
  | 66 => ⟨S4x128x128, .f32⟩
  | 67 => ⟨S1x4x128x128, .f32⟩
  | 68 => ⟨S4x128x128, .f32⟩
  | 69 => ⟨S4x128x128, .f32⟩
  | 70 => ⟨S4x128x128, .f32⟩
  | 71 => ⟨S4x128x128, .f32⟩
  | 72 => ⟨S1x4x128x128, .f32⟩
  | 73 => ⟨S4x128x128, .f32⟩
  | 74 => ⟨S4x128x128, .f32⟩
  | 75 => ⟨S4x128x128, .f32⟩
  | 76 => ⟨S4x128x128, .f32⟩
  | 77 => ⟨S1x4x128x128, .f32⟩
  | 78 => ⟨S4x128x128, .f32⟩
  | 79 => ⟨S4x128x128, .f32⟩
  | 80 => ⟨S4x128x128, .f32⟩
  | 81 => ⟨S4x128x128, .f32⟩
  | 82 => ⟨S1x4x128x128, .f32⟩
  | 83 => ⟨S4x128x128, .f32⟩
  | 84 => ⟨S4x128x128, .f32⟩
  | 85 => ⟨S4x128x128, .f32⟩
  | 86 => ⟨S4x128x128, .f32⟩
  | 87 => ⟨S1x4x128x128, .f32⟩
  | 88 => ⟨S4x128x128, .f32⟩
  | 89 => ⟨S4x128x128, .f32⟩
  | 90 => ⟨S4x128x128, .f32⟩
  | 91 => ⟨S4x128x128, .f32⟩
  | 92 => ⟨S1x4x128x128, .f32⟩
  | 93 => ⟨S4x128x128, .f32⟩
  | 94 => ⟨S4x128x128, .f32⟩
  | 95 => ⟨S4x128x128, .f32⟩
  | 96 => ⟨S4x128x128, .f32⟩
  | 97 => ⟨S1x4x128x128, .f32⟩
  | 98 => ⟨S4x128x128, .f32⟩
  | 99 => ⟨S4x128x128, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x128x128, .f32⟩
  | 108 => ⟨S4x128x128, .f32⟩
  | 109 => ⟨S4x128x128, .f32⟩
  | 110 => ⟨S4x128x128, .f32⟩
  | 111 => ⟨S4x128x128, .f32⟩
  | 112 => ⟨S1x4x128x128, .f32⟩
  | 113 => ⟨S4x128x128, .f32⟩
  | 114 => ⟨S4x128x128, .f32⟩
  | 115 => ⟨S4x128x128, .f32⟩
  | 116 => ⟨S4x128x128, .f32⟩
  | 117 => ⟨S1x4x128x128, .f32⟩
  | 118 => ⟨S4x128x128, .f32⟩
  | 119 => ⟨S4x128x128, .f32⟩
  | 120 => ⟨S4x128x128, .f32⟩
  | 121 => ⟨S4x128x128, .f32⟩
  | 122 => ⟨S1x4x128x128, .f32⟩
  | 123 => ⟨S4x128x128, .f32⟩
  | 124 => ⟨S4x128x128, .f32⟩
  | 125 => ⟨S4x128x128, .f32⟩
  | 126 => ⟨S4x128x128, .f32⟩
  | 127 => ⟨S1x4x128x128, .f32⟩
  | _ => ⟨S1x8192x512, .f32⟩

abbrev hbmTy0_2 (i : Nat) : BufTy := match i % 128 with
  | 0 => ⟨S4x128x128, .f32⟩
  | 1 => ⟨S4x128x128, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S4x128x128, .f32⟩
  | 8 => ⟨S4x128x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x128x128, .f32⟩
  | 15 => ⟨S4x128x128, .f32⟩
  | 16 => ⟨S4x128x128, .f32⟩
  | 17 => ⟨S4x128x128, .f32⟩
  | 18 => ⟨S4x128x128, .f32⟩
  | 19 => ⟨S1x4x128x128, .f32⟩
  | 20 => ⟨S4x128x128, .f32⟩
  | 21 => ⟨S4x128x128, .f32⟩
  | 22 => ⟨S4x128x128, .f32⟩
  | 23 => ⟨S4x128x128, .f32⟩
  | 24 => ⟨S1x4x128x128, .f32⟩
  | 25 => ⟨S4x128x128, .f32⟩
  | 26 => ⟨S4x128x128, .f32⟩
  | 27 => ⟨S4x128x128, .f32⟩
  | 28 => ⟨S4x128x128, .f32⟩
  | 29 => ⟨S1x4x128x128, .f32⟩
  | 30 => ⟨S4x128x128, .f32⟩
  | 31 => ⟨S4x128x128, .f32⟩
  | 32 => ⟨S4x128x128, .f32⟩
  | 33 => ⟨S4x128x128, .f32⟩
  | 34 => ⟨S1x4x128x128, .f32⟩
  | 35 => ⟨S4x128x128, .f32⟩
  | 36 => ⟨S4x128x128, .f32⟩
  | 37 => ⟨S4x128x128, .f32⟩
  | 38 => ⟨S4x128x128, .f32⟩
  | 39 => ⟨S1x4x128x128, .f32⟩
  | 40 => ⟨S4x128x128, .f32⟩
  | 41 => ⟨S4x128x128, .f32⟩
  | 42 => ⟨S4x128x128, .f32⟩
  | 43 => ⟨S4x128x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x128x128, .f32⟩
  | 50 => ⟨S4x128x128, .f32⟩
  | 51 => ⟨S4x128x128, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x128x128, .f32⟩
  | 58 => ⟨S4x128x128, .f32⟩
  | 59 => ⟨S1x4x128x128, .f32⟩
  | 60 => ⟨S4x128x128, .f32⟩
  | 61 => ⟨S4x128x128, .f32⟩
  | 62 => ⟨S4x128x128, .f32⟩
  | 63 => ⟨S4x128x128, .f32⟩
  | 64 => ⟨S1x4x128x128, .f32⟩
  | 65 => ⟨S4x128x128, .f32⟩
  | 66 => ⟨S4x128x128, .f32⟩
  | 67 => ⟨S4x128x128, .f32⟩
  | 68 => ⟨S4x128x128, .f32⟩
  | 69 => ⟨S1x4x128x128, .f32⟩
  | 70 => ⟨S4x128x128, .f32⟩
  | 71 => ⟨S4x128x128, .f32⟩
  | 72 => ⟨S4x128x128, .f32⟩
  | 73 => ⟨S4x128x128, .f32⟩
  | 74 => ⟨S1x4x128x128, .f32⟩
  | 75 => ⟨S4x128x128, .f32⟩
  | 76 => ⟨S4x128x128, .f32⟩
  | 77 => ⟨S4x128x128, .f32⟩
  | 78 => ⟨S4x128x128, .f32⟩
  | 79 => ⟨S1x4x128x128, .f32⟩
  | 80 => ⟨S4x128x128, .f32⟩
  | 81 => ⟨S4x128x128, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x128x128, .f32⟩
  | 88 => ⟨S4x128x128, .f32⟩
  | 89 => ⟨S1x4x128x128, .f32⟩
  | 90 => ⟨S4x128x128, .f32⟩
  | 91 => ⟨S4x128x128, .f32⟩
  | 92 => ⟨S4x128x128, .f32⟩
  | 93 => ⟨S4x128x128, .f32⟩
  | 94 => ⟨S1x4x128x128, .f32⟩
  | 95 => ⟨S4x128x128, .f32⟩
  | 96 => ⟨S4x128x128, .f32⟩
  | 97 => ⟨S4x128x128, .f32⟩
  | 98 => ⟨S4x128x128, .f32⟩
  | 99 => ⟨S1x4x128x128, .f32⟩
  | 100 => ⟨S4x128x128, .f32⟩
  | 101 => ⟨S4x128x128, .f32⟩
  | 102 => ⟨S4x128x128, .f32⟩
  | 103 => ⟨S4x128x128, .f32⟩
  | 104 => ⟨S1x4x128x128, .f32⟩
  | 105 => ⟨S4x128x128, .f32⟩
  | 106 => ⟨S4x128x128, .f32⟩
  | 107 => ⟨S4x128x128, .f32⟩
  | 108 => ⟨S4x128x128, .f32⟩
  | 109 => ⟨S1x4x128x128, .f32⟩
  | 110 => ⟨S4x128x128, .f32⟩
  | 111 => ⟨S4x128x128, .f32⟩
  | 112 => ⟨S4x128x128, .f32⟩
  | 113 => ⟨S4x128x128, .f32⟩
  | 114 => ⟨S1x4x128x128, .f32⟩
  | 115 => ⟨S4x128x128, .f32⟩
  | 116 => ⟨S4x128x128, .f32⟩
  | 117 => ⟨S4x128x128, .f32⟩
  | 118 => ⟨S4x128x128, .f32⟩
  | 119 => ⟨S1x4x128x128, .f32⟩
  | 120 => ⟨S4x128x128, .f32⟩
  | 121 => ⟨S4x128x128, .f32⟩
  | 122 => ⟨S4x128x128, .f32⟩
  | 123 => ⟨S4x128x128, .f32⟩
  | 124 => ⟨S1x4x128x128, .f32⟩
  | 125 => ⟨S4x128x128, .f32⟩
  | 126 => ⟨S4x128x128, .f32⟩
  | 127 => ⟨S4x128x128, .f32⟩
  | _ => ⟨S1x8192x512, .f32⟩

abbrev hbmTy0_3 (i : Nat) : BufTy := match i % 128 with
  | 0 => ⟨S4x128x128, .f32⟩
  | 1 => ⟨S1x4x128x128, .f32⟩
  | 2 => ⟨S4x128x128, .f32⟩
  | 3 => ⟨S4x128x128, .f32⟩
  | 4 => ⟨S4x128x128, .f32⟩
  | 5 => ⟨S4x128x128, .f32⟩
  | 6 => ⟨S1x4x128x128, .f32⟩
  | 7 => ⟨S4x128x128, .f32⟩
  | 8 => ⟨S4x128x128, .f32⟩
  | 9 => ⟨S4x128x128, .f32⟩
  | 10 => ⟨S4x128x128, .f32⟩
  | 11 => ⟨S1x4x128x128, .f32⟩
  | 12 => ⟨S4x128x128, .f32⟩
  | 13 => ⟨S4x128x128, .f32⟩
  | 14 => ⟨S4x128x128, .f32⟩
  | 15 => ⟨S4x128x128, .f32⟩
  | 16 => ⟨S1x4x128x128, .f32⟩
  | 17 => ⟨S4x128x128, .f32⟩
  | 18 => ⟨S4x128x128, .f32⟩
  | 19 => ⟨S4x128x128, .f32⟩
  | 20 => ⟨S4x128x128, .f32⟩
  | 21 => ⟨S1x4x128x128, .f32⟩
  | 22 => ⟨S4x128x128, .f32⟩
  | 23 => ⟨S4x128x128, .f32⟩
  | 24 => ⟨S4x128x128, .f32⟩
  | 25 => ⟨S4x128x128, .f32⟩
  | 26 => ⟨S1x4x128x128, .f32⟩
  | 27 => ⟨S4x128x128, .f32⟩
  | 28 => ⟨S4x128x128, .f32⟩
  | 29 => ⟨S4x128x128, .f32⟩
  | 30 => ⟨S4x128x128, .f32⟩
  | 31 => ⟨S1x4x128x128, .f32⟩
  | 32 => ⟨S4x128x128, .f32⟩
  | 33 => ⟨S4x128x128, .f32⟩
  | 34 => ⟨S4x128x128, .f32⟩
  | 35 => ⟨S4x128x128, .f32⟩
  | 36 => ⟨S1x4x128x128, .f32⟩
  | 37 => ⟨S4x128x128, .f32⟩
  | 38 => ⟨S4x128x128, .f32⟩
  | 39 => ⟨S4x128x128, .f32⟩
  | 40 => ⟨S4x128x128, .f32⟩
  | 41 => ⟨S1x4x128x128, .f32⟩
  | 42 => ⟨S4x128x128, .f32⟩
  | 43 => ⟨S4x128x128, .f32⟩
  | 44 => ⟨S4x128x128, .f32⟩
  | 45 => ⟨S4x128x128, .f32⟩
  | 46 => ⟨S1x4x128x128, .f32⟩
  | 47 => ⟨S4x128x128, .f32⟩
  | 48 => ⟨S4x128x128, .f32⟩
  | 49 => ⟨S4x128x128, .f32⟩
  | 50 => ⟨S4x128x128, .f32⟩
  | 51 => ⟨S1x4x128x128, .f32⟩
  | 52 => ⟨S4x128x128, .f32⟩
  | 53 => ⟨S4x128x128, .f32⟩
  | 54 => ⟨S4x128x128, .f32⟩
  | 55 => ⟨S4x128x128, .f32⟩
  | 56 => ⟨S1x4x128x128, .f32⟩
  | 57 => ⟨S4x128x128, .f32⟩
  | 58 => ⟨S4x128x128, .f32⟩
  | 59 => ⟨S4x128x128, .f32⟩
  | 60 => ⟨S4x128x128, .f32⟩
  | 61 => ⟨S1x4x128x128, .f32⟩
  | 62 => ⟨S4x128x128, .f32⟩
  | 63 => ⟨S4x128x128, .f32⟩
  | 64 => ⟨S4x128x128, .f32⟩
  | 65 => ⟨S4x128x128, .f32⟩
  | 66 => ⟨S1x4x128x128, .f32⟩
  | 67 => ⟨S4x128x128, .f32⟩
  | 68 => ⟨S4x128x128, .f32⟩
  | 69 => ⟨S4x128x128, .f32⟩
  | 70 => ⟨S4x128x128, .f32⟩
  | 71 => ⟨S1x4x128x128, .f32⟩
  | 72 => ⟨S4x128x128, .f32⟩
  | 73 => ⟨S4x128x128, .f32⟩
  | 74 => ⟨S4x128x128, .f32⟩
  | 75 => ⟨S4x128x128, .f32⟩
  | 76 => ⟨S1x4x128x128, .f32⟩
  | 77 => ⟨S4x128x128, .f32⟩
  | 78 => ⟨S4x128x128, .f32⟩
  | 79 => ⟨S4x128x128, .f32⟩
  | 80 => ⟨S4x128x128, .f32⟩
  | 81 => ⟨S1x4x128x128, .f32⟩
  | 82 => ⟨S4x128x128, .f32⟩
  | 83 => ⟨S4x128x128, .f32⟩
  | 84 => ⟨S4x128x128, .f32⟩
  | 85 => ⟨S4x128x128, .f32⟩
  | 86 => ⟨S1x4x128x128, .f32⟩
  | 87 => ⟨S4x128x128, .f32⟩
  | 88 => ⟨S4x128x128, .f32⟩
  | 89 => ⟨S4x128x128, .f32⟩
  | 90 => ⟨S4x128x128, .f32⟩
  | 91 => ⟨S1x4x128x128, .f32⟩
  | 92 => ⟨S4x128x128, .f32⟩
  | 93 => ⟨S4x128x128, .f32⟩
  | 94 => ⟨S4x128x128, .f32⟩
  | 95 => ⟨S4x128x128, .f32⟩
  | 96 => ⟨S1x4x128x128, .f32⟩
  | 97 => ⟨S4x128x128, .f32⟩
  | 98 => ⟨S4x128x128, .f32⟩
  | 99 => ⟨S4x128x128, .f32⟩
  | 100 => ⟨S4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S1x8192x512, .f32⟩

abbrev hbmTy0_4 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S16x4x128x128, .f32⟩
  | 38 => ⟨S16x4x128x128, .f32⟩
  | 39 => ⟨S16x4x128x128, .f32⟩
  | 40 => ⟨S16x4x128x128, .f32⟩
  | 41 => ⟨S64x4x128x128, .f32⟩
  | 42 => ⟨S64x4x128x128, .f32⟩
  | 43 => ⟨S_, .f32⟩
  | 44 => ⟨S128, .f32⟩
  | 45 => ⟨S128, .f32⟩
  | 46 => ⟨S1x128, .f32⟩
  | 47 => ⟨S4x1, .f32⟩
  | 48 => ⟨S4x128, .f32⟩
  | 49 => ⟨S4x128, .f32⟩
  | 50 => ⟨S4x128, .f32⟩
  | 51 => ⟨S4x128, .f32⟩
  | 52 => ⟨S64x4x128x128, .f32⟩
  | 53 => ⟨S64x128x4x128, .f32⟩
  | 54 => ⟨S128x4, .f32⟩
  | 55 => ⟨S1x128x4x1, .f32⟩
  | 56 => ⟨S64x128x4x128, .f32⟩
  | 57 => ⟨S64x128x4x128, .f32⟩
  | 58 => ⟨S64x128x4x128, .f32⟩
  | 59 => ⟨S8192x4x128, .f32⟩
  | 60 => ⟨S_, .f32⟩
  | 61 => ⟨S8192x4, .f32⟩
  | 62 => ⟨S8192x4x1, .f32⟩
  | 63 => ⟨S_, .f32⟩
  | 64 => ⟨S8192x4x1, .f32⟩
  | 65 => ⟨S8192x4x1, .f32⟩
  | 66 => ⟨S8192x4x128, .f32⟩
  | 67 => ⟨S8192x4x128, .f32⟩
  | 68 => ⟨S8192x4x128, .f32⟩
  | 69 => ⟨S_, .f32⟩
  | 70 => ⟨S8192x4x128, .f32⟩
  | 71 => ⟨S8192x4x128, .f32⟩
  | 72 => ⟨S_, .f32⟩
  | 73 => ⟨S8192x4, .f32⟩
  | 74 => ⟨S8192x4x1, .f32⟩
  | 75 => ⟨S_, .f32⟩
  | 76 => ⟨S8192x4x1, .f32⟩
  | 77 => ⟨S8192x4x1, .f32⟩
  | 78 => ⟨S8192x4x128, .f32⟩
  | 79 => ⟨S8192x4x128, .f32⟩
  | 80 => ⟨S_, .f32⟩
  | 81 => ⟨S8192x4x1, .f32⟩
  | 82 => ⟨S8192x4x1, .f32⟩
  | 83 => ⟨S8192x4x1, .f32⟩
  | 84 => ⟨S8192x4x1, .f32⟩
  | 85 => ⟨S_, .f32⟩
  | 86 => ⟨S8192x4x1, .f32⟩
  | 87 => ⟨S8192x4x1, .f32⟩
  | 88 => ⟨S8192x4x128, .f32⟩
  | 89 => ⟨S8192x4x128, .f32⟩
  | 90 => ⟨S4x128, .f32⟩
  | 91 => ⟨S1x4x128, .f32⟩
  | 92 => ⟨S8192x4x128, .f32⟩
  | 93 => ⟨S8192x4x128, .f32⟩
  | 94 => ⟨S8192x512, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S4x128x128, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x4x128, .f32⟩
  | 119 => ⟨S8192x4x128, .f32⟩
  | 120 => ⟨S_, .f32⟩
  | 121 => ⟨S4x128, .f32⟩
  | 122 => ⟨S1x4x128, .f32⟩
  | 123 => ⟨S8192x4x128, .f32⟩
  | 124 => ⟨S8192x4x128, .f32⟩
  | 125 => ⟨S_, .f32⟩
  | 126 => ⟨S4x128, .f32⟩
  | 127 => ⟨S512, .f32⟩
  | _ => ⟨S1x8192x512, .f32⟩

abbrev hbmTy0_5 (i : Nat) : BufTy := match i % 128 with
  | 0 => ⟨S8192x4x128, .f32⟩
  | 1 => ⟨S_, .f32⟩
  | 2 => ⟨S8192x4, .f32⟩
  | 3 => ⟨S8192x4x1, .f32⟩
  | 4 => ⟨S8192x4x128, .f32⟩
  | 5 => ⟨S8192x4x128, .f32⟩
  | 6 => ⟨S8192x4x1, .f32⟩
  | 7 => ⟨S8192x4x128, .f32⟩
  | 8 => ⟨S_, .f32⟩
  | 9 => ⟨S8192x4, .f32⟩
  | 10 => ⟨S8192x4x1, .f32⟩
  | 11 => ⟨S_, .f32⟩
  | 12 => ⟨S8192x4x1, .f32⟩
  | 13 => ⟨S8192x4x1, .f32⟩
  | 14 => ⟨S_, .f32⟩
  | 15 => ⟨S8192x4, .f32⟩
  | 16 => ⟨S8192x4x128, .f32⟩
  | 17 => ⟨S8192x4x128, .f32⟩
  | 18 => ⟨S8192x4x128, .f32⟩
  | 19 => ⟨S_, .f32⟩
  | 20 => ⟨S8192x4, .f32⟩
  | 21 => ⟨S8192x4x1, .f32⟩
  | 22 => ⟨S8192x4x128, .f32⟩
  | 23 => ⟨S8192x4x1, .f32⟩
  | 24 => ⟨S_, .f32⟩
  | 25 => ⟨S8192x4x1, .f32⟩
  | 26 => ⟨S8192x4x1, .f32⟩
  | 27 => ⟨S_, .f32⟩
  | 28 => ⟨S8192x4, .f32⟩
  | 29 => ⟨S8192x4x128, .f32⟩
  | 30 => ⟨S8192x4x128, .f32⟩
  | 31 => ⟨S64x128x4x128, .f32⟩
  | 32 => ⟨S64x128x4x128, .f32⟩
  | 33 => ⟨S64x128x4x128, .f32⟩
  | 34 => ⟨S64x4x128x128, .f32⟩
  | 35 => ⟨S64x4x128x128, .f32⟩
  | 36 => ⟨S64x128x4x128, .f32⟩
  | 37 => ⟨S64x4x128x128, .f32⟩
  | 38 => ⟨S64x4x128x128, .f32⟩
  | 39 => ⟨S_, .f32⟩
  | 40 => ⟨S4x128x128, .f32⟩
  | 41 => ⟨S64x4x128x128, .f32⟩
  | 42 => ⟨S0x4x128x128, .f32⟩
  | 43 => ⟨S_, .f32⟩
  | 44 => ⟨S0x4x128x128, .f32⟩
  | 45 => ⟨S1x4x128x128, .f32⟩
  | 46 => ⟨S4x128x128, .f32⟩
  | 47 => ⟨S4x128x128, .f32⟩
  | 48 => ⟨S4x128x128, .f32⟩
  | 49 => ⟨S4x128x128, .f32⟩
  | 50 => ⟨S1x4x128x128, .f32⟩
  | 51 => ⟨S4x128x128, .f32⟩
  | 52 => ⟨S4x128x128, .f32⟩
  | 53 => ⟨S4x128x128, .f32⟩
  | 54 => ⟨S4x128x128, .f32⟩
  | 55 => ⟨S1x4x128x128, .f32⟩
  | 56 => ⟨S4x128x128, .f32⟩
  | 57 => ⟨S4x128x128, .f32⟩
  | 58 => ⟨S4x128x128, .f32⟩
  | 59 => ⟨S4x128x128, .f32⟩
  | 60 => ⟨S1x4x128x128, .f32⟩
  | 61 => ⟨S4x128x128, .f32⟩
  | 62 => ⟨S4x128x128, .f32⟩
  | 63 => ⟨S4x128x128, .f32⟩
  | 64 => ⟨S4x128x128, .f32⟩
  | 65 => ⟨S1x4x128x128, .f32⟩
  | 66 => ⟨S4x128x128, .f32⟩
  | 67 => ⟨S4x128x128, .f32⟩
  | 68 => ⟨S4x128x128, .f32⟩
  | 69 => ⟨S4x128x128, .f32⟩
  | 70 => ⟨S1x4x128x128, .f32⟩
  | 71 => ⟨S4x128x128, .f32⟩
  | 72 => ⟨S4x128x128, .f32⟩
  | 73 => ⟨S4x128x128, .f32⟩
  | 74 => ⟨S4x128x128, .f32⟩
  | 75 => ⟨S1x4x128x128, .f32⟩
  | 76 => ⟨S4x128x128, .f32⟩
  | 77 => ⟨S4x128x128, .f32⟩
  | 78 => ⟨S4x128x128, .f32⟩
  | 79 => ⟨S4x128x128, .f32⟩
  | 80 => ⟨S1x4x128x128, .f32⟩
  | 81 => ⟨S4x128x128, .f32⟩
  | 82 => ⟨S4x128x128, .f32⟩
  | 83 => ⟨S4x128x128, .f32⟩
  | 84 => ⟨S4x128x128, .f32⟩
  | 85 => ⟨S1x4x128x128, .f32⟩
  | 86 => ⟨S4x128x128, .f32⟩
  | 87 => ⟨S4x128x128, .f32⟩
  | 88 => ⟨S4x128x128, .f32⟩
  | 89 => ⟨S4x128x128, .f32⟩
  | 90 => ⟨S1x4x128x128, .f32⟩
  | 91 => ⟨S4x128x128, .f32⟩
  | 92 => ⟨S4x128x128, .f32⟩
  | 93 => ⟨S4x128x128, .f32⟩
  | 94 => ⟨S4x128x128, .f32⟩
  | 95 => ⟨S1x4x128x128, .f32⟩
  | 96 => ⟨S4x128x128, .f32⟩
  | 97 => ⟨S4x128x128, .f32⟩
  | 98 => ⟨S4x128x128, .f32⟩
  | 99 => ⟨S4x128x128, .f32⟩
  | 100 => ⟨S1x4x128x128, .f32⟩
  | 101 => ⟨S4x128x128, .f32⟩
  | 102 => ⟨S4x128x128, .f32⟩
  | 103 => ⟨S4x128x128, .f32⟩
  | 104 => ⟨S4x128x128, .f32⟩
  | 105 => ⟨S1x4x128x128, .f32⟩
  | 106 => ⟨S4x128x128, .f32⟩
  | 107 => ⟨S4x128x128, .f32⟩
  | 108 => ⟨S4x128x128, .f32⟩
  | 109 => ⟨S4x128x128, .f32⟩
  | 110 => ⟨S1x4x128x128, .f32⟩
  | 111 => ⟨S4x128x128, .f32⟩
  | 112 => ⟨S4x128x128, .f32⟩
  | 113 => ⟨S4x128x128, .f32⟩
  | 114 => ⟨S4x128x128, .f32⟩
  | 115 => ⟨S1x4x128x128, .f32⟩
  | 116 => ⟨S4x128x128, .f32⟩
  | 117 => ⟨S4x128x128, .f32⟩
  | 118 => ⟨S4x128x128, .f32⟩
  | 119 => ⟨S4x128x128, .f32⟩
  | 120 => ⟨S1x4x128x128, .f32⟩
  | 121 => ⟨S4x128x128, .f32⟩
  | 122 => ⟨S4x128x128, .f32⟩
  | 123 => ⟨S4x128x128, .f32⟩
  | 124 => ⟨S4x128x128, .f32⟩
  | 125 => ⟨S1x4x128x128, .f32⟩
  | 126 => ⟨S4x128x128, .f32⟩
  | 127 => ⟨S4x128x128, .f32⟩
  | _ => ⟨S1x8192x512, .f32⟩

abbrev hbmTy0_6 (i : Nat) : BufTy := match i % 128 with
  | 0 => ⟨S4x128x128, .f32⟩
  | 1 => ⟨S4x128x128, .f32⟩
  | 2 => ⟨S1x4x128x128, .f32⟩
  | 3 => ⟨S4x128x128, .f32⟩
  | 4 => ⟨S4x128x128, .f32⟩
  | 5 => ⟨S4x128x128, .f32⟩
  | 6 => ⟨S4x128x128, .f32⟩
  | 7 => ⟨S1x4x128x128, .f32⟩
  | 8 => ⟨S4x128x128, .f32⟩
  | 9 => ⟨S4x128x128, .f32⟩
  | 10 => ⟨S4x128x128, .f32⟩
  | 11 => ⟨S4x128x128, .f32⟩
  | 12 => ⟨S1x4x128x128, .f32⟩
  | 13 => ⟨S4x128x128, .f32⟩
  | 14 => ⟨S4x128x128, .f32⟩
  | 15 => ⟨S4x128x128, .f32⟩
  | 16 => ⟨S4x128x128, .f32⟩
  | 17 => ⟨S1x4x128x128, .f32⟩
  | 18 => ⟨S4x128x128, .f32⟩
  | 19 => ⟨S4x128x128, .f32⟩
  | 20 => ⟨S4x128x128, .f32⟩
  | 21 => ⟨S4x128x128, .f32⟩
  | 22 => ⟨S1x4x128x128, .f32⟩
  | 23 => ⟨S4x128x128, .f32⟩
  | 24 => ⟨S4x128x128, .f32⟩
  | 25 => ⟨S4x128x128, .f32⟩
  | 26 => ⟨S4x128x128, .f32⟩
  | 27 => ⟨S1x4x128x128, .f32⟩
  | 28 => ⟨S4x128x128, .f32⟩
  | 29 => ⟨S4x128x128, .f32⟩
  | 30 => ⟨S4x128x128, .f32⟩
  | 31 => ⟨S4x128x128, .f32⟩
  | 32 => ⟨S1x4x128x128, .f32⟩
  | 33 => ⟨S4x128x128, .f32⟩
  | 34 => ⟨S4x128x128, .f32⟩
  | 35 => ⟨S4x128x128, .f32⟩
  | 36 => ⟨S4x128x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x128x128, .f32⟩
  | 46 => ⟨S4x128x128, .f32⟩
  | 47 => ⟨S1x4x128x128, .f32⟩
  | 48 => ⟨S4x128x128, .f32⟩
  | 49 => ⟨S4x128x128, .f32⟩
  | 50 => ⟨S4x128x128, .f32⟩
  | 51 => ⟨S4x128x128, .f32⟩
  | 52 => ⟨S1x4x128x128, .f32⟩
  | 53 => ⟨S4x128x128, .f32⟩
  | 54 => ⟨S4x128x128, .f32⟩
  | 55 => ⟨S4x128x128, .f32⟩
  | 56 => ⟨S4x128x128, .f32⟩
  | 57 => ⟨S1x4x128x128, .f32⟩
  | 58 => ⟨S4x128x128, .f32⟩
  | 59 => ⟨S4x128x128, .f32⟩
  | 60 => ⟨S4x128x128, .f32⟩
  | 61 => ⟨S4x128x128, .f32⟩
  | 62 => ⟨S1x4x128x128, .f32⟩
  | 63 => ⟨S4x128x128, .f32⟩
  | 64 => ⟨S4x128x128, .f32⟩
  | 65 => ⟨S4x128x128, .f32⟩
  | 66 => ⟨S4x128x128, .f32⟩
  | 67 => ⟨S1x4x128x128, .f32⟩
  | 68 => ⟨S4x128x128, .f32⟩
  | 69 => ⟨S4x128x128, .f32⟩
  | 70 => ⟨S4x128x128, .f32⟩
  | 71 => ⟨S4x128x128, .f32⟩
  | 72 => ⟨S1x4x128x128, .f32⟩
  | 73 => ⟨S4x128x128, .f32⟩
  | 74 => ⟨S4x128x128, .f32⟩
  | 75 => ⟨S4x128x128, .f32⟩
  | 76 => ⟨S4x128x128, .f32⟩
  | 77 => ⟨S1x4x128x128, .f32⟩
  | 78 => ⟨S4x128x128, .f32⟩
  | 79 => ⟨S4x128x128, .f32⟩
  | 80 => ⟨S4x128x128, .f32⟩
  | 81 => ⟨S4x128x128, .f32⟩
  | 82 => ⟨S1x4x128x128, .f32⟩
  | 83 => ⟨S4x128x128, .f32⟩
  | 84 => ⟨S4x128x128, .f32⟩
  | 85 => ⟨S4x128x128, .f32⟩
  | 86 => ⟨S4x128x128, .f32⟩
  | 87 => ⟨S1x4x128x128, .f32⟩
  | 88 => ⟨S4x128x128, .f32⟩
  | 89 => ⟨S4x128x128, .f32⟩
  | 90 => ⟨S4x128x128, .f32⟩
  | 91 => ⟨S4x128x128, .f32⟩
  | 92 => ⟨S1x4x128x128, .f32⟩
  | 93 => ⟨S4x128x128, .f32⟩
  | 94 => ⟨S4x128x128, .f32⟩
  | 95 => ⟨S4x128x128, .f32⟩
  | 96 => ⟨S4x128x128, .f32⟩
  | 97 => ⟨S1x4x128x128, .f32⟩
  | 98 => ⟨S4x128x128, .f32⟩
  | 99 => ⟨S4x128x128, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x128x128, .f32⟩
  | 108 => ⟨S4x128x128, .f32⟩
  | 109 => ⟨S4x128x128, .f32⟩
  | 110 => ⟨S4x128x128, .f32⟩
  | 111 => ⟨S4x128x128, .f32⟩
  | 112 => ⟨S1x4x128x128, .f32⟩
  | 113 => ⟨S4x128x128, .f32⟩
  | 114 => ⟨S4x128x128, .f32⟩
  | 115 => ⟨S4x128x128, .f32⟩
  | 116 => ⟨S4x128x128, .f32⟩
  | 117 => ⟨S1x4x128x128, .f32⟩
  | 118 => ⟨S4x128x128, .f32⟩
  | 119 => ⟨S4x128x128, .f32⟩
  | 120 => ⟨S4x128x128, .f32⟩
  | 121 => ⟨S4x128x128, .f32⟩
  | 122 => ⟨S1x4x128x128, .f32⟩
  | 123 => ⟨S4x128x128, .f32⟩
  | 124 => ⟨S4x128x128, .f32⟩
  | 125 => ⟨S4x128x128, .f32⟩
  | 126 => ⟨S4x128x128, .f32⟩
  | 127 => ⟨S1x4x128x128, .f32⟩
  | _ => ⟨S1x8192x512, .f32⟩

abbrev hbmTy0_7 (i : Nat) : BufTy := match i % 128 with
  | 0 => ⟨S4x128x128, .f32⟩
  | 1 => ⟨S4x128x128, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S4x128x128, .f32⟩
  | 8 => ⟨S4x128x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x128x128, .f32⟩
  | 15 => ⟨S4x128x128, .f32⟩
  | 16 => ⟨S4x128x128, .f32⟩
  | 17 => ⟨S4x128x128, .f32⟩
  | 18 => ⟨S4x128x128, .f32⟩
  | 19 => ⟨S1x4x128x128, .f32⟩
  | 20 => ⟨S4x128x128, .f32⟩
  | 21 => ⟨S4x128x128, .f32⟩
  | 22 => ⟨S4x128x128, .f32⟩
  | 23 => ⟨S4x128x128, .f32⟩
  | 24 => ⟨S1x4x128x128, .f32⟩
  | 25 => ⟨S4x128x128, .f32⟩
  | 26 => ⟨S4x128x128, .f32⟩
  | 27 => ⟨S4x128x128, .f32⟩
  | 28 => ⟨S4x128x128, .f32⟩
  | 29 => ⟨S1x4x128x128, .f32⟩
  | 30 => ⟨S4x128x128, .f32⟩
  | 31 => ⟨S4x128x128, .f32⟩
  | 32 => ⟨S4x128x128, .f32⟩
  | 33 => ⟨S4x128x128, .f32⟩
  | 34 => ⟨S1x4x128x128, .f32⟩
  | 35 => ⟨S4x128x128, .f32⟩
  | 36 => ⟨S4x128x128, .f32⟩
  | 37 => ⟨S4x128x128, .f32⟩
  | 38 => ⟨S4x128x128, .f32⟩
  | 39 => ⟨S1x4x128x128, .f32⟩
  | 40 => ⟨S4x128x128, .f32⟩
  | 41 => ⟨S4x128x128, .f32⟩
  | 42 => ⟨S4x128x128, .f32⟩
  | 43 => ⟨S4x128x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x128x128, .f32⟩
  | 50 => ⟨S4x128x128, .f32⟩
  | 51 => ⟨S4x128x128, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x128x128, .f32⟩
  | 58 => ⟨S4x128x128, .f32⟩
  | 59 => ⟨S1x4x128x128, .f32⟩
  | 60 => ⟨S4x128x128, .f32⟩
  | 61 => ⟨S4x128x128, .f32⟩
  | 62 => ⟨S4x128x128, .f32⟩
  | 63 => ⟨S4x128x128, .f32⟩
  | 64 => ⟨S1x4x128x128, .f32⟩
  | 65 => ⟨S4x128x128, .f32⟩
  | 66 => ⟨S4x128x128, .f32⟩
  | 67 => ⟨S4x128x128, .f32⟩
  | 68 => ⟨S4x128x128, .f32⟩
  | 69 => ⟨S1x4x128x128, .f32⟩
  | 70 => ⟨S4x128x128, .f32⟩
  | 71 => ⟨S4x128x128, .f32⟩
  | 72 => ⟨S4x128x128, .f32⟩
  | 73 => ⟨S4x128x128, .f32⟩
  | 74 => ⟨S1x4x128x128, .f32⟩
  | 75 => ⟨S4x128x128, .f32⟩
  | 76 => ⟨S4x128x128, .f32⟩
  | 77 => ⟨S4x128x128, .f32⟩
  | 78 => ⟨S4x128x128, .f32⟩
  | 79 => ⟨S1x4x128x128, .f32⟩
  | 80 => ⟨S4x128x128, .f32⟩
  | 81 => ⟨S4x128x128, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x128x128, .f32⟩
  | 88 => ⟨S4x128x128, .f32⟩
  | 89 => ⟨S1x4x128x128, .f32⟩
  | 90 => ⟨S4x128x128, .f32⟩
  | 91 => ⟨S4x128x128, .f32⟩
  | 92 => ⟨S4x128x128, .f32⟩
  | 93 => ⟨S4x128x128, .f32⟩
  | 94 => ⟨S1x4x128x128, .f32⟩
  | 95 => ⟨S4x128x128, .f32⟩
  | 96 => ⟨S4x128x128, .f32⟩
  | 97 => ⟨S4x128x128, .f32⟩
  | 98 => ⟨S4x128x128, .f32⟩
  | 99 => ⟨S1x4x128x128, .f32⟩
  | 100 => ⟨S4x128x128, .f32⟩
  | 101 => ⟨S4x128x128, .f32⟩
  | 102 => ⟨S4x128x128, .f32⟩
  | 103 => ⟨S4x128x128, .f32⟩
  | 104 => ⟨S1x4x128x128, .f32⟩
  | 105 => ⟨S4x128x128, .f32⟩
  | 106 => ⟨S4x128x128, .f32⟩
  | 107 => ⟨S4x128x128, .f32⟩
  | 108 => ⟨S4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S1x8192x512, .f32⟩

abbrev hbmTy0_8 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S16x4x128x128, .f32⟩
  | 46 => ⟨S16x4x128x128, .f32⟩
  | 47 => ⟨S16x4x128x128, .f32⟩
  | 48 => ⟨S16x4x128x128, .f32⟩
  | 49 => ⟨S64x4x128x128, .f32⟩
  | 50 => ⟨S64x4x128x128, .f32⟩
  | 51 => ⟨S64x4x128x128, .f32⟩
  | 52 => ⟨S64x128x4x128, .f32⟩
  | 53 => ⟨S64x4x128x128, .f32⟩
  | 54 => ⟨S64x128x4x128, .f32⟩
  | 55 => ⟨S64x128x4x128, .f32⟩
  | 56 => ⟨S64x128x4x128, .f32⟩
  | 57 => ⟨S64x4x128x128, .f32⟩
  | 58 => ⟨S64x4x128x128, .f32⟩
  | 59 => ⟨S64x4x128x128, .f32⟩
  | 60 => ⟨S64x128x4x128, .f32⟩
  | 61 => ⟨S64x128x4x128, .f32⟩
  | 62 => ⟨S64x4x128x128, .f32⟩
  | 63 => ⟨S64x4x128x128, .f32⟩
  | 64 => ⟨S64x4x128x128, .f32⟩
  | 65 => ⟨S64x128x4x128, .f32⟩
  | 66 => ⟨S64x128x4x128, .f32⟩
  | 67 => ⟨S64x4x128x128, .f32⟩
  | 68 => ⟨S64x128x4x128, .f32⟩
  | 69 => ⟨S64x128x4x128, .f32⟩
  | 70 => ⟨S8192x4x128, .f32⟩
  | 71 => ⟨S8192x4x128, .f32⟩
  | 72 => ⟨S8192x4x128, .f32⟩
  | 73 => ⟨S8192x512, .f32⟩
  | 74 => ⟨S_, .f32⟩
  | 75 => ⟨S8192x4x128, .f32⟩
  | 76 => ⟨S8192x4x128, .f32⟩
  | 77 => ⟨S8192x4x64, .f32⟩
  | 78 => ⟨S8192x4x64, .f32⟩
  | 79 => ⟨S8192x4x64, .f32⟩
  | 80 => ⟨S8192x4x64, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x64, .f32⟩
  | 90 => ⟨S_, .f32⟩
  | 91 => ⟨S8192x4x128, .f32⟩
  | 92 => ⟨S_, .f32⟩
  | 93 => ⟨S8192x4x128, .f32⟩
  | 94 => ⟨S8192x4x128, .f32⟩
  | 95 => ⟨S8192x512, .f32⟩
  | 96 => ⟨S8192x4x64, .f32⟩
  | 97 => ⟨S8192x4x64, .f32⟩
  | 98 => ⟨S8192x4x64, .f32⟩
  | 99 => ⟨S8192x4x64, .f32⟩
  | 100 => ⟨S8192x4x64, .f32⟩
  | 101 => ⟨S8192x4x64, .f32⟩
  | 102 => ⟨S8192x4x64, .f32⟩
  | 103 => ⟨S8192x4x64, .f32⟩
  | 104 => ⟨S8192x4x64, .f32⟩
  | 105 => ⟨S8192x4x64, .f32⟩
  | 106 => ⟨S8192x4x64, .f32⟩
  | 107 => ⟨S8192x4x64, .f32⟩
  | 108 => ⟨S8192x4x64, .f32⟩
  | 109 => ⟨S_, .f32⟩
  | 110 => ⟨S8192x4x128, .f32⟩
  | 111 => ⟨S_, .f32⟩
  | 112 => ⟨S8192x4x128, .f32⟩
  | 113 => ⟨S8192x4x128, .f32⟩
  | 114 => ⟨S8192x512, .f32⟩
  | 115 => ⟨S8192x512, .bf16⟩
  | 116 => ⟨S8192x512, .bf16⟩
  | 117 => ⟨S8192x512, .bf16⟩
  | 118 => ⟨S8192x512, .bf16⟩
  | 119 => ⟨S1x512, .f32⟩
  | _ => ⟨S1x8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_3 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_cst_5 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_cst : Ref sig .tc := ⟨.hbm, 84, rfl⟩
abbrev main_call0_v3 : Ref sig .tc := ⟨.hbm, 85, rfl⟩
abbrev main_call0_v4 : Ref sig .tc := ⟨.hbm, 86, rfl⟩
abbrev main_call0_cst_0 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_v14 : Ref sig .tc := ⟨.hbm, 98, rfl⟩
abbrev main_call0_v15 : Ref sig .tc := ⟨.hbm, 99, rfl⟩
abbrev main_call0_v16 : Ref sig .tc := ⟨.hbm, 100, rfl⟩
abbrev main_v68 : Ref sig .tc := ⟨.hbm, 101, rfl⟩
abbrev main_v69 : Ref sig .tc := ⟨.hbm, 102, rfl⟩
abbrev main_cst_6 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_7 : Ref sig .tc := ⟨.hbm, 117, rfl⟩
abbrev main_v83 : Ref sig .tc := ⟨.hbm, 118, rfl⟩
abbrev main_v84 : Ref sig .tc := ⟨.hbm, 119, rfl⟩
abbrev main_cst_8 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_9 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_10 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_11 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_12 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_13 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_v367 : Ref sig .tc := ⟨.hbm, 411, rfl⟩
abbrev main_v368 : Ref sig .tc := ⟨.hbm, 412, rfl⟩
abbrev main_v369 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_v378 : Ref sig .tc := ⟨.hbm, 422, rfl⟩
abbrev main_v379 : Ref sig .tc := ⟨.hbm, 423, rfl⟩
abbrev main_v380 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_v388 : Ref sig .tc := ⟨.hbm, 432, rfl⟩
abbrev main_v389 : Ref sig .tc := ⟨.hbm, 433, rfl⟩
abbrev main_v390 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_v399 : Ref sig .tc := ⟨.hbm, 443, rfl⟩
abbrev main_v400 : Ref sig .tc := ⟨.hbm, 444, rfl⟩
abbrev main_v401 : Ref sig .tc := ⟨.hbm, 445, rfl⟩
abbrev main_v402 : Ref sig .tc := ⟨.hbm, 446, rfl⟩
abbrev main_v403 : Ref sig .tc := ⟨.hbm, 447, rfl⟩
abbrev main_v404 : Ref sig .tc := ⟨.hbm, 448, rfl⟩
abbrev main_v405 : Ref sig .tc := ⟨.hbm, 449, rfl⟩
abbrev main_v406 : Ref sig .tc := ⟨.hbm, 450, rfl⟩
abbrev main_v407 : Ref sig .tc := ⟨.hbm, 451, rfl⟩
abbrev main_v408 : Ref sig .tc := ⟨.hbm, 452, rfl⟩
abbrev main_v409 : Ref sig .tc := ⟨.hbm, 453, rfl⟩
abbrev main_v410 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_v414 : Ref sig .tc := ⟨.hbm, 458, rfl⟩
abbrev main_v415 : Ref sig .tc := ⟨.hbm, 459, rfl⟩
abbrev main_v416 : Ref sig .tc := ⟨.hbm, 460, rfl⟩
abbrev main_v417 : Ref sig .tc := ⟨.hbm, 461, rfl⟩
abbrev main_v418 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_v429 : Ref sig .tc := ⟨.hbm, 473, rfl⟩
abbrev main_v430 : Ref sig .tc := ⟨.hbm, 474, rfl⟩
abbrev main_v431 : Ref sig .tc := ⟨.hbm, 475, rfl⟩
abbrev main_v432 : Ref sig .tc := ⟨.hbm, 476, rfl⟩
abbrev main_v433 : Ref sig .tc := ⟨.hbm, 477, rfl⟩
abbrev main_v434 : Ref sig .tc := ⟨.hbm, 478, rfl⟩
abbrev main_v435 : Ref sig .tc := ⟨.hbm, 479, rfl⟩
abbrev main_v436 : Ref sig .tc := ⟨.hbm, 480, rfl⟩
abbrev main_v437 : Ref sig .tc := ⟨.hbm, 481, rfl⟩
abbrev main_v438 : Ref sig .tc := ⟨.hbm, 482, rfl⟩
abbrev main_v439 : Ref sig .tc := ⟨.hbm, 483, rfl⟩
abbrev main_v440 : Ref sig .tc := ⟨.hbm, 484, rfl⟩
abbrev main_v441 : Ref sig .tc := ⟨.hbm, 485, rfl⟩
abbrev main_v442 : Ref sig .tc := ⟨.hbm, 486, rfl⟩
abbrev main_v443 : Ref sig .tc := ⟨.hbm, 487, rfl⟩
abbrev main_v444 : Ref sig .tc := ⟨.hbm, 488, rfl⟩
abbrev main_v445 : Ref sig .tc := ⟨.hbm, 489, rfl⟩
abbrev main_v446 : Ref sig .tc := ⟨.hbm, 490, rfl⟩
abbrev main_v447 : Ref sig .tc := ⟨.hbm, 491, rfl⟩
abbrev main_v448 : Ref sig .tc := ⟨.hbm, 492, rfl⟩
abbrev main_v449 : Ref sig .tc := ⟨.hbm, 493, rfl⟩
abbrev main_v450 : Ref sig .tc := ⟨.hbm, 494, rfl⟩
abbrev main_v451 : Ref sig .tc := ⟨.hbm, 495, rfl⟩
abbrev main_v452 : Ref sig .tc := ⟨.hbm, 496, rfl⟩
abbrev main_v453 : Ref sig .tc := ⟨.hbm, 497, rfl⟩
abbrev main_v454 : Ref sig .tc := ⟨.hbm, 498, rfl⟩
abbrev main_v455 : Ref sig .tc := ⟨.hbm, 499, rfl⟩
abbrev main_v456 : Ref sig .tc := ⟨.hbm, 500, rfl⟩
abbrev main_v457 : Ref sig .tc := ⟨.hbm, 501, rfl⟩
abbrev main_v458 : Ref sig .tc := ⟨.hbm, 502, rfl⟩
abbrev main_v459 : Ref sig .tc := ⟨.hbm, 503, rfl⟩
abbrev main_v460 : Ref sig .tc := ⟨.hbm, 504, rfl⟩
abbrev main_v461 : Ref sig .tc := ⟨.hbm, 505, rfl⟩
abbrev main_v462 : Ref sig .tc := ⟨.hbm, 506, rfl⟩
abbrev main_v463 : Ref sig .tc := ⟨.hbm, 507, rfl⟩
abbrev main_v464 : Ref sig .tc := ⟨.hbm, 508, rfl⟩
abbrev main_v465 : Ref sig .tc := ⟨.hbm, 509, rfl⟩
abbrev main_v466 : Ref sig .tc := ⟨.hbm, 510, rfl⟩
abbrev main_v467 : Ref sig .tc := ⟨.hbm, 511, rfl⟩
abbrev main_v468 : Ref sig .tc := ⟨.hbm, 512, rfl⟩
abbrev main_v469 : Ref sig .tc := ⟨.hbm, 513, rfl⟩
abbrev main_v470 : Ref sig .tc := ⟨.hbm, 514, rfl⟩
abbrev main_v471 : Ref sig .tc := ⟨.hbm, 515, rfl⟩
abbrev main_v472 : Ref sig .tc := ⟨.hbm, 516, rfl⟩
abbrev main_v473 : Ref sig .tc := ⟨.hbm, 517, rfl⟩
abbrev main_v474 : Ref sig .tc := ⟨.hbm, 518, rfl⟩
abbrev main_v475 : Ref sig .tc := ⟨.hbm, 519, rfl⟩
abbrev main_v476 : Ref sig .tc := ⟨.hbm, 520, rfl⟩
abbrev main_v477 : Ref sig .tc := ⟨.hbm, 521, rfl⟩
abbrev main_v478 : Ref sig .tc := ⟨.hbm, 522, rfl⟩
abbrev main_v479 : Ref sig .tc := ⟨.hbm, 523, rfl⟩
abbrev main_v480 : Ref sig .tc := ⟨.hbm, 524, rfl⟩
abbrev main_v481 : Ref sig .tc := ⟨.hbm, 525, rfl⟩
abbrev main_v482 : Ref sig .tc := ⟨.hbm, 526, rfl⟩
abbrev main_v483 : Ref sig .tc := ⟨.hbm, 527, rfl⟩
abbrev main_v484 : Ref sig .tc := ⟨.hbm, 528, rfl⟩
abbrev main_v485 : Ref sig .tc := ⟨.hbm, 529, rfl⟩
abbrev main_v486 : Ref sig .tc := ⟨.hbm, 530, rfl⟩
abbrev main_v487 : Ref sig .tc := ⟨.hbm, 531, rfl⟩
abbrev main_v488 : Ref sig .tc := ⟨.hbm, 532, rfl⟩
abbrev main_v489 : Ref sig .tc := ⟨.hbm, 533, rfl⟩
abbrev main_v490 : Ref sig .tc := ⟨.hbm, 534, rfl⟩
abbrev main_v491 : Ref sig .tc := ⟨.hbm, 535, rfl⟩
abbrev main_v492 : Ref sig .tc := ⟨.hbm, 536, rfl⟩
abbrev main_v493 : Ref sig .tc := ⟨.hbm, 537, rfl⟩
abbrev main_v494 : Ref sig .tc := ⟨.hbm, 538, rfl⟩
abbrev main_v495 : Ref sig .tc := ⟨.hbm, 539, rfl⟩
abbrev main_v496 : Ref sig .tc := ⟨.hbm, 540, rfl⟩
abbrev main_v497 : Ref sig .tc := ⟨.hbm, 541, rfl⟩
abbrev main_v498 : Ref sig .tc := ⟨.hbm, 542, rfl⟩
abbrev main_v499 : Ref sig .tc := ⟨.hbm, 543, rfl⟩
abbrev main_v500 : Ref sig .tc := ⟨.hbm, 544, rfl⟩
abbrev main_v501 : Ref sig .tc := ⟨.hbm, 545, rfl⟩
abbrev main_v502 : Ref sig .tc := ⟨.hbm, 546, rfl⟩
abbrev main_v503 : Ref sig .tc := ⟨.hbm, 547, rfl⟩
abbrev main_v504 : Ref sig .tc := ⟨.hbm, 548, rfl⟩
abbrev main_v505 : Ref sig .tc := ⟨.hbm, 549, rfl⟩
abbrev main_v506 : Ref sig .tc := ⟨.hbm, 550, rfl⟩
abbrev main_v507 : Ref sig .tc := ⟨.hbm, 551, rfl⟩
abbrev main_v508 : Ref sig .tc := ⟨.hbm, 552, rfl⟩
abbrev main_v509 : Ref sig .tc := ⟨.hbm, 553, rfl⟩
abbrev main_v510 : Ref sig .tc := ⟨.hbm, 554, rfl⟩
abbrev main_cst_14 : Ref sig .tc := ⟨.hbm, 555, rfl⟩
abbrev main_v511 : Ref sig .tc := ⟨.hbm, 556, rfl⟩
abbrev main_v512 : Ref sig .tc := ⟨.hbm, 557, rfl⟩
abbrev main_v513 : Ref sig .tc := ⟨.hbm, 558, rfl⟩
abbrev main_v514 : Ref sig .tc := ⟨.hbm, 559, rfl⟩
abbrev main_v515 : Ref sig .tc := ⟨.hbm, 560, rfl⟩
abbrev main_v516 : Ref sig .tc := ⟨.hbm, 561, rfl⟩
abbrev main_v517 : Ref sig .tc := ⟨.hbm, 562, rfl⟩
abbrev main_v518 : Ref sig .tc := ⟨.hbm, 563, rfl⟩
abbrev main_v519 : Ref sig .tc := ⟨.hbm, 564, rfl⟩
abbrev main_v520 : Ref sig .tc := ⟨.hbm, 565, rfl⟩
abbrev main_v521 : Ref sig .tc := ⟨.hbm, 566, rfl⟩
abbrev main_v522 : Ref sig .tc := ⟨.hbm, 567, rfl⟩
abbrev main_v523 : Ref sig .tc := ⟨.hbm, 568, rfl⟩
abbrev main_v524 : Ref sig .tc := ⟨.hbm, 569, rfl⟩
abbrev main_v525 : Ref sig .tc := ⟨.hbm, 570, rfl⟩
abbrev main_v526 : Ref sig .tc := ⟨.hbm, 571, rfl⟩
abbrev main_cst_15 : Ref sig .tc := ⟨.hbm, 572, rfl⟩
abbrev main_v527 : Ref sig .tc := ⟨.hbm, 573, rfl⟩
abbrev main_v528 : Ref sig .tc := ⟨.hbm, 574, rfl⟩
abbrev main_cst_16 : Ref sig .tc := ⟨.hbm, 575, rfl⟩
abbrev main_v529 : Ref sig .tc := ⟨.hbm, 576, rfl⟩
abbrev main_v530 : Ref sig .tc := ⟨.hbm, 577, rfl⟩
abbrev main_v531 : Ref sig .tc := ⟨.hbm, 578, rfl⟩
abbrev main_v532 : Ref sig .tc := ⟨.hbm, 579, rfl⟩
abbrev main_v533 : Ref sig .tc := ⟨.hbm, 580, rfl⟩
abbrev main_cst_17 : Ref sig .tc := ⟨.hbm, 581, rfl⟩
abbrev main_v534 : Ref sig .tc := ⟨.hbm, 582, rfl⟩
abbrev main_v535 : Ref sig .tc := ⟨.hbm, 583, rfl⟩
abbrev main_cst_18 : Ref sig .tc := ⟨.hbm, 584, rfl⟩
abbrev main_v536 : Ref sig .tc := ⟨.hbm, 585, rfl⟩
abbrev main_v537 : Ref sig .tc := ⟨.hbm, 586, rfl⟩
abbrev main_cst_19 : Ref sig .tc := ⟨.hbm, 587, rfl⟩
abbrev main_v538 : Ref sig .tc := ⟨.hbm, 588, rfl⟩
abbrev main_v539 : Ref sig .tc := ⟨.hbm, 589, rfl⟩
abbrev main_v540 : Ref sig .tc := ⟨.hbm, 590, rfl⟩
abbrev main_v541 : Ref sig .tc := ⟨.hbm, 591, rfl⟩
abbrev main_cst_20 : Ref sig .tc := ⟨.hbm, 592, rfl⟩
abbrev main_v542 : Ref sig .tc := ⟨.hbm, 593, rfl⟩
abbrev main_v543 : Ref sig .tc := ⟨.hbm, 594, rfl⟩
abbrev main_v544 : Ref sig .tc := ⟨.hbm, 595, rfl⟩
abbrev main_v545 : Ref sig .tc := ⟨.hbm, 596, rfl⟩
abbrev main_cst_21 : Ref sig .tc := ⟨.hbm, 597, rfl⟩
abbrev main_v546 : Ref sig .tc := ⟨.hbm, 598, rfl⟩
abbrev main_v547 : Ref sig .tc := ⟨.hbm, 599, rfl⟩
abbrev main_v548 : Ref sig .tc := ⟨.hbm, 600, rfl⟩
abbrev main_v549 : Ref sig .tc := ⟨.hbm, 601, rfl⟩
abbrev main_v550 : Ref sig .tc := ⟨.hbm, 602, rfl⟩
abbrev main_v551 : Ref sig .tc := ⟨.hbm, 603, rfl⟩
abbrev main_v552 : Ref sig .tc := ⟨.hbm, 604, rfl⟩
abbrev main_v553 : Ref sig .tc := ⟨.hbm, 605, rfl⟩
abbrev main_v554 : Ref sig .tc := ⟨.hbm, 606, rfl⟩
abbrev main_call2_v0 : Ref sig .tc := ⟨.hbm, 607, rfl⟩
abbrev main_call2_v1 : Ref sig .tc := ⟨.hbm, 608, rfl⟩
abbrev main_call2_cst : Ref sig .tc := ⟨.hbm, 609, rfl⟩
abbrev main_call2_v2 : Ref sig .tc := ⟨.hbm, 610, rfl⟩
abbrev main_call2_v3 : Ref sig .tc := ⟨.hbm, 611, rfl⟩
abbrev main_call2_cst_0 : Ref sig .tc := ⟨.hbm, 612, rfl⟩
abbrev main_call2_v4 : Ref sig .tc := ⟨.hbm, 613, rfl⟩
abbrev main_v555_2 : Ref sig .tc := ⟨.hbm, 614, rfl⟩
abbrev main_call2_cst_1 : Ref sig .tc := ⟨.hbm, 615, rfl⟩
abbrev main_call2_v6 : Ref sig .tc := ⟨.hbm, 616, rfl⟩
abbrev main_call2_v7 : Ref sig .tc := ⟨.hbm, 617, rfl⟩
abbrev main_v555_1 : Ref sig .tc := ⟨.hbm, 618, rfl⟩
abbrev main_v555_0 : Ref sig .tc := ⟨.hbm, 619, rfl⟩
abbrev main_v556 : Ref sig .tc := ⟨.hbm, 620, rfl⟩
abbrev main_v557 : Ref sig .tc := ⟨.hbm, 621, rfl⟩
abbrev main_cst_22 : Ref sig .tc := ⟨.hbm, 622, rfl⟩
abbrev main_v558 : Ref sig .tc := ⟨.hbm, 623, rfl⟩
abbrev main_v559 : Ref sig .tc := ⟨.hbm, 624, rfl⟩
abbrev main_v560 : Ref sig .tc := ⟨.hbm, 625, rfl⟩
abbrev main_call3_v0 : Ref sig .tc := ⟨.hbm, 626, rfl⟩
abbrev main_call3_v1 : Ref sig .tc := ⟨.hbm, 627, rfl⟩
abbrev main_call3_v2 : Ref sig .tc := ⟨.hbm, 628, rfl⟩
abbrev main_v561 : Ref sig .tc := ⟨.hbm, 629, rfl⟩
abbrev main_v562 : Ref sig .tc := ⟨.hbm, 630, rfl⟩
abbrev main_v563 : Ref sig .tc := ⟨.hbm, 631, rfl⟩
abbrev main_cst_23 : Ref sig .tc := ⟨.hbm, 632, rfl⟩
abbrev main_v564 : Ref sig .tc := ⟨.hbm, 633, rfl⟩
abbrev main_v565 : Ref sig .tc := ⟨.hbm, 634, rfl⟩
abbrev main_v566 : Ref sig .tc := ⟨.hbm, 635, rfl⟩
abbrev main_v567 : Ref sig .tc := ⟨.hbm, 636, rfl⟩
abbrev main_cst_24 : Ref sig .tc := ⟨.hbm, 637, rfl⟩
abbrev main_v568 : Ref sig .tc := ⟨.hbm, 638, rfl⟩
abbrev main_v569 : Ref sig .tc := ⟨.hbm, 639, rfl⟩
abbrev main_v570 : Ref sig .tc := ⟨.hbm, 640, rfl⟩
abbrev main_cst_25 : Ref sig .tc := ⟨.hbm, 641, rfl⟩
abbrev main_v571 : Ref sig .tc := ⟨.hbm, 642, rfl⟩
abbrev main_v572 : Ref sig .tc := ⟨.hbm, 643, rfl⟩
abbrev main_v573 : Ref sig .tc := ⟨.hbm, 644, rfl⟩
abbrev main_v574 : Ref sig .tc := ⟨.hbm, 645, rfl⟩
abbrev main_v575 : Ref sig .tc := ⟨.hbm, 646, rfl⟩
abbrev main_v576 : Ref sig .tc := ⟨.hbm, 647, rfl⟩
abbrev main_cst_26 : Ref sig .tc := ⟨.hbm, 648, rfl⟩
abbrev main_v577 : Ref sig .tc := ⟨.hbm, 649, rfl⟩
abbrev main_v578 : Ref sig .tc := ⟨.hbm, 650, rfl⟩
abbrev main_cst_27 : Ref sig .tc := ⟨.hbm, 651, rfl⟩
abbrev main_v579 : Ref sig .tc := ⟨.hbm, 652, rfl⟩
abbrev main_v580 : Ref sig .tc := ⟨.hbm, 653, rfl⟩
abbrev main_cst_28 : Ref sig .tc := ⟨.hbm, 654, rfl⟩
abbrev main_v581 : Ref sig .tc := ⟨.hbm, 655, rfl⟩
abbrev main_v582 : Ref sig .tc := ⟨.hbm, 656, rfl⟩
abbrev main_v583 : Ref sig .tc := ⟨.hbm, 657, rfl⟩
abbrev main_v584 : Ref sig .tc := ⟨.hbm, 658, rfl⟩
abbrev main_cst_29 : Ref sig .tc := ⟨.hbm, 659, rfl⟩
abbrev main_v585 : Ref sig .tc := ⟨.hbm, 660, rfl⟩
abbrev main_v586 : Ref sig .tc := ⟨.hbm, 661, rfl⟩
abbrev main_v587 : Ref sig .tc := ⟨.hbm, 662, rfl⟩
abbrev main_v588 : Ref sig .tc := ⟨.hbm, 663, rfl⟩
abbrev main_cst_30 : Ref sig .tc := ⟨.hbm, 664, rfl⟩
abbrev main_v589 : Ref sig .tc := ⟨.hbm, 665, rfl⟩
abbrev main_v590 : Ref sig .tc := ⟨.hbm, 666, rfl⟩
abbrev main_cst_31 : Ref sig .tc := ⟨.hbm, 667, rfl⟩
abbrev main_v591 : Ref sig .tc := ⟨.hbm, 668, rfl⟩
abbrev main_v592 : Ref sig .tc := ⟨.hbm, 669, rfl⟩
abbrev main_v593 : Ref sig .tc := ⟨.hbm, 670, rfl⟩
abbrev main_v594 : Ref sig .tc := ⟨.hbm, 671, rfl⟩
abbrev main_v595 : Ref sig .tc := ⟨.hbm, 672, rfl⟩
abbrev main_v596 : Ref sig .tc := ⟨.hbm, 673, rfl⟩
abbrev main_v597 : Ref sig .tc := ⟨.hbm, 674, rfl⟩
abbrev main_v598 : Ref sig .tc := ⟨.hbm, 675, rfl⟩
abbrev main_v599 : Ref sig .tc := ⟨.hbm, 676, rfl⟩
abbrev main_v600 : Ref sig .tc := ⟨.hbm, 677, rfl⟩
abbrev main_v601 : Ref sig .tc := ⟨.hbm, 678, rfl⟩
abbrev main_cst_32 : Ref sig .tc := ⟨.hbm, 679, rfl⟩
abbrev main_v602 : Ref sig .tc := ⟨.hbm, 680, rfl⟩
abbrev main_v603 : Ref sig .tc := ⟨.hbm, 681, rfl⟩
abbrev main_v604 : Ref sig .tc := ⟨.hbm, 682, rfl⟩
abbrev main_cst_33 : Ref sig .tc := ⟨.hbm, 683, rfl⟩
abbrev main_v605 : Ref sig .tc := ⟨.hbm, 684, rfl⟩
abbrev main_v606 : Ref sig .tc := ⟨.hbm, 685, rfl⟩
abbrev main_v607 : Ref sig .tc := ⟨.hbm, 686, rfl⟩
abbrev main_v608 : Ref sig .tc := ⟨.hbm, 687, rfl⟩
abbrev main_v609 : Ref sig .tc := ⟨.hbm, 688, rfl⟩
abbrev main_v610 : Ref sig .tc := ⟨.hbm, 689, rfl⟩
abbrev main_v611 : Ref sig .tc := ⟨.hbm, 690, rfl⟩
abbrev main_v612 : Ref sig .tc := ⟨.hbm, 691, rfl⟩
abbrev main_v613 : Ref sig .tc := ⟨.hbm, 692, rfl⟩
abbrev main_v614 : Ref sig .tc := ⟨.hbm, 693, rfl⟩
abbrev main_v615 : Ref sig .tc := ⟨.hbm, 694, rfl⟩
abbrev main_v616 : Ref sig .tc := ⟨.hbm, 695, rfl⟩
abbrev main_v617 : Ref sig .tc := ⟨.hbm, 696, rfl⟩
abbrev main_v618 : Ref sig .tc := ⟨.hbm, 697, rfl⟩
abbrev main_v619 : Ref sig .tc := ⟨.hbm, 698, rfl⟩
abbrev main_v620 : Ref sig .tc := ⟨.hbm, 699, rfl⟩
abbrev main_v621 : Ref sig .tc := ⟨.hbm, 700, rfl⟩
abbrev main_v622 : Ref sig .tc := ⟨.hbm, 701, rfl⟩
abbrev main_v623 : Ref sig .tc := ⟨.hbm, 702, rfl⟩
abbrev main_v624 : Ref sig .tc := ⟨.hbm, 703, rfl⟩
abbrev main_v625 : Ref sig .tc := ⟨.hbm, 704, rfl⟩
abbrev main_v626 : Ref sig .tc := ⟨.hbm, 705, rfl⟩
abbrev main_v627 : Ref sig .tc := ⟨.hbm, 706, rfl⟩
abbrev main_v628 : Ref sig .tc := ⟨.hbm, 707, rfl⟩
abbrev main_v629 : Ref sig .tc := ⟨.hbm, 708, rfl⟩
abbrev main_v630 : Ref sig .tc := ⟨.hbm, 709, rfl⟩
abbrev main_v631 : Ref sig .tc := ⟨.hbm, 710, rfl⟩
abbrev main_v632 : Ref sig .tc := ⟨.hbm, 711, rfl⟩
abbrev main_v633 : Ref sig .tc := ⟨.hbm, 712, rfl⟩
abbrev main_v634 : Ref sig .tc := ⟨.hbm, 713, rfl⟩
abbrev main_v635 : Ref sig .tc := ⟨.hbm, 714, rfl⟩
abbrev main_v636 : Ref sig .tc := ⟨.hbm, 715, rfl⟩
abbrev main_v637 : Ref sig .tc := ⟨.hbm, 716, rfl⟩
abbrev main_v638 : Ref sig .tc := ⟨.hbm, 717, rfl⟩
abbrev main_v639 : Ref sig .tc := ⟨.hbm, 718, rfl⟩
abbrev main_v640 : Ref sig .tc := ⟨.hbm, 719, rfl⟩
abbrev main_v641 : Ref sig .tc := ⟨.hbm, 720, rfl⟩
abbrev main_v642 : Ref sig .tc := ⟨.hbm, 721, rfl⟩
abbrev main_v643 : Ref sig .tc := ⟨.hbm, 722, rfl⟩
abbrev main_v644 : Ref sig .tc := ⟨.hbm, 723, rfl⟩
abbrev main_v645 : Ref sig .tc := ⟨.hbm, 724, rfl⟩
abbrev main_v646 : Ref sig .tc := ⟨.hbm, 725, rfl⟩
abbrev main_v647 : Ref sig .tc := ⟨.hbm, 726, rfl⟩
abbrev main_v648 : Ref sig .tc := ⟨.hbm, 727, rfl⟩
abbrev main_v649 : Ref sig .tc := ⟨.hbm, 728, rfl⟩
abbrev main_v650 : Ref sig .tc := ⟨.hbm, 729, rfl⟩
abbrev main_v651 : Ref sig .tc := ⟨.hbm, 730, rfl⟩
abbrev main_v652 : Ref sig .tc := ⟨.hbm, 731, rfl⟩
abbrev main_v653 : Ref sig .tc := ⟨.hbm, 732, rfl⟩
abbrev main_v654 : Ref sig .tc := ⟨.hbm, 733, rfl⟩
abbrev main_v655 : Ref sig .tc := ⟨.hbm, 734, rfl⟩
abbrev main_v656 : Ref sig .tc := ⟨.hbm, 735, rfl⟩
abbrev main_v657 : Ref sig .tc := ⟨.hbm, 736, rfl⟩
abbrev main_v658 : Ref sig .tc := ⟨.hbm, 737, rfl⟩
abbrev main_v659 : Ref sig .tc := ⟨.hbm, 738, rfl⟩
abbrev main_v660 : Ref sig .tc := ⟨.hbm, 739, rfl⟩
abbrev main_v661 : Ref sig .tc := ⟨.hbm, 740, rfl⟩
abbrev main_v662 : Ref sig .tc := ⟨.hbm, 741, rfl⟩
abbrev main_v663 : Ref sig .tc := ⟨.hbm, 742, rfl⟩
abbrev main_v664 : Ref sig .tc := ⟨.hbm, 743, rfl⟩
abbrev main_v665 : Ref sig .tc := ⟨.hbm, 744, rfl⟩
abbrev main_v666 : Ref sig .tc := ⟨.hbm, 745, rfl⟩
abbrev main_v667 : Ref sig .tc := ⟨.hbm, 746, rfl⟩
abbrev main_v668 : Ref sig .tc := ⟨.hbm, 747, rfl⟩
abbrev main_v669 : Ref sig .tc := ⟨.hbm, 748, rfl⟩
abbrev main_v670 : Ref sig .tc := ⟨.hbm, 749, rfl⟩
abbrev main_v671 : Ref sig .tc := ⟨.hbm, 750, rfl⟩
abbrev main_v672 : Ref sig .tc := ⟨.hbm, 751, rfl⟩
abbrev main_v673 : Ref sig .tc := ⟨.hbm, 752, rfl⟩
abbrev main_v674 : Ref sig .tc := ⟨.hbm, 753, rfl⟩
abbrev main_v675 : Ref sig .tc := ⟨.hbm, 754, rfl⟩
abbrev main_v676 : Ref sig .tc := ⟨.hbm, 755, rfl⟩
abbrev main_v677 : Ref sig .tc := ⟨.hbm, 756, rfl⟩
abbrev main_v678 : Ref sig .tc := ⟨.hbm, 757, rfl⟩
abbrev main_v679 : Ref sig .tc := ⟨.hbm, 758, rfl⟩
abbrev main_v680 : Ref sig .tc := ⟨.hbm, 759, rfl⟩
abbrev main_v681 : Ref sig .tc := ⟨.hbm, 760, rfl⟩
abbrev main_v682 : Ref sig .tc := ⟨.hbm, 761, rfl⟩
abbrev main_v683 : Ref sig .tc := ⟨.hbm, 762, rfl⟩
abbrev main_v684 : Ref sig .tc := ⟨.hbm, 763, rfl⟩
abbrev main_v685 : Ref sig .tc := ⟨.hbm, 764, rfl⟩
abbrev main_v686 : Ref sig .tc := ⟨.hbm, 765, rfl⟩
abbrev main_v687 : Ref sig .tc := ⟨.hbm, 766, rfl⟩
abbrev main_v688 : Ref sig .tc := ⟨.hbm, 767, rfl⟩
abbrev main_v689 : Ref sig .tc := ⟨.hbm, 768, rfl⟩
abbrev main_v690 : Ref sig .tc := ⟨.hbm, 769, rfl⟩
abbrev main_v691 : Ref sig .tc := ⟨.hbm, 770, rfl⟩
abbrev main_v692 : Ref sig .tc := ⟨.hbm, 771, rfl⟩
abbrev main_v693 : Ref sig .tc := ⟨.hbm, 772, rfl⟩
abbrev main_v694 : Ref sig .tc := ⟨.hbm, 773, rfl⟩
abbrev main_v695 : Ref sig .tc := ⟨.hbm, 774, rfl⟩
abbrev main_v696 : Ref sig .tc := ⟨.hbm, 775, rfl⟩
abbrev main_v697 : Ref sig .tc := ⟨.hbm, 776, rfl⟩
abbrev main_v698 : Ref sig .tc := ⟨.hbm, 777, rfl⟩
abbrev main_v699 : Ref sig .tc := ⟨.hbm, 778, rfl⟩
abbrev main_v700 : Ref sig .tc := ⟨.hbm, 779, rfl⟩
abbrev main_v701 : Ref sig .tc := ⟨.hbm, 780, rfl⟩
abbrev main_v702 : Ref sig .tc := ⟨.hbm, 781, rfl⟩
abbrev main_v703 : Ref sig .tc := ⟨.hbm, 782, rfl⟩
abbrev main_v704 : Ref sig .tc := ⟨.hbm, 783, rfl⟩
abbrev main_v705 : Ref sig .tc := ⟨.hbm, 784, rfl⟩
abbrev main_v706 : Ref sig .tc := ⟨.hbm, 785, rfl⟩
abbrev main_v707 : Ref sig .tc := ⟨.hbm, 786, rfl⟩
abbrev main_v708 : Ref sig .tc := ⟨.hbm, 787, rfl⟩
abbrev main_v709 : Ref sig .tc := ⟨.hbm, 788, rfl⟩
abbrev main_v710 : Ref sig .tc := ⟨.hbm, 789, rfl⟩
abbrev main_v711 : Ref sig .tc := ⟨.hbm, 790, rfl⟩
abbrev main_v712 : Ref sig .tc := ⟨.hbm, 791, rfl⟩
abbrev main_v713 : Ref sig .tc := ⟨.hbm, 792, rfl⟩
abbrev main_v714 : Ref sig .tc := ⟨.hbm, 793, rfl⟩
abbrev main_v715 : Ref sig .tc := ⟨.hbm, 794, rfl⟩
abbrev main_v716 : Ref sig .tc := ⟨.hbm, 795, rfl⟩
abbrev main_v717 : Ref sig .tc := ⟨.hbm, 796, rfl⟩
abbrev main_v718 : Ref sig .tc := ⟨.hbm, 797, rfl⟩
abbrev main_v719 : Ref sig .tc := ⟨.hbm, 798, rfl⟩
abbrev main_v720 : Ref sig .tc := ⟨.hbm, 799, rfl⟩
abbrev main_v721 : Ref sig .tc := ⟨.hbm, 800, rfl⟩
abbrev main_v722 : Ref sig .tc := ⟨.hbm, 801, rfl⟩
abbrev main_v723 : Ref sig .tc := ⟨.hbm, 802, rfl⟩
abbrev main_v724 : Ref sig .tc := ⟨.hbm, 803, rfl⟩
abbrev main_v725 : Ref sig .tc := ⟨.hbm, 804, rfl⟩
abbrev main_v726 : Ref sig .tc := ⟨.hbm, 805, rfl⟩
abbrev main_v727 : Ref sig .tc := ⟨.hbm, 806, rfl⟩
abbrev main_v728 : Ref sig .tc := ⟨.hbm, 807, rfl⟩
abbrev main_v729 : Ref sig .tc := ⟨.hbm, 808, rfl⟩
abbrev main_v730 : Ref sig .tc := ⟨.hbm, 809, rfl⟩
abbrev main_v731 : Ref sig .tc := ⟨.hbm, 810, rfl⟩
abbrev main_v732 : Ref sig .tc := ⟨.hbm, 811, rfl⟩
abbrev main_v733 : Ref sig .tc := ⟨.hbm, 812, rfl⟩
abbrev main_v734 : Ref sig .tc := ⟨.hbm, 813, rfl⟩
abbrev main_v735 : Ref sig .tc := ⟨.hbm, 814, rfl⟩
abbrev main_v736 : Ref sig .tc := ⟨.hbm, 815, rfl⟩
abbrev main_v737 : Ref sig .tc := ⟨.hbm, 816, rfl⟩
abbrev main_v738 : Ref sig .tc := ⟨.hbm, 817, rfl⟩
abbrev main_v739 : Ref sig .tc := ⟨.hbm, 818, rfl⟩
abbrev main_v740 : Ref sig .tc := ⟨.hbm, 819, rfl⟩
abbrev main_v741 : Ref sig .tc := ⟨.hbm, 820, rfl⟩
abbrev main_v742 : Ref sig .tc := ⟨.hbm, 821, rfl⟩
abbrev main_v743 : Ref sig .tc := ⟨.hbm, 822, rfl⟩
abbrev main_v744 : Ref sig .tc := ⟨.hbm, 823, rfl⟩
abbrev main_v745 : Ref sig .tc := ⟨.hbm, 824, rfl⟩
abbrev main_v746 : Ref sig .tc := ⟨.hbm, 825, rfl⟩
abbrev main_v747 : Ref sig .tc := ⟨.hbm, 826, rfl⟩
abbrev main_v748 : Ref sig .tc := ⟨.hbm, 827, rfl⟩
abbrev main_v749 : Ref sig .tc := ⟨.hbm, 828, rfl⟩
abbrev main_v750 : Ref sig .tc := ⟨.hbm, 829, rfl⟩
abbrev main_v751 : Ref sig .tc := ⟨.hbm, 830, rfl⟩
abbrev main_v752 : Ref sig .tc := ⟨.hbm, 831, rfl⟩
abbrev main_v753 : Ref sig .tc := ⟨.hbm, 832, rfl⟩
abbrev main_v754 : Ref sig .tc := ⟨.hbm, 833, rfl⟩
abbrev main_v755 : Ref sig .tc := ⟨.hbm, 834, rfl⟩
abbrev main_v756 : Ref sig .tc := ⟨.hbm, 835, rfl⟩
abbrev main_v757 : Ref sig .tc := ⟨.hbm, 836, rfl⟩
abbrev main_v758 : Ref sig .tc := ⟨.hbm, 837, rfl⟩
abbrev main_v759 : Ref sig .tc := ⟨.hbm, 838, rfl⟩
abbrev main_v760 : Ref sig .tc := ⟨.hbm, 839, rfl⟩
abbrev main_v761 : Ref sig .tc := ⟨.hbm, 840, rfl⟩
abbrev main_v762 : Ref sig .tc := ⟨.hbm, 841, rfl⟩
abbrev main_v763 : Ref sig .tc := ⟨.hbm, 842, rfl⟩
abbrev main_v764 : Ref sig .tc := ⟨.hbm, 843, rfl⟩
abbrev main_v765 : Ref sig .tc := ⟨.hbm, 844, rfl⟩
abbrev main_v766 : Ref sig .tc := ⟨.hbm, 845, rfl⟩
abbrev main_v767 : Ref sig .tc := ⟨.hbm, 846, rfl⟩
abbrev main_v768 : Ref sig .tc := ⟨.hbm, 847, rfl⟩
abbrev main_v769 : Ref sig .tc := ⟨.hbm, 848, rfl⟩
abbrev main_v770 : Ref sig .tc := ⟨.hbm, 849, rfl⟩
abbrev main_v771 : Ref sig .tc := ⟨.hbm, 850, rfl⟩
abbrev main_v772 : Ref sig .tc := ⟨.hbm, 851, rfl⟩
abbrev main_v773 : Ref sig .tc := ⟨.hbm, 852, rfl⟩
abbrev main_v774 : Ref sig .tc := ⟨.hbm, 853, rfl⟩
abbrev main_v775 : Ref sig .tc := ⟨.hbm, 854, rfl⟩
abbrev main_v776 : Ref sig .tc := ⟨.hbm, 855, rfl⟩
abbrev main_v777 : Ref sig .tc := ⟨.hbm, 856, rfl⟩
abbrev main_v778 : Ref sig .tc := ⟨.hbm, 857, rfl⟩
abbrev main_v779 : Ref sig .tc := ⟨.hbm, 858, rfl⟩
abbrev main_v780 : Ref sig .tc := ⟨.hbm, 859, rfl⟩
abbrev main_v781 : Ref sig .tc := ⟨.hbm, 860, rfl⟩
abbrev main_v782 : Ref sig .tc := ⟨.hbm, 861, rfl⟩
abbrev main_v783 : Ref sig .tc := ⟨.hbm, 862, rfl⟩
abbrev main_v784 : Ref sig .tc := ⟨.hbm, 863, rfl⟩
abbrev main_v785 : Ref sig .tc := ⟨.hbm, 864, rfl⟩
abbrev main_v786 : Ref sig .tc := ⟨.hbm, 865, rfl⟩
abbrev main_v787 : Ref sig .tc := ⟨.hbm, 866, rfl⟩
abbrev main_v788 : Ref sig .tc := ⟨.hbm, 867, rfl⟩
abbrev main_v789 : Ref sig .tc := ⟨.hbm, 868, rfl⟩
abbrev main_v790 : Ref sig .tc := ⟨.hbm, 869, rfl⟩
abbrev main_v791 : Ref sig .tc := ⟨.hbm, 870, rfl⟩
abbrev main_v792 : Ref sig .tc := ⟨.hbm, 871, rfl⟩
abbrev main_v793 : Ref sig .tc := ⟨.hbm, 872, rfl⟩
abbrev main_v794 : Ref sig .tc := ⟨.hbm, 873, rfl⟩
abbrev main_v795 : Ref sig .tc := ⟨.hbm, 874, rfl⟩
abbrev main_v796 : Ref sig .tc := ⟨.hbm, 875, rfl⟩
abbrev main_v797 : Ref sig .tc := ⟨.hbm, 876, rfl⟩
abbrev main_v798 : Ref sig .tc := ⟨.hbm, 877, rfl⟩
abbrev main_v799 : Ref sig .tc := ⟨.hbm, 878, rfl⟩
abbrev main_v800 : Ref sig .tc := ⟨.hbm, 879, rfl⟩
abbrev main_v801 : Ref sig .tc := ⟨.hbm, 880, rfl⟩
abbrev main_v802 : Ref sig .tc := ⟨.hbm, 881, rfl⟩
abbrev main_v803 : Ref sig .tc := ⟨.hbm, 882, rfl⟩
abbrev main_v804 : Ref sig .tc := ⟨.hbm, 883, rfl⟩
abbrev main_v805 : Ref sig .tc := ⟨.hbm, 884, rfl⟩
abbrev main_v806 : Ref sig .tc := ⟨.hbm, 885, rfl⟩
abbrev main_v807 : Ref sig .tc := ⟨.hbm, 886, rfl⟩
abbrev main_v808 : Ref sig .tc := ⟨.hbm, 887, rfl⟩
abbrev main_v809 : Ref sig .tc := ⟨.hbm, 888, rfl⟩
abbrev main_v810 : Ref sig .tc := ⟨.hbm, 889, rfl⟩
abbrev main_v811 : Ref sig .tc := ⟨.hbm, 890, rfl⟩
abbrev main_v812 : Ref sig .tc := ⟨.hbm, 891, rfl⟩
abbrev main_v813 : Ref sig .tc := ⟨.hbm, 892, rfl⟩
abbrev main_v814 : Ref sig .tc := ⟨.hbm, 893, rfl⟩
abbrev main_v815 : Ref sig .tc := ⟨.hbm, 894, rfl⟩
abbrev main_v816 : Ref sig .tc := ⟨.hbm, 895, rfl⟩
abbrev main_v817 : Ref sig .tc := ⟨.hbm, 896, rfl⟩
abbrev main_v818 : Ref sig .tc := ⟨.hbm, 897, rfl⟩
abbrev main_v819 : Ref sig .tc := ⟨.hbm, 898, rfl⟩
abbrev main_v820 : Ref sig .tc := ⟨.hbm, 899, rfl⟩
abbrev main_v821 : Ref sig .tc := ⟨.hbm, 900, rfl⟩
abbrev main_v822 : Ref sig .tc := ⟨.hbm, 901, rfl⟩
abbrev main_v823 : Ref sig .tc := ⟨.hbm, 902, rfl⟩
abbrev main_v824 : Ref sig .tc := ⟨.hbm, 903, rfl⟩
abbrev main_v825 : Ref sig .tc := ⟨.hbm, 904, rfl⟩
abbrev main_v826 : Ref sig .tc := ⟨.hbm, 905, rfl⟩
abbrev main_v827 : Ref sig .tc := ⟨.hbm, 906, rfl⟩
abbrev main_v828 : Ref sig .tc := ⟨.hbm, 907, rfl⟩
abbrev main_v829 : Ref sig .tc := ⟨.hbm, 908, rfl⟩
abbrev main_v830 : Ref sig .tc := ⟨.hbm, 909, rfl⟩
abbrev main_v831 : Ref sig .tc := ⟨.hbm, 910, rfl⟩
abbrev main_v832 : Ref sig .tc := ⟨.hbm, 911, rfl⟩
abbrev main_v833 : Ref sig .tc := ⟨.hbm, 912, rfl⟩
abbrev main_v834 : Ref sig .tc := ⟨.hbm, 913, rfl⟩
abbrev main_v835 : Ref sig .tc := ⟨.hbm, 914, rfl⟩
abbrev main_v836 : Ref sig .tc := ⟨.hbm, 915, rfl⟩
abbrev main_v837 : Ref sig .tc := ⟨.hbm, 916, rfl⟩
abbrev main_v838 : Ref sig .tc := ⟨.hbm, 917, rfl⟩
abbrev main_v839 : Ref sig .tc := ⟨.hbm, 918, rfl⟩
abbrev main_v840 : Ref sig .tc := ⟨.hbm, 919, rfl⟩
abbrev main_v841 : Ref sig .tc := ⟨.hbm, 920, rfl⟩
abbrev main_v842 : Ref sig .tc := ⟨.hbm, 921, rfl⟩
abbrev main_v843 : Ref sig .tc := ⟨.hbm, 922, rfl⟩
abbrev main_v844 : Ref sig .tc := ⟨.hbm, 923, rfl⟩
abbrev main_v845 : Ref sig .tc := ⟨.hbm, 924, rfl⟩
abbrev main_v846 : Ref sig .tc := ⟨.hbm, 925, rfl⟩
abbrev main_v847 : Ref sig .tc := ⟨.hbm, 926, rfl⟩
abbrev main_v848 : Ref sig .tc := ⟨.hbm, 927, rfl⟩
abbrev main_v849 : Ref sig .tc := ⟨.hbm, 928, rfl⟩
abbrev main_v850 : Ref sig .tc := ⟨.hbm, 929, rfl⟩
abbrev main_v851 : Ref sig .tc := ⟨.hbm, 930, rfl⟩
abbrev main_v852 : Ref sig .tc := ⟨.hbm, 931, rfl⟩
abbrev main_v853 : Ref sig .tc := ⟨.hbm, 932, rfl⟩
abbrev main_v854 : Ref sig .tc := ⟨.hbm, 933, rfl⟩
abbrev main_v855 : Ref sig .tc := ⟨.hbm, 934, rfl⟩
abbrev main_v856 : Ref sig .tc := ⟨.hbm, 935, rfl⟩
abbrev main_v857 : Ref sig .tc := ⟨.hbm, 936, rfl⟩
abbrev main_v858 : Ref sig .tc := ⟨.hbm, 937, rfl⟩
abbrev main_v859 : Ref sig .tc := ⟨.hbm, 938, rfl⟩
abbrev main_v860 : Ref sig .tc := ⟨.hbm, 939, rfl⟩
abbrev main_v861 : Ref sig .tc := ⟨.hbm, 940, rfl⟩
abbrev main_v862 : Ref sig .tc := ⟨.hbm, 941, rfl⟩
abbrev main_v863 : Ref sig .tc := ⟨.hbm, 942, rfl⟩
abbrev main_v864 : Ref sig .tc := ⟨.hbm, 943, rfl⟩
abbrev main_v865 : Ref sig .tc := ⟨.hbm, 944, rfl⟩
abbrev main_v866 : Ref sig .tc := ⟨.hbm, 945, rfl⟩
abbrev main_v867 : Ref sig .tc := ⟨.hbm, 946, rfl⟩
abbrev main_v868 : Ref sig .tc := ⟨.hbm, 947, rfl⟩
abbrev main_v869 : Ref sig .tc := ⟨.hbm, 948, rfl⟩
abbrev main_v870 : Ref sig .tc := ⟨.hbm, 949, rfl⟩
abbrev main_v871 : Ref sig .tc := ⟨.hbm, 950, rfl⟩
abbrev main_v872 : Ref sig .tc := ⟨.hbm, 951, rfl⟩
abbrev main_v873 : Ref sig .tc := ⟨.hbm, 952, rfl⟩
abbrev main_v874 : Ref sig .tc := ⟨.hbm, 953, rfl⟩
abbrev main_v875 : Ref sig .tc := ⟨.hbm, 954, rfl⟩
abbrev main_v876 : Ref sig .tc := ⟨.hbm, 955, rfl⟩
abbrev main_v877 : Ref sig .tc := ⟨.hbm, 956, rfl⟩
abbrev main_v878 : Ref sig .tc := ⟨.hbm, 957, rfl⟩
abbrev main_v879 : Ref sig .tc := ⟨.hbm, 958, rfl⟩
abbrev main_v880 : Ref sig .tc := ⟨.hbm, 959, rfl⟩
abbrev main_v881 : Ref sig .tc := ⟨.hbm, 960, rfl⟩
abbrev main_v882 : Ref sig .tc := ⟨.hbm, 961, rfl⟩
abbrev main_v883 : Ref sig .tc := ⟨.hbm, 962, rfl⟩
abbrev main_v884 : Ref sig .tc := ⟨.hbm, 963, rfl⟩
abbrev main_v885 : Ref sig .tc := ⟨.hbm, 964, rfl⟩
abbrev main_v886 : Ref sig .tc := ⟨.hbm, 965, rfl⟩
abbrev main_v887 : Ref sig .tc := ⟨.hbm, 966, rfl⟩
abbrev main_v888 : Ref sig .tc := ⟨.hbm, 967, rfl⟩
abbrev main_v889 : Ref sig .tc := ⟨.hbm, 968, rfl⟩
abbrev main_v890 : Ref sig .tc := ⟨.hbm, 969, rfl⟩
abbrev main_v891 : Ref sig .tc := ⟨.hbm, 970, rfl⟩
abbrev main_v892 : Ref sig .tc := ⟨.hbm, 971, rfl⟩
abbrev main_v893 : Ref sig .tc := ⟨.hbm, 972, rfl⟩
abbrev main_v894 : Ref sig .tc := ⟨.hbm, 973, rfl⟩
abbrev main_v895 : Ref sig .tc := ⟨.hbm, 974, rfl⟩
abbrev main_v896 : Ref sig .tc := ⟨.hbm, 975, rfl⟩
abbrev main_v897 : Ref sig .tc := ⟨.hbm, 976, rfl⟩
abbrev main_v898 : Ref sig .tc := ⟨.hbm, 977, rfl⟩
abbrev main_v899 : Ref sig .tc := ⟨.hbm, 978, rfl⟩
abbrev main_v900 : Ref sig .tc := ⟨.hbm, 979, rfl⟩
abbrev main_v901 : Ref sig .tc := ⟨.hbm, 980, rfl⟩
abbrev main_v902 : Ref sig .tc := ⟨.hbm, 981, rfl⟩
abbrev main_v903 : Ref sig .tc := ⟨.hbm, 982, rfl⟩
abbrev main_v904 : Ref sig .tc := ⟨.hbm, 983, rfl⟩
abbrev main_v905 : Ref sig .tc := ⟨.hbm, 984, rfl⟩
abbrev main_v906 : Ref sig .tc := ⟨.hbm, 985, rfl⟩
abbrev main_v907 : Ref sig .tc := ⟨.hbm, 986, rfl⟩
abbrev main_v908 : Ref sig .tc := ⟨.hbm, 987, rfl⟩
abbrev main_v909 : Ref sig .tc := ⟨.hbm, 988, rfl⟩
abbrev main_v910 : Ref sig .tc := ⟨.hbm, 989, rfl⟩
abbrev main_v911 : Ref sig .tc := ⟨.hbm, 990, rfl⟩
abbrev main_v912 : Ref sig .tc := ⟨.hbm, 991, rfl⟩
abbrev main_v913 : Ref sig .tc := ⟨.hbm, 992, rfl⟩
abbrev main_v914 : Ref sig .tc := ⟨.hbm, 993, rfl⟩
abbrev main_v915 : Ref sig .tc := ⟨.hbm, 994, rfl⟩
abbrev main_v916 : Ref sig .tc := ⟨.hbm, 995, rfl⟩
abbrev main_v917 : Ref sig .tc := ⟨.hbm, 996, rfl⟩
abbrev main_v918 : Ref sig .tc := ⟨.hbm, 997, rfl⟩
abbrev main_v919 : Ref sig .tc := ⟨.hbm, 998, rfl⟩
abbrev main_v920 : Ref sig .tc := ⟨.hbm, 999, rfl⟩
abbrev main_v921 : Ref sig .tc := ⟨.hbm, 1000, rfl⟩
abbrev main_v922 : Ref sig .tc := ⟨.hbm, 1001, rfl⟩
abbrev main_v923 : Ref sig .tc := ⟨.hbm, 1002, rfl⟩
abbrev main_v924 : Ref sig .tc := ⟨.hbm, 1003, rfl⟩
abbrev main_v925 : Ref sig .tc := ⟨.hbm, 1004, rfl⟩
abbrev main_v926 : Ref sig .tc := ⟨.hbm, 1005, rfl⟩
abbrev main_v927 : Ref sig .tc := ⟨.hbm, 1006, rfl⟩
abbrev main_v928 : Ref sig .tc := ⟨.hbm, 1007, rfl⟩
abbrev main_v929 : Ref sig .tc := ⟨.hbm, 1008, rfl⟩
abbrev main_v930 : Ref sig .tc := ⟨.hbm, 1009, rfl⟩
abbrev main_v931 : Ref sig .tc := ⟨.hbm, 1010, rfl⟩
abbrev main_v932 : Ref sig .tc := ⟨.hbm, 1011, rfl⟩
abbrev main_v933 : Ref sig .tc := ⟨.hbm, 1012, rfl⟩
abbrev main_v934 : Ref sig .tc := ⟨.hbm, 1013, rfl⟩
abbrev main_v935 : Ref sig .tc := ⟨.hbm, 1014, rfl⟩
abbrev main_v936 : Ref sig .tc := ⟨.hbm, 1015, rfl⟩
abbrev main_v937 : Ref sig .tc := ⟨.hbm, 1016, rfl⟩
abbrev main_v938 : Ref sig .tc := ⟨.hbm, 1017, rfl⟩
abbrev main_v939 : Ref sig .tc := ⟨.hbm, 1018, rfl⟩
abbrev main_v940 : Ref sig .tc := ⟨.hbm, 1019, rfl⟩
abbrev main_v941 : Ref sig .tc := ⟨.hbm, 1020, rfl⟩
abbrev main_v942 : Ref sig .tc := ⟨.hbm, 1021, rfl⟩
abbrev main_v943 : Ref sig .tc := ⟨.hbm, 1022, rfl⟩
abbrev main_v944 : Ref sig .tc := ⟨.hbm, 1023, rfl⟩
abbrev main_v945 : Ref sig .tc := ⟨.hbm, 1024, rfl⟩
abbrev main_v946 : Ref sig .tc := ⟨.hbm, 1025, rfl⟩
abbrev main_v947 : Ref sig .tc := ⟨.hbm, 1026, rfl⟩
abbrev main_v948 : Ref sig .tc := ⟨.hbm, 1027, rfl⟩
abbrev main_v949 : Ref sig .tc := ⟨.hbm, 1028, rfl⟩
abbrev main_v950 : Ref sig .tc := ⟨.hbm, 1029, rfl⟩
abbrev main_v951 : Ref sig .tc := ⟨.hbm, 1030, rfl⟩
abbrev main_v952 : Ref sig .tc := ⟨.hbm, 1031, rfl⟩
abbrev main_v953 : Ref sig .tc := ⟨.hbm, 1032, rfl⟩
abbrev main_v954 : Ref sig .tc := ⟨.hbm, 1033, rfl⟩
abbrev main_v955 : Ref sig .tc := ⟨.hbm, 1034, rfl⟩
abbrev main_v956 : Ref sig .tc := ⟨.hbm, 1035, rfl⟩
abbrev main_v957 : Ref sig .tc := ⟨.hbm, 1036, rfl⟩
abbrev main_v958 : Ref sig .tc := ⟨.hbm, 1037, rfl⟩
abbrev main_v959 : Ref sig .tc := ⟨.hbm, 1038, rfl⟩
abbrev main_v960 : Ref sig .tc := ⟨.hbm, 1039, rfl⟩
abbrev main_v961 : Ref sig .tc := ⟨.hbm, 1040, rfl⟩
abbrev main_v962 : Ref sig .tc := ⟨.hbm, 1041, rfl⟩
abbrev main_v963 : Ref sig .tc := ⟨.hbm, 1042, rfl⟩
abbrev main_v964 : Ref sig .tc := ⟨.hbm, 1043, rfl⟩
abbrev main_v965 : Ref sig .tc := ⟨.hbm, 1044, rfl⟩
abbrev main_v966 : Ref sig .tc := ⟨.hbm, 1045, rfl⟩
abbrev main_v967 : Ref sig .tc := ⟨.hbm, 1046, rfl⟩
abbrev main_v968 : Ref sig .tc := ⟨.hbm, 1047, rfl⟩
abbrev main_v969 : Ref sig .tc := ⟨.hbm, 1048, rfl⟩
abbrev main_v970 : Ref sig .tc := ⟨.hbm, 1049, rfl⟩
abbrev main_v971 : Ref sig .tc := ⟨.hbm, 1050, rfl⟩
abbrev main_v972 : Ref sig .tc := ⟨.hbm, 1051, rfl⟩
abbrev main_v973 : Ref sig .tc := ⟨.hbm, 1052, rfl⟩
abbrev main_v974 : Ref sig .tc := ⟨.hbm, 1053, rfl⟩
abbrev main_v975 : Ref sig .tc := ⟨.hbm, 1054, rfl⟩
abbrev main_v976 : Ref sig .tc := ⟨.hbm, 1055, rfl⟩
abbrev main_v977 : Ref sig .tc := ⟨.hbm, 1056, rfl⟩
abbrev main_v978 : Ref sig .tc := ⟨.hbm, 1057, rfl⟩
abbrev main_v979 : Ref sig .tc := ⟨.hbm, 1058, rfl⟩
abbrev main_v980 : Ref sig .tc := ⟨.hbm, 1059, rfl⟩
abbrev main_v981 : Ref sig .tc := ⟨.hbm, 1060, rfl⟩
abbrev main_v982 : Ref sig .tc := ⟨.hbm, 1061, rfl⟩
abbrev main_v983 : Ref sig .tc := ⟨.hbm, 1062, rfl⟩
abbrev main_v984 : Ref sig .tc := ⟨.hbm, 1063, rfl⟩
abbrev main_v985 : Ref sig .tc := ⟨.hbm, 1064, rfl⟩
abbrev main_v986 : Ref sig .tc := ⟨.hbm, 1065, rfl⟩
abbrev main_v987 : Ref sig .tc := ⟨.hbm, 1066, rfl⟩
abbrev main_v988 : Ref sig .tc := ⟨.hbm, 1067, rfl⟩
abbrev main_v989 : Ref sig .tc := ⟨.hbm, 1068, rfl⟩
abbrev main_v990 : Ref sig .tc := ⟨.hbm, 1069, rfl⟩
abbrev main_v991 : Ref sig .tc := ⟨.hbm, 1070, rfl⟩
abbrev main_v992 : Ref sig .tc := ⟨.hbm, 1071, rfl⟩
abbrev main_v993 : Ref sig .tc := ⟨.hbm, 1072, rfl⟩
abbrev main_v994 : Ref sig .tc := ⟨.hbm, 1073, rfl⟩
abbrev main_v995 : Ref sig .tc := ⟨.hbm, 1074, rfl⟩
abbrev main_v996 : Ref sig .tc := ⟨.hbm, 1075, rfl⟩
abbrev main_v997 : Ref sig .tc := ⟨.hbm, 1076, rfl⟩
abbrev main_v998 : Ref sig .tc := ⟨.hbm, 1077, rfl⟩
abbrev main_v999 : Ref sig .tc := ⟨.hbm, 1078, rfl⟩
abbrev main_v1000 : Ref sig .tc := ⟨.hbm, 1079, rfl⟩
abbrev main_v1001 : Ref sig .tc := ⟨.hbm, 1080, rfl⟩
abbrev main_v1002 : Ref sig .tc := ⟨.hbm, 1081, rfl⟩
abbrev main_v1003 : Ref sig .tc := ⟨.hbm, 1082, rfl⟩
abbrev main_v1004 : Ref sig .tc := ⟨.hbm, 1083, rfl⟩
abbrev main_v1005 : Ref sig .tc := ⟨.hbm, 1084, rfl⟩
abbrev main_v1006 : Ref sig .tc := ⟨.hbm, 1085, rfl⟩
abbrev main_v1007 : Ref sig .tc := ⟨.hbm, 1086, rfl⟩
abbrev main_v1008 : Ref sig .tc := ⟨.hbm, 1087, rfl⟩
abbrev main_v1009 : Ref sig .tc := ⟨.hbm, 1088, rfl⟩
abbrev main_v1010 : Ref sig .tc := ⟨.hbm, 1089, rfl⟩
abbrev main_v1011 : Ref sig .tc := ⟨.hbm, 1090, rfl⟩
abbrev main_v1012 : Ref sig .tc := ⟨.hbm, 1091, rfl⟩
abbrev main_v1013 : Ref sig .tc := ⟨.hbm, 1092, rfl⟩
abbrev main_v1014 : Ref sig .tc := ⟨.hbm, 1093, rfl⟩
abbrev main_v1015 : Ref sig .tc := ⟨.hbm, 1094, rfl⟩
abbrev main_v1016 : Ref sig .tc := ⟨.hbm, 1095, rfl⟩
abbrev main_v1017 : Ref sig .tc := ⟨.hbm, 1096, rfl⟩
abbrev main_v1018 : Ref sig .tc := ⟨.hbm, 1097, rfl⟩
abbrev main_cst_34 : Ref sig .tc := ⟨.hbm, 1098, rfl⟩
abbrev main_v1019 : Ref sig .tc := ⟨.hbm, 1099, rfl⟩
abbrev main_v1020 : Ref sig .tc := ⟨.hbm, 1100, rfl⟩
abbrev main_v1021 : Ref sig .tc := ⟨.hbm, 1101, rfl⟩
abbrev main_v1022 : Ref sig .tc := ⟨.hbm, 1102, rfl⟩
abbrev main_v1023 : Ref sig .tc := ⟨.hbm, 1103, rfl⟩
abbrev main_v1024 : Ref sig .tc := ⟨.hbm, 1104, rfl⟩
abbrev main_v1025 : Ref sig .tc := ⟨.hbm, 1105, rfl⟩
abbrev main_v1026 : Ref sig .tc := ⟨.hbm, 1106, rfl⟩
abbrev main_v1027 : Ref sig .tc := ⟨.hbm, 1107, rfl⟩
abbrev main_v1028 : Ref sig .tc := ⟨.hbm, 1108, rfl⟩
abbrev main_v1029 : Ref sig .tc := ⟨.hbm, 1109, rfl⟩
abbrev main_v1030 : Ref sig .tc := ⟨.hbm, 1110, rfl⟩
abbrev main_v1031 : Ref sig .tc := ⟨.hbm, 1111, rfl⟩
abbrev main_v1032 : Ref sig .tc := ⟨.hbm, 1112, rfl⟩
abbrev main_v1033 : Ref sig .tc := ⟨.hbm, 1113, rfl⟩
abbrev main_cst_35 : Ref sig .tc := ⟨.hbm, 1114, rfl⟩
abbrev main_v1034 : Ref sig .tc := ⟨.hbm, 1115, rfl⟩
abbrev main_cst_36 : Ref sig .tc := ⟨.hbm, 1116, rfl⟩
abbrev main_v1035 : Ref sig .tc := ⟨.hbm, 1117, rfl⟩
abbrev main_v1036 : Ref sig .tc := ⟨.hbm, 1118, rfl⟩
abbrev main_v1037 : Ref sig .tc := ⟨.hbm, 1119, rfl⟩
abbrev main_v1038 : Ref sig .tc := ⟨.hbm, 1120, rfl⟩
abbrev main_v1039 : Ref sig .tc := ⟨.hbm, 1121, rfl⟩
abbrev main_v1040 : Ref sig .tc := ⟨.hbm, 1122, rfl⟩
abbrev main_v1041 : Ref sig .tc := ⟨.hbm, 1123, rfl⟩
abbrev main_v1042 : Ref sig .tc := ⟨.hbm, 1124, rfl⟩
abbrev main_v1043 : Ref sig .tc := ⟨.hbm, 1125, rfl⟩
abbrev main_v1044 : Ref sig .tc := ⟨.hbm, 1126, rfl⟩
abbrev main_v1045 : Ref sig .tc := ⟨.hbm, 1127, rfl⟩
abbrev main_v1046 : Ref sig .tc := ⟨.hbm, 1128, rfl⟩
abbrev main_v1047 : Ref sig .tc := ⟨.hbm, 1129, rfl⟩
abbrev main_v1048 : Ref sig .tc := ⟨.hbm, 1130, rfl⟩
abbrev main_v1049 : Ref sig .tc := ⟨.hbm, 1131, rfl⟩
abbrev main_v1050 : Ref sig .tc := ⟨.hbm, 1132, rfl⟩
abbrev main_cst_37 : Ref sig .tc := ⟨.hbm, 1133, rfl⟩
abbrev main_v1051 : Ref sig .tc := ⟨.hbm, 1134, rfl⟩
abbrev main_cst_38 : Ref sig .tc := ⟨.hbm, 1135, rfl⟩
abbrev main_v1052 : Ref sig .tc := ⟨.hbm, 1136, rfl⟩
abbrev main_v1053 : Ref sig .tc := ⟨.hbm, 1137, rfl⟩
abbrev main_v1054 : Ref sig .tc := ⟨.hbm, 1138, rfl⟩
abbrev main_v1055 : Ref sig .tc := ⟨.hbm, 1139, rfl⟩
abbrev main_v1056 : Ref sig .tc := ⟨.hbm, 1140, rfl⟩
abbrev main_v1057 : Ref sig .tc := ⟨.hbm, 1141, rfl⟩
abbrev main_v1058 : Ref sig .tc := ⟨.hbm, 1142, rfl⟩
abbrev main_v1059 : Ref sig .tc := ⟨.hbm, 1143, rfl⟩

abbrev nD : Nat := 1
abbrev τ : Topo := Topo.v7x

variable {F : FTy → Type} [FloatOps F]
-- ==== Mix.lean ====
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x8192x1024 : Shape := ⟨3, ![1, 8192, 1024]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩
abbrev S8192x1024 : Shape := ⟨2, ![8192, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 58
  | .vmem => 18
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x512x1024, .f32⟩
  | .hbm, ⟨3, _⟩ => ⟨S1x1024x1024, .f32⟩
  | .hbm, ⟨4, _⟩ => ⟨S1x1024, .f32⟩
  | .hbm, ⟨5, _⟩ => ⟨S1x8192x1024, .f32⟩
  | .hbm, ⟨6, _⟩ => ⟨S8192x512, .f32⟩
  | .hbm, ⟨7, _⟩ => ⟨S8192x512, .f32⟩
  | .hbm, ⟨8, _⟩ => ⟨S512x1024, .f32⟩
  | .hbm, ⟨9, _⟩ => ⟨S1024x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x1024, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .f32⟩
  | .hbm, ⟨46, _⟩ => ⟨S8192x512, .f32⟩
  | .hbm, ⟨47, _⟩ => ⟨S8192x512, .f32⟩
  | .hbm, ⟨48, _⟩ => ⟨S8192x512, .bf16⟩
  | .hbm, ⟨49, _⟩ => ⟨S512x1024, .f32⟩
  | .hbm, ⟨50, _⟩ => ⟨S512x1024, .bf16⟩
  | .hbm, ⟨51, _⟩ => ⟨S1024x1024, .f32⟩
  | .hbm, ⟨52, _⟩ => ⟨S1024x1024, .bf16⟩
  | .hbm, ⟨53, _⟩ => ⟨S8192x512, .f32⟩
  | .hbm, ⟨54, _⟩ => ⟨S8192x512, .f32⟩
  | .hbm, ⟨55, _⟩ => ⟨S1024x1024, .f32⟩
  | .hbm, ⟨56, _⟩ => ⟨S512x1024, .f32⟩
  | .hbm, ⟨57, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x1024, .f32⟩
  | .local _ .vmem, ⟨16, _⟩ => ⟨S512x1024, .f32⟩
  | .local _ .vmem, ⟨17, _⟩ => ⟨S1x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev main_v40_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== MixRefIdeal.lean ====
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x8192x1024 : Shape := ⟨3, ![1, 8192, 1024]⟩
abbrev S8192x512 : Shape := ⟨2, ![8192, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S1024x512 : Shape := ⟨2, ![1024, 512]⟩

abbrev nBuf : Space → Nat
  | .hbm => 133
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x512x1024, .f32⟩
  | 3 => ⟨S1x1024x1024, .f32⟩
  | 4 => ⟨S1x1024, .f32⟩
  | 5 => ⟨S1x8192x1024, .f32⟩
  | 6 => ⟨S8192x512, .f32⟩
  | 7 => ⟨S8192x512, .f32⟩
  | 8 => ⟨S512x1024, .f32⟩
  | 9 => ⟨S1024x1024, .f32⟩
  | 10 => ⟨S1024, .f32⟩
  | 11 => ⟨S_, .f32⟩
  | 12 => ⟨S_, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S8192x1024, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S8192x512, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S_, .f32⟩
  | 88 => ⟨S1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1024, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S1024x1024, .f32⟩
  | 107 => ⟨S1024x1024, .f32⟩
  | 108 => ⟨S8192x1024, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x1024, .f32⟩
  | 115 => ⟨S1024x512, .f32⟩
  | 116 => ⟨S512x1024, .f32⟩
  | 117 => ⟨S8192x512, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S1x8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x1024, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_cst_18 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== MlpA.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S8192x4096, .bf16⟩
  | .hbm, ⟨13, _⟩ => ⟨S8192x1024, .f32⟩
  | .hbm, ⟨14, _⟩ => ⟨S4096x1024, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S256x4096, .bf16⟩
  | .local _ .vmem, ⟨9, _⟩ => ⟨S256x4096, .bf16⟩
  | .local _ .vmem, ⟨10, _⟩ => ⟨S256x1024, .f32⟩
  | .local _ .vmem, ⟨11, _⟩ => ⟨S256x1024, .f32⟩
  | .local _ .vmem, ⟨12, _⟩ => ⟨S4096x1024, .f32⟩
  | .local _ .vmem, ⟨13, _⟩ => ⟨S1x1024, .f32⟩
  | .local _ .vmem, ⟨14, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpARefIdeal.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x1024, .f32⟩
  | .hbm, ⟨27, _⟩ => ⟨S4096x1024, .f32⟩
  | .hbm, ⟨28, _⟩ => ⟨S1024, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S8192x1024, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x1024, .f32⟩
  | .hbm, ⟨106, _⟩ => ⟨S8192x1024, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S_, .f32⟩
  | .hbm, ⟨112, _⟩ => ⟨S8192, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S1024x4096, .f32⟩
  | .hbm, ⟨119, _⟩ => ⟨S4096x1024, .f32⟩
  | .hbm, ⟨120, _⟩ => ⟨S8192x4096, .f32⟩
  | .hbm, ⟨121, _⟩ => ⟨S8192x4096, .f32⟩
  | .hbm, ⟨122, _⟩ => ⟨S_, .f32⟩
  | .hbm, ⟨123, _⟩ => ⟨S8192x4096, .f32⟩
  | .hbm, ⟨124, _⟩ => ⟨S8192x4096, .f32⟩
  | .hbm, ⟨125, _⟩ => ⟨S8192x4096, .bf16⟩
  | .hbm, ⟨126, _⟩ => ⟨S1x1024, .f32⟩
  | .hbm, ⟨127, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_cst_16 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_22 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== InProj.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S8192x512 : Shape := ⟨2, ![8192, 512]⟩
abbrev S8192x1024 : Shape := ⟨2, ![8192, 1024]⟩
abbrev S1024x2560 : Shape := ⟨2, ![1024, 2560]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024 : Shape := ⟨1, ![1024]⟩

abbrev nBuf : Space → Nat
  | .hbm => 26
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S1x8192x1024, .f32⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x512, .bf16⟩
  | .hbm, ⟨19, _⟩ => ⟨S8192x1024, .f32⟩
  | .hbm, ⟨20, _⟩ => ⟨S1024x2560, .f32⟩
  | .hbm, ⟨21, _⟩ => ⟨S1024x2560, .bf16⟩
  | .hbm, ⟨22, _⟩ => ⟨S8192x1024, .f32⟩
  | .hbm, ⟨23, _⟩ => ⟨S8192x1024, .f32⟩
  | .hbm, ⟨24, _⟩ => ⟨S1024x2560, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x2560, .f32⟩
  | .local _ .vmem, ⟨19, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjRefIdeal.lean ====
abbrev S1x8192x1024 : Shape := ⟨3, ![1, 8192, 1024]⟩
abbrev S1x1024 : Shape := ⟨2, ![1, 1024]⟩
abbrev S1x1024x2560 : Shape := ⟨3, ![1, 1024, 2560]⟩
abbrev S1x8192x512 : Shape := ⟨3, ![1, 8192, 512]⟩
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S2560x1024 : Shape := ⟨2, ![2560, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2560, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S1x8192x512, .f32⟩
  | .hbm, ⟨7, _⟩ => ⟨S1x8192x512, .f32⟩
  | .hbm, ⟨8, _⟩ => ⟨S1x8192x1024, .f32⟩
  | .hbm, ⟨9, _⟩ => ⟨S8192x1024, .f32⟩
  | .hbm, ⟨10, _⟩ => ⟨S1024, .f32⟩
  | .hbm, ⟨11, _⟩ => ⟨S1024x2560, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x2560, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x2560, .f32⟩
  | .hbm, ⟨45, _⟩ => ⟨S2560x1024, .f32⟩
  | .hbm, ⟨46, _⟩ => ⟨S1024x2560, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== MlpB.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x8192x4096 : Shape := ⟨3, ![1, 8192, 4096]⟩
abbrev S8192x4096 : Shape := ⟨2, ![8192, 4096]⟩
abbrev S8192x1024 : Shape := ⟨2, ![8192, 1024]⟩
abbrev S1024 : Shape := ⟨1, ![1024]⟩
abbrev S1024x4096 : Shape := ⟨2, ![1024, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4096, .f32⟩
  | .hbm, ⟨3, _⟩ => ⟨S1x8192x1024, .f32⟩
  | .hbm, ⟨4, _⟩ => ⟨S1x8192x4096, .f32⟩
  | .hbm, ⟨5, _⟩ => ⟨S8192x4096, .f32⟩
  | .hbm, ⟨6, _⟩ => ⟨S8192x4096, .bf16⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S1x1024, .f32⟩
  | .hbm, ⟨11, _⟩ => ⟨S1024x4096, .f32⟩
  | .hbm, ⟨12, _⟩ => ⟨S1024x4096, .bf16⟩
  | .hbm, ⟨13, _⟩ => ⟨S8192x1024, .f32⟩
  | .hbm, ⟨14, _⟩ => ⟨S1024x4096, .f32⟩
  | .hbm, ⟨15, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .f32⟩
  | .local _ .vmem, ⟨9, _⟩ => ⟨S512x1024, .f32⟩
  | .local _ .vmem, ⟨10, _⟩ => ⟨S1024x4096, .f32⟩
  | .local _ .vmem, ⟨11, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpBRefIdeal.lean ====
abbrev S1x8192x1024 : Shape := ⟨3, ![1, 8192, 1024]⟩
abbrev S1x1024 : Shape := ⟨2, ![1, 1024]⟩
abbrev S1x1024x4096 : Shape := ⟨3, ![1, 1024, 4096]⟩
abbrev S1x8192x4096 : Shape := ⟨3, ![1, 8192, 4096]⟩
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x4096, .f32⟩
  | .hbm, ⟨3, _⟩ => ⟨S1x8192x1024, .f32⟩
  | .hbm, ⟨4, _⟩ => ⟨S1x8192x4096, .f32⟩
  | .hbm, ⟨5, _⟩ => ⟨S8192x1024, .f32⟩
  | .hbm, ⟨6, _⟩ => ⟨S1024, .f32⟩
  | .hbm, ⟨7, _⟩ => ⟨S1024x4096, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x1024, .f32⟩
  | .hbm, ⟨30, _⟩ => ⟨S8192x4096, .f32⟩
  | .hbm, ⟨31, _⟩ => ⟨S4096x1024, .f32⟩
  | .hbm, ⟨32, _⟩ => ⟨S1024x4096, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.RetStack.lean ====
/-
  A tile of 512 rows and 512 columns as a stack of sixteen squares of 128 by 128 -- square `4 * chunk + head` -- and back.
-/
module

public import Idealize.ShloMosaic.Lib.Tactic
public import Idealize.ShloMosaic.Lib.Pointwise
public import Idealize.ShloMosaic.Lib.Pipeline.ReadBack
public import proofs.«01_k».proof.Proof.Gen.RetIdeal.Value

@[expose] public section

set_option maxRecDepth 16384

noncomputable section

namespace Cert.RetIdeal.Hand

open Cert.RetIdeal Cert.RetIdeal.Gen Idealize.ShloMosaic Idealize.ShloMosaic.TcCoe Idealize.SL.Sem

variable {Val : EltTy → Type} {e : EltTy} {α : Type}

/-- The square of a 512 by 512 tile at a row and a column. -/
abbrev sq (x : S512x512.Idx → Val e) (a b : ℕ)
    (h : ∀ i, (![a, b] : Fin 2 → ℕ) i + (![128, 128] : Fin 2 → ℕ) i ≤ S512x512.size i := by exact fun i => by fin_cases i <;> decide) :
    S128x128.Idx → Val e := View.ld x (Rect.unit (s := S512x512) ![a, b] ![128, 128] h)

/-- The square of a table of 512 rows and 128 columns at a row. -/
abbrev sr (x : S512x128.Idx → Val e) (a : ℕ)
    (h : ∀ i, (![a, 0] : Fin 2 → ℕ) i + (![128, 128] : Fin 2 → ℕ) i ≤ S512x128.size i := by exact fun i => by fin_cases i <;> decide) :
    S128x128.Idx → Val e := View.ld x (Rect.unit (s := S512x128) ![a, 0] ![128, 128] h)

/-- 128 columns of a row of 512. -/
abbrev sg (x : S1x512.Idx → Val e) (b : ℕ)
    (h : ∀ i, (![0, b] : Fin 2 → ℕ) i + (![1, 128] : Fin 2 → ℕ) i ≤ S1x512.size i := by exact fun i => by fin_cases i <;> decide) :
    S1x128.Idx → Val e := View.ld x (Rect.unit (s := S1x512) ![0, b] ![1, 128] h)

/-- Sixteen squares on top of each other. -/
def pile (f : Fin 16 → S128x128.Idx → α) : S16x128x128.Idx → α := fun i =>
  f ⟨(i 0).val, (i 0).isLt⟩ (ix2 ⟨(i 1).val, (i 1).isLt⟩ ⟨(i 2).val, (i 2).isLt⟩)

/-- The row of a tile that row `r` of square `b` is. -/
abbrev row (b : Fin 16) (r : Fin 128) : Fin 512 := ⟨128 * (b.val / 4) + r.val, by omega⟩

/-- The column of a tile that column `c` of square `b` is. -/
abbrev col (b : Fin 16) (c : Fin 128) : Fin 512 := ⟨128 * (b.val % 4) + c.val, by omega⟩

/-- The tile as a stack. -/
def stack (x : S512x512.Idx → α) : S16x128x128.Idx → α := fun i =>
  x (ix2 (row ⟨(i 0).val, (i 0).isLt⟩ ⟨(i 1).val, (i 1).isLt⟩) (col ⟨(i 0).val, (i 0).isLt⟩ ⟨(i 2).val, (i 2).isLt⟩))

/-- A table of 512 rows, the same for the four heads of a chunk, as a stack. -/
def stackT (x : S512x128.Idx → α) : S16x128x128.Idx → α := fun i =>
  x (ix2 (row ⟨(i 0).val, (i 0).isLt⟩ ⟨(i 1).val, (i 1).isLt⟩) ⟨(i 2).val, (i 2).isLt⟩)

/-- A row of 512 gains, the same for every row of a square, as a stack. -/
def stackG (x : S1x512.Idx → α) : S16x1x128.Idx → α := fun i =>
  x (ix2 0 (col ⟨(i 0).val, (i 0).isLt⟩ ⟨(i 2).val, (i 2).isLt⟩))

theorem stack_at (x : S512x512.Idx → α) (b : Fin 16) (r c : Fin 128) : stack x (ix3 b r c) = x (ix2 (row b r) (col b c)) := rfl
theorem stackT_at (x : S512x128.Idx → α) (b : Fin 16) (r c : Fin 128) : stackT x (ix3 b r c) = x (ix2 (row b r) c) := rfl
theorem stackG_at (x : S1x512.Idx → α) (b : Fin 16) (r : Fin 1) (c : Fin 128) : stackG x (ix3 b r c) = x (ix2 0 (col b c)) := rfl

/-- The stack read back as a tile. -/
def cut (X : S16x128x128.Idx → α) : S512x512.Idx → α := fun i =>
  X (ix3 ⟨4 * ((i 0).val / 128) + (i 1).val / 128, by have h0 : (i 0).val < 512 := (i 0).isLt; have h1 : (i 1).val < 512 := (i 1).isLt; omega⟩
    ⟨(i 0).val % 128, Nat.mod_lt _ (by norm_num)⟩ ⟨(i 1).val % 128, Nat.mod_lt _ (by norm_num)⟩)

/-- The square of the stack of a tile, read as the loads read it. -/
theorem sq_at (x : S512x512.Idx → Val e) (a b : ℕ) (h) (r c : Fin 128) (ha : a + 128 ≤ 512) (hb : b + 128 ≤ 512) :
    sq x a b h (ix2 r c) = x (ix2 ⟨a + r.val, by omega⟩ ⟨b + c.val, by omega⟩) := by
  refine congr_arg x (funext fun d => ?_)
  fin_cases d
  · exact Fin.ext (by show a + 1 * r.val = a + r.val; omega)
  · exact Fin.ext (by show b + 1 * c.val = b + c.val; omega)

/-- Sixteen squares, each given a leading axis, laid one after another. -/
theorem concat_pile {f0 f1 f2 f3 f4 f5 f6 f7 f8 f9 f10 f11 f12 f13 f14 f15 : S128x128.Idx → α} :
    concatenate S16x128x128 0 [⟨S1x128x128, shapeCast S1x128x128 f0 shapeCasts_S128x128_S1x128x128⟩, ⟨S1x128x128, shapeCast S1x128x128 f1 shapeCasts_S128x128_S1x128x128⟩, ⟨S1x128x128, shapeCast S1x128x128 f2 shapeCasts_S128x128_S1x128x128⟩, ⟨S1x128x128, shapeCast S1x128x128 f3 shapeCasts_S128x128_S1x128x128⟩, ⟨S1x128x128, shapeCast S1x128x128 f4 shapeCasts_S128x128_S1x128x128⟩, ⟨S1x128x128, shapeCast S1x128x128 f5 shapeCasts_S128x128_S1x128x128⟩, ⟨S1x128x128, shapeCast S1x128x128 f6 shapeCasts_S128x128_S1x128x128⟩, ⟨S1x128x128, shapeCast S1x128x128 f7 shapeCasts_S128x128_S1x128x128⟩, ⟨S1x128x128, shapeCast S1x128x128 f8 shapeCasts_S128x128_S1x128x128⟩, ⟨S1x128x128, shapeCast S1x128x128 f9 shapeCasts_S128x128_S1x128x128⟩, ⟨S1x128x128, shapeCast S1x128x128 f10 shapeCasts_S128x128_S1x128x128⟩, ⟨S1x128x128, shapeCast S1x128x128 f11 shapeCasts_S128x128_S1x128x128⟩, ⟨S1x128x128, shapeCast S1x128x128 f12 shapeCasts_S128x128_S1x128x128⟩, ⟨S1x128x128, shapeCast S1x128x128 f13 shapeCasts_S128x128_S1x128x128⟩, ⟨S1x128x128, shapeCast S1x128x128 f14 shapeCasts_S128x128_S1x128x128⟩, ⟨S1x128x128, shapeCast S1x128x128 f15 shapeCasts_S128x128_S1x128x128⟩] concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0 =
      pile ![f0, f1, f2, f3, f4, f5, f6, f7, f8, f9, f10, f11, f12, f13, f14, f15] := by
  funext i
  refine (concatenate_ofFn_unit_apply (t := S16x128x128) (s₁ := S1x128x128) 0
    (fun n : Fin 16 => shapeCast S1x128x128 ((![f0, f1, f2, f3, f4, f5, f6, f7, f8, f9, f10, f11, f12, f13, f14, f15] : Fin 16 → _) n) shapeCasts_S128x128_S1x128x128)
    concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0 rfl rfl i
    ⟨(i 0).val, (i 0).isLt⟩ rfl (ix3 0 ⟨(i 1).val, (i 1).isLt⟩ ⟨(i 2).val, (i 2).isLt⟩) ?_).trans ?_
  · intro d hd
    fin_cases d
    · exact absurd rfl hd
    · rfl
    · rfl
  · generalize (![f0, f1, f2, f3, f4, f5, f6, f7, f8, f9, f10, f11, f12, f13, f14, f15] : Fin 16 → S128x128.Idx → α) = f
    unfold pile
    generalize f _ = g
    pointwise

theorem ix_eq (i : S16x128x128.Idx) : i = ix3 ⟨(i 0).val, (i 0).isLt⟩ ⟨(i 1).val, (i 1).isLt⟩ ⟨(i 2).val, (i 2).isLt⟩ :=
  funext fun d => by fin_cases d <;> rfl

theorem sq_stack (x : S512x512.Idx → Val e) (a b : ℕ) (h) (n : Fin 16) (r c : Fin 128) (ha : a = 128 * (n.val / 4)) (hb : b = 128 * (n.val % 4)) :
    sq x a b h (ix2 r c) = stack x (ix3 n r c) := by
  subst ha hb
  exact sq_at x _ _ h r c (by omega) (by omega)

theorem sr_stack (x : S512x128.Idx → Val e) (a : ℕ) (h) (n : Fin 16) (r c : Fin 128) (ha : a = 128 * (n.val / 4)) :
    sr x a h (ix2 r c) = stackT x (ix3 n r c) := by
  subst ha
  refine congr_arg x (funext fun d => ?_)
  fin_cases d
  · exact Fin.ext (by show 128 * (n.val / 4) + 1 * r.val = 128 * (n.val / 4) + r.val; omega)
  · exact Fin.ext (by show 0 + 1 * c.val = c.val; omega)

theorem sg_stack (x : S1x512.Idx → Val e) (b : ℕ) (h) (n : Fin 16) (c : Fin 128) (hb : b = 128 * (n.val % 4)) :
    sg x b h (ix2 0 c) = stackG x (ix3 n 0 c) := by
  subst hb
  refine congr_arg x (funext fun d => ?_)
  fin_cases d
  · rfl
  · exact Fin.ext (by show 128 * (n.val % 4) + 1 * c.val = 128 * (n.val % 4) + c.val; omega)

/-- The sixteen squares of a tile, piled, are its stack. -/
theorem pile_sq (x : S512x512.Idx → Val e) :
    pile ![sq x 0 0, sq x 0 128, sq x 0 256, sq x 0 384, sq x 128 0, sq x 128 128, sq x 128 256, sq x 128 384, sq x 256 0, sq x 256 128, sq x 256 256, sq x 256 384, sq x 384 0, sq x 384 128, sq x 384 256, sq x 384 384] = stack x := by
  funext i
  obtain ⟨b, r, c, rfl⟩ : ∃ b r c, i = ix3 b r c := ⟨_, _, _, ix_eq i⟩
  fin_cases b <;> exact sq_stack x _ _ _ _ r c rfl rfl

/-- The four squares of a table, each four times, piled, are its stack. -/
theorem pile_sr (x : S512x128.Idx → Val e) :
    pile ![sr x 0, sr x 0, sr x 0, sr x 0, sr x 128, sr x 128, sr x 128, sr x 128, sr x 256, sr x 256, sr x 256, sr x 256, sr x 384, sr x 384, sr x 384, sr x 384] = stackT x := by
  funext i
  obtain ⟨b, r, c, rfl⟩ : ∃ b r c, i = ix3 b r c := ⟨_, _, _, ix_eq i⟩
  fin_cases b <;> exact sr_stack x _ _ _ r c rfl

/-- The place of a square in a tile. -/
abbrev rq (a b : ℕ)
    (h : ∀ i, (![a, b] : Fin 2 → ℕ) i + (![128, 128] : Fin 2 → ℕ) i ≤ S512x512.size i := by exact fun i => by fin_cases i <;> decide) :
    Rect S512x512 := Rect.unit (s := S512x512) ![a, b] ![128, 128] h

/-- Square `n` of a stack at its place in the tile. -/
theorem cut_emb (X : S16x128x128.Idx → α) (n : Fin 16) (a b : ℕ) (x : S128x128.Idx) (ha : a = 128 * (n.val / 4)) (hb : b = 128 * (n.val % 4))
    (h : ∀ i, (![a, b] : Fin 2 → ℕ) i + (![128, 128] : Fin 2 → ℕ) i ≤ S512x512.size i := by exact fun i => by fin_cases i <;> decide) :
    X (ix3 n ⟨(x 0).val, (x 0).isLt⟩ ⟨(x 1).val, (x 1).isLt⟩) = cut X ((rq a b h).emb x) := by
  subst ha hb
  have h0 := (Rect.emb_apply (rq (128 * (n.val / 4)) (128 * (n.val % 4)) h) x 0).trans
    (show 128 * (n.val / 4) + 1 * (x 0).val = 128 * (n.val / 4) + (x 0).val by omega)
  have h1 := (Rect.emb_apply (rq (128 * (n.val / 4)) (128 * (n.val % 4)) h) x 1).trans
    (show 128 * (n.val % 4) + 1 * (x 1).val = 128 * (n.val % 4) + (x 1).val by omega)
  have l0 : (x 0).val < 128 := (x 0).isLt
  have l1 : (x 1).val < 128 := (x 1).isLt
  have hn : n.val < 16 := n.isLt
  refine congr_arg X (funext fun d => ?_)
  fin_cases d
  · exact Fin.ext (by show n.val = 4 * (_ / 128) + _ / 128; rw [h0, h1]; omega)
  · exact Fin.ext (by show (x 0).val = _ % 128; rw [h0]; omega)
  · exact Fin.ext (by show (x 1).val = _ % 128; rw [h1]; omega)

theorem mem_rq (i : S512x512.Idx) (a b : ℕ) (h0 : a ≤ (i 0).val) (h1 : (i 0).val < a + 128) (h2 : b ≤ (i 1).val) (h3 : (i 1).val < b + 128)
    (h : ∀ i, (![a, b] : Fin 2 → ℕ) i + (![128, 128] : Fin 2 → ℕ) i ≤ S512x512.size i := by exact fun i => by fin_cases i <;> decide) :
    i ∈ (rq a b h).set := by
  rw [Rect.mem_set_unit]
  intro d
  fin_cases d
  · exact ⟨h0, h1⟩
  · exact ⟨h2, h3⟩

/-- Sixteen stores of squares, last first. -/
abbrev stores (w0 w1 w2 w3 w4 w5 w6 w7 w8 w9 w10 w11 w12 w13 w14 w15 : S128x128.Idx → Val e) : List (View.Piece Val S512x512 e) :=
  [⟨rq 384 384, w15⟩, ⟨rq 384 256, w14⟩, ⟨rq 384 128, w13⟩, ⟨rq 384 0, w12⟩, ⟨rq 256 384, w11⟩, ⟨rq 256 256, w10⟩, ⟨rq 256 128, w9⟩, ⟨rq 256 0, w8⟩, ⟨rq 128 384, w7⟩, ⟨rq 128 256, w6⟩, ⟨rq 128 128, w5⟩, ⟨rq 128 0, w4⟩, ⟨rq 0 384, w3⟩, ⟨rq 0 256, w2⟩, ⟨rq 0 128, w1⟩, ⟨rq 0 0, w0⟩]

/-- Sixteen stores that hold the squares of a stack leave the stack, read back as a tile. -/
theorem canon_stack [∀ e, Nonempty (Val e)] (X : S16x128x128.Idx → Val e) {w0 w1 w2 w3 w4 w5 w6 w7 w8 w9 w10 w11 w12 w13 w14 w15 : S128x128.Idx → Val e}
    (h : ∀ (n : Fin 16) (x : S128x128.Idx), (![w0, w1, w2, w3, w4, w5, w6, w7, w8, w9, w10, w11, w12, w13, w14, w15] : Fin 16 → S128x128.Idx → Val e) n x = X (ix3 n ⟨(x 0).val, (x 0).isLt⟩ ⟨(x 1).val, (x 1).isLt⟩)) :
    View.canon (stores w0 w1 w2 w3 w4 w5 w6 w7 w8 w9 w10 w11 w12 w13 w14 w15) = cut X := by
  funext i
  refine View.canon_append_of_piecesOf (cut X) [] (stores w0 w1 w2 w3 w4 w5 w6 w7 w8 w9 w10 w11 w12 w13 w14 w15)
    ⟨fun x => (h 15 x).trans (cut_emb X 15 384 384 x rfl rfl), fun x => (h 14 x).trans (cut_emb X 14 384 256 x rfl rfl), fun x => (h 13 x).trans (cut_emb X 13 384 128 x rfl rfl), fun x => (h 12 x).trans (cut_emb X 12 384 0 x rfl rfl), fun x => (h 11 x).trans (cut_emb X 11 256 384 x rfl rfl), fun x => (h 10 x).trans (cut_emb X 10 256 256 x rfl rfl), fun x => (h 9 x).trans (cut_emb X 9 256 128 x rfl rfl), fun x => (h 8 x).trans (cut_emb X 8 256 0 x rfl rfl), fun x => (h 7 x).trans (cut_emb X 7 128 384 x rfl rfl), fun x => (h 6 x).trans (cut_emb X 6 128 256 x rfl rfl), fun x => (h 5 x).trans (cut_emb X 5 128 128 x rfl rfl), fun x => (h 4 x).trans (cut_emb X 4 128 0 x rfl rfl), fun x => (h 3 x).trans (cut_emb X 3 0 384 x rfl rfl), fun x => (h 2 x).trans (cut_emb X 2 0 256 x rfl rfl), fun x => (h 1 x).trans (cut_emb X 1 0 128 x rfl rfl), fun x => (h 0 x).trans (cut_emb X 0 0 0 x rfl rfl), trivial⟩ i ?_
  have hi0 : (i 0).val < 512 := (i 0).isLt
  have hi1 : (i 1).val < 512 := (i 1).isLt
  have d0 : (i 0).val / 128 = 0 ∨ (i 0).val / 128 = 1 ∨ (i 0).val / 128 = 2 ∨ (i 0).val / 128 = 3 := by omega
  have d1 : (i 1).val / 128 = 0 ∨ (i 1).val / 128 = 1 ∨ (i 1).val / 128 = 2 ∨ (i 1).val / 128 = 3 := by omega
  rcases d0 with d0 | d0 | d0 | d0 <;> rcases d1 with d1 | d1 | d1 | d1
  · exact ⟨⟨rq 0 0, w0⟩, by simp, mem_rq i 0 0 (by omega) (by omega) (by omega) (by omega)⟩
  · exact ⟨⟨rq 0 128, w1⟩, by simp, mem_rq i 0 128 (by omega) (by omega) (by omega) (by omega)⟩
  · exact ⟨⟨rq 0 256, w2⟩, by simp, mem_rq i 0 256 (by omega) (by omega) (by omega) (by omega)⟩
  · exact ⟨⟨rq 0 384, w3⟩, by simp, mem_rq i 0 384 (by omega) (by omega) (by omega) (by omega)⟩
  · exact ⟨⟨rq 128 0, w4⟩, by simp, mem_rq i 128 0 (by omega) (by omega) (by omega) (by omega)⟩
  · exact ⟨⟨rq 128 128, w5⟩, by simp, mem_rq i 128 128 (by omega) (by omega) (by omega) (by omega)⟩
  · exact ⟨⟨rq 128 256, w6⟩, by simp, mem_rq i 128 256 (by omega) (by omega) (by omega) (by omega)⟩
  · exact ⟨⟨rq 128 384, w7⟩, by simp, mem_rq i 128 384 (by omega) (by omega) (by omega) (by omega)⟩
  · exact ⟨⟨rq 256 0, w8⟩, by simp, mem_rq i 256 0 (by omega) (by omega) (by omega) (by omega)⟩
  · exact ⟨⟨rq 256 128, w9⟩, by simp, mem_rq i 256 128 (by omega) (by omega) (by omega) (by omega)⟩
  · exact ⟨⟨rq 256 256, w10⟩, by simp, mem_rq i 256 256 (by omega) (by omega) (by omega) (by omega)⟩
  · exact ⟨⟨rq 256 384, w11⟩, by simp, mem_rq i 256 384 (by omega) (by omega) (by omega) (by omega)⟩
  · exact ⟨⟨rq 384 0, w12⟩, by simp, mem_rq i 384 0 (by omega) (by omega) (by omega) (by omega)⟩
  · exact ⟨⟨rq 384 128, w13⟩, by simp, mem_rq i 384 128 (by omega) (by omega) (by omega) (by omega)⟩
  · exact ⟨⟨rq 384 256, w14⟩, by simp, mem_rq i 384 256 (by omega) (by omega) (by omega) (by omega)⟩
  · exact ⟨⟨rq 384 384, w15⟩, by simp, mem_rq i 384 384 (by omega) (by omega) (by omega) (by omega)⟩

variable {F : FTy → Type} [FloatOps F]

/-- Square `n` of a stack, rounded to bfloat16, as a store writes it. -/
abbrev piece (X : FVec F S16x128x128 .f32) (n : ℕ) (h : S16x128x128.Slices ![n, 0, 0] S1x128x128) : FVec F S128x128 .bf16 :=
  truncf .bf16 (shapeCast S128x128 (extractStridedSlice S1x128x128 ![n, 0, 0] X h) shapeCasts_S1x128x128_S128x128) bitsLt_bf16_f32

theorem piece_at (X : FVec F S16x128x128 .f32) (n : ℕ) (hn : n < 16) (h) (x : S128x128.Idx) :
    piece X n h x = truncf .bf16 X bitsLt_bf16_f32 (ix3 ⟨n, hn⟩ ⟨(x 0).val, (x 0).isLt⟩ ⟨(x 1).val, (x 1).isLt⟩) := by
  obtain ⟨r, c, rfl⟩ : ∃ r c, x = ix2 r c := ⟨⟨(x 0).val, (x 0).isLt⟩, ⟨(x 1).val, (x 1).isLt⟩, funext fun d => by fin_cases d <;> rfl⟩
  refine congr_arg (FloatOps.truncf .bf16 bitsLt_bf16_f32) ?_
  refine (shapeCast_dropUnit_apply _ _ _ _).trans ?_
  refine congr_arg X (funext fun d => ?_)
  fin_cases d
  · exact Fin.ext (by show n + 0 = n; omega)
  · exact Fin.ext (by show 0 + r.val = r.val; omega)
  · exact Fin.ext (by show 0 + c.val = c.val; omega)

/-- The sixteen stores of a stack's squares leave the stack, rounded, as a tile. -/
theorem canon_piece [∀ e, Nonempty (Elt F e)] (X : FVec F S16x128x128 .f32) :
    View.canon (Val := Elt F) (e := .bf16) (stores (piece X 0 slices_S16x128x128_o0_0_0_S1x128x128) (piece X 1 slices_S16x128x128_o1_0_0_S1x128x128) (piece X 2 slices_S16x128x128_o2_0_0_S1x128x128) (piece X 3 slices_S16x128x128_o3_0_0_S1x128x128) (piece X 4 slices_S16x128x128_o4_0_0_S1x128x128) (piece X 5 slices_S16x128x128_o5_0_0_S1x128x128) (piece X 6 slices_S16x128x128_o6_0_0_S1x128x128) (piece X 7 slices_S16x128x128_o7_0_0_S1x128x128) (piece X 8 slices_S16x128x128_o8_0_0_S1x128x128) (piece X 9 slices_S16x128x128_o9_0_0_S1x128x128) (piece X 10 slices_S16x128x128_o10_0_0_S1x128x128) (piece X 11 slices_S16x128x128_o11_0_0_S1x128x128) (piece X 12 slices_S16x128x128_o12_0_0_S1x128x128) (piece X 13 slices_S16x128x128_o13_0_0_S1x128x128) (piece X 14 slices_S16x128x128_o14_0_0_S1x128x128) (piece X 15 slices_S16x128x128_o15_0_0_S1x128x128)) = cut (truncf .bf16 X bitsLt_bf16_f32) :=
  canon_stack _ fun n x => by fin_cases n <;> exact piece_at X _ (by norm_num) _ x

end Cert.RetIdeal.Hand

end
-- ==== Proof.RetLoads.lean ====
/-
  The kernel's loads: each tile is read as sixteen squares and stacked; here each such read is the stack of the tile.
-/
module

public import proofs.«01_k».proof.Proof.RetStack

@[expose] public section

set_option maxRecDepth 16384

noncomputable section

namespace Cert.RetIdeal.Hand

open Cert.RetIdeal Cert.RetIdeal.Gen Idealize.ShloMosaic Idealize.ShloMosaic.TcCoe Idealize.SL.Sem

variable {F : FTy → Type} [FloatOps F]

/-- `q·kᵀ` with the decay, times `v`, plus the part of the state before the chunk, each row less its mean. -/
def centred (q k v : FVec F S16x128x128 .bf16) (dec xi : Vec F S4x128x128 .f32) (rp : Vec F S4x4x128x128 .bf16) : FVec F S16x128x128 .f32 :=
  have o : FVec F S16x128x128 .f32 :=
    addf (matmul dot_S16x128x128_S16x128x128_S16x128x128_2_1_1_2_0_0 none (k0_pay52 q k dec) v (constant S16x128x128 .f32 0x00000000#32))
      (matmul dot_S16x128x128_S16x128x128_S16x128x128_2_1_1_2_0_0 none (k0_pay53 q xi) (k0_pay51 rp) (constant S16x128x128 .f32 0x00000000#32))
  subf o (broadcastTo S16x128x128
    (divf (shapeCast S16x128x1 (multiReduction .add [2] S16x128 o 0x00000000#32 reduces_S16x128x128_S16x128 (.inl rfl) rfl) shapeCasts_S16x128_S16x128x1)
      (broadcast S16x128x1 (Scalar.ofBits .f32 0x43000000#32))) broadcasts_S16x128x1_S16x128x128)

/-- The sums of squares of the rows. -/
def sumSq (c : FVec F S16x128x128 .f32) : FVec F S16x128x1 .f32 :=
  shapeCast S16x128x1 (multiReduction .add [2] S16x128 (mulf c c) 0x00000000#32 reduces_S16x128x128_S16x128 (.inl rfl) rfl) shapeCasts_S16x128_S16x128x1

/-- The sigmoid. -/
def sigm (g : FVec F S16x128x128 .f32) : FVec F S16x128x128 .f32 :=
  divf (broadcast S16x128x128 (Scalar.ofBits .f32 0x3F800000#32))
    (addf (broadcast S16x128x128 (Scalar.ofBits .f32 0x3F800000#32)) (exp (subf (broadcast S16x128x128 (Scalar.ofBits .f32 0x00000000#32)) g)))

/-- The gate's gradient. -/
def gateGrad (on g s : FVec F S16x128x128 .f32) (gain : FVec F S16x1x128 .f32) (dy : FVec F S16x128x128 .f32) : FVec F S16x128x128 .f32 :=
  mulf (mulf dy (mulf on (broadcastTo S16x128x128 gain broadcasts_S16x1x128_S16x128x128)))
    (mulf s (addf (broadcast S16x128x128 (Scalar.ofBits .f32 0x3F800000#32))
      (mulf g (subf (broadcast S16x128x128 (Scalar.ofBits .f32 0x3F800000#32)) s))))

/-- The rotary embedding's gradient. -/
def unrope (x c s : FVec F S16x128x128 .f32) : FVec F S16x128x128 .f32 :=
  addf (mulf x c) (dynamicRotate 2 64#32 none (mulf x s) rotates_S16x128x128_d2)

theorem load_q (x : Vec F S512x512 .bf16) : k0_pay19 (k0_pay6 (sq x 0 0)) (k0_pay7 (sq x 0 128)) (k0_pay8 (sq x 0 256)) (k0_pay9 (sq x 0 384)) (k0_pay10 (sq x 128 0)) (k0_pay11 (sq x 128 128)) (k0_pay12 (sq x 128 256)) (k0_pay13 (sq x 128 384)) (k0_pay14 (sq x 256 0)) (k0_pay15 (sq x 256 128)) (k0_pay16 (sq x 256 256)) (k0_pay17 (sq x 256 384)) (k0_pay18 (sq x 384 0)) (sq x 384 128) (sq x 384 256) (sq x 384 384) = stack x := by
  unfold k0_pay6 k0_pay7 k0_pay8 k0_pay9 k0_pay10 k0_pay11 k0_pay12 k0_pay13 k0_pay14 k0_pay15 k0_pay16 k0_pay17 k0_pay18 k0_pay19
  dsimp only
  rw [concat_pile]
  simp only [shapeCast_self]
  exact pile_sq x

theorem load_k (x : Vec F S512x512 .bf16) : k0_pay28 (k0_pay20 (sq x 0 0)) (k0_pay21 (sq x 0 128)) (k0_pay22 (sq x 0 256)) (k0_pay23 (sq x 0 384)) (k0_pay24 (sq x 128 0)) (k0_pay25 (sq x 128 128)) (k0_pay26 (sq x 128 256)) (k0_pay27 (sq x 128 384)) (sq x 256 0) (sq x 256 128) (sq x 256 256) (sq x 256 384) (sq x 384 0) (sq x 384 128) (sq x 384 256) (sq x 384 384) = stack x := by
  unfold k0_pay20 k0_pay21 k0_pay22 k0_pay23 k0_pay24 k0_pay25 k0_pay26 k0_pay27 k0_pay28
  dsimp only
  rw [concat_pile]
  simp only [shapeCast_self]
  exact pile_sq x

theorem load_v (x : Vec F S512x512 .bf16) : k0_pay47 (k0_pay31 (sq x 128 384)) (k0_pay32 (sq x 256 0)) (k0_pay33 (sq x 256 128)) (k0_pay34 (sq x 256 256)) (k0_pay35 (sq x 256 384)) (k0_pay36 (sq x 384 0)) (k0_pay37 (sq x 384 128)) (k0_pay38 (sq x 384 256)) (k0_pay39 (sq x 384 384)) (k0_pay40 (k0_pay29 (sq x 0 0))) (k0_pay41 (k0_pay30 (sq x 0 128))) (k0_pay42 (sq x 0 256)) (k0_pay43 (sq x 0 384)) (k0_pay44 (sq x 128 0)) (k0_pay45 (sq x 128 128)) (k0_pay46 (sq x 128 256)) = stack x := by
  unfold k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47
  dsimp only
  rw [concat_pile]
  simp only [shapeCast_self]
  exact pile_sq x

theorem load_gate (x : Vec F S512x512 .f32) : k0_pay71 (k0_pay58 (sq x 0 0)) (k0_pay59 (sq x 0 128)) (k0_pay60 (sq x 0 256)) (k0_pay61 (sq x 0 384)) (k0_pay62 (sq x 128 0)) (k0_pay63 (sq x 128 128)) (k0_pay64 (sq x 128 256)) (k0_pay65 (sq x 128 384)) (k0_pay66 (sq x 256 0)) (k0_pay67 (sq x 256 128)) (k0_pay68 (sq x 256 256)) (k0_pay69 (sq x 256 384)) (k0_pay70 (sq x 384 0)) (sq x 384 128) (sq x 384 256) (sq x 384 384) = stack x := by
  unfold k0_pay58 k0_pay59 k0_pay60 k0_pay61 k0_pay62 k0_pay63 k0_pay64 k0_pay65 k0_pay66 k0_pay67 k0_pay68 k0_pay69 k0_pay70 k0_pay71
  dsimp only
  rw [concat_pile]
  simp only [shapeCast_self]
  exact pile_sq x

theorem load_sigm (x : Vec F S512x512 .f32) : k0_pay72 (k0_pay58 (sq x 0 0)) (k0_pay59 (sq x 0 128)) (k0_pay60 (sq x 0 256)) (k0_pay61 (sq x 0 384)) (k0_pay62 (sq x 128 0)) (k0_pay63 (sq x 128 128)) (k0_pay64 (sq x 128 256)) (k0_pay65 (sq x 128 384)) (k0_pay66 (sq x 256 0)) (k0_pay67 (sq x 256 128)) (k0_pay68 (sq x 256 256)) (k0_pay69 (sq x 256 384)) (k0_pay70 (sq x 384 0)) (sq x 384 128) (sq x 384 256) (sq x 384 384) = sigm (stack x) := by
  unfold k0_pay72
  dsimp only
  rw [load_gate]
  rfl

theorem load_gain (x : Vec F S1x512 .f32) : k0_pay73 (sg x 0) (sg x 128) (sg x 256) (sg x 384) (sg x 0) (sg x 128) (sg x 256) (sg x 384) (sg x 0) (sg x 128) (sg x 256) (sg x 384) (sg x 0) (sg x 128) (sg x 256) (sg x 384) = stackG x := by
  unfold k0_pay73
  dsimp only
  funext i
  obtain ⟨b, r, c, rfl⟩ : ∃ b r c, i = ix3 b r c := ⟨⟨(i 0).val, (i 0).isLt⟩, ⟨(i 1).val, (i 1).isLt⟩, ⟨(i 2).val, (i 2).isLt⟩, funext fun d => by fin_cases d <;> rfl⟩
  refine (concatenate_ofFn_unit_apply (t := S16x1x128) (s₁ := S1x1x128) 0 (fun n : Fin 16 => shapeCast S1x1x128 ((![sg x 0, sg x 128, sg x 256, sg x 384, sg x 0, sg x 128, sg x 256, sg x 384, sg x 0, sg x 128, sg x 256, sg x 384, sg x 0, sg x 128, sg x 256, sg x 384] : Fin 16 → _) n) shapeCasts_S1x128_S1x1x128)
    concatenates_S1x1x128_S1x1x128_S1x1x128_S1x1x128_S1x1x128_S1x1x128_S1x1x128_S1x1x128_S1x1x128_S1x1x128_S1x1x128_S1x1x128_S1x1x128_S1x1x128_S1x1x128_S1x1x128_S16x1x128_d0 rfl rfl (ix3 b r c) b rfl (ix3 0 r c) ?_).trans ?_
  · intro d hd
    fin_cases d
    · exact absurd rfl hd
    · rfl
    · rfl
  · obtain rfl : r = 0 := Subsingleton.elim _ _
    fin_cases b <;> exact (by pointwise; exact sg_stack x _ _ _ c rfl)

theorem load_dy (x : Vec F S512x512 .f32) : k0_pay94 (k0_pay78 (sq x 384 0)) (k0_pay79 (sq x 384 128)) (k0_pay80 (sq x 384 256)) (k0_pay81 (sq x 384 384)) (k0_pay82 (k0_pay74 (sq x 0 0))) (k0_pay83 (k0_pay75 (sq x 0 128))) (k0_pay84 (k0_pay76 (sq x 0 256))) (k0_pay85 (k0_pay77 (sq x 0 384))) (k0_pay86 (sq x 128 0)) (k0_pay87 (sq x 128 128)) (k0_pay88 (sq x 128 256)) (k0_pay89 (sq x 128 384)) (k0_pay90 (sq x 256 0)) (k0_pay91 (sq x 256 128)) (k0_pay92 (sq x 256 256)) (k0_pay93 (sq x 256 384)) = stack x := by
  unfold k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94
  dsimp only
  rw [concat_pile]
  simp only [shapeCast_self]
  exact pile_sq x

theorem load_cos (x : Vec F S512x128 .f32) : k0_pay156 (k0_pay147 (sr x 0)) (k0_pay148 (sr x 0)) (k0_pay149 (sr x 0)) (k0_pay150 (sr x 0)) (k0_pay151 (sr x 128)) (k0_pay152 (sr x 128)) (k0_pay153 (sr x 128)) (k0_pay154 (sr x 128)) (k0_pay155 (sr x 256)) (sr x 256) (sr x 256) (sr x 256) (sr x 384) (sr x 384) (sr x 384) (sr x 384) = stackT x := by
  unfold k0_pay147 k0_pay148 k0_pay149 k0_pay150 k0_pay151 k0_pay152 k0_pay153 k0_pay154 k0_pay155 k0_pay156
  dsimp only
  rw [concat_pile]
  simp only [shapeCast_self]
  exact pile_sr x

theorem load_sin (x : Vec F S512x128 .f32) : k0_pay177 (k0_pay161 (sr x 384)) (k0_pay162 (sr x 384)) (k0_pay163 (sr x 384)) (k0_pay164 (k0_pay157 (sr x 0))) (k0_pay165 (k0_pay158 (sr x 0))) (k0_pay166 (k0_pay159 (sr x 0))) (k0_pay167 (k0_pay160 (sr x 0))) (k0_pay168 (sr x 128)) (k0_pay169 (sr x 128)) (k0_pay170 (sr x 128)) (k0_pay171 (sr x 128)) (k0_pay172 (sr x 256)) (k0_pay173 (sr x 256)) (k0_pay174 (sr x 256)) (k0_pay175 (sr x 256)) (k0_pay176 (sr x 384)) = stackT x := by
  unfold k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177
  dsimp only
  rw [concat_pile]
  simp only [shapeCast_self]
  exact pile_sr x

theorem load_centred (x : Vec F S512x512 .bf16) (q k : FVec F S16x128x128 .bf16) (dec xi : Vec F S4x128x128 .f32) (rp : Vec F S4x4x128x128 .bf16) :
    k0_pay54 q k (k0_pay31 (sq x 128 384)) (k0_pay32 (sq x 256 0)) (k0_pay33 (sq x 256 128)) (k0_pay34 (sq x 256 256)) (k0_pay35 (sq x 256 384)) (k0_pay36 (sq x 384 0)) (k0_pay37 (sq x 384 128)) (k0_pay38 (sq x 384 256)) (k0_pay39 (sq x 384 384)) (k0_pay40 (k0_pay29 (sq x 0 0))) (k0_pay41 (k0_pay30 (sq x 0 128))) (k0_pay42 (sq x 0 256)) (k0_pay43 (sq x 0 384)) (k0_pay44 (sq x 128 0)) (k0_pay45 (sq x 128 128)) (k0_pay46 (sq x 128 256)) dec xi rp = centred q k (stack x) dec xi rp := by
  unfold k0_pay54
  dsimp only
  rw [load_v]
  rfl

theorem load_sumSq (x : Vec F S512x512 .bf16) (q k : FVec F S16x128x128 .bf16) (dec xi : Vec F S4x128x128 .f32) (rp : Vec F S4x4x128x128 .bf16) :
    k0_pay55 q k (k0_pay31 (sq x 128 384)) (k0_pay32 (sq x 256 0)) (k0_pay33 (sq x 256 128)) (k0_pay34 (sq x 256 256)) (k0_pay35 (sq x 256 384)) (k0_pay36 (sq x 384 0)) (k0_pay37 (sq x 384 128)) (k0_pay38 (sq x 384 256)) (k0_pay39 (sq x 384 384)) (k0_pay40 (k0_pay29 (sq x 0 0))) (k0_pay41 (k0_pay30 (sq x 0 128))) (k0_pay42 (sq x 0 256)) (k0_pay43 (sq x 0 384)) (k0_pay44 (sq x 128 0)) (k0_pay45 (sq x 128 128)) (k0_pay46 (sq x 128 256)) dec xi rp = sumSq (centred q k (stack x) dec xi rp) := by
  unfold k0_pay55
  dsimp only
  rw [load_centred]
  rfl

theorem load_gateGrad (x : Vec F S512x512 .f32) (on g s : FVec F S16x128x128 .f32) (gain : FVec F S16x1x128 .f32) :
    k0_pay95 on g s gain (k0_pay78 (sq x 384 0)) (k0_pay79 (sq x 384 128)) (k0_pay80 (sq x 384 256)) (k0_pay81 (sq x 384 384)) (k0_pay82 (k0_pay74 (sq x 0 0))) (k0_pay83 (k0_pay75 (sq x 0 128))) (k0_pay84 (k0_pay76 (sq x 0 256))) (k0_pay85 (k0_pay77 (sq x 0 384))) (k0_pay86 (sq x 128 0)) (k0_pay87 (sq x 128 128)) (k0_pay88 (sq x 128 256)) (k0_pay89 (sq x 128 384)) (k0_pay90 (sq x 256 0)) (k0_pay91 (sq x 256 128)) (k0_pay92 (sq x 256 256)) (k0_pay93 (sq x 256 384)) = gateGrad on g s gain (stack x) := by
  unfold k0_pay95
  dsimp only
  rw [load_dy]
  rfl

theorem load_unrope (x : Vec F S512x128 .f32) (y c : FVec F S16x128x128 .f32) :
    k0_pay178 y c (k0_pay161 (sr x 384)) (k0_pay162 (sr x 384)) (k0_pay163 (sr x 384)) (k0_pay164 (k0_pay157 (sr x 0))) (k0_pay165 (k0_pay158 (sr x 0))) (k0_pay166 (k0_pay159 (sr x 0))) (k0_pay167 (k0_pay160 (sr x 0))) (k0_pay168 (sr x 128)) (k0_pay169 (sr x 128)) (k0_pay170 (sr x 128)) (k0_pay171 (sr x 128)) (k0_pay172 (sr x 256)) (k0_pay173 (sr x 256)) (k0_pay174 (sr x 256)) (k0_pay175 (sr x 256)) (k0_pay176 (sr x 384)) = unrope y c (stackT x) := by
  unfold k0_pay178
  dsimp only
  rw [load_sin]
  rfl

end Cert.RetIdeal.Hand

end
-- ==== Proof.RetSteps.lean ====
/-
  What one step of the kernel computes, as functions of the tiles it loads and of the state gradient it carries.
-/
module

public import proofs.«01_k».proof.Proof.RetLoads

@[expose] public section

set_option maxRecDepth 16384

noncomputable section

namespace Cert.RetIdeal.Hand

open Cert.RetIdeal Cert.RetIdeal.Gen Idealize.ShloMosaic Idealize.ShloMosaic.TcCoe Idealize.SL.Sem

variable {F : FTy → Type} [FloatOps F]

/-- The tiles a step loads: queries, keys and values; the gate; the gains; the decay tables; the states before its four
    chunks; the gradient of the output; the cosines and sines. -/
structure Tiles (F : FTy → Type) where
  q : Vec F S512x512 .bf16
  k : Vec F S512x512 .bf16
  v : Vec F S512x512 .bf16
  gt : Vec F S512x512 .f32
  g : Vec F S1x512 .f32
  dec : Vec F S4x128x128 .f32
  xi : Vec F S4x128x128 .f32
  zt : Vec F S4x128x128 .f32
  gc : Vec F S4x128x128 .f32
  rp : Vec F S4x4x128x128 .bf16
  dy : Vec F S512x512 .f32
  cs : Vec F S512x128 .f32
  sn : Vec F S512x128 .f32

variable (T : Tiles F) (dg : Vec F S1x512 .f32) (ds : Vec F S4x128x128 .f32)

def cO : FVec F S16x128x128 .f32 := centred (stack T.q) (stack T.k) (stack T.v) T.dec T.xi T.rp
def rsO : FVec F S16x128x1 .f32 := k0_pay56 (sumSq (cO T)) (Scalar.ofBits .f32 0x43000000#32)
def onO : FVec F S16x128x128 .f32 := k0_pay57 (cO T) (sumSq (cO T)) (Scalar.ofBits .f32 0x43000000#32)
def gtS : FVec F S16x128x128 .f32 := stack T.gt
def dyS : FVec F S16x128x128 .f32 := stack T.dy
def dyg : FVec F S16x128x128 .f32 := k0_pay113 (gtS T) (sigm (gtS T)) (dyS T)
def dO : FVec F S16x128x128 .bf16 := k0_pay120 (rsO T) (onO T) (stackG T.g) (dyg T)
def dS : FVec F S16x128x128 .f32 := k0_pay121 (stack T.v) (rsO T) (onO T) (stackG T.g) (dyg T)
def dR : FVec F S16x128x128 .f32 := k0_pay126 (k0_pay53 (stack T.q) T.xi) (dO T)

/-- The state gradients after the chunks 3 (the one carried in), 2, 1 and 0, and the one carried out. -/
def gh2 : FVec F S4x128x128 .f32 := k0_pay133 (k0_pay53 (stack T.q) T.xi) (dO T) T.gc ds
def gh1 : FVec F S4x128x128 .f32 := k0_pay137 (k0_pay53 (stack T.q) T.xi) (dO T) T.gc ds
def ghOut : FVec F S4x128x128 .f32 := k0_pay146 (dR T) (k0_pay128 T.gc) (gh1 T ds)

/-- What the step stores: the gradients of the queries, keys and values, and of the gate. -/
def dqT : FVec F S16x128x128 .f32 :=
  unrope (k0_pay123 (stack T.k) (k0_pay48 T.dec) (k0_pay49 T.xi) (k0_pay51 T.rp) (dO T) (dS T)) (stackT T.cs) (stackT T.sn)
def dkT : FVec F S16x128x128 .f32 :=
  k0_pay196 (k0_pay124 (stack T.q) (k0_pay48 T.dec) (dS T)) (k0_pay131 (stack T.v) (k0_pay50 T.zt) ds)
    (k0_pay135 (stack T.v) (k0_pay50 T.zt) (k0_pay53 (stack T.q) T.xi) (dO T) T.gc ds)
    (k0_pay139 (stack T.v) (k0_pay50 T.zt) (k0_pay53 (stack T.q) T.xi) (dO T) T.gc ds)
    (k0_pay144 (dR T) (k0_pay127 (stack T.v) (k0_pay50 T.zt)) (k0_pay128 T.gc) (gh1 T ds)) (stackT T.cs) (stackT T.sn)
def dvT : FVec F S16x128x128 .f32 :=
  k0_pay213 (k0_pay125 (k0_pay52 (stack T.q) (stack T.k) T.dec) (dO T)) (k0_pay132 (stack T.k) T.zt ds)
    (k0_pay136 (stack T.k) (k0_pay53 (stack T.q) T.xi) (dO T) T.gc T.zt ds)
    (k0_pay141 (k0_pay129 T.zt) (k0_pay140 (stack T.k) (k0_pay53 (stack T.q) T.xi) (dO T) T.gc ds))
    (k0_pay145 (stack T.k) (dR T) (k0_pay128 T.gc) (k0_pay129 T.zt) (gh1 T ds))
def dgtT : FVec F S16x128x128 .f32 := gateGrad (onO T) (gtS T) (sigm (gtS T)) (stackG T.g) (dyS T)

end Cert.RetIdeal.Hand

end
-- ==== Proof.RetCols.lean ====
/-
  The gain's gradient of one step, four stores of 128 columns each.
-/
module

public import proofs.«01_k».proof.Proof.RetSteps

@[expose] public section

set_option maxRecDepth 16384

noncomputable section

namespace Cert.RetIdeal.Hand

open Cert.RetIdeal Cert.RetIdeal.Gen Idealize.ShloMosaic Idealize.ShloMosaic.TcCoe Idealize.SL.Sem

variable {F : FTy → Type} [FloatOps F]

/-- Four pieces of 128 columns side by side. -/
def cols {α : Type} (f : Fin 4 → S1x128.Idx → α) : S1x512.Idx → α := fun i =>
  f ⟨(i 1).val / 128, by have h : (i 1).val < 512 := (i 1).isLt; omega⟩ (ix2 0 ⟨(i 1).val % 128, Nat.mod_lt _ (by norm_num)⟩)

/-- The place of a piece. -/
abbrev rc (b : ℕ)
    (h : ∀ i, (![0, b] : Fin 2 → ℕ) i + (![1, 128] : Fin 2 → ℕ) i ≤ S1x512.size i := by exact fun i => by fin_cases i <;> decide) :
    Rect S1x512 := Rect.unit (s := S1x512) ![0, b] ![1, 128] h

theorem cols_at {α : Type} (f : Fin 4 → S1x128.Idx → α) (n : Fin 4) (c : Fin 128) (i : S1x512.Idx) (h : (i 1).val = 128 * n.val + c.val) :
    cols f i = f n (ix2 0 c) := by
  have e1 : (i 1).val / 128 = n.val := by omega
  have e2 : (i 1).val % 128 = c.val := by omega
  unfold cols
  simp only [e1, e2]

theorem cols_emb {α : Type} (f : Fin 4 → S1x128.Idx → α) (n : Fin 4) (b : ℕ) (x : S1x128.Idx) (hb : b = 128 * n.val)
    (h : ∀ i, (![0, b] : Fin 2 → ℕ) i + (![1, 128] : Fin 2 → ℕ) i ≤ S1x512.size i := by exact fun i => by fin_cases i <;> decide) :
    f n x = cols f ((rc b h).emb x) := by
  subst hb
  have h1 := (Rect.emb_apply (rc (128 * n.val) h) x 1).trans (show 128 * n.val + 1 * (x 1).val = 128 * n.val + (x 1).val by omega)
  have l1 : (x 1).val < 128 := (x 1).isLt
  obtain ⟨u, c, rfl⟩ : ∃ u c, x = ix2 u c := ⟨⟨(x 0).val, (x 0).isLt⟩, ⟨(x 1).val, (x 1).isLt⟩, funext fun d => by fin_cases d <;> rfl⟩
  obtain rfl : u = 0 := Subsingleton.elim _ _
  exact (cols_at f n c _ h1).symm

theorem mem_rc (i : S1x512.Idx) (b : ℕ) (h2 : b ≤ (i 1).val) (h3 : (i 1).val < b + 128)
    (h : ∀ i, (![0, b] : Fin 2 → ℕ) i + (![1, 128] : Fin 2 → ℕ) i ≤ S1x512.size i := by exact fun i => by fin_cases i <;> decide) :
    i ∈ (rc b h).set := by
  have h0 : (i 0).val < 1 := (i 0).isLt
  rw [Rect.mem_set_unit]
  intro d
  fin_cases d
  · exact ⟨Nat.zero_le _, by show (i 0).val < 0 + 1; omega⟩
  · exact ⟨h2, h3⟩

/-- The four stores, over anything stored before, leave the four pieces side by side. -/
theorem canon_cols {Val : EltTy → Type} [∀ e, Nonempty (Val e)] {e : EltTy} (f0 f1 f2 f3 : S1x128.Idx → Val e) (L : List (View.Piece Val S1x512 e)) :
    View.canon ((⟨rc 384, f3⟩ : View.Piece Val S1x512 e) :: ⟨rc 256, f2⟩ :: ⟨rc 128, f1⟩ :: ⟨rc 0, f0⟩ :: L) = cols ![f0, f1, f2, f3] := by
  funext i
  refine View.canon_append_of_piecesOf (cols ![f0, f1, f2, f3]) L [⟨rc 384, f3⟩, ⟨rc 256, f2⟩, ⟨rc 128, f1⟩, ⟨rc 0, f0⟩]
    ⟨fun x => cols_emb ![f0, f1, f2, f3] 3 384 x rfl, fun x => cols_emb ![f0, f1, f2, f3] 2 256 x rfl,
      fun x => cols_emb ![f0, f1, f2, f3] 1 128 x rfl, fun x => cols_emb ![f0, f1, f2, f3] 0 0 x rfl, trivial⟩ i ?_
  have hi : (i 1).val < 512 := (i 1).isLt
  have d1 : (i 1).val / 128 = 0 ∨ (i 1).val / 128 = 1 ∨ (i 1).val / 128 = 2 ∨ (i 1).val / 128 = 3 := by omega
  rcases d1 with d1 | d1 | d1 | d1
  · exact ⟨⟨rc 0, f0⟩, by simp, mem_rc i 0 (by omega) (by omega)⟩
  · exact ⟨⟨rc 128, f1⟩, by simp, mem_rc i 128 (by omega) (by omega)⟩
  · exact ⟨⟨rc 256, f2⟩, by simp, mem_rc i 256 (by omega) (by omega)⟩
  · exact ⟨⟨rc 384, f3⟩, by simp, mem_rc i 384 (by omega) (by omega)⟩

/-- A load of some columns after a fill of the whole row reads the fill there. -/
theorem load_fill {κ : Kind} {sp : Space} {Val : EltTy → Type} [∀ e, Nonempty (Val e)] {e : EltTy} (v : View sig κ sp S1x512 e)
    (inb : ∀ a, (![0, 0] : Fin 2 → ℕ) a + (![1, 512] : Fin 2 → ℕ) a ≤ S1x512.size a)
    (Z : S1x512.Idx → Val e) (L : List (View.Piece Val S1x512 e)) (r : Rect S1x512) :
    v.readCov (⟨Rect.unit (s := S1x512) ![0, 0] ![1, 512] inb, Z⟩ :: L) r.toLoadRect = View.ld Z r :=
  View.readCov_fill v inb Z L r (fun a => by fin_cases a <;> rfl)

/-- The gain's gradient after the step, from that before. -/
def gainT (T : Tiles F) (dg : Vec F S1x512 .f32) : Vec F S1x512 .f32 :=
  cols ![k0_pay115 (onO T) (gtS T) (sigm (gtS T)) (dyS T) (sg dg 0), k0_pay116 (onO T) (gtS T) (sigm (gtS T)) (dyS T) (sg dg 128),
    k0_pay118 (k0_pay114 (onO T) (gtS T) (sigm (gtS T)) (dyS T)) (k0_pay117 (onO T) (gtS T) (sigm (gtS T)) (dyS T)) (sg dg 256),
    k0_pay119 (k0_pay114 (onO T) (gtS T) (sigm (gtS T)) (dyS T)) (sg dg 384)]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

end Cert.RetIdeal.Hand

end
-- ==== Proof.RetBlockA.lean ====
/-
  What the first step leaves in the results' windows and in the carried state.
-/
module

public import proofs.«01_k».proof.Proof.RetCols

@[expose] public section

set_option maxRecDepth 16384

noncomputable section

namespace Cert.RetIdeal.Hand

open Cert.RetIdeal Cert.RetIdeal.Gen Idealize.ShloMosaic Idealize.ShloMosaic.TcCoe Idealize.SL.Sem

variable {F : FTy → Type} [FloatOps F]

variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .f32) (h4 : a4.IsWhole)
  (a5 : Memref sig .tc .vmem S1x512 .f32) (h5 : a5.IsWhole)
  (a6 : Memref sig .tc .vmem S4x128x128 .f32) (h6 : a6.IsWhole)
  (a7 : Memref sig .tc .vmem S4x128x128 .f32) (h7 : a7.IsWhole)
  (a8 : Memref sig .tc .vmem S4x128x128 .f32) (h8 : a8.IsWhole)
  (a9 : Memref sig .tc .vmem S4x128x128 .f32) (h9 : a9.IsWhole)
  (a10 : Memref sig .tc .vmem S4x4x128x128 .bf16) (h10 : a10.IsWhole)
  (a11 : Memref sig .tc .vmem S512x512 .f32) (h11 : a11.IsWhole)
  (a12 : Memref sig .tc .vmem S512x128 .f32) (h12 : a12.IsWhole)
  (a13 : Memref sig .tc .vmem S512x128 .f32) (h13 : a13.IsWhole)
  (a14 : Memref sig .tc .vmem S512x512 .bf16) (h14 : a14.IsWhole)
  (a15 : Memref sig .tc .vmem S512x512 .bf16) (h15 : a15.IsWhole)
  (a16 : Memref sig .tc .vmem S512x512 .bf16) (h16 : a16.IsWhole)
  (a17 : Memref sig .tc .vmem S512x512 .bf16) (h17 : a17.IsWhole)
  (a18 : Memref sig .tc .vmem S1x512 .f32) (h18 : a18.IsWhole)
  (a19 : Memref sig .tc .vmem S4x128x128 .f32) (h19 : a19.IsWhole)
  (T : Tiles F) (dg : Vec F S1x512 .f32) (ds : Vec F S4x128x128 .f32)

set_option maxHeartbeats 1000000 in
theorem out_A_13 (hc : cond0_0 i) : out0_A_13 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = cut (truncf .bf16 (dqT T) bitsLt_bf16_f32) := by
  unfold out0_A_13
  rw [View.read_writes_eq_canon _ _ _ (fun _ => cover0_A_13 ..)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread, h12.read_unread]
  simp only [View.ld_unit_zero (S := S4x128x128) hz3, View.ld_unit_zero (S := S4x4x128x128) hz4]
  unfold dqT dS dO dyg rsO onO cO gtS dyS
  rw [← load_sumSq T.v, ← load_centred T.v, ← load_unrope T.sn, ← load_sigm T.gt, ← load_gate T.gt, ← load_q T.q, ← load_k T.k, ← load_v T.v, ← load_gain T.g, ← load_dy T.dy, ← load_cos T.cs]
  exact canon_piece _

set_option maxHeartbeats 1000000 in
theorem out_A_14 (hc : cond0_0 i) : out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = cut (truncf .bf16 (dkT T k0_pay4) bitsLt_bf16_f32) := by
  unfold out0_A_14
  rw [View.read_writes_eq_canon _ _ _ (fun _ => cover0_A_14 ..)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread, View.readCov_unit_zero (S := S4x128x128) _ hz3]
  rw [h1.read_unread, h2.read_unread, h5.read_unread, h12.read_unread]
  simp only [View.ld_unit_zero (S := S4x128x128) hz3, View.ld_unit_zero (S := S4x4x128x128) hz4]
  unfold dkT gh1 dR dS dO dyg rsO onO cO gtS dyS
  rw [← load_sumSq T.v, ← load_centred T.v, ← load_sigm T.gt, ← load_gate T.gt, ← load_q T.q, ← load_k T.k, ← load_v T.v, ← load_gain T.g, ← load_dy T.dy, ← load_cos T.cs, ← load_sin T.sn]
  exact canon_piece _

set_option maxHeartbeats 1000000 in
theorem out_A_15 (hc : cond0_0 i) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = cut (truncf .bf16 (dvT T k0_pay4) bitsLt_bf16_f32) := by
  unfold out0_A_15
  rw [View.read_writes_eq_canon _ _ _ (fun _ => cover0_A_15 ..)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread, View.readCov_unit_zero (S := S4x128x128) _ hz3]
  rw [h1.read_unread, h2.read_unread, h5.read_unread]
  simp only [View.ld_unit_zero (S := S4x128x128) hz3, View.ld_unit_zero (S := S4x4x128x128) hz4]
  unfold dvT gh1 dR dO dyg rsO onO cO gtS dyS
  rw [← load_sumSq T.v, ← load_centred T.v, ← load_sigm T.gt, ← load_gate T.gt, ← load_q T.q, ← load_k T.k, ← load_gain T.g, ← load_dy T.dy]
  exact canon_piece _

set_option maxHeartbeats 1000000 in
theorem out_A_16 (hc : cond0_0 i) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = cut (truncf .bf16 (dgtT T) bitsLt_bf16_f32) := by
  unfold out0_A_16
  rw [View.read_writes_eq_canon _ _ _ (fun _ => cover0_A_16 ..)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread]
  simp only [View.ld_unit_zero (S := S4x128x128) hz3, View.ld_unit_zero (S := S4x4x128x128) hz4]
  unfold dgtT onO cO gtS dyS
  rw [← load_sumSq T.v, ← load_centred T.v, ← load_gateGrad T.dy, ← load_sigm T.gt, ← load_gate T.gt, ← load_q T.q, ← load_k T.k, ← load_gain T.g]
  exact canon_piece _

set_option maxHeartbeats 1000000 in
theorem out_A_17 (hc : cond0_0 i) : out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = gainT T k0_pay5 := by
  unfold out0_A_17
  rw [View.read_writes_eq_canon _ _ _ (fun _ => cover0_A_17 ..)]
  unfold kernelRun0_A
  dsimp only
  sl_unfold_words
  simp (decide := true) only [View.readCov_skip, load_fill, View.readAt_eq_ld, h1.read_unread, h2.read_unread, h3.read_unread, h4.read_unread, h5.read_unread, h6.read_unread, h7.read_unread, h8.read_unread, h9.read_unread, h10.read_unread, h11.read_unread, h12.read_unread, h13.read_unread, h18.read_unread, h19.read_unread]
  rw [h1.read_unread, h2.read_unread]
  simp only [View.ld_unit_zero (S := S4x128x128) hz3, View.ld_unit_zero (S := S4x4x128x128) hz4]
  unfold gainT onO cO gtS dyS
  rw [← load_sumSq T.v, ← load_centred T.v, ← load_sigm T.gt, ← load_gate T.gt, ← load_q T.q, ← load_k T.k, ← load_dy T.dy]
  exact canon_cols ..

set_option maxHeartbeats 1000000 in
theorem sout_A (hc : cond0_0 i) : sout0_A_0 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn = ghOut T k0_pay4 := by
  unfold sout0_A_0
  rw [View.read_writes_eq_canon _ _ _ (fun _ => scover0_A_0 ..)]
  unfold kernelRun0_A
  dsimp only
  sl_unfold_words
  rw [View.canon_cons_unit_zero hz3]
  simp only [View.readCov_unit_zero (S := S4x128x128) _ hz3, View.readAt_eq_ld, h1.read_unread, h2.read_unread, h3.read_unread, h4.read_unread, h5.read_unread, h6.read_unread, h7.read_unread, h8.read_unread, h9.read_unread, h10.read_unread, h11.read_unread, h12.read_unread, h13.read_unread, h18.read_unread, h19.read_unread]
  rw [h1.read_unread, h2.read_unread, h5.read_unread]
  simp only [View.ld_unit_zero (S := S4x128x128) hz3, View.ld_unit_zero (S := S4x4x128x128) hz4]
  unfold ghOut gh1 dR dO dyg rsO onO cO gtS dyS
  rw [← load_sumSq T.v, ← load_centred T.v, ← load_sigm T.gt, ← load_gate T.gt, ← load_q T.q, ← load_k T.k, ← load_gain T.g, ← load_dy T.dy]
  rfl

end Cert.RetIdeal.Hand

end
-- ==== Proof.RetBlockB.lean ====
/-
  What the a later step leaves in the results' windows and in the carried state.
-/
module

public import proofs.«01_k».proof.Proof.RetCols

@[expose] public section

set_option maxRecDepth 16384

noncomputable section

namespace Cert.RetIdeal.Hand

open Cert.RetIdeal Cert.RetIdeal.Gen Idealize.ShloMosaic Idealize.ShloMosaic.TcCoe Idealize.SL.Sem

variable {F : FTy → Type} [FloatOps F]

variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .f32) (h4 : a4.IsWhole)
  (a5 : Memref sig .tc .vmem S1x512 .f32) (h5 : a5.IsWhole)
  (a6 : Memref sig .tc .vmem S4x128x128 .f32) (h6 : a6.IsWhole)
  (a7 : Memref sig .tc .vmem S4x128x128 .f32) (h7 : a7.IsWhole)
  (a8 : Memref sig .tc .vmem S4x128x128 .f32) (h8 : a8.IsWhole)
  (a9 : Memref sig .tc .vmem S4x128x128 .f32) (h9 : a9.IsWhole)
  (a10 : Memref sig .tc .vmem S4x4x128x128 .bf16) (h10 : a10.IsWhole)
  (a11 : Memref sig .tc .vmem S512x512 .f32) (h11 : a11.IsWhole)
  (a12 : Memref sig .tc .vmem S512x128 .f32) (h12 : a12.IsWhole)
  (a13 : Memref sig .tc .vmem S512x128 .f32) (h13 : a13.IsWhole)
  (a14 : Memref sig .tc .vmem S512x512 .bf16) (h14 : a14.IsWhole)
  (a15 : Memref sig .tc .vmem S512x512 .bf16) (h15 : a15.IsWhole)
  (a16 : Memref sig .tc .vmem S512x512 .bf16) (h16 : a16.IsWhole)
  (a17 : Memref sig .tc .vmem S512x512 .bf16) (h17 : a17.IsWhole)
  (a18 : Memref sig .tc .vmem S1x512 .f32) (h18 : a18.IsWhole)
  (a19 : Memref sig .tc .vmem S4x128x128 .f32) (h19 : a19.IsWhole)
  (T : Tiles F) (dg : Vec F S1x512 .f32) (ds : Vec F S4x128x128 .f32)

set_option maxHeartbeats 1000000 in
theorem out_B_13 (hc : ¬cond0_0 i) : out0_B_13 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = cut (truncf .bf16 (dqT T) bitsLt_bf16_f32) := by
  unfold out0_B_13
  rw [View.read_writes_eq_canon _ _ _ (fun _ => cover0_B_13 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread, h12.read_unread]
  simp only [View.ld_unit_zero (S := S4x128x128) hz3, View.ld_unit_zero (S := S4x4x128x128) hz4]
  unfold dqT dS dO dyg rsO onO cO gtS dyS
  rw [← load_sumSq T.v, ← load_centred T.v, ← load_unrope T.sn, ← load_sigm T.gt, ← load_gate T.gt, ← load_q T.q, ← load_k T.k, ← load_v T.v, ← load_gain T.g, ← load_dy T.dy, ← load_cos T.cs]
  exact canon_piece _

set_option maxHeartbeats 1000000 in
theorem out_B_14 (hc : ¬cond0_0 i) : out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = cut (truncf .bf16 (dkT T ds) bitsLt_bf16_f32) := by
  unfold out0_B_14
  rw [View.read_writes_eq_canon _ _ _ (fun _ => cover0_B_14 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread, h12.read_unread]
  simp only [View.ld_unit_zero (S := S4x128x128) hz3, View.ld_unit_zero (S := S4x4x128x128) hz4]
  unfold dkT gh1 dR dS dO dyg rsO onO cO gtS dyS
  rw [← load_sumSq T.v, ← load_centred T.v, ← load_sigm T.gt, ← load_gate T.gt, ← load_q T.q, ← load_k T.k, ← load_v T.v, ← load_gain T.g, ← load_dy T.dy, ← load_cos T.cs, ← load_sin T.sn]
  exact canon_piece _

set_option maxHeartbeats 1000000 in
theorem out_B_15 (hc : ¬cond0_0 i) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = cut (truncf .bf16 (dvT T ds) bitsLt_bf16_f32) := by
  unfold out0_B_15
  rw [View.read_writes_eq_canon _ _ _ (fun _ => cover0_B_15 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread]
  simp only [View.ld_unit_zero (S := S4x128x128) hz3, View.ld_unit_zero (S := S4x4x128x128) hz4]
  unfold dvT gh1 dR dO dyg rsO onO cO gtS dyS
  rw [← load_sumSq T.v, ← load_centred T.v, ← load_sigm T.gt, ← load_gate T.gt, ← load_q T.q, ← load_k T.k, ← load_gain T.g, ← load_dy T.dy]
  exact canon_piece _

set_option maxHeartbeats 1000000 in
theorem out_B_16 (hc : ¬cond0_0 i) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = cut (truncf .bf16 (dgtT T) bitsLt_bf16_f32) := by
  unfold out0_B_16
  rw [View.read_writes_eq_canon _ _ _ (fun _ => cover0_B_16 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h19.read_unread]
  rw [h1.read_unread, h2.read_unread, h5.read_unread]
  simp only [View.ld_unit_zero (S := S4x128x128) hz3, View.ld_unit_zero (S := S4x4x128x128) hz4]
  unfold dgtT onO cO gtS dyS
  rw [← load_sumSq T.v, ← load_centred T.v, ← load_gateGrad T.dy, ← load_sigm T.gt, ← load_gate T.gt, ← load_q T.q, ← load_k T.k, ← load_gain T.g]
  exact canon_piece _

set_option maxHeartbeats 1000000 in
theorem out_B_17 (hc : ¬cond0_0 i) : out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = gainT T dg := by
  unfold out0_B_17
  rw [View.read_writes_eq_canon _ _ _ (fun _ => cover0_B_17 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h18.read_unread, h19.read_unread]
  rw [h1.read_unread, h2.read_unread]
  simp only [View.ld_unit_zero (S := S4x128x128) hz3, View.ld_unit_zero (S := S4x4x128x128) hz4]
  unfold gainT onO cO gtS dyS
  rw [← load_sumSq T.v, ← load_centred T.v, ← load_sigm T.gt, ← load_gate T.gt, ← load_q T.q, ← load_k T.k, ← load_dy T.dy]
  exact canon_cols ..

set_option maxHeartbeats 1000000 in
theorem sout_B (hc : ¬cond0_0 i) : sout0_B_0 c i a1 h1 a2 h2 a3 h3 a4 h4 a5 h5 a6 h6 a7 h7 a8 h8 a9 h9 a10 h10 a11 h11 a12 h12 a13 h13 a14 h14 a15 h15 a16 h16 a17 h17 a18 h18 a19 h19 hc T.q T.k T.v T.gt T.g T.dec T.xi T.zt T.gc T.rp T.dy T.cs T.sn dg ds = ghOut T ds := by
  unfold sout0_B_0
  rw [View.read_writes_eq_canon _ _ _ (fun _ => scover0_B_0 ..)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, h13.read_unread, h18.read_unread, h19.read_unread]
  rw [h1.read_unread, h2.read_unread, h5.read_unread]
  simp only [View.ld_unit_zero (S := S4x128x128) hz3, View.ld_unit_zero (S := S4x4x128x128) hz4]
  unfold ghOut gh1 dR dO dyg rsO onO cO gtS dyS
  rw [← load_sumSq T.v, ← load_centred T.v, ← load_sigm T.gt, ← load_gate T.gt, ← load_q T.q, ← load_k T.k, ← load_gain T.g, ← load_dy T.dy]
  rfl

end Cert.RetIdeal.Hand

end
-- ==== Proof.Reals.lean ====
/-
  Extended-real arithmetic at real arguments: sums, quotients and square roots of real numbers read as extended reals, and
  the sums a block-by-block accumulation makes.
-/
module

public import Idealize.ShloMosaic.Lib.Pointwise
public import Idealize.ShloMosaic.Lib.Tactic

@[expose] public section

noncomputable section

namespace Cert.Reals

open Idealize.ShloMosaic

/-- A finite sum of reals, read as an extended real, is the sum of the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The quotient of two reals, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The reciprocal square root of a positive real. -/
theorem rsqrt_pos (x : ℝ) (hx : 0 < x) : Ideal.rsqrt (x : EReal) = (((Real.sqrt x)⁻¹ : ℝ) : EReal) := by
  rw [Ideal.rsqrt_coe, if_neg (not_lt.mpr hx.le), if_neg hx.ne']

/-- An extended real that is finite is a real. -/
theorem eq_coe {x : EReal} (h : max x (-x) < ⊤) : ((x.toReal : ℝ) : EReal) = x := by
  induction x with
  | bot => simp at h
  | top => simp at h
  | coe r => rfl

/-- A family of finite extended reals is a family of reals. -/
theorem exists_coe {ι : Type*} {x : ι → EReal} (h : ∀ i, max (x i) (-(x i)) < ⊤) : ∃ a : ι → ℝ, x = fun i => (a i : EReal) :=
  ⟨fun i => (x i).toReal, funext fun i => (eq_coe (h i)).symm⟩

/-- What a running total holds at each step: zero plus the first block's part, and then one part more at each step. -/
theorem running_sum {M : Type*} [AddCommMonoid M] {N : Nat} (acc : (n : Nat) → n < N → M) (g : Nat → M)
    (h0 : ∀ h, acc 0 h = 0 + g 0) (hs : ∀ n h, acc (n + 1) h = acc n (Nat.lt_of_succ_lt h) + g (n + 1)) :
    ∀ n h, acc n h = ∑ t : Fin (n + 1), g t
  | 0, h => by simp [h0]
  | n + 1, h => by
    rw [hs n h, running_sum acc g h0 hs n, Fin.sum_univ_castSucc (n := n + 1)]
    rfl

/-- A sum over all rows, taken block of rows by block of rows. -/
theorem sum_blocks {M : Type*} [AddCommMonoid M] (T K N : Nat) (hN : T * K = N) (f : Nat → M) :
    ∑ p : Fin N, f p.val = ∑ t : Fin T, ∑ r : Fin K, f (K * t.val + r.val) := by
  subst hN
  rw [← Finset.sum_product', ← Equiv.sum_comp finProdFinEquiv]
  refine Finset.sum_congr rfl fun p _ => ?_
  rw [finProdFinEquiv_apply_val, Nat.add_comm]

end Cert.Reals

end
-- ==== Proof.RetChunk.lean ====
/-
  The gradient of retention on one chunk of 128 tokens and one head, as the kernel computes it: the chunk's output is
  formed again, the gradient goes back through the gate and the group norm, and then through the chunk's two products
  (inside the chunk, and with the state before it).
-/
module

public import proofs.«01_k».proof.Proof.Reals

@[expose] public section

noncomputable section

namespace Cert.RetChunk

open Idealize.ShloMosaic

/-- What a chunk is computed from: queries, keys, values; the decay inside the chunk and the three decay tables (towards the
    chunk's start, towards its end, across it); the state before the chunk; the gate; the output's gradient; the gains. -/
structure Chunk where
  q : Fin 128 → Fin 128 → EReal
  k : Fin 128 → Fin 128 → EReal
  v : Fin 128 → Fin 128 → EReal
  d : Fin 128 → Fin 128 → EReal
  x : Fin 128 → Fin 128 → EReal
  z : Fin 128 → Fin 128 → EReal
  e : Fin 128 → Fin 128 → EReal
  s : Fin 128 → Fin 128 → EReal
  gt : Fin 128 → Fin 128 → EReal
  dy : Fin 128 → Fin 128 → EReal
  g : Fin 128 → EReal

/-- The constants 128 and the norm's small number. -/
abbrev n128 : EReal := Ideal.ofBits .f32 0x43000000#32
abbrev eps : EReal := Ideal.ofBits .f32 0x358637BD#32

variable (C : Chunk) (G : Fin 128 → Fin 128 → EReal)

/-- The decayed scores, the queries decayed, the chunk's output. -/
def sd (r i : Fin 128) : EReal := (∑ j, C.q r j * C.k i j) * C.d r i
def qx (r j : Fin 128) : EReal := C.q r j * C.x r j
def o (r l : Fin 128) : EReal := ∑ i, sd C r i * C.v i l + ∑ j, qx C r j * C.s j l

/-- The group norm of a row. -/
def oc (r l : Fin 128) : EReal := o C r l - Ideal.div (∑ l, o C r l) n128
def ss (r : Fin 128) : EReal := ∑ l, oc C r l * oc C r l
def rs (r : Fin 128) : EReal := Ideal.rsqrt (Ideal.div (ss C r) n128 + eps)
def on (r l : Fin 128) : EReal := oc C r l * rs C r

/-- The sigmoid of the gate; the gradients of the gate, of the scaled norm, of the gains (one row's part), of the norm. -/
def sg (r l : Fin 128) : EReal := Ideal.div 1 (1 + Ideal.exp (0 - C.gt r l))
def dgt (r l : Fin 128) : EReal := C.dy r l * (on C r l * C.g l) * (sg C r l * (1 + C.gt r l * (1 - sg C r l)))
def dyg (r l : Fin 128) : EReal := C.dy r l * (C.gt r l * sg C r l)
def dg (l : Fin 128) : EReal := ∑ r, dyg C r l * on C r l
def don (r l : Fin 128) : EReal := dyg C r l * C.g l

/-- The gradient of the chunk's output. -/
def dO (r l : Fin 128) : EReal := rs C r * (don C r l - Ideal.div (∑ l, don C r l) n128
  - on C r l * Ideal.div (∑ l, don C r l * on C r l) n128)

/-- The gradient of the decayed scores, decayed; of the queries, keys and values inside the chunk; of the state before. -/
def ds (r i : Fin 128) : EReal := (∑ l, dO C r l * C.v i l) * C.d r i
def dq (r j : Fin 128) : EReal := ∑ i, ds C r i * C.k i j + (∑ l, dO C r l * C.s j l) * C.x r j
def dkIn (i j : Fin 128) : EReal := ∑ r, ds C r i * C.q r j
def dvIn (i l : Fin 128) : EReal := ∑ r, sd C r i * dO C r l
def dS (j l : Fin 128) : EReal := ∑ r, qx C r j * dO C r l

/-- The parts that come from the gradient `G` of the state after the chunk, and that gradient one chunk earlier. -/
def dkX (i j : Fin 128) : EReal := ∑ l, C.v i l * C.z i l * G j l
def dvX (i l : Fin 128) : EReal := (∑ j, C.k i j * G j l) * C.z i l
def prev (j l : Fin 128) : EReal := dS C j l + C.e j l * G j l

end Cert.RetChunk

end
-- ==== Proof.RetEntries.lean ====
/-
  One step of the kernel over the extended reals, square by square.
-/
module

public import proofs.«01_k».proof.Proof.RetCols
public import proofs.«01_k».proof.Proof.RetChunk

@[expose] public section

set_option maxRecDepth 16384

noncomputable section

namespace Cert.RetIdeal.Hand

open Cert.RetIdeal Cert.RetIdeal.Gen Idealize.ShloMosaic Idealize.ShloMosaic.TcCoe Idealize.SL.Sem

variable (T : Tiles Ideal) (g : Vec Ideal S1x512 .f32) (s : Vec Ideal S4x128x128 .f32)

/-- The chunk and the head of a square. -/
abbrev ck (b : Fin 16) : Fin 4 := ⟨b.val / 4, by omega⟩
abbrev hd (b : Fin 16) : Fin 4 := ⟨b.val % 4, by omega⟩

/-- A square's data. -/
def chunk (b : Fin 16) : RetChunk.Chunk where
  q r c := T.q (ix2 (row b r) (col b c))
  k r c := T.k (ix2 (row b r) (col b c))
  v r c := T.v (ix2 (row b r) (col b c))
  d r c := T.dec (ix3 (hd b) r c)
  x r c := T.xi (ix3 (hd b) r c)
  z r c := T.zt (ix3 (hd b) r c)
  e r c := T.gc (ix3 (hd b) r c)
  s j l := T.rp (ix4 (ck b) (hd b) j l)
  gt r c := T.gt (ix2 (row b r) (col b c))
  dy r c := T.dy (ix2 (row b r) (col b c))
  g c := T.g (ix2 0 (col b c))

/-- Four stacks of four squares one after another. -/
theorem quad_at {α : Type} (f : Fin 4 → S4x128x128.Idx → α) (b : Fin 16) (r c : Fin 128) :
    concatenate S16x128x128 0 [⟨S4x128x128, f 0⟩, ⟨S4x128x128, f 1⟩, ⟨S4x128x128, f 2⟩, ⟨S4x128x128, f 3⟩]
      concatenates_S4x128x128_S4x128x128_S4x128x128_S4x128x128_S16x128x128_d0 (ix3 b r c) = f (ck b) (ix3 (hd b) r c) := by
  refine concatenate_ofFn_apply (t := S16x128x128) (s₁ := S4x128x128) 0 f
    concatenates_S4x128x128_S4x128x128_S4x128x128_S4x128x128_S16x128x128_d0 rfl 4 rfl (ix3 b r c) (ck b) rfl (ix3 (hd b) r c) rfl ?_
  intro d hd
  fin_cases d
  · exact absurd rfl hd
  · rfl
  · rfl

/-- … read through what each of the four is. -/
theorem quad_eq (f0 f1 f2 f3 : S4x128x128.Idx → EReal) (b : Fin 16) (r c : Fin 128) (P : Fin 4 → Fin 4 → EReal) (e0 : ∀ h, f0 (ix3 h r c) = P 0 h)
    (e1 : ∀ h, f1 (ix3 h r c) = P 1 h) (e2 : ∀ h, f2 (ix3 h r c) = P 2 h) (e3 : ∀ h, f3 (ix3 h r c) = P 3 h) :
    concatenate S16x128x128 0 [⟨S4x128x128, f0⟩, ⟨S4x128x128, f1⟩, ⟨S4x128x128, f2⟩, ⟨S4x128x128, f3⟩]
      concatenates_S4x128x128_S4x128x128_S4x128x128_S4x128x128_S16x128x128_d0 (ix3 b r c) = P (ck b) (hd b) := by
  refine (quad_at ![f0, f1, f2, f3] b r c).trans ?_
  have e : ∀ n h : Fin 4, (![f0, f1, f2, f3] : Fin 4 → S4x128x128.Idx → EReal) n (ix3 h r c) = P n h := by
    intro n h
    fin_cases n
    · exact e0 h
    · exact e1 h
    · exact e2 h
    · exact e3 h
  exact e _ _

theorem four_at {α : Type} (x : S4x128x128.Idx → α) (b : Fin 16) (r c : Fin 128) :
    concatenate S16x128x128 0 [⟨S4x128x128, x⟩, ⟨S4x128x128, x⟩, ⟨S4x128x128, x⟩, ⟨S4x128x128, x⟩]
      concatenates_S4x128x128_S4x128x128_S4x128x128_S4x128x128_S16x128x128_d0 (ix3 b r c) = x (ix3 (hd b) r c) :=
  quad_at (fun _ => x) b r c

theorem pay48_at (x : Vec Ideal S4x128x128 .f32) (b : Fin 16) (r c : Fin 128) : k0_pay48 x (ix3 b r c) = x (ix3 (hd b) r c) := by
  unfold k0_pay48; simp only [shapeCast_self]; exact four_at x b r c
theorem pay49_at (x : Vec Ideal S4x128x128 .f32) (b : Fin 16) (r c : Fin 128) : k0_pay49 x (ix3 b r c) = x (ix3 (hd b) r c) := by
  unfold k0_pay49; simp only [shapeCast_self]; exact four_at x b r c
theorem pay50_at (x : Vec Ideal S4x128x128 .f32) (b : Fin 16) (r c : Fin 128) : k0_pay50 x (ix3 b r c) = x (ix3 (hd b) r c) := by
  unfold k0_pay50; simp only [shapeCast_self]; exact four_at x b r c
theorem pay51_at (x : Vec Ideal S4x4x128x128 .bf16) (b : Fin 16) (r c : Fin 128) : k0_pay51 x (ix3 b r c) = x (ix4 (ck b) (hd b) r c) := by
  unfold k0_pay51; simp only [shapeCast_self]; pointwise []

theorem sd_at (b : Fin 16) (r i : Fin 128) : k0_pay52 (stack T.q) (stack T.k) T.dec (ix3 b r i) = RetChunk.sd (chunk T b) r i := by
  unfold k0_pay52; pointwise []; rw [pay48_at]; rfl
theorem qx_at (b : Fin 16) (r j : Fin 128) : k0_pay53 (stack T.q) T.xi (ix3 b r j) = RetChunk.qx (chunk T b) r j := by
  unfold k0_pay53; pointwise []; rw [pay49_at]; rfl
theorem oc_at (b : Fin 16) (r l : Fin 128) : cO T (ix3 b r l) = RetChunk.oc (chunk T b) r l := by
  unfold cO centred; pointwise []; simp only [sd_at, qx_at, pay51_at]; rfl
theorem rs_at (b : Fin 16) (r : Fin 128) (u : Fin 1) : rsO T (ix3 b r u) = RetChunk.rs (chunk T b) r := by
  unfold rsO sumSq k0_pay56; pointwise []; simp only [oc_at]; rfl
theorem on_at (b : Fin 16) (r l : Fin 128) : onO T (ix3 b r l) = RetChunk.on (chunk T b) r l := by
  unfold onO k0_pay57; pointwise []; rw [oc_at]
  exact congr_arg (_ * ·) (rs_at T b r _)
theorem sg_at (b : Fin 16) (r l : Fin 128) : sigm (gtS T) (ix3 b r l) = RetChunk.sg (chunk T b) r l := by
  unfold sigm gtS; pointwise [stack_at]; rfl
theorem dgt_at (b : Fin 16) (r l : Fin 128) : dgtT T (ix3 b r l) = RetChunk.dgt (chunk T b) r l := by
  unfold dgtT gateGrad; pointwise []; rw [on_at, sg_at]; rfl
theorem dyg_at (b : Fin 16) (r l : Fin 128) : dyg T (ix3 b r l) = RetChunk.dyg (chunk T b) r l := by
  unfold dyg k0_pay113; pointwise []; rw [sg_at]; rfl
theorem dO_at (b : Fin 16) (r l : Fin 128) : dO T (ix3 b r l) = RetChunk.dO (chunk T b) r l := by
  unfold dO k0_pay120; pointwise []; simp only [dyg_at, on_at, rs_at]; rfl
theorem ds_at (b : Fin 16) (r i : Fin 128) : k0_pay122 (k0_pay48 T.dec) (dS T) (ix3 b r i) = RetChunk.ds (chunk T b) r i := by
  unfold k0_pay122 dS k0_pay121; pointwise []; rw [pay48_at]
  refine congr_arg (· * _) (Finset.sum_congr rfl fun l _ => ?_)
  exact congr_arg (· * _) (dO_at T b r l)
theorem dq_at (b : Fin 16) (r j : Fin 128) :
    k0_pay123 (stack T.k) (k0_pay48 T.dec) (k0_pay49 T.xi) (k0_pay51 T.rp) (dO T) (dS T) (ix3 b r j) = RetChunk.dq (chunk T b) r j := by
  unfold k0_pay123; pointwise []; simp only [ds_at, dO_at, pay49_at, pay51_at]; rfl
theorem dkIn_at (b : Fin 16) (i j : Fin 128) : k0_pay124 (stack T.q) (k0_pay48 T.dec) (dS T) (ix3 b i j) = RetChunk.dkIn (chunk T b) i j := by
  unfold k0_pay124; pointwise []; simp only [ds_at]; rfl
theorem dvIn_at (b : Fin 16) (i l : Fin 128) : k0_pay125 (k0_pay52 (stack T.q) (stack T.k) T.dec) (dO T) (ix3 b i l) = RetChunk.dvIn (chunk T b) i l := by
  unfold k0_pay125; pointwise []; simp only [sd_at, dO_at]; rfl
theorem dS_at (b : Fin 16) (j l : Fin 128) : dR T (ix3 b j l) = RetChunk.dS (chunk T b) j l := by
  unfold dR k0_pay126; pointwise []; simp only [qx_at, dO_at]; rfl

/-- The square of a chunk and a head. -/
abbrev at4 (n h : Fin 4) : Fin 16 := ⟨4 * n.val + h.val, by omega⟩

/-- The gradient of the state after chunk `3 - n`: the one carried in, then each from the one after. -/
def back (h : Fin 4) : Fin 4 → Fin 128 → Fin 128 → EReal
  | 0 => fun j l => s (ix3 h j l)
  | 1 => RetChunk.prev (chunk T (at4 3 h)) fun j l => s (ix3 h j l)
  | 2 => RetChunk.prev (chunk T (at4 2 h)) (RetChunk.prev (chunk T (at4 3 h)) fun j l => s (ix3 h j l))
  | 3 => RetChunk.prev (chunk T (at4 1 h)) (RetChunk.prev (chunk T (at4 2 h)) (RetChunk.prev (chunk T (at4 3 h)) fun j l => s (ix3 h j l)))

/-- The gradient of the state after a square's chunk. -/
def after4 (b : Fin 16) : Fin 128 → Fin 128 → EReal := back T s (hd b) (ck b).rev

theorem gc_eq (x : Vec Ideal S4x128x128 .f32) : k0_pay128 x = x := by unfold k0_pay128; exact shapeCast_self _ _
theorem zt_eq (x : Vec Ideal S4x128x128 .f32) : k0_pay129 x = x := by unfold k0_pay129; exact shapeCast_self _ _

theorem slice_at {α : Type} (x : S16x128x128.Idx → α) (o : ℕ) (n : Fin 4) (ho : o = 4 * n.val) (hs) (h : Fin 4) (i j : Fin 128) :
    extractStridedSlice S4x128x128 ![o, 0, 0] x hs (ix3 h i j) = x (ix3 (at4 n h) i j) := by
  subst ho
  refine congr_arg x (funext fun d => Fin.ext ?_)
  fin_cases d
  · rfl
  · exact Nat.zero_add _
  · exact Nat.zero_add _

theorem add_at {s : Shape} (X Y : FVec Ideal s .f32) (i : s.Idx) : addf X Y i = X i + Y i := rfl
theorem mul_at {s : Shape} (X Y : FVec Ideal s .f32) (i : s.Idx) : mulf X Y i = X i * Y i := rfl

theorem hd_at4 (n h : Fin 4) : hd (at4 n h) = h := Fin.ext (by show (4 * n.val + h.val) % 4 = h.val; omega)
theorem e_at4 (n h : Fin 4) (j l : Fin 128) : T.gc (ix3 h j l) = (chunk T (at4 n h)).e j l := by
  show _ = T.gc (ix3 (hd (at4 n h)) j l); rw [hd_at4]
theorem z_at4 (n h : Fin 4) (j l : Fin 128) : T.zt (ix3 h j l) = (chunk T (at4 n h)).z j l := by
  show _ = T.zt (ix3 (hd (at4 n h)) j l); rw [hd_at4]

theorem gh2_at (h : Fin 4) (j l : Fin 128) : gh2 T s (ix3 h j l) = back T s h 1 j l := by
  unfold gh2 k0_pay133; rw [gc_eq]
  rw [add_at, mul_at, slice_at _ 12 3 rfl]
  change dR T _ + _ = _
  rw [dS_at, e_at4 T 3]; rfl
theorem gh1_at (h : Fin 4) (j l : Fin 128) : gh1 T s (ix3 h j l) = back T s h 2 j l := by
  unfold gh1 k0_pay137; rw [gc_eq]
  rw [add_at, mul_at, slice_at _ 8 2 rfl]
  change dR T _ + _ * gh2 T s _ = _
  rw [dS_at, gh2_at, e_at4 T 2]; rfl
theorem gh0_at (h : Fin 4) (j l : Fin 128) : k0_pay142 (dR T) T.gc (gh1 T s) (ix3 h j l) = back T s h 3 j l := by
  unfold k0_pay142
  rw [add_at, mul_at, slice_at _ 4 1 rfl]
  change dR T _ + _ = _
  rw [dS_at, gh1_at, e_at4 T 1]; rfl
theorem ghOut_at (h : Fin 4) (j l : Fin 128) : ghOut T s (ix3 h j l) = RetChunk.prev (chunk T (at4 0 h)) (back T s h 3) j l := by
  unfold ghOut k0_pay146; rw [gc_eq, shapeCast_self]
  rw [add_at, mul_at, slice_at _ 0 0 rfl]
  change dR T _ + _ = _
  rw [dS_at, gh0_at, e_at4 T 0]; rfl

/-- The half-turn of a row. -/
def turn (c : Fin 128) : Fin 128 := ⟨(c.val + 64) % 128, Nat.mod_lt _ (by norm_num)⟩

theorem unrope_at (x : FVec Ideal S16x128x128 .f32) (y z : Vec Ideal S512x128 .f32) (b : Fin 16) (r c : Fin 128) :
    unrope x (stackT y) (stackT z) (ix3 b r c) =
      x (ix3 b r c) * y (ix2 (row b r) c) + x (ix3 b r (turn c)) * z (ix2 (row b r) (turn c)) := by
  unfold unrope; pointwise []
  have e : (⟨(c.val + 128 - 64) % 128, Nat.mod_lt _ (by norm_num)⟩ : Fin 128) = turn c := Fin.ext (by show (c.val + 128 - 64) % 128 = (c.val + 64) % 128; omega)
  rw [e]; rfl

theorem dqT_at (b : Fin 16) (r c : Fin 128) : dqT T (ix3 b r c) =
    RetChunk.dq (chunk T b) r c * T.cs (ix2 (row b r) c) + RetChunk.dq (chunk T b) r (turn c) * T.sn (ix2 (row b r) (turn c)) := by
  unfold dqT; rw [unrope_at, dq_at, dq_at]

/-- The keys' gradient before the rotation is undone. -/
def dk (b : Fin 16) (i j : Fin 128) : EReal :=
  (RetChunk.dkIn (chunk T b) i j + RetChunk.dkX (chunk T b) (after4 T s b) i j) * Ideal.ofBits .f32 0x3DB504F3#32

theorem vz_at (b : Fin 16) (i l : Fin 128) : k0_pay127 (stack T.v) (k0_pay50 T.zt) (ix3 b i l) = (chunk T b).v i l * (chunk T b).z i l := by
  unfold k0_pay127; pointwise []; rw [pay50_at]; rfl

theorem kx3_at (h : Fin 4) (i j : Fin 128) : k0_pay131 (stack T.v) (k0_pay50 T.zt) s (ix3 h i j) =
    RetChunk.dkX (chunk T (at4 3 h)) (back T s h 0) i j := by
  unfold k0_pay131 k0_pay130; pointwise []
  have hb : ∀ p, (⟨12 + h.val, p⟩ : Fin 16) = at4 3 h := fun p => Fin.ext (by show 12 + h.val = 4 * 3 + h.val; omega)
  simp only [hb]
  exact Finset.sum_congr rfl fun l _ => congrArg (· * _) (vz_at T (at4 3 h) i l)
theorem kx2_at (h : Fin 4) (i j : Fin 128) : k0_pay135 (stack T.v) (k0_pay50 T.zt) (k0_pay53 (stack T.q) T.xi) (dO T) T.gc s (ix3 h i j) =
    RetChunk.dkX (chunk T (at4 2 h)) (back T s h 1) i j := by
  unfold k0_pay135 k0_pay134; pointwise []
  have hb : ∀ p, (⟨8 + h.val, p⟩ : Fin 16) = at4 2 h := fun p => Fin.ext (by show 8 + h.val = 4 * 2 + h.val; omega)
  simp only [hb]
  exact Finset.sum_congr rfl fun l _ => congrArg₂ (· * ·) (vz_at T (at4 2 h) i l) (gh2_at T s h j l)
theorem kx1_at (h : Fin 4) (i j : Fin 128) : k0_pay139 (stack T.v) (k0_pay50 T.zt) (k0_pay53 (stack T.q) T.xi) (dO T) T.gc s (ix3 h i j) =
    RetChunk.dkX (chunk T (at4 1 h)) (back T s h 2) i j := by
  unfold k0_pay139 k0_pay138; pointwise []
  have hb : ∀ p, (⟨4 + h.val, p⟩ : Fin 16) = at4 1 h := fun p => Fin.ext (by show 4 + h.val = 4 * 1 + h.val; omega)
  simp only [hb]
  exact Finset.sum_congr rfl fun l _ => congrArg₂ (· * ·) (vz_at T (at4 1 h) i l) (gh1_at T s h j l)
theorem kx0_at (h : Fin 4) (i j : Fin 128) : k0_pay144 (dR T) (k0_pay127 (stack T.v) (k0_pay50 T.zt)) T.gc (gh1 T s) (ix3 h i j) =
    RetChunk.dkX (chunk T (at4 0 h)) (back T s h 3) i j := by
  unfold k0_pay144 k0_pay143; pointwise []
  have hb : ∀ p, (⟨h.val, p⟩ : Fin 16) = at4 0 h := fun p => Fin.ext (by show h.val = 4 * 0 + h.val; omega)
  simp only [hb]
  exact Finset.sum_congr rfl fun l _ => congrArg₂ (· * ·) (vz_at T (at4 0 h) i l) (gh0_at T s h j l)

theorem sq_at4 (b : Fin 16) : at4 (ck b) (hd b) = b := Fin.ext (by show 4 * (b.val / 4) + b.val % 4 = b.val; omega)

theorem dkT_at (b : Fin 16) (r c : Fin 128) : dkT T s (ix3 b r c) =
    dk T s b r c * T.cs (ix2 (row b r) c) + dk T s b r (turn c) * T.sn (ix2 (row b r) (turn c)) := by
  have e : ∀ i j, mulf (addf (k0_pay124 (stack T.q) (k0_pay48 T.dec) (dS T)) (concatenate S16x128x128 0
      [⟨S4x128x128, k0_pay144 (dR T) (k0_pay127 (stack T.v) (k0_pay50 T.zt)) T.gc (gh1 T s)⟩,
       ⟨S4x128x128, k0_pay139 (stack T.v) (k0_pay50 T.zt) (k0_pay53 (stack T.q) T.xi) (dO T) T.gc s⟩,
       ⟨S4x128x128, k0_pay135 (stack T.v) (k0_pay50 T.zt) (k0_pay53 (stack T.q) T.xi) (dO T) T.gc s⟩,
       ⟨S4x128x128, k0_pay131 (stack T.v) (k0_pay50 T.zt) s⟩] concatenates_S4x128x128_S4x128x128_S4x128x128_S4x128x128_S16x128x128_d0))
      (broadcast S16x128x128 (Scalar.ofBits .f32 0x3DB504F3#32)) (ix3 b i j) = dk T s b i j := by
    intro i j
    refine congrArg (· * _) (congrArg₂ (· + ·) (dkIn_at T b i j) ?_)
    refine (quad_eq _ _ _ _ b i j (fun n h => RetChunk.dkX (chunk T (at4 n h)) (back T s h n.rev) i j) (fun h => kx0_at T s h i j)
      (fun h => kx1_at T s h i j) (fun h => kx2_at T s h i j) (fun h => kx3_at T s h i j)).trans ?_
    show RetChunk.dkX (chunk T (at4 (ck b) (hd b))) _ i j = _
    rw [sq_at4]; rfl
  rw [← e, ← e]
  unfold dkT; rw [gc_eq]
  exact unrope_at _ _ _ b r c

theorem vx3_at (h : Fin 4) (i l : Fin 128) : k0_pay132 (stack T.k) T.zt s (ix3 h i l) = RetChunk.dvX (chunk T (at4 3 h)) (back T s h 0) i l := by
  unfold k0_pay132 k0_pay130; rw [zt_eq]; pointwise []
  have hb : ∀ p, (⟨12 + h.val, p⟩ : Fin 16) = at4 3 h := fun p => Fin.ext (by show 12 + h.val = 4 * 3 + h.val; omega)
  simp only [hb]
  rw [z_at4 T 3]; rfl
theorem vx2_at (h : Fin 4) (i l : Fin 128) : k0_pay136 (stack T.k) (k0_pay53 (stack T.q) T.xi) (dO T) T.gc T.zt s (ix3 h i l) =
    RetChunk.dvX (chunk T (at4 2 h)) (back T s h 1) i l := by
  unfold k0_pay136 k0_pay134; rw [zt_eq]; pointwise []
  have hb : ∀ p, (⟨8 + h.val, p⟩ : Fin 16) = at4 2 h := fun p => Fin.ext (by show 8 + h.val = 4 * 2 + h.val; omega)
  simp only [hb]
  rw [z_at4 T 2]
  exact congrArg (· * _) (Finset.sum_congr rfl fun j _ => congrArg (_ * ·) (gh2_at T s h j l))
theorem vx1_at (h : Fin 4) (i l : Fin 128) : k0_pay141 T.zt (k0_pay140 (stack T.k) (k0_pay53 (stack T.q) T.xi) (dO T) T.gc s) (ix3 h i l) =
    RetChunk.dvX (chunk T (at4 1 h)) (back T s h 2) i l := by
  unfold k0_pay141 k0_pay140 k0_pay138; pointwise []
  have hb : ∀ p, (⟨4 + h.val, p⟩ : Fin 16) = at4 1 h := fun p => Fin.ext (by show 4 + h.val = 4 * 1 + h.val; omega)
  simp only [hb]
  rw [z_at4 T 1]
  exact congrArg (· * _) (Finset.sum_congr rfl fun j _ => congrArg (_ * ·) (gh1_at T s h j l))
theorem vx0_at (h : Fin 4) (i l : Fin 128) : k0_pay145 (stack T.k) (dR T) T.gc T.zt (gh1 T s) (ix3 h i l) =
    RetChunk.dvX (chunk T (at4 0 h)) (back T s h 3) i l := by
  unfold k0_pay145 k0_pay143; pointwise []
  have hb : ∀ p, (⟨h.val, p⟩ : Fin 16) = at4 0 h := fun p => Fin.ext (by show h.val = 4 * 0 + h.val; omega)
  simp only [hb]
  rw [z_at4 T 0]
  exact congrArg (· * _) (Finset.sum_congr rfl fun j _ => congrArg (_ * ·) (gh0_at T s h j l))

theorem dvT_at (b : Fin 16) (i l : Fin 128) : dvT T s (ix3 b i l) =
    RetChunk.dvIn (chunk T b) i l + RetChunk.dvX (chunk T b) (after4 T s b) i l := by
  unfold dvT k0_pay213; rw [gc_eq, zt_eq, add_at, dvIn_at]
  refine congrArg (fun z => RetChunk.dvIn (chunk T b) i l + z) ?_
  refine (quad_eq _ _ _ _ b i l (fun n h => RetChunk.dvX (chunk T (at4 n h)) (back T s h n.rev) i l) (fun h => vx0_at T s h i l)
    (fun h => vx1_at T s h i l) (fun h => vx2_at T s h i l) (fun h => vx3_at T s h i l)).trans ?_
  show RetChunk.dvX (chunk T (at4 (ck b) (hd b))) _ i l = _
  rw [sq_at4]; rfl

/-- The gain's gradient after a step: four chunks more. -/
theorem gain_at (h : Fin 4) (c : Fin 128) (j : Fin 512) (hj : j.val = 128 * h.val + c.val) :
    gainT T g (ix2 0 j) = g (ix2 0 j) + (RetChunk.dg (chunk T (at4 0 h)) c + RetChunk.dg (chunk T (at4 1 h)) c
      + RetChunk.dg (chunk T (at4 2 h)) c + RetChunk.dg (chunk T (at4 3 h)) c) := by
  have e : ∀ (b : Fin 16) (u : Fin 1), k0_pay114 (onO T) (gtS T) (sigm (gtS T)) (dyS T) (ix3 b u c) = RetChunk.dg (chunk T b) c := by
    intro b u
    unfold k0_pay114; pointwise []; simp only [on_at]
    exact Finset.sum_congr rfl fun r _ => congrArg (· * _) (dyg_at T b r c)
  have hg : ∀ n hn, j.val = n + c.val → sg g n hn (ix2 0 c) = g (ix2 0 j) := by
    intro n hn h
    refine congr_arg g (funext fun d => ?_)
    fin_cases d
    · rfl
    · exact Fin.ext (by show n + 1 * c.val = j.val; omega)
  unfold gainT; rw [cols_at _ h c _ hj]
  fin_cases h
  · show k0_pay115 _ _ _ _ _ (ix2 0 c) = _
    unfold k0_pay115; simp only [shapeCast_self]; pointwise []; rw [hg 0 _ hj, e, e, e, e]; rfl
  · show k0_pay116 _ _ _ _ _ (ix2 0 c) = _
    unfold k0_pay116; simp only [shapeCast_self]; pointwise []; rw [hg 128 _ hj, e, e, e, e]; rfl
  · show k0_pay118 _ _ _ (ix2 0 c) = _
    unfold k0_pay118 k0_pay117; simp only [shapeCast_self]; pointwise []; rw [hg 256 _ hj, e, e, e, e]; rfl
  · show k0_pay119 _ _ (ix2 0 c) = _
    unfold k0_pay119; simp only [shapeCast_self]; pointwise []; rw [hg 384 _ hj, e, e, e, e]; rfl

end Cert.RetIdeal.Hand

end
-- ==== Proof.RetStates.lean ====
/-
  The states before the 64 chunks, as the host computes them: each is the one before, decayed, plus what the chunk before adds.
-/
module

public import proofs.«01_k».proof.Proof.RetStack
public import Idealize.ShloMosaic.Lib.StableHlo.ReadAt

@[expose] public section

set_option maxRecDepth 16384

noncomputable section

namespace Cert.RetIdeal.Hand

open Cert.RetIdeal Cert.RetIdeal.Gen Idealize.ShloMosaic Idealize.ShloMosaic.TcCoe Idealize.SL.Sem
open Idealize.ShloMosaic.StableHlo (after upto after_unwritten after_last_write)

variable (W : Valuation τ sig (Elt Ideal))

/-- The arrays that the last stretch of host operations writes, in order. -/
def wr : List (Ref sig .tc) :=
  [main_cst_9, main_v52, main_v53, main_v54, main_v55, main_v56, main_v57, main_v58, main_v59, main_cst_10, main_v60, main_v61, main_v62, main_v63,
   main_v64, main_v65, main_v66, main_v67, main_cst_11, main_v68, main_v69, main_v70, main_v71, main_v72, main_v73, main_v74, main_v75, main_v76,
   main_v77, main_v78, main_v79, main_v80, main_v81, main_v82, main_v83, main_v84, main_v85, main_v86, main_v87, main_v88, main_v89, main_v90,
   main_v91, main_v92, main_v93, main_v94, main_v95, main_v96, main_v97, main_v98, main_v99, main_v100, main_v101, main_v102, main_cst_12, main_v103,
   main_v104, main_v105, main_v106, main_v107, main_v108, main_v109, main_v110, main_v111, main_v112, main_v113, main_v114, main_v115, main_v116,
   main_v117, main_cst_13, main_v118, main_v119, main_v120, main_v121, main_v122, main_v123, main_v124, main_v125, main_v126, main_v127, main_v128,
   main_v129, main_v130, main_v131, main_v132, main_v133, main_v134, main_v135, main_v136, main_v137, main_v138, main_v139, main_v140, main_v141,
   main_v142, main_v143, main_v144, main_v145, main_v146, main_v147, main_v148, main_v149, main_v150, main_v151, main_v152, main_v153, main_v154,
   main_v155, main_v156, main_v157, main_v158, main_v159, main_v160, main_v161, main_v162, main_v163, main_v164, main_v165, main_v166, main_v167,
   main_v168, main_v169, main_v170, main_v171, main_v172, main_v173, main_v174, main_v175, main_v176, main_v177, main_v178, main_v179, main_v180,
   main_v181, main_v182, main_v183, main_v184, main_v185, main_v186, main_v187, main_v188, main_v189, main_v190, main_v191, main_v192, main_v193,
   main_v194, main_v195, main_v196, main_v197, main_v198, main_v199, main_v200, main_v201, main_v202, main_v203, main_v204, main_v205, main_v206,
   main_v207, main_v208, main_v209, main_v210, main_v211, main_v212, main_v213, main_v214, main_v215, main_v216, main_v217, main_v218, main_v219,
   main_v220, main_v221, main_v222, main_v223, main_v224, main_v225, main_v226, main_v227, main_v228, main_v229, main_v230, main_v231, main_v232,
   main_v233, main_v234, main_v235, main_v236, main_v237, main_v238, main_v239, main_v240, main_v241, main_v242, main_v243, main_v244, main_v245,
   main_v246, main_v247, main_v248, main_v249, main_v250, main_v251, main_v252, main_v253, main_v254, main_v255, main_v256, main_v257, main_v258,
   main_v259, main_v260, main_v261, main_v262, main_v263, main_v264, main_v265, main_v266, main_v267, main_v268, main_v269, main_v270, main_v271,
   main_v272, main_v273, main_v274, main_v275, main_v276, main_v277, main_v278, main_v279, main_v280, main_v281, main_v282, main_v283, main_v284,
   main_v285, main_v286, main_v287, main_v288, main_v289, main_v290, main_v291, main_v292, main_v293, main_v294, main_v295, main_v296, main_v297,
   main_v298, main_v299, main_v300, main_v301, main_v302, main_v303, main_v304, main_v305, main_v306, main_v307, main_v308, main_v309, main_v310,
   main_v311, main_v312, main_v313, main_v314, main_v315, main_v316]

theorem wr_writes : (hostOps0_4 : List (HloOp τ sig (Elt Ideal))).map HloOp.writes = wr.map fun w => {Proc.devRef (τ := τ) .tc w} := rfl

theorem wr_idx : wr.map (fun r => r.idx.val) = List.range' 91 270 := rfl

/-- The arrays are written in the order of their numbers. -/
theorem fresh {n : ℕ} {r : Ref sig .tc} (h : r.idx.val < 91 + n) : r ∉ wr.drop n := by
  intro hm
  have h1 : r.idx.val ∈ (wr.map (fun r => r.idx.val)).drop n := by rw [← List.map_drop]; exact List.mem_map_of_mem hm
  rw [wr_idx, List.drop_range', List.mem_range'_1] at h1
  omega

/-- What that stretch leaves in an array. -/
@[irreducible] def A (r : Ref sig .tc) : r.ty.Contents (Elt Ideal) := after (hostOps0_4 (F := Ideal)) W (Proc.devRef .tc r)

theorem drop_writes (n : ℕ) : ((hostOps0_4 : List (HloOp τ sig (Elt Ideal))).drop n).map HloOp.writes =
    (wr.drop n).map fun w => {Proc.devRef (τ := τ) .tc w} := by
  rw [List.map_drop, List.map_drop, wr_writes]

/-- An array no operation from the `n`-th on writes holds before that operation what it holds at the end. -/
theorem upto_eq (n : ℕ) {r : Ref sig .tc} (h : r ∉ wr.drop n) : upto (hostOps0_4 (F := Ideal)) W n (Proc.devRef .tc r) = A W r := by
  unfold A
  have e := after_unwritten (wr.drop n) (drop_writes n) h (upto hostOps0_4 W n)
  refine e.symm.trans ?_
  show after (List.drop n hostOps0_4) (after (List.take n hostOps0_4) W) _ = _
  rw [← StableHlo.after_append, List.take_append_drop]

theorem last_op (n : ℕ) {op : HloOp τ sig (Elt Ideal)} {r : Ref sig .tc} (e : (hostOps0_4 (F := Ideal))[n]? = some op) (h : r ∉ wr.drop (n + 1)) :
    A W r = op.result (upto hostOps0_4 W n) (Proc.devRef .tc r) := by
  obtain ⟨hn, e⟩ := List.getElem?_eq_some_iff.mp e
  unfold A
  exact after_last_write (wr.drop (n + 1)) ((List.drop_eq_getElem_cons hn).trans (by rw [e])) (drop_writes (n + 1)) h W

theorem una (n : ℕ) {a y : Ref sig .tc} {f ha hy} (e : (hostOps0_4 (F := Ideal))[n]? = some (StableHlo.unary a y f ha hy))
    (h : y.idx.val < 91 + (n + 1)) (h1 : a.idx.val < 91 + n) : A W y = f (A W a) := by
  rw [last_op W n e (fresh h), StableHlo.unary_result', upto_eq W n (fresh h1)]

theorem bin (n : ℕ) {a b y : Ref sig .tc} {f ha hb hy} (e : (hostOps0_4 (F := Ideal))[n]? = some (StableHlo.binary a b y f ha hb hy))
    (h : y.idx.val < 91 + (n + 1)) (h1 : a.idx.val < 91 + n) (h2 : b.idx.val < 91 + n) : A W y = f (A W a) (A W b) := by
  rw [last_op W n e (fresh h), StableHlo.binary_result', upto_eq W n (fresh h1), upto_eq W n (fresh h2)]

theorem nry (n : ℕ) {k : ℕ} {xs : Fin k → Ref sig .tc} {y : Ref sig .tc} {f hx hy} (e : (hostOps0_4 (F := Ideal))[n]? = some (StableHlo.nary xs y f hx hy))
    (h : y.idx.val < 91 + (n + 1)) (h1 : ∀ i, (xs i).idx.val < 91 + n) : A W y = f fun i => A W (xs i) := by
  rw [last_op W n e (fresh h), StableHlo.nary_result']
  exact congrArg f (funext fun i => upto_eq W n (fresh (h1 i)))

theorem rsh (n : ℕ) {a y : Ref sig .tc} {he hn hx hy} (e : (hostOps0_4 (F := Ideal))[n]? = some (StableHlo.reshape a y he hn hx hy))
    (h : y.idx.val < 91 + (n + 1)) (h1 : a.idx.val < 91 + n) : A W y = fun i => he ▸ shapeCast y.ty.shape (A W a) hn i := by
  rw [last_op W n e (fresh h), StableHlo.reshape_result', upto_eq W n (fresh h1)]

/-- One step of the chain. -/
theorem step {n : ℕ} {S : S64x4x128x128.Idx → EReal} {g p y a s : S1x4x128x128.Idx → EReal}
    (h : S64x4x128x128.Slices ![n, 0, 0, 0] S1x4x128x128) (e1 : a = mulf (F := Ideal) (φ := .f32) g p)
    (e2 : s = extractStridedSlice S1x4x128x128 ![n, 0, 0, 0] S h) (e3 : y = addf (F := Ideal) (φ := .f32) a s) (hn : n < 64) (i : Fin 4) (j l : Fin 128) :
    y (ix4 0 i j l) = g (ix4 0 i j l) * p (ix4 0 i j l) + S (ix4 ⟨n, hn⟩ i j l) := by
  rw [e3, e1, e2]
  show g _ * p _ + _ = _
  refine congrArg (_ + ·) (congrArg S (funext fun d => ?_))
  fin_cases d
  · exact Fin.ext (by show n + 0 = n; omega)
  · exact Fin.ext (by show 0 + i.val = i.val; omega)
  · exact Fin.ext (by show 0 + j.val = j.val; omega)
  · exact Fin.ext (by show 0 + l.val = l.val; omega)

/-- The states: the first is zero, each further one is the one before, decayed, plus what the chunk before adds. -/
def Rr : ℕ → S1x4x128x128.Idx → EReal
  | 0 => A W main_v118
  | n + 1 => fun x => (show S1x4x128x128.Idx → EReal from A W main_v119) x * Rr n x
      + (show S64x4x128x128.Idx → EReal from A W main_v117) (ix4 ⟨n % 64, Nat.mod_lt _ (by norm_num)⟩ (x 1) (x 2) (x 3))

theorem unit_eq (i : S1x4x128x128.Idx) : i = ix4 0 ⟨(i 1).val, (i 1).isLt⟩ ⟨(i 2).val, (i 2).isLt⟩ ⟨(i 3).val, (i 3).isLt⟩ :=
  funext fun a => match a with
    | ⟨0, _⟩ => Fin.ext (by have := (i 0).isLt; show (i 0).val = 0; exact Nat.lt_one_iff.mp this) | ⟨1, _⟩ => rfl | ⟨2, _⟩ => rfl | ⟨3, _⟩ => rfl

/-- One step of the chain. -/
theorem next {n : ℕ} (h : S64x4x128x128.Slices ![n, 0, 0, 0] S1x4x128x128) {p y a s : S1x4x128x128.Idx → EReal}
    (e1 : a = mulf (F := Ideal) (φ := .f32) (A W main_v119) p)
    (e2 : s = extractStridedSlice S1x4x128x128 ![n, 0, 0, 0] (A W main_v117) h) (e3 : y = addf (F := Ideal) (φ := .f32) a s)
    (hn : n < 64) (hp : p = Rr W n) : y = Rr W (n + 1) := by
  funext x
  obtain ⟨i, j, l, rfl⟩ : ∃ i j l, x = ix4 0 i j l := ⟨_, _, _, unit_eq x⟩
  rw [step h e1 e2 e3 hn i j l, hp]
  exact congrArg (fun k : Fin 64 => (show S1x4x128x128.Idx → EReal from A W main_v119) (ix4 0 i j l) * Rr W n (ix4 0 i j l)
    + (show S64x4x128x128.Idx → EReal from A W main_v117) (ix4 k i j l)) (Fin.ext (Nat.mod_eq_of_lt hn).symm)

theorem r0 : A W main_v118 = Rr W 0 := rfl
theorem r1 : A W main_v122 = Rr W 1 :=
  next W _ (bin W 73 rfl (by decide) (by decide) (by decide)) (una W 74 rfl (by decide) (by decide)) (bin W 75 rfl (by decide) (by decide) (by decide)) (by decide) (r0 W)
theorem r2 : A W main_v125 = Rr W 2 :=
  next W _ (bin W 76 rfl (by decide) (by decide) (by decide)) (una W 77 rfl (by decide) (by decide)) (bin W 78 rfl (by decide) (by decide) (by decide)) (by decide) (r1 W)
theorem r3 : A W main_v128 = Rr W 3 :=
  next W _ (bin W 79 rfl (by decide) (by decide) (by decide)) (una W 80 rfl (by decide) (by decide)) (bin W 81 rfl (by decide) (by decide) (by decide)) (by decide) (r2 W)
theorem r4 : A W main_v131 = Rr W 4 :=
  next W _ (bin W 82 rfl (by decide) (by decide) (by decide)) (una W 83 rfl (by decide) (by decide)) (bin W 84 rfl (by decide) (by decide) (by decide)) (by decide) (r3 W)
theorem r5 : A W main_v134 = Rr W 5 :=
  next W _ (bin W 85 rfl (by decide) (by decide) (by decide)) (una W 86 rfl (by decide) (by decide)) (bin W 87 rfl (by decide) (by decide) (by decide)) (by decide) (r4 W)
theorem r6 : A W main_v137 = Rr W 6 :=
  next W _ (bin W 88 rfl (by decide) (by decide) (by decide)) (una W 89 rfl (by decide) (by decide)) (bin W 90 rfl (by decide) (by decide) (by decide)) (by decide) (r5 W)
theorem r7 : A W main_v140 = Rr W 7 :=
  next W _ (bin W 91 rfl (by decide) (by decide) (by decide)) (una W 92 rfl (by decide) (by decide)) (bin W 93 rfl (by decide) (by decide) (by decide)) (by decide) (r6 W)
theorem r8 : A W main_v143 = Rr W 8 :=
  next W _ (bin W 94 rfl (by decide) (by decide) (by decide)) (una W 95 rfl (by decide) (by decide)) (bin W 96 rfl (by decide) (by decide) (by decide)) (by decide) (r7 W)
theorem r9 : A W main_v146 = Rr W 9 :=
  next W _ (bin W 97 rfl (by decide) (by decide) (by decide)) (una W 98 rfl (by decide) (by decide)) (bin W 99 rfl (by decide) (by decide) (by decide)) (by decide) (r8 W)
theorem r10 : A W main_v149 = Rr W 10 :=
  next W _ (bin W 100 rfl (by decide) (by decide) (by decide)) (una W 101 rfl (by decide) (by decide)) (bin W 102 rfl (by decide) (by decide) (by decide)) (by decide) (r9 W)
theorem r11 : A W main_v152 = Rr W 11 :=
  next W _ (bin W 103 rfl (by decide) (by decide) (by decide)) (una W 104 rfl (by decide) (by decide)) (bin W 105 rfl (by decide) (by decide) (by decide)) (by decide) (r10 W)
theorem r12 : A W main_v155 = Rr W 12 :=
  next W _ (bin W 106 rfl (by decide) (by decide) (by decide)) (una W 107 rfl (by decide) (by decide)) (bin W 108 rfl (by decide) (by decide) (by decide)) (by decide) (r11 W)
theorem r13 : A W main_v158 = Rr W 13 :=
  next W _ (bin W 109 rfl (by decide) (by decide) (by decide)) (una W 110 rfl (by decide) (by decide)) (bin W 111 rfl (by decide) (by decide) (by decide)) (by decide) (r12 W)
theorem r14 : A W main_v161 = Rr W 14 :=
  next W _ (bin W 112 rfl (by decide) (by decide) (by decide)) (una W 113 rfl (by decide) (by decide)) (bin W 114 rfl (by decide) (by decide) (by decide)) (by decide) (r13 W)
theorem r15 : A W main_v164 = Rr W 15 :=
  next W _ (bin W 115 rfl (by decide) (by decide) (by decide)) (una W 116 rfl (by decide) (by decide)) (bin W 117 rfl (by decide) (by decide) (by decide)) (by decide) (r14 W)
theorem r16 : A W main_v167 = Rr W 16 :=
  next W _ (bin W 118 rfl (by decide) (by decide) (by decide)) (una W 119 rfl (by decide) (by decide)) (bin W 120 rfl (by decide) (by decide) (by decide)) (by decide) (r15 W)
theorem r17 : A W main_v170 = Rr W 17 :=
  next W _ (bin W 121 rfl (by decide) (by decide) (by decide)) (una W 122 rfl (by decide) (by decide)) (bin W 123 rfl (by decide) (by decide) (by decide)) (by decide) (r16 W)
theorem r18 : A W main_v173 = Rr W 18 :=
  next W _ (bin W 124 rfl (by decide) (by decide) (by decide)) (una W 125 rfl (by decide) (by decide)) (bin W 126 rfl (by decide) (by decide) (by decide)) (by decide) (r17 W)
theorem r19 : A W main_v176 = Rr W 19 :=
  next W _ (bin W 127 rfl (by decide) (by decide) (by decide)) (una W 128 rfl (by decide) (by decide)) (bin W 129 rfl (by decide) (by decide) (by decide)) (by decide) (r18 W)
theorem r20 : A W main_v179 = Rr W 20 :=
  next W _ (bin W 130 rfl (by decide) (by decide) (by decide)) (una W 131 rfl (by decide) (by decide)) (bin W 132 rfl (by decide) (by decide) (by decide)) (by decide) (r19 W)
theorem r21 : A W main_v182 = Rr W 21 :=
  next W _ (bin W 133 rfl (by decide) (by decide) (by decide)) (una W 134 rfl (by decide) (by decide)) (bin W 135 rfl (by decide) (by decide) (by decide)) (by decide) (r20 W)
theorem r22 : A W main_v185 = Rr W 22 :=
  next W _ (bin W 136 rfl (by decide) (by decide) (by decide)) (una W 137 rfl (by decide) (by decide)) (bin W 138 rfl (by decide) (by decide) (by decide)) (by decide) (r21 W)
theorem r23 : A W main_v188 = Rr W 23 :=
  next W _ (bin W 139 rfl (by decide) (by decide) (by decide)) (una W 140 rfl (by decide) (by decide)) (bin W 141 rfl (by decide) (by decide) (by decide)) (by decide) (r22 W)
theorem r24 : A W main_v191 = Rr W 24 :=
  next W _ (bin W 142 rfl (by decide) (by decide) (by decide)) (una W 143 rfl (by decide) (by decide)) (bin W 144 rfl (by decide) (by decide) (by decide)) (by decide) (r23 W)
theorem r25 : A W main_v194 = Rr W 25 :=
  next W _ (bin W 145 rfl (by decide) (by decide) (by decide)) (una W 146 rfl (by decide) (by decide)) (bin W 147 rfl (by decide) (by decide) (by decide)) (by decide) (r24 W)
theorem r26 : A W main_v197 = Rr W 26 :=
  next W _ (bin W 148 rfl (by decide) (by decide) (by decide)) (una W 149 rfl (by decide) (by decide)) (bin W 150 rfl (by decide) (by decide) (by decide)) (by decide) (r25 W)
theorem r27 : A W main_v200 = Rr W 27 :=
  next W _ (bin W 151 rfl (by decide) (by decide) (by decide)) (una W 152 rfl (by decide) (by decide)) (bin W 153 rfl (by decide) (by decide) (by decide)) (by decide) (r26 W)
theorem r28 : A W main_v203 = Rr W 28 :=
  next W _ (bin W 154 rfl (by decide) (by decide) (by decide)) (una W 155 rfl (by decide) (by decide)) (bin W 156 rfl (by decide) (by decide) (by decide)) (by decide) (r27 W)
theorem r29 : A W main_v206 = Rr W 29 :=
  next W _ (bin W 157 rfl (by decide) (by decide) (by decide)) (una W 158 rfl (by decide) (by decide)) (bin W 159 rfl (by decide) (by decide) (by decide)) (by decide) (r28 W)
theorem r30 : A W main_v209 = Rr W 30 :=
  next W _ (bin W 160 rfl (by decide) (by decide) (by decide)) (una W 161 rfl (by decide) (by decide)) (bin W 162 rfl (by decide) (by decide) (by decide)) (by decide) (r29 W)
theorem r31 : A W main_v212 = Rr W 31 :=
  next W _ (bin W 163 rfl (by decide) (by decide) (by decide)) (una W 164 rfl (by decide) (by decide)) (bin W 165 rfl (by decide) (by decide) (by decide)) (by decide) (r30 W)
theorem r32 : A W main_v215 = Rr W 32 :=
  next W _ (bin W 166 rfl (by decide) (by decide) (by decide)) (una W 167 rfl (by decide) (by decide)) (bin W 168 rfl (by decide) (by decide) (by decide)) (by decide) (r31 W)
theorem r33 : A W main_v218 = Rr W 33 :=
  next W _ (bin W 169 rfl (by decide) (by decide) (by decide)) (una W 170 rfl (by decide) (by decide)) (bin W 171 rfl (by decide) (by decide) (by decide)) (by decide) (r32 W)
theorem r34 : A W main_v221 = Rr W 34 :=
  next W _ (bin W 172 rfl (by decide) (by decide) (by decide)) (una W 173 rfl (by decide) (by decide)) (bin W 174 rfl (by decide) (by decide) (by decide)) (by decide) (r33 W)
theorem r35 : A W main_v224 = Rr W 35 :=
  next W _ (bin W 175 rfl (by decide) (by decide) (by decide)) (una W 176 rfl (by decide) (by decide)) (bin W 177 rfl (by decide) (by decide) (by decide)) (by decide) (r34 W)
theorem r36 : A W main_v227 = Rr W 36 :=
  next W _ (bin W 178 rfl (by decide) (by decide) (by decide)) (una W 179 rfl (by decide) (by decide)) (bin W 180 rfl (by decide) (by decide) (by decide)) (by decide) (r35 W)
theorem r37 : A W main_v230 = Rr W 37 :=
  next W _ (bin W 181 rfl (by decide) (by decide) (by decide)) (una W 182 rfl (by decide) (by decide)) (bin W 183 rfl (by decide) (by decide) (by decide)) (by decide) (r36 W)
theorem r38 : A W main_v233 = Rr W 38 :=
  next W _ (bin W 184 rfl (by decide) (by decide) (by decide)) (una W 185 rfl (by decide) (by decide)) (bin W 186 rfl (by decide) (by decide) (by decide)) (by decide) (r37 W)
theorem r39 : A W main_v236 = Rr W 39 :=
  next W _ (bin W 187 rfl (by decide) (by decide) (by decide)) (una W 188 rfl (by decide) (by decide)) (bin W 189 rfl (by decide) (by decide) (by decide)) (by decide) (r38 W)
theorem r40 : A W main_v239 = Rr W 40 :=
  next W _ (bin W 190 rfl (by decide) (by decide) (by decide)) (una W 191 rfl (by decide) (by decide)) (bin W 192 rfl (by decide) (by decide) (by decide)) (by decide) (r39 W)
theorem r41 : A W main_v242 = Rr W 41 :=
  next W _ (bin W 193 rfl (by decide) (by decide) (by decide)) (una W 194 rfl (by decide) (by decide)) (bin W 195 rfl (by decide) (by decide) (by decide)) (by decide) (r40 W)
theorem r42 : A W main_v245 = Rr W 42 :=
  next W _ (bin W 196 rfl (by decide) (by decide) (by decide)) (una W 197 rfl (by decide) (by decide)) (bin W 198 rfl (by decide) (by decide) (by decide)) (by decide) (r41 W)
theorem r43 : A W main_v248 = Rr W 43 :=
  next W _ (bin W 199 rfl (by decide) (by decide) (by decide)) (una W 200 rfl (by decide) (by decide)) (bin W 201 rfl (by decide) (by decide) (by decide)) (by decide) (r42 W)
theorem r44 : A W main_v251 = Rr W 44 :=
  next W _ (bin W 202 rfl (by decide) (by decide) (by decide)) (una W 203 rfl (by decide) (by decide)) (bin W 204 rfl (by decide) (by decide) (by decide)) (by decide) (r43 W)
theorem r45 : A W main_v254 = Rr W 45 :=
  next W _ (bin W 205 rfl (by decide) (by decide) (by decide)) (una W 206 rfl (by decide) (by decide)) (bin W 207 rfl (by decide) (by decide) (by decide)) (by decide) (r44 W)
theorem r46 : A W main_v257 = Rr W 46 :=
  next W _ (bin W 208 rfl (by decide) (by decide) (by decide)) (una W 209 rfl (by decide) (by decide)) (bin W 210 rfl (by decide) (by decide) (by decide)) (by decide) (r45 W)
theorem r47 : A W main_v260 = Rr W 47 :=
  next W _ (bin W 211 rfl (by decide) (by decide) (by decide)) (una W 212 rfl (by decide) (by decide)) (bin W 213 rfl (by decide) (by decide) (by decide)) (by decide) (r46 W)
theorem r48 : A W main_v263 = Rr W 48 :=
  next W _ (bin W 214 rfl (by decide) (by decide) (by decide)) (una W 215 rfl (by decide) (by decide)) (bin W 216 rfl (by decide) (by decide) (by decide)) (by decide) (r47 W)
theorem r49 : A W main_v266 = Rr W 49 :=
  next W _ (bin W 217 rfl (by decide) (by decide) (by decide)) (una W 218 rfl (by decide) (by decide)) (bin W 219 rfl (by decide) (by decide) (by decide)) (by decide) (r48 W)
theorem r50 : A W main_v269 = Rr W 50 :=
  next W _ (bin W 220 rfl (by decide) (by decide) (by decide)) (una W 221 rfl (by decide) (by decide)) (bin W 222 rfl (by decide) (by decide) (by decide)) (by decide) (r49 W)
theorem r51 : A W main_v272 = Rr W 51 :=
  next W _ (bin W 223 rfl (by decide) (by decide) (by decide)) (una W 224 rfl (by decide) (by decide)) (bin W 225 rfl (by decide) (by decide) (by decide)) (by decide) (r50 W)
theorem r52 : A W main_v275 = Rr W 52 :=
  next W _ (bin W 226 rfl (by decide) (by decide) (by decide)) (una W 227 rfl (by decide) (by decide)) (bin W 228 rfl (by decide) (by decide) (by decide)) (by decide) (r51 W)
theorem r53 : A W main_v278 = Rr W 53 :=
  next W _ (bin W 229 rfl (by decide) (by decide) (by decide)) (una W 230 rfl (by decide) (by decide)) (bin W 231 rfl (by decide) (by decide) (by decide)) (by decide) (r52 W)
theorem r54 : A W main_v281 = Rr W 54 :=
  next W _ (bin W 232 rfl (by decide) (by decide) (by decide)) (una W 233 rfl (by decide) (by decide)) (bin W 234 rfl (by decide) (by decide) (by decide)) (by decide) (r53 W)
theorem r55 : A W main_v284 = Rr W 55 :=
  next W _ (bin W 235 rfl (by decide) (by decide) (by decide)) (una W 236 rfl (by decide) (by decide)) (bin W 237 rfl (by decide) (by decide) (by decide)) (by decide) (r54 W)
theorem r56 : A W main_v287 = Rr W 56 :=
  next W _ (bin W 238 rfl (by decide) (by decide) (by decide)) (una W 239 rfl (by decide) (by decide)) (bin W 240 rfl (by decide) (by decide) (by decide)) (by decide) (r55 W)
theorem r57 : A W main_v290 = Rr W 57 :=
  next W _ (bin W 241 rfl (by decide) (by decide) (by decide)) (una W 242 rfl (by decide) (by decide)) (bin W 243 rfl (by decide) (by decide) (by decide)) (by decide) (r56 W)
theorem r58 : A W main_v293 = Rr W 58 :=
  next W _ (bin W 244 rfl (by decide) (by decide) (by decide)) (una W 245 rfl (by decide) (by decide)) (bin W 246 rfl (by decide) (by decide) (by decide)) (by decide) (r57 W)
theorem r59 : A W main_v296 = Rr W 59 :=
  next W _ (bin W 247 rfl (by decide) (by decide) (by decide)) (una W 248 rfl (by decide) (by decide)) (bin W 249 rfl (by decide) (by decide) (by decide)) (by decide) (r58 W)
theorem r60 : A W main_v299 = Rr W 60 :=
  next W _ (bin W 250 rfl (by decide) (by decide) (by decide)) (una W 251 rfl (by decide) (by decide)) (bin W 252 rfl (by decide) (by decide) (by decide)) (by decide) (r59 W)
theorem r61 : A W main_v302 = Rr W 61 :=
  next W _ (bin W 253 rfl (by decide) (by decide) (by decide)) (una W 254 rfl (by decide) (by decide)) (bin W 255 rfl (by decide) (by decide) (by decide)) (by decide) (r60 W)
theorem r62 : A W main_v305 = Rr W 62 :=
  next W _ (bin W 256 rfl (by decide) (by decide) (by decide)) (una W 257 rfl (by decide) (by decide)) (bin W 258 rfl (by decide) (by decide) (by decide)) (by decide) (r61 W)
theorem r63 : A W main_v308 = Rr W 63 :=
  next W _ (bin W 259 rfl (by decide) (by decide) (by decide)) (una W 260 rfl (by decide) (by decide)) (bin W 261 rfl (by decide) (by decide) (by decide)) (by decide) (r62 W)

end Cert.RetIdeal.Hand

end
-- ==== Proof.RetStored.lean ====
/-
  The stack of states the host stores.
-/
module

public import proofs.«01_k».proof.Proof.RetStates
public import Idealize.ShloMosaic.Lib.StableHlo.ReadAt

@[expose] public section

set_option maxRecDepth 16384

noncomputable section

namespace Cert.RetIdeal.Hand

open Cert.RetIdeal Cert.RetIdeal.Gen Idealize.ShloMosaic Idealize.ShloMosaic.TcCoe Idealize.SL.Sem
open Idealize.ShloMosaic.StableHlo (after upto after_unwritten after_last_write)

variable (W : Valuation τ sig (Elt Ideal))

theorem cat16 {α : Type} (x : Fin 16 → S1x4x128x128.Idx → α) (n : Fin 16) (h : Fin 4) (j l : Fin 128) :
    concatenate S16x4x128x128 0 [⟨S1x4x128x128, x 0⟩, ⟨S1x4x128x128, x 1⟩, ⟨S1x4x128x128, x 2⟩, ⟨S1x4x128x128, x 3⟩, ⟨S1x4x128x128, x 4⟩, ⟨S1x4x128x128, x 5⟩, ⟨S1x4x128x128, x 6⟩, ⟨S1x4x128x128, x 7⟩, ⟨S1x4x128x128, x 8⟩, ⟨S1x4x128x128, x 9⟩, ⟨S1x4x128x128, x 10⟩, ⟨S1x4x128x128, x 11⟩, ⟨S1x4x128x128, x 12⟩, ⟨S1x4x128x128, x 13⟩, ⟨S1x4x128x128, x 14⟩, ⟨S1x4x128x128, x 15⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 (ix4 n h j l) = x n (ix4 0 h j l) := by
  refine concatenate_ofFn_unit_apply (t := S16x4x128x128) (s₁ := S1x4x128x128) 0 x concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 rfl rfl (ix4 n h j l) n rfl (ix4 0 h j l) ?_
  intro d hd
  fin_cases d
  · exact absurd rfl hd
  · rfl
  · rfl
  · rfl

theorem cat64 {α : Type} (x : Fin 4 → S16x4x128x128.Idx → α) (n : Fin 64) (h : Fin 4) (j l : Fin 128) :
    concatenate S64x4x128x128 0 [⟨S16x4x128x128, x 0⟩, ⟨S16x4x128x128, x 1⟩, ⟨S16x4x128x128, x 2⟩, ⟨S16x4x128x128, x 3⟩] concatenates_S16x4x128x128_S16x4x128x128_S16x4x128x128_S16x4x128x128_S64x4x128x128_d0 (ix4 n h j l) = x ⟨n.val / 16, by omega⟩ (ix4 ⟨n.val % 16, Nat.mod_lt _ (by norm_num)⟩ h j l) := by
  refine concatenate_ofFn_apply (t := S64x4x128x128) (s₁ := S16x4x128x128) 0 x concatenates_S16x4x128x128_S16x4x128x128_S16x4x128x128_S16x4x128x128_S64x4x128x128_d0 rfl 16 rfl (ix4 n h j l) ⟨n.val / 16, by omega⟩ rfl _ rfl ?_
  intro d hd
  fin_cases d
  · exact absurd rfl hd
  · rfl
  · rfl
  · rfl

theorem cat_at {a : ℕ} {y : S16x4x128x128.Idx → EReal} (x : Fin 16 → S1x4x128x128.Idx → EReal)
    (e : y = concatenate S16x4x128x128 0 [⟨S1x4x128x128, x 0⟩, ⟨S1x4x128x128, x 1⟩, ⟨S1x4x128x128, x 2⟩, ⟨S1x4x128x128, x 3⟩, ⟨S1x4x128x128, x 4⟩, ⟨S1x4x128x128, x 5⟩, ⟨S1x4x128x128, x 6⟩, ⟨S1x4x128x128, x 7⟩, ⟨S1x4x128x128, x 8⟩, ⟨S1x4x128x128, x 9⟩, ⟨S1x4x128x128, x 10⟩, ⟨S1x4x128x128, x 11⟩, ⟨S1x4x128x128, x 12⟩, ⟨S1x4x128x128, x 13⟩, ⟨S1x4x128x128, x 14⟩, ⟨S1x4x128x128, x 15⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 )
    (hx : ∀ i : Fin 16, x i = Rr W (a + i.val)) (r : Fin 16) (h : Fin 4) (j l : Fin 128) : y (ix4 r h j l) = Rr W (a + r.val) (ix4 0 h j l) := by
  rw [e, cat16, hx]

set_option maxHeartbeats 4000000 in
theorem cat_0 (r : Fin 16) (h : Fin 4) (j l : Fin 128) : (A W main_v309 : S16x4x128x128.Idx → EReal) (ix4 r h j l) = Rr W (0 + r.val) (ix4 0 h j l) :=
  cat_at W (a := 0) ![A W main_v118, A W main_v122, A W main_v125, A W main_v128, A W main_v131, A W main_v134, A W main_v137, A W main_v140, A W main_v143, A W main_v146, A W main_v149, A W main_v152, A W main_v155, A W main_v158, A W main_v161, A W main_v164] (nry W 262 rfl (by decide) (by decide)) (by
    intro i; fin_cases i
    exacts [r0 W, r1 W, r2 W, r3 W, r4 W, r5 W, r6 W, r7 W, r8 W, r9 W, r10 W, r11 W, r12 W, r13 W, r14 W, r15 W])
  r h j l

set_option maxHeartbeats 4000000 in
theorem cat_1 (r : Fin 16) (h : Fin 4) (j l : Fin 128) : (A W main_v310 : S16x4x128x128.Idx → EReal) (ix4 r h j l) = Rr W (16 + r.val) (ix4 0 h j l) :=
  cat_at W (a := 16) ![A W main_v167, A W main_v170, A W main_v173, A W main_v176, A W main_v179, A W main_v182, A W main_v185, A W main_v188, A W main_v191, A W main_v194, A W main_v197, A W main_v200, A W main_v203, A W main_v206, A W main_v209, A W main_v212] (nry W 263 rfl (by decide) (by decide)) (by
    intro i; fin_cases i
    exacts [r16 W, r17 W, r18 W, r19 W, r20 W, r21 W, r22 W, r23 W, r24 W, r25 W, r26 W, r27 W, r28 W, r29 W, r30 W, r31 W])
  r h j l

set_option maxHeartbeats 4000000 in
theorem cat_2 (r : Fin 16) (h : Fin 4) (j l : Fin 128) : (A W main_v311 : S16x4x128x128.Idx → EReal) (ix4 r h j l) = Rr W (32 + r.val) (ix4 0 h j l) :=
  cat_at W (a := 32) ![A W main_v215, A W main_v218, A W main_v221, A W main_v224, A W main_v227, A W main_v230, A W main_v233, A W main_v236, A W main_v239, A W main_v242, A W main_v245, A W main_v248, A W main_v251, A W main_v254, A W main_v257, A W main_v260] (nry W 264 rfl (by decide) (by decide)) (by
    intro i; fin_cases i
    exacts [r32 W, r33 W, r34 W, r35 W, r36 W, r37 W, r38 W, r39 W, r40 W, r41 W, r42 W, r43 W, r44 W, r45 W, r46 W, r47 W])
  r h j l

set_option maxHeartbeats 4000000 in
theorem cat_3 (r : Fin 16) (h : Fin 4) (j l : Fin 128) : (A W main_v312 : S16x4x128x128.Idx → EReal) (ix4 r h j l) = Rr W (48 + r.val) (ix4 0 h j l) :=
  cat_at W (a := 48) ![A W main_v263, A W main_v266, A W main_v269, A W main_v272, A W main_v275, A W main_v278, A W main_v281, A W main_v284, A W main_v287, A W main_v290, A W main_v293, A W main_v296, A W main_v299, A W main_v302, A W main_v305, A W main_v308] (nry W 265 rfl (by decide) (by decide)) (by
    intro i; fin_cases i
    exacts [r48 W, r49 W, r50 W, r51 W, r52 W, r53 W, r54 W, r55 W, r56 W, r57 W, r58 W, r59 W, r60 W, r61 W, r62 W, r63 W])
  r h j l

theorem cat_at64 {y : S64x4x128x128.Idx → EReal} (x : Fin 4 → S16x4x128x128.Idx → EReal)
    (e : y = concatenate S64x4x128x128 0 [⟨S16x4x128x128, x 0⟩, ⟨S16x4x128x128, x 1⟩, ⟨S16x4x128x128, x 2⟩, ⟨S16x4x128x128, x 3⟩] concatenates_S16x4x128x128_S16x4x128x128_S16x4x128x128_S16x4x128x128_S64x4x128x128_d0 )
    (n : Fin 64) (h : Fin 4) (j l : Fin 128) : y (ix4 n h j l) = x ⟨n.val / 16, by omega⟩ (ix4 ⟨n.val % 16, Nat.mod_lt _ (by norm_num)⟩ h j l) := by
  rw [e, cat64]

set_option maxHeartbeats 4000000 in
/-- The stored states are these. -/
theorem stored (n : Fin 64) (h : Fin 4) (j l : Fin 128) : (show EReal from A W main_v315 (ix4 n h j l)) = Rr W n.val (ix4 0 h j l) := by
  have e : ∀ (a : Fin 4) (r : Fin 16), (![A W main_v309, A W main_v310, A W main_v311, A W main_v312] : Fin 4 → S16x4x128x128.Idx → EReal) a (ix4 r h j l)
      = Rr W (16 * a.val + r.val) (ix4 0 h j l) := fun a r => match a with
    | ⟨0, _⟩ => cat_0 W r h j l | ⟨1, _⟩ => cat_1 W r h j l | ⟨2, _⟩ => cat_2 W r h j l | ⟨3, _⟩ => cat_3 W r h j l
  rw [una W (a := main_v313) (y := main_v315) 268 rfl (by decide) (by decide)]
  show (A W main_v313 : S64x4x128x128.Idx → EReal) (ix4 n h j l) = _
  rw [cat_at64 ![A W main_v309, A W main_v310, A W main_v311, A W main_v312] (nry W 266 (y := main_v313) rfl (by decide) (by decide)) n h j l, e]
  exact congrArg (fun k => Rr W k (ix4 0 h j l)) (by show 16 * (n.val / 16) + n.val % 16 = n.val; omega)

end Cert.RetIdeal.Hand

end
-- ==== Proof.RetData.lean ====
/-
  The whole gradient of retention on 8192 tokens and four heads: the rotation of queries and keys, the decays, the states
  before the 64 chunks, the gradients of the states after them, and the six gradients.
-/
module

public import proofs.«01_k».proof.Proof.RetChunk

@[expose] public section

noncomputable section

namespace Cert.RetData

open Idealize.ShloMosaic Cert.RetChunk

/-- The arguments: queries, keys, values, gate, the output's gradient, the gains. -/
structure Args where
  q : Fin 8192 → Fin 4 → Fin 128 → EReal
  k : Fin 8192 → Fin 4 → Fin 128 → EReal
  v : Fin 8192 → Fin 4 → Fin 128 → EReal
  gt : Fin 8192 → Fin 4 → Fin 128 → EReal
  dy : Fin 8192 → Fin 4 → Fin 128 → EReal
  g : Fin 4 → Fin 128 → EReal

/-- A number written as a float. -/
def num (n : ℕ) : EReal := (FloatOps.sitofp .f32 (BitVec.ofNat 32 n) : Ideal .f32)

/-- The rotation's angles, cosines and signed sines. -/
def ang (p k : ℕ) : EReal := num p * Ideal.pow (Ideal.ofBits .f32 1176256512#32) (Ideal.div (-num k) (Ideal.ofBits .f32 1115684864#32))
def cs (p : Fin 8192) (j : Fin 128) : EReal := if j.val < 64 then Ideal.cos (ang p.val j.val) else Ideal.cos (ang p.val (j.val - 64))
def sn (p : Fin 8192) (j : Fin 128) : EReal := if j.val < 64 then -Ideal.sin (ang p.val j.val) else Ideal.sin (ang p.val (j.val - 64))

/-- The half-turn of a row. -/
def turn (c : Fin 128) : Fin 128 := ⟨(c.val + 64) % 128, Nat.mod_lt _ (by norm_num)⟩

/-- The rotation of a row, and its transpose. -/
def rope (x : Fin 128 → EReal) (p : Fin 8192) (j : Fin 128) : EReal := x j * cs p j + x (turn j) * sn p j
def unrope (x : Fin 128 → EReal) (p : Fin 8192) (j : Fin 128) : EReal := x j * cs p j + x (turn j) * sn p (turn j)

/-- The keys' scale. -/
abbrev scale : EReal := Ideal.ofBits .f32 1035273459#32

/-- Evenly spaced between log 1/32 and log 1/512; the logarithm of each head's decay. -/
def lin (h : Fin 4) : EReal :=
  if h.val < 3 then
    Ideal.ofBits .f32 3227373214#32 * (1 - Ideal.div (num h.val) (Ideal.ofBits .f32 1077936128#32))
      + Ideal.ofBits .f32 3234308187#32 * Ideal.div (num h.val) (Ideal.ofBits .f32 1077936128#32)
  else Ideal.ofBits .f32 3234308187#32
def lg (h : Fin 4) : EReal := Ideal.log (1 - Ideal.exp (lin h))

/-- The decay inside a chunk, from its start, to its end, and across it. -/
def dec (h : Fin 4) (r i : Fin 128) : EReal := if 0 ≤ num r.val - num i.val then Ideal.exp (max (num r.val - num i.val) 0 * lg h) else 0
def xi (h : Fin 4) (r : Fin 128) : EReal := Ideal.exp ((num r.val + 1) * lg h)
def zt (h : Fin 4) (r : Fin 128) : EReal := Ideal.exp ((Ideal.ofBits .f32 1123942400#32 - num r.val) * lg h)
def gc (h : Fin 4) : EReal := Ideal.exp (Ideal.ofBits .f32 1124073472#32 * lg h)

/-- A chunk's row. -/
def row (n : Fin 64) (r : Fin 128) : Fin 8192 := ⟨128 * n.val + r.val, by omega⟩

variable (a : Args)

/-- The rotated queries, the rotated and scaled keys. -/
def Q (p : Fin 8192) (h : Fin 4) (j : Fin 128) : EReal := rope (a.q p h) p j
def K (p : Fin 8192) (h : Fin 4) (j : Fin 128) : EReal := rope (a.k p h) p j * scale

/-- What a chunk adds to the state, and the state before chunk `n`. -/
def add (n : Fin 64) (h : Fin 4) (j l : Fin 128) : EReal := ∑ r, K a (row n r) h j * (a.v (row n r) h l * zt h r)
def R : ℕ → Fin 4 → Fin 128 → Fin 128 → EReal
  | 0 => fun _ _ _ => 0
  | n + 1 => fun h j l => gc h * R n h j l + add a ⟨n % 64, Nat.mod_lt _ (by norm_num)⟩ h j l

/-- A chunk's data. -/
def chunk (n : Fin 64) (h : Fin 4) : Chunk where
  q r j := Q a (row n r) h j
  k r j := K a (row n r) h j
  v r l := a.v (row n r) h l
  d := dec h
  x r _ := xi h r
  z r _ := zt h r
  e _ _ := gc h
  s := R a n.val h
  gt r l := a.gt (row n r) h l
  dy r l := a.dy (row n r) h l
  g := a.g h

/-- The gradient of the state after chunk `63 - n`. -/
def G : ℕ → Fin 4 → Fin 128 → Fin 128 → EReal
  | 0 => fun _ _ _ => 0
  | n + 1 => fun h => prev (chunk a ⟨63 - n, by omega⟩ h) (G n h)

/-- The gradients at row `r` of chunk `n`. -/
def dq (n : Fin 64) (h : Fin 4) (r j : Fin 128) : EReal := unrope (RetChunk.dq (chunk a n h) r) (row n r) j
def dk (n : Fin 64) (h : Fin 4) (r j : Fin 128) : EReal :=
  unrope (fun j => (dkIn (chunk a n h) r j + dkX (chunk a n h) (G a (63 - n.val) h) r j) * scale) (row n r) j
def dv (n : Fin 64) (h : Fin 4) (r l : Fin 128) : EReal := dvIn (chunk a n h) r l + dvX (chunk a n h) (G a (63 - n.val) h) r l
def dgain (h : Fin 4) (l : Fin 128) : EReal := ∑ n, dg (chunk a n h) l

end Cert.RetData

end
-- ==== Proof.RetHost.lean ====
/-
  What the host operations hand to the kernel.
-/
module

public import proofs.«01_k».proof.Proof.RetStack
public import proofs.«01_k».proof.Proof.RetData
public import Idealize.ShloMosaic.Lib.StableHlo.ReadAt

@[expose] public section

set_option maxRecDepth 16384

noncomputable section

namespace Cert.RetIdeal.Hand

open Cert.RetIdeal Cert.RetIdeal.Gen Idealize.ShloMosaic Idealize.ShloMosaic.TcCoe Idealize.SL.Sem

variable (m : (ℓ : Loc nD τ sig) → Buf (Elt Ideal) ℓ) (c : Dev nD)

/-- A column's number. -/
abbrev at128 (h : Fin 4) (j : Fin 128) : Fin 512 := ⟨128 * h.val + j.val, by omega⟩

/-- The argument arrays. -/
def args : RetData.Args where
  q p h j := m (c.tc.loc main_arg0) (ix3 0 p (at128 h j))
  k p h j := m (c.tc.loc main_arg1) (ix3 0 p (at128 h j))
  v p h j := m (c.tc.loc main_arg2) (ix3 0 p (at128 h j))
  gt p h j := m (c.tc.loc main_arg3) (ix3 0 p (at128 h j))
  g h j := m (c.tc.loc main_arg4) (ix2 0 (at128 h j))
  dy p h j := m (c.tc.loc main_arg5) (ix3 0 p (at128 h j))

theorem V_cs (p : Fin 8192) (j : Fin 128) : (show EReal from V m c main_v26 (ix2 p j)) = RetData.cs p j := by
  unfold V; after_reads_at; rfl
theorem V_sn (p : Fin 8192) (j : Fin 128) : (show EReal from V m c main_v28 (ix2 p j)) = RetData.sn p j := by
  unfold V; after_reads_at
  unfold RetData.sn
  by_cases h6 : j.val < 64
  · rw [dif_pos h6, if_pos h6]; rfl
  · rw [dif_neg h6, if_neg h6]; rfl

theorem V_29 (h : Fin 4) : (show EReal from V m c main_v29 (ix1 h)) = RetData.lin h := by
  unfold V; after_reads_at
  unfold RetData.lin
  by_cases h3 : h.val < 3
  · rw [dif_pos h3, if_pos h3]; after_reads_at; rfl
  · rw [dif_neg h3, if_neg h3]; after_reads_at; rfl

theorem V_dec (h : Fin 4) (r i : Fin 128) : (show EReal from V m c main_v51 (ix3 h r i)) = RetData.dec h r i := by
  have e := V_29 m c h
  revert e
  unfold V; after_reads_at; intro e
  rw [e]
  unfold RetData.dec RetData.lg
  congr 1
  exact Ideal.ofBits_zero .f32
theorem V_xi (h : Fin 4) (r i : Fin 128) : (show EReal from V m c main_v72 (ix3 h r i)) = RetData.xi h r := by
  have e := V_29 m c h
  revert e
  unfold V; after_reads_at; intro e
  rw [e]; rfl
theorem V_zt (h : Fin 4) (r i : Fin 128) : (show EReal from V m c main_v74 (ix3 h r i)) = RetData.zt h r := by
  have e := V_29 m c h
  revert e
  unfold V; after_reads_at; intro e
  rw [e]; rfl
theorem V_gc (h : Fin 4) (r i : Fin 128) : (show EReal from V m c main_v76 (ix3 h r i)) = RetData.gc h := by
  have e := V_29 m c h
  revert e
  unfold V; after_reads_at; intro e
  rw [e]; rfl

theorem V_v (p : Fin 8192) (h : Fin 4) (j : Fin 128) : (show EReal from V m c main_v108 (ix2 p (at128 h j))) = (args m c).v p h j := by
  unfold V; after_reads_at; rfl
theorem V_gt (p : Fin 8192) (h : Fin 4) (j : Fin 128) : (show EReal from V m c main_v314 (ix2 p (at128 h j))) = (args m c).gt p h j := by
  unfold V; after_reads_at; rfl
theorem V_dy (p : Fin 8192) (h : Fin 4) (j : Fin 128) : (show EReal from V m c main_v316 (ix2 p (at128 h j))) = (args m c).dy p h j := by
  unfold V; after_reads_at; rfl
theorem V_g (h : Fin 4) (j : Fin 128) : (show EReal from V m c main_arg4 (ix2 0 (at128 h j))) = (args m c).g h j := by
  unfold V; after_reads_at; rfl

theorem V_78 (p : Fin 8192) (h : Fin 4) (j : Fin 128) : (show EReal from V m c main_v78 (ix3 p h j)) = (args m c).q p h j := by
  unfold V; after_reads_at
  exact congrArg (fun i => m (c.tc.loc main_arg0) (ix3 0 p i)) (Fin.ext (by show h.val * 128 + j.val = 128 * h.val + j.val; omega))
theorem V_92 (p : Fin 8192) (h : Fin 4) (j : Fin 128) : (show EReal from V m c main_v92 (ix3 p h j)) = (args m c).k p h j := by
  unfold V; after_reads_at
  exact congrArg (fun i => m (c.tc.loc main_arg1) (ix3 0 p i)) (Fin.ext (by show h.val * 128 + j.val = 128 * h.val + j.val; omega))
theorem V_103 (p : Fin 8192) (h : Fin 4) (j : Fin 128) : (show EReal from V m c main_v103 (ix3 p h j)) = RetData.scale := by
  unfold V; after_reads_at
theorem V_118 (h : Fin 4) (j l : Fin 128) : (show EReal from V m c main_v118 (ix4 0 h j l)) = 0 := by
  unfold V; after_reads_at
theorem V_119 (h : Fin 4) (j l : Fin 128) : (show EReal from V m c main_v119 (ix4 0 h j l)) = RetData.gc h := by
  have e := V_gc m c h j l
  revert e
  unfold V; after_reads_at; exact id

end Cert.RetIdeal.Hand

end
-- ==== Proof.RetRot.lean ====
/-
  The rotated queries and keys the host hands to the kernel, and what each chunk adds to the state.
-/
module

public import proofs.«01_k».proof.Proof.RetStored
public import proofs.«01_k».proof.Proof.RetHost

@[expose] public section

set_option maxRecDepth 16384

noncomputable section

namespace Cert.RetIdeal.Hand

open Cert.RetIdeal Cert.RetIdeal.Gen Idealize.ShloMosaic Idealize.ShloMosaic.TcCoe Idealize.SL.Sem

variable (m : (ℓ : Loc nD τ sig) → Buf (Elt Ideal) ℓ) (c : Dev nD)

/-- The arrays before the last stretch of host operations. -/
def W0 : Valuation τ sig (Elt Ideal) := StableHlo.after (hostOps0 ++ (hostOps0_1 ++ (hostOps0_2 ++ hostOps0_3))) fun b => m (c, b)

theorem V_A (r : Ref sig .tc) : V m c r = A (W0 m c) r := by
  unfold V A W0
  rw [← StableHlo.after_append]
  rfl

theorem turn_cat (x : S8192x4x128.Idx → EReal) (p : Fin 8192) (h : Fin 4) (j : Fin 128) :
    concatenate S8192x4x128 2 [⟨S8192x4x64, extractStridedSlice S8192x4x64 ![0, 0, 64] x slices_S8192x4x128_S8192x4x64_0_0_64⟩,
      ⟨S8192x4x64, extractStridedSlice S8192x4x64 ![0, 0, 0] x slices_S8192x4x128_S8192x4x64_0_0_0⟩] concatenates_S8192x4x64_S8192x4x64_S8192x4x128_d2 (ix3 p h j)
      = x (ix3 p h (RetData.turn j)) := by
  pointwise []
  split_ifs with h6
  · exact congrArg (fun k => x (ix3 p h k)) (Fin.ext (by show 64 + j.val = (j.val + 64) % 128; omega))
  all_goals exact congrArg (fun k => x (ix3 p h k)) (Fin.ext (by show j.val - 64 = (j.val + 64) % 128; omega))

section
variable (W : Valuation τ sig (Elt Ideal))

theorem rot_q {c s : S8192x128.Idx → EReal} {x : S8192x4x128.Idx → EReal} (hc : A W main_v26 = c) (hs : A W main_v28 = s) (hx : A W main_v78 = x)
    (p : Fin 8192) (h : Fin 4) (j : Fin 128) {y : S8192x512.Idx → EReal} (hy : A W main_v90 = y) :
    y (ix2 p (at128 h j)) = x (ix3 p h j) * c (ix2 p j) + x (ix3 p h (RetData.turn j)) * s (ix2 p j) := by
  have e1 : (128 * h.val + j.val) % 128 = j.val := by omega
  have e2 : (128 * h.val + j.val) / 128 = h.val := by omega
  rw [← turn_cat x p h j, ← hy]
  rw [una W (y := main_v90) (a := main_v89) 41 rfl (by decide) (by decide), show A W main_v89 = (shapeCast S8192x512 (A W main_v88 : S8192x4x128.Idx → EReal) shapeCasts_S8192x4x128_S8192x512 : S8192x512.Idx → EReal) from rsh W (y := main_v89) (a := main_v88) 40 rfl (by decide) (by decide)]
  rw [bin W (y := main_v88) (a := main_v81) (b := main_v87) 39 rfl (by decide) (by decide) (by decide), bin W (y := main_v81) (a := main_v78) (b := main_v80) 32 rfl (by decide) (by decide) (by decide),
    una W (y := main_v80) (a := main_v79) 31 rfl (by decide) (by decide), una W (y := main_v79) (a := main_v26) 30 rfl (by decide) (by decide),
    bin W (y := main_v87) (a := main_v84) (b := main_v86) 38 rfl (by decide) (by decide) (by decide), una W (y := main_v86) (a := main_v85) 37 rfl (by decide) (by decide), una W (y := main_v85) (a := main_v28) 36 rfl (by decide) (by decide), bin W (y := main_v84) (a := main_v82) (b := main_v83) 35 rfl (by decide) (by decide) (by decide), una W (y := main_v82) (a := main_v78) 33 rfl (by decide) (by decide), una W (y := main_v83) (a := main_v78) 34 rfl (by decide) (by decide), hc, hs, hx]
  generalize concatenate S8192x4x128 2 _ _ = y
  pointwise []
  simp only [e1, e2]

theorem rot_k {c s : S8192x128.Idx → EReal} {x : S8192x4x128.Idx → EReal} (hc : A W main_v26 = c) (hs : A W main_v28 = s) (hx : A W main_v92 = x) {e : S8192x4x128.Idx → EReal} (he : A W main_v103 = e)
    (p : Fin 8192) (h : Fin 4) (j : Fin 128) {y : S8192x512.Idx → EReal} (hy : A W main_v106 = y) :
    y (ix2 p (at128 h j)) = (x (ix3 p h j) * c (ix2 p j) + x (ix3 p h (RetData.turn j)) * s (ix2 p j)) * e (ix3 p h j) := by
  have e1 : (128 * h.val + j.val) % 128 = j.val := by omega
  have e2 : (128 * h.val + j.val) / 128 = h.val := by omega
  rw [← turn_cat x p h j, ← hy]
  rw [una W (y := main_v106) (a := main_v105) 58 rfl (by decide) (by decide), show A W main_v105 = (shapeCast S8192x512 (A W main_v104 : S8192x4x128.Idx → EReal) shapeCasts_S8192x4x128_S8192x512 : S8192x512.Idx → EReal) from rsh W (y := main_v105) (a := main_v104) 57 rfl (by decide) (by decide)]
  rw [bin W (y := main_v104) (a := main_v102) (b := main_v103) 56 rfl (by decide) (by decide) (by decide), he]
  rw [bin W (y := main_v102) (a := main_v95) (b := main_v101) 53 rfl (by decide) (by decide) (by decide), bin W (y := main_v95) (a := main_v92) (b := main_v94) 46 rfl (by decide) (by decide) (by decide),
    una W (y := main_v94) (a := main_v93) 45 rfl (by decide) (by decide), una W (y := main_v93) (a := main_v26) 44 rfl (by decide) (by decide),
    bin W (y := main_v101) (a := main_v98) (b := main_v100) 52 rfl (by decide) (by decide) (by decide), una W (y := main_v100) (a := main_v99) 51 rfl (by decide) (by decide), una W (y := main_v99) (a := main_v28) 50 rfl (by decide) (by decide), bin W (y := main_v98) (a := main_v96) (b := main_v97) 49 rfl (by decide) (by decide) (by decide), una W (y := main_v96) (a := main_v92) 47 rfl (by decide) (by decide), una W (y := main_v97) (a := main_v92) 48 rfl (by decide) (by decide), hc, hs, hx]
  generalize concatenate S8192x4x128 2 _ _ = y
  pointwise []
  simp only [e1, e2]

theorem sum_add {k v : S8192x512.Idx → EReal} {z : S4x128x128.Idx → EReal} (hk : A W main_v106 = k) (hv : A W main_v108 = v) (hz : A W main_v74 = z)
    (n : Fin 64) (h : Fin 4) (j l : Fin 128) {y : S64x4x128x128.Idx → EReal} (hy : A W main_v117 = y) :
    y (ix4 n h j l) = ∑ r : Fin 128, k (ix2 (RetData.row n r) (at128 h j)) * (v (ix2 (RetData.row n r) (at128 h l)) * z (ix3 h r l)) := by
  rw [← hy]
  rw [bin W (y := main_v117) (a := main_v110) (b := main_v116) 69 rfl (by decide) (by decide) (by decide), show A W main_v110 = (shapeCast S64x128x4x128 (A W main_v109 : S8192x512.Idx → EReal) shapeCasts_S8192x512_S64x128x4x128 : S64x128x4x128.Idx → EReal) from rsh W (y := main_v110) (a := main_v109) 62 rfl (by decide) (by decide), una W (y := main_v109) (a := main_v106) 61 rfl (by decide) (by decide), bin W (y := main_v116) (a := main_v112) (b := main_v115) 68 rfl (by decide) (by decide) (by decide),
    show A W main_v112 = (shapeCast S64x128x4x128 (A W main_v111 : S8192x512.Idx → EReal) shapeCasts_S8192x512_S64x128x4x128 : S64x128x4x128.Idx → EReal) from rsh W (y := main_v112) (a := main_v111) 64 rfl (by decide) (by decide), una W (y := main_v111) (a := main_v108) 63 rfl (by decide) (by decide), una W (y := main_v115) (a := main_v114) 67 rfl (by decide) (by decide), una W (y := main_v114) (a := main_v113) 66 rfl (by decide) (by decide), una W (y := main_v113) (a := main_v74) 65 rfl (by decide) (by decide), hk, hv, hz]
  pointwise []
  refine Finset.sum_congr rfl fun r _ => ?_
  rw [show (⟨n.val * 128 + r.val, by omega⟩ : Fin 8192) = RetData.row n r from Fin.ext (by show n.val * 128 + r.val = 128 * n.val + r.val; omega),
    show (⟨h.val * 128 + j.val, by omega⟩ : Fin 512) = at128 h j from Fin.ext (by show h.val * 128 + j.val = 128 * h.val + j.val; omega),
    show (⟨h.val * 128 + l.val, by omega⟩ : Fin 512) = at128 h l from Fin.ext (by show h.val * 128 + l.val = 128 * h.val + l.val; omega)]

end

theorem V_q (p : Fin 8192) (h : Fin 4) (j : Fin 128) : (show EReal from V m c main_v90 (ix2 p (at128 h j))) = RetData.Q (args m c) p h j := by
  refine (rot_q (W0 m c) (V_A m c main_v26).symm (V_A m c main_v28).symm (V_A m c main_v78).symm p h j (V_A m c main_v90).symm).trans ?_
  have e1 := V_78 m c p h j
  have e2 := V_78 m c p h (RetData.turn j)
  have e3 := V_cs m c p j
  have e4 := V_sn m c p j
  unfold RetData.Q RetData.rope
  rw [← e1, ← e2, ← e3, ← e4]

theorem V_k (p : Fin 8192) (h : Fin 4) (j : Fin 128) : (show EReal from V m c main_v106 (ix2 p (at128 h j))) = RetData.K (args m c) p h j := by
  refine (rot_k (W0 m c) (V_A m c main_v26).symm (V_A m c main_v28).symm (V_A m c main_v92).symm (V_A m c main_v103).symm p h j (V_A m c main_v106).symm).trans ?_
  have e1 := V_92 m c p h j
  have e2 := V_92 m c p h (RetData.turn j)
  have e3 := V_cs m c p j
  have e4 := V_sn m c p j
  have e5 := V_103 m c p h j
  unfold RetData.K RetData.rope
  rw [← e1, ← e2, ← e3, ← e4, ← e5]

theorem V_add (n : Fin 64) (h : Fin 4) (j l : Fin 128) : (show EReal from V m c main_v117 (ix4 n h j l)) = RetData.add (args m c) n h j l := by
  refine (sum_add (W0 m c) (V_A m c main_v106).symm (V_A m c main_v108).symm (V_A m c main_v74).symm n h j l (V_A m c main_v117).symm).trans ?_
  unfold RetData.add
  refine Finset.sum_congr rfl fun r _ => ?_
  have e1 := V_k m c (RetData.row n r) h j
  have e2 := V_v m c (RetData.row n r) h l
  have e3 := V_zt m c h r l
  rw [← e1, ← e2, ← e3]

/-- The stored states. -/
theorem states (n : ℕ) (h : Fin 4) (j l : Fin 128) : Rr (W0 m c) n (ix4 0 h j l) = RetData.R (args m c) n h j l := by
  induction n with
  | zero =>
    have e := V_118 m c h j l
    rw [V_A] at e
    exact e
  | succ n ih =>
    have e1 := V_119 m c h j l
    have e2 := V_add m c ⟨n % 64, Nat.mod_lt _ (by norm_num)⟩ h j l
    rw [V_A] at e1 e2
    show _ = RetData.gc h * RetData.R (args m c) n h j l + RetData.add (args m c) ⟨n % 64, Nat.mod_lt _ (by norm_num)⟩ h j l
    rw [← e1, ← e2, ← ih]
    rfl

theorem V_R (n : Fin 64) (h : Fin 4) (j l : Fin 128) : (show EReal from V m c main_v315 (ix4 n h j l)) = RetData.R (args m c) n.val h j l := by
  rw [V_A]
  exact (stored (W0 m c) n h j l).trans (states m c n.val h j l)

end Cert.RetIdeal.Hand

end
-- ==== Proof.Blocks.lean ====
/-
  Positions and totals of arrays cut into equal blocks of rows: where a block's row lies in the array, which block a row
  lies in, and that the blocks' parts of a sum over all rows add up to it.
-/
module

public import proofs.«01_k».proof.Proof.Reals

@[expose] public section

noncomputable section

namespace Cert.Blocks

/-- Row `r` of block `t` of `n` rows. -/
theorem at_row {i t : Nat} (n r : Nat) (h : i = t) : i * n + 1 * r = n * t + r := by subst h; rw [one_mul, Nat.mul_comm]

/-- A row of the only block. -/
theorem at_zero {i : Nat} (n r : Nat) (h : i = 0) : i * n + 1 * r = r := by subst h; rw [one_mul, Nat.zero_mul, Nat.zero_add]

/-- A row lies in its block. -/
theorem in_row {i p : Nat} (n : Nat) (hn : 0 < n) (h : i = p / n) : i * n ≤ p ∧ p < i * n + n := by
  subst h
  have h1 := Nat.div_add_mod p n
  have h2 := Nat.mod_lt p hn
  rw [Nat.mul_comm] at h1
  omega

/-- Every row lies in the only block. -/
theorem in_zero {i p n : Nat} (h : i = 0) (hp : p < n) : i * n ≤ p ∧ p < i * n + n := by
  subst h; rw [Nat.zero_mul, Nat.zero_add]; exact ⟨Nat.zero_le _, hp⟩

/-- The part of a sum over `N` rows that block `t` of `K` rows adds. -/
def part (K N : Nat) (f : Fin N → EReal) (t : Nat) : EReal := ∑ r : Fin K, if h : K * t + r.val < N then f ⟨K * t + r.val, h⟩ else 0

theorem part_eq {K N : Nat} (f : Fin N → EReal) (t : Nat) (row : Fin K → Fin N) (h : ∀ r, (row r).val = K * t + r.val) :
    ∑ r, f (row r) = part K N f t :=
  Finset.sum_congr rfl fun r _ => by rw [dif_pos ((h r) ▸ (row r).isLt)]; exact congrArg f (Fin.ext (h r))

theorem total_part (T K N : Nat) (hN : T * K = N) (f : Fin N → EReal) : ∑ t : Fin T, part K N f t.val = ∑ p, f p := by
  unfold part
  rw [← Reals.sum_blocks T K N hN fun p => if h : p < N then f ⟨p, h⟩ else 0]
  exact Finset.sum_congr rfl fun p _ => by rw [dif_pos p.isLt]

end Cert.Blocks

end
-- ==== Proof.RetArrays.lean ====
/-
  What the retention's gradient call leaves in its five result arrays, entry by entry: a step's tiles hold four chunks of the
  four heads, the scratch carries the gradient of the state from step to step, the gain's gradient is a running total.
-/
module

public import proofs.«01_k».proof.Proof.RetBlockA
public import proofs.«01_k».proof.Proof.RetBlockB
public import proofs.«01_k».proof.Proof.RetEntries
public import proofs.«01_k».proof.Proof.RetRot
public import proofs.«01_k».proof.Proof.Blocks

@[expose] public section

set_option maxRecDepth 16384

noncomputable section

namespace Cert.RetIdeal.Hand

open Cert.Reals Cert.Blocks Cert.RetIdeal Cert.RetIdeal.Gen Idealize.ShloMosaic Idealize.ShloMosaic.TcCoe Idealize.SL.Sem
open Idealize.ShloMosaic.Pipeline (Dat)

attribute [local irreducible] StableHlo.after outsAt0

variable (m : (ℓ : Loc nD τ sig) → Buf (Elt Ideal) ℓ) (c : Dev nD)

/-- A step's tiles. -/
def tile (t : Fin cfg0.N) : Tiles Ideal where
  q := iblk m c 0 t
  k := iblk m c 1 t
  v := iblk m c 2 t
  gt := iblk m c 3 t
  g := iblk m c 4 t
  dec := iblk m c 5 t
  xi := iblk m c 6 t
  zt := iblk m c 7 t
  gc := iblk m c 8 t
  rp := iblk m c 9 t
  dy := iblk m c 10 t
  cs := iblk m c 11 t
  sn := iblk m c 12 t

theorem lt16 (t : Fin cfg0.N) : t.val < 16 := by have h := t.isLt; have hN : cfg0.N = 16 := N_0; omega

/-- Row `r` of a step's block, and the number of a step's chunk. -/
def grow (t : Fin cfg0.N) (r : Fin 512) : Fin 8192 := ⟨512 * (15 - t.val) + r.val, by omega⟩
def chk (t : Fin cfg0.N) (n : Fin 4) : Fin 64 := ⟨4 * (15 - t.val) + n.val, by omega⟩

theorem idx_0 : ∀ t : Fin grid0.N, win0_0.index t 0 = 15 - t.val ∧ win0_0.index t 1 = 0 := by decide +kernel
theorem idx_1 : ∀ t : Fin grid0.N, win0_1.index t 0 = 15 - t.val ∧ win0_1.index t 1 = 0 := by decide +kernel
theorem idx_2 : ∀ t : Fin grid0.N, win0_2.index t 0 = 15 - t.val ∧ win0_2.index t 1 = 0 := by decide +kernel
theorem idx_3 : ∀ t : Fin grid0.N, win0_3.index t 0 = 15 - t.val ∧ win0_3.index t 1 = 0 := by decide +kernel
theorem idx_4 : ∀ t : Fin grid0.N, win0_4.index t 0 = 0 ∧ win0_4.index t 1 = 0 := by decide +kernel
theorem idx_5 : ∀ t : Fin grid0.N, win0_5.index t 0 = 0 ∧ win0_5.index t 1 = 0 ∧ win0_5.index t 2 = 0 := by decide +kernel
theorem idx_6 : ∀ t : Fin grid0.N, win0_6.index t 0 = 0 ∧ win0_6.index t 1 = 0 ∧ win0_6.index t 2 = 0 := by decide +kernel
theorem idx_7 : ∀ t : Fin grid0.N, win0_7.index t 0 = 0 ∧ win0_7.index t 1 = 0 ∧ win0_7.index t 2 = 0 := by decide +kernel
theorem idx_8 : ∀ t : Fin grid0.N, win0_8.index t 0 = 0 ∧ win0_8.index t 1 = 0 ∧ win0_8.index t 2 = 0 := by decide +kernel
theorem idx_9 : ∀ t : Fin grid0.N, win0_9.index t 0 = 15 - t.val ∧ win0_9.index t 1 = 0 ∧ win0_9.index t 2 = 0 ∧ win0_9.index t 3 = 0 := by decide +kernel
theorem idx_10 : ∀ t : Fin grid0.N, win0_10.index t 0 = 15 - t.val ∧ win0_10.index t 1 = 0 := by decide +kernel
theorem idx_11 : ∀ t : Fin grid0.N, win0_11.index t 0 = 15 - t.val ∧ win0_11.index t 1 = 0 := by decide +kernel
theorem idx_12 : ∀ t : Fin grid0.N, win0_12.index t 0 = 15 - t.val ∧ win0_12.index t 1 = 0 := by decide +kernel
theorem idx_13 : ∀ t : Fin grid0.N, win0_13.index t 0 = 15 - t.val ∧ win0_13.index t 1 = 0 := by decide +kernel
theorem idx_14 : ∀ t : Fin grid0.N, win0_14.index t 0 = 15 - t.val ∧ win0_14.index t 1 = 0 := by decide +kernel
theorem idx_15 : ∀ t : Fin grid0.N, win0_15.index t 0 = 15 - t.val ∧ win0_15.index t 1 = 0 := by decide +kernel
theorem idx_16 : ∀ t : Fin grid0.N, win0_16.index t 0 = 15 - t.val ∧ win0_16.index t 1 = 0 := by decide +kernel
theorem idx_17 : ∀ t : Fin grid0.N, win0_17.index t 0 = 0 ∧ win0_17.index t 1 = 0 := by decide +kernel

theorem blk_q (t : Fin cfg0.N) (r : Fin 512) (k : Fin 512) : (tile m c t).q (ix2 r k) = V m c main_v90 (ix2 (grow t r) k) := by
  show iblk m c 0 t (ix2 r k) = _
  unfold iblk; rw [View.read_apply]
  exact congrArg (V m c main_v90) (funext fun a => Fin.ext (match a with
    | ⟨0, _⟩ => at_row 512 r.val (idx_0 t).1
    | ⟨1, _⟩ => at_zero 512 k.val (idx_0 t).2))

theorem blk_k (t : Fin cfg0.N) (r : Fin 512) (k : Fin 512) : (tile m c t).k (ix2 r k) = V m c main_v106 (ix2 (grow t r) k) := by
  show iblk m c 1 t (ix2 r k) = _
  unfold iblk; rw [View.read_apply]
  exact congrArg (V m c main_v106) (funext fun a => Fin.ext (match a with
    | ⟨0, _⟩ => at_row 512 r.val (idx_1 t).1
    | ⟨1, _⟩ => at_zero 512 k.val (idx_1 t).2))

theorem blk_v (t : Fin cfg0.N) (r : Fin 512) (k : Fin 512) : (tile m c t).v (ix2 r k) = V m c main_v108 (ix2 (grow t r) k) := by
  show iblk m c 2 t (ix2 r k) = _
  unfold iblk; rw [View.read_apply]
  exact congrArg (V m c main_v108) (funext fun a => Fin.ext (match a with
    | ⟨0, _⟩ => at_row 512 r.val (idx_2 t).1
    | ⟨1, _⟩ => at_zero 512 k.val (idx_2 t).2))

theorem blk_gt (t : Fin cfg0.N) (r : Fin 512) (k : Fin 512) : (tile m c t).gt (ix2 r k) = V m c main_v314 (ix2 (grow t r) k) := by
  show iblk m c 3 t (ix2 r k) = _
  unfold iblk; rw [View.read_apply]
  exact congrArg (V m c main_v314) (funext fun a => Fin.ext (match a with
    | ⟨0, _⟩ => at_row 512 r.val (idx_3 t).1
    | ⟨1, _⟩ => at_zero 512 k.val (idx_3 t).2))

theorem blk_g (t : Fin cfg0.N) (k : Fin 512) : (tile m c t).g (ix2 0 k) = V m c main_arg4 (ix2 0 k) := by
  show iblk m c 4 t (ix2 0 k) = _
  unfold iblk; rw [View.read_apply]
  exact congrArg (V m c main_arg4) (funext fun a => Fin.ext (match a with
    | ⟨0, _⟩ => at_zero 1 0 (idx_4 t).1
    | ⟨1, _⟩ => at_zero 512 k.val (idx_4 t).2))

theorem blk_dec (t : Fin cfg0.N) (h : Fin 4) (r i : Fin 128) : (tile m c t).dec (ix3 h r i) = V m c main_v51 (ix3 h r i) := by
  show iblk m c 5 t (ix3 h r i) = _
  unfold iblk; rw [View.read_apply]
  exact congrArg (V m c main_v51) (funext fun a => Fin.ext (match a with
    | ⟨0, _⟩ => at_zero 4 h.val (idx_5 t).1
    | ⟨1, _⟩ => at_zero 128 r.val (idx_5 t).2.1
    | ⟨2, _⟩ => at_zero 128 i.val (idx_5 t).2.2))

theorem blk_xi (t : Fin cfg0.N) (h : Fin 4) (r i : Fin 128) : (tile m c t).xi (ix3 h r i) = V m c main_v72 (ix3 h r i) := by
  show iblk m c 6 t (ix3 h r i) = _
  unfold iblk; rw [View.read_apply]
  exact congrArg (V m c main_v72) (funext fun a => Fin.ext (match a with
    | ⟨0, _⟩ => at_zero 4 h.val (idx_6 t).1
    | ⟨1, _⟩ => at_zero 128 r.val (idx_6 t).2.1
    | ⟨2, _⟩ => at_zero 128 i.val (idx_6 t).2.2))

theorem blk_zt (t : Fin cfg0.N) (h : Fin 4) (r i : Fin 128) : (tile m c t).zt (ix3 h r i) = V m c main_v74 (ix3 h r i) := by
  show iblk m c 7 t (ix3 h r i) = _
  unfold iblk; rw [View.read_apply]
  exact congrArg (V m c main_v74) (funext fun a => Fin.ext (match a with
    | ⟨0, _⟩ => at_zero 4 h.val (idx_7 t).1
    | ⟨1, _⟩ => at_zero 128 r.val (idx_7 t).2.1
    | ⟨2, _⟩ => at_zero 128 i.val (idx_7 t).2.2))

theorem blk_gc (t : Fin cfg0.N) (h : Fin 4) (r i : Fin 128) : (tile m c t).gc (ix3 h r i) = V m c main_v76 (ix3 h r i) := by
  show iblk m c 8 t (ix3 h r i) = _
  unfold iblk; rw [View.read_apply]
  exact congrArg (V m c main_v76) (funext fun a => Fin.ext (match a with
    | ⟨0, _⟩ => at_zero 4 h.val (idx_8 t).1
    | ⟨1, _⟩ => at_zero 128 r.val (idx_8 t).2.1
    | ⟨2, _⟩ => at_zero 128 i.val (idx_8 t).2.2))

theorem blk_rp (t : Fin cfg0.N) (n h : Fin 4) (j l : Fin 128) : (tile m c t).rp (ix4 n h j l) = V m c main_v315 (ix4 (chk t n) h j l) := by
  show iblk m c 9 t (ix4 n h j l) = _
  unfold iblk; rw [View.read_apply]
  exact congrArg (V m c main_v315) (funext fun a => Fin.ext (match a with
    | ⟨0, _⟩ => at_row 4 n.val (idx_9 t).1
    | ⟨1, _⟩ => at_zero 4 h.val (idx_9 t).2.1
    | ⟨2, _⟩ => at_zero 128 j.val (idx_9 t).2.2.1
    | ⟨3, _⟩ => at_zero 128 l.val (idx_9 t).2.2.2))

theorem blk_dy (t : Fin cfg0.N) (r : Fin 512) (k : Fin 512) : (tile m c t).dy (ix2 r k) = V m c main_v316 (ix2 (grow t r) k) := by
  show iblk m c 10 t (ix2 r k) = _
  unfold iblk; rw [View.read_apply]
  exact congrArg (V m c main_v316) (funext fun a => Fin.ext (match a with
    | ⟨0, _⟩ => at_row 512 r.val (idx_10 t).1
    | ⟨1, _⟩ => at_zero 512 k.val (idx_10 t).2))

theorem blk_cs (t : Fin cfg0.N) (r : Fin 512) (k : Fin 128) : (tile m c t).cs (ix2 r k) = V m c main_v26 (ix2 (grow t r) k) := by
  show iblk m c 11 t (ix2 r k) = _
  unfold iblk; rw [View.read_apply]
  exact congrArg (V m c main_v26) (funext fun a => Fin.ext (match a with
    | ⟨0, _⟩ => at_row 512 r.val (idx_11 t).1
    | ⟨1, _⟩ => at_zero 128 k.val (idx_11 t).2))

theorem blk_sn (t : Fin cfg0.N) (r : Fin 512) (k : Fin 128) : (tile m c t).sn (ix2 r k) = V m c main_v28 (ix2 (grow t r) k) := by
  show iblk m c 12 t (ix2 r k) = _
  unfold iblk; rw [View.read_apply]
  exact congrArg (V m c main_v28) (funext fun a => Fin.ext (match a with
    | ⟨0, _⟩ => at_row 512 r.val (idx_12 t).1
    | ⟨1, _⟩ => at_zero 128 k.val (idx_12 t).2))

theorem grow_row (t : Fin cfg0.N) (b : Fin 16) (r : Fin 128) : grow t (row b r) = RetData.row (chk t (ck b)) r :=
  Fin.ext (by show 512 * (15 - t.val) + (128 * (b.val / 4) + r.val) = 128 * (4 * (15 - t.val) + b.val / 4) + r.val; omega)

/-- A step's square is the chunk's data. -/
theorem chunk_eq (t : Fin cfg0.N) (b : Fin 16) : chunk (tile m c t) b = RetData.chunk (args m c) (chk t (ck b)) (hd b) := by
  unfold chunk RetData.chunk
  congr 1
  · funext r j; rw [blk_q, grow_row]; exact V_q m c _ (hd b) j
  · funext r j; rw [blk_k, grow_row]; exact V_k m c _ (hd b) j
  · funext r j; rw [blk_v, grow_row]; exact V_v m c _ (hd b) j
  · funext r j; rw [blk_dec]; exact V_dec m c (hd b) r j
  · funext r j; rw [blk_xi]; exact V_xi m c (hd b) r j
  · funext r j; rw [blk_zt]; exact V_zt m c (hd b) r j
  · funext r j; rw [blk_gc]; exact V_gc m c (hd b) r j
  · funext j l; rw [blk_rp]; exact V_R m c (chk t (ck b)) (hd b) j l
  · funext r j; rw [blk_gt, grow_row]; exact V_gt m c _ (hd b) j
  · funext r j; rw [blk_dy, grow_row]; exact V_dy m c _ (hd b) j
  · funext j; rw [blk_g]; exact V_g m c (hd b) j

theorem cs_eq (t : Fin cfg0.N) (b : Fin 16) (r j : Fin 128) : (tile m c t).cs (ix2 (row b r) j) = RetData.cs (RetData.row (chk t (ck b)) r) j := by
  rw [blk_cs, grow_row]; exact V_cs m c _ j
theorem sn_eq (t : Fin cfg0.N) (b : Fin 16) (r j : Fin 128) : (tile m c t).sn (ix2 (row b r) j) = RetData.sn (RetData.row (chk t (ck b)) r) j := by
  rw [blk_sn, grow_row]; exact V_sn m c _ j

theorem ck_at4 (n h : Fin 4) : ck (at4 n h) = n := Fin.ext (by show (4 * n.val + h.val) / 4 = n.val; omega)

theorem chunk_at4 (t : Fin cfg0.N) (n h : Fin 4) : chunk (tile m c t) (at4 n h) = RetData.chunk (args m c) (chk t n) h := by
  rw [chunk_eq, ck_at4, hd_at4]

/-- One chunk back. -/
theorem G_step (t : Fin cfg0.N) (n h : Fin 4) (k : ℕ) (hk : k + n.val = 3) :
    RetChunk.prev (chunk (tile m c t) (at4 n h)) (RetData.G (args m c) (4 * t.val + k) h) = RetData.G (args m c) (4 * t.val + (k + 1)) h := by
  rw [chunk_at4]
  have ht := lt16 t
  show _ = RetChunk.prev (RetData.chunk (args m c) ⟨63 - (4 * t.val + k), _⟩ h) (RetData.G (args m c) (4 * t.val + k) h)
  rw [show chk t n = ⟨63 - (4 * t.val + k), by omega⟩ from Fin.ext (by show 4 * (15 - t.val) + n.val = 63 - (4 * t.val + k); omega)]

/-- The gradients of the states inside a step, from the one carried in. -/
theorem back_eq (t : Fin cfg0.N) (s : Vec Ideal S4x128x128 .f32) (h : Fin 4) (hs : ∀ j l, s (ix3 h j l) = RetData.G (args m c) (4 * t.val) h j l) (k : Fin 4) :
    back (tile m c t) s h k = RetData.G (args m c) (4 * t.val + k.val) h := by
  have e0 : (fun j l => s (ix3 h j l)) = RetData.G (args m c) (4 * t.val) h := funext fun j => funext fun l => hs j l
  have e1 := G_step m c t 3 h 0 rfl
  have e2 := G_step m c t 2 h 1 rfl
  have e3 := G_step m c t 1 h 2 rfl
  match k with
  | 0 => exact e0
  | 1 => unfold back; rw [e0]; exact e1
  | 2 => unfold back; rw [e0]; exact (congrArg _ e1).trans e2
  | 3 => unfold back; rw [e0]; exact (congrArg _ ((congrArg _ e1).trans e2)).trans e3

section
variable (t : Fin cfg0.N) (s : Vec Ideal S4x128x128 .f32) (hs : ∀ h j l, s (ix3 h j l) = RetData.G (args m c) (4 * t.val) h j l) (b : Fin 16) (r j : Fin 128)
include hs

theorem gh_entry (h : Fin 4) (i l : Fin 128) : ghOut (tile m c t) s (ix3 h i l) = RetData.G (args m c) (4 * (t.val + 1)) h i l := by
  rw [ghOut_at, back_eq m c t s h (hs h) 3]
  exact congrFun (congrFun (G_step m c t 0 h 3 rfl) i) l

theorem after_eq : after4 (tile m c t) s b = RetData.G (args m c) (63 - (chk t (ck b)).val) (hd b) := by
  unfold after4
  rw [back_eq m c t s (hd b) (hs (hd b))]
  have ht := lt16 t
  exact congrArg (fun k => RetData.G (args m c) k (hd b)) (by show 4 * t.val + (4 - (b.val / 4 + 1)) = 63 - (4 * (15 - t.val) + b.val / 4); omega)

theorem dk_entry : dkT (tile m c t) s (ix3 b r j) = RetData.dk (args m c) (chk t (ck b)) (hd b) r j := by
  rw [dkT_at, cs_eq, sn_eq]
  unfold dk
  rw [chunk_eq, after_eq m c t s hs b]
  rfl

theorem dv_entry : dvT (tile m c t) s (ix3 b r j) = RetData.dv (args m c) (chk t (ck b)) (hd b) r j := by
  rw [dvT_at, chunk_eq, after_eq m c t s hs b]
  rfl

end

theorem dq_entry (t : Fin cfg0.N) (b : Fin 16) (r j : Fin 128) : dqT (tile m c t) (ix3 b r j) = RetData.dq (args m c) (chk t (ck b)) (hd b) r j := by
  rw [dqT_at, cs_eq, sn_eq, chunk_eq]
  rfl

theorem dgt_entry (t : Fin cfg0.N) (b : Fin 16) (r j : Fin 128) : dgtT (tile m c t) (ix3 b r j) = RetChunk.dgt (RetData.chunk (args m c) (chk t (ck b)) (hd b)) r j := by
  rw [dgt_at, chunk_eq]

theorem start_s (h : Fin 4) (j l : Fin 128) : k0_pay4 (F := Ideal) (ix3 h j l) = 0 := by
  unfold k0_pay4; exact Ideal.ofBits_zero .f32
theorem start_g (k : Fin 512) : k0_pay5 (F := Ideal) (ix2 0 k) = 0 := by
  unfold k0_pay5; exact Ideal.ofBits_zero .f32

theorem not_first (n : Nat) (h : n + 1 < cfg0.N) : ¬(n + 1) % 16 = 0 := by have hN : cfg0.N = 16 := N_0; omega

/-- What a step leaves, from its tiles, the gain's running total and the state's gradient. -/
def left (T : Tiles Ideal) (dg : Vec Ideal S1x512 .f32) (ds : Vec Ideal S4x128x128 .f32) :=
  (cut (truncf .bf16 (dqT T) bitsLt_bf16_f32), cut (truncf .bf16 (dkT T ds) bitsLt_bf16_f32), cut (truncf .bf16 (dvT T ds) bitsLt_bf16_f32),
    cut (truncf .bf16 (dgtT T) bitsLt_bf16_f32), gainT T dg, ghOut T ds)

set_option maxHeartbeats 2000000 in
theorem left_A (t : Fin cfg0.N) (h0 : t.val % 16 = 0) :
    outsAt0 m c t.val t.isLt = left (tile m c t) (k0_pay5 (F := Ideal)) (k0_pay4 (F := Ideal)) :=
  (outsAt0_A m c t h0).trans (congr (congrArg Prod.mk (out_A_13 (T := tile m c t) ..)) (congr (congrArg Prod.mk (out_A_14 (T := tile m c t) ..))
    (congr (congrArg Prod.mk (out_A_15 (T := tile m c t) ..)) (congr (congrArg Prod.mk (out_A_16 (T := tile m c t) ..))
      (congr (congrArg Prod.mk (out_A_17 (T := tile m c t) ..)) (sout_A (T := tile m c t) ..))))))

set_option maxHeartbeats 2000000 in
theorem left_B (t : Fin cfg0.N) (h0 : ¬t.val % 16 = 0) : outsAt0 m c t.val t.isLt = left (tile m c t)
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2 := by
  refine (outsAt0_B m c t h0).trans ?_
  generalize (outsAt0 m c (t.val - 1) (Nat.lt_of_le_of_lt (Nat.sub_le _ _) t.isLt)).2.2.2.2.1 = dg
  generalize (outsAt0 m c (t.val - 1) (Nat.lt_of_le_of_lt (Nat.sub_le _ _) t.isLt)).2.2.2.2.2 = ds
  exact (congr (congrArg Prod.mk (out_B_13 (T := tile m c t) ..)) (congr (congrArg Prod.mk (out_B_14 (T := tile m c t) ..))
    (congr (congrArg Prod.mk (out_B_15 (T := tile m c t) ..)) (congr (congrArg Prod.mk (out_B_16 (T := tile m c t) ..))
      (congr (congrArg Prod.mk (out_B_17 (T := tile m c t) ..)) (sout_B (T := tile m c t) ..))))))

theorem left_next (n : Nat) (hn : n + 1 < cfg0.N) : outsAt0 m c (n + 1) hn = left (tile m c ⟨n + 1, hn⟩)
    (outsAt0 m c n (by omega)).2.2.2.2.1 (outsAt0 m c n (by omega)).2.2.2.2.2 := left_B m c ⟨n + 1, hn⟩ (not_first n hn)

/-- The scratch after a step. -/
theorem scratch (n : Nat) (hn : n < cfg0.N) (h : Fin 4) (j l : Fin 128) :
    (outsAt0 m c n hn).2.2.2.2.2 (ix3 h j l) = RetData.G (args m c) (4 * (n + 1)) h j l := by
  induction n generalizing h j l with
  | zero =>
    exact (congrFun (congrArg (·.2.2.2.2.2) (left_A m c ⟨0, hn⟩ rfl)) _).trans (gh_entry m c ⟨0, hn⟩ _ (fun h j l => start_s h j l) h j l)
  | succ n ih =>
    exact (congrFun (congrArg (·.2.2.2.2.2) (left_next m c n hn)) _).trans (gh_entry m c ⟨n + 1, hn⟩ _ (fun h j l => ih _ h j l) h j l)

/-- An array of the squares of every chunk and head. -/
def outOf (f : Fin 64 → Fin 4 → Fin 128 → Fin 128 → EReal) (p : Fin 8192) (k : Fin 512) : EReal :=
  f ⟨p.val / 128, by omega⟩ ⟨k.val / 128, by omega⟩ ⟨p.val % 128, Nat.mod_lt _ (by norm_num)⟩ ⟨k.val % 128, Nat.mod_lt _ (by norm_num)⟩

theorem cut_out (t : Fin cfg0.N) (X : S16x128x128.Idx → EReal) (f : Fin 64 → Fin 4 → Fin 128 → Fin 128 → EReal)
    (h : ∀ b r j, X (ix3 b r j) = f (chk t (ck b)) (hd b) r j) (r k : Fin 512) : cut X (ix2 r k) = outOf f (grow t r) k := by
  show X (ix3 ⟨4 * (r.val / 128) + k.val / 128, _⟩ ⟨r.val % 128, _⟩ ⟨k.val % 128, _⟩) = _
  rw [h]
  unfold outOf
  congr 1
  · exact Fin.ext (by show 4 * (15 - t.val) + (4 * (r.val / 128) + k.val / 128) / 4 = (512 * (15 - t.val) + r.val) / 128; omega)
  · exact Fin.ext (by show (4 * (r.val / 128) + k.val / 128) % 4 = k.val / 128; omega)
  · exact Fin.ext (by show r.val % 128 = (512 * (15 - t.val) + r.val) % 128; omega)

/-- What the output buffer of `dq` holds after a step. -/
theorem outs_dq (t : Fin cfg0.N) (r k : Fin 512) : (outsAt0 m c t.val t.isLt).1 (ix2 r k) = outOf (RetData.dq (args m c)) (grow t r) k := by
  obtain ⟨n, hn⟩ := t
  cases n with
  | zero =>
    exact (congrFun (congrArg (·.1) (left_A m c ⟨0, hn⟩ rfl)) _).trans (cut_out ⟨0, hn⟩ _ (RetData.dq (args m c)) (fun b r j => dq_entry m c ⟨0, hn⟩ b r j) r k)
  | succ n =>
    exact (congrFun (congrArg (·.1) (left_next m c n hn)) _).trans (cut_out ⟨n + 1, hn⟩ _ (RetData.dq (args m c)) (fun b r j => dq_entry m c ⟨n + 1, hn⟩ b r j) r k)

def dqArr : Buf (Elt Ideal) (c.tc.loc main_v317_0 : Loc nD τ sig) := fun i => show EReal from outOf (RetData.dq (args m c)) (i 0) (i 1)

/-- What the output buffer of `dk` holds after a step. -/
theorem outs_dk (t : Fin cfg0.N) (r k : Fin 512) : (outsAt0 m c t.val t.isLt).2.1 (ix2 r k) = outOf (RetData.dk (args m c)) (grow t r) k := by
  obtain ⟨n, hn⟩ := t
  cases n with
  | zero =>
    exact (congrFun (congrArg (·.2.1) (left_A m c ⟨0, hn⟩ rfl)) _).trans (cut_out ⟨0, hn⟩ _ (RetData.dk (args m c)) (fun b r j => dk_entry m c ⟨0, hn⟩ _ (fun h j l => start_s h j l) b r j) r k)
  | succ n =>
    exact (congrFun (congrArg (·.2.1) (left_next m c n hn)) _).trans (cut_out ⟨n + 1, hn⟩ _ (RetData.dk (args m c)) (fun b r j => dk_entry m c ⟨n + 1, hn⟩ _ (fun h j l => scratch m c n _ h j l) b r j) r k)

def dkArr : Buf (Elt Ideal) (c.tc.loc main_v317_1 : Loc nD τ sig) := fun i => show EReal from outOf (RetData.dk (args m c)) (i 0) (i 1)

/-- What the output buffer of `dv` holds after a step. -/
theorem outs_dv (t : Fin cfg0.N) (r k : Fin 512) : (outsAt0 m c t.val t.isLt).2.2.1 (ix2 r k) = outOf (RetData.dv (args m c)) (grow t r) k := by
  obtain ⟨n, hn⟩ := t
  cases n with
  | zero =>
    exact (congrFun (congrArg (·.2.2.1) (left_A m c ⟨0, hn⟩ rfl)) _).trans (cut_out ⟨0, hn⟩ _ (RetData.dv (args m c)) (fun b r j => dv_entry m c ⟨0, hn⟩ _ (fun h j l => start_s h j l) b r j) r k)
  | succ n =>
    exact (congrFun (congrArg (·.2.2.1) (left_next m c n hn)) _).trans (cut_out ⟨n + 1, hn⟩ _ (RetData.dv (args m c)) (fun b r j => dv_entry m c ⟨n + 1, hn⟩ _ (fun h j l => scratch m c n _ h j l) b r j) r k)

def dvArr : Buf (Elt Ideal) (c.tc.loc main_v317_2 : Loc nD τ sig) := fun i => show EReal from outOf (RetData.dv (args m c)) (i 0) (i 1)

/-- What the output buffer of `dgt` holds after a step. -/
theorem outs_dgt (t : Fin cfg0.N) (r k : Fin 512) : (outsAt0 m c t.val t.isLt).2.2.2.1 (ix2 r k) = outOf ((fun n h r j => RetChunk.dgt (RetData.chunk (args m c) n h) r j)) (grow t r) k := by
  obtain ⟨n, hn⟩ := t
  cases n with
  | zero =>
    exact (congrFun (congrArg (·.2.2.2.1) (left_A m c ⟨0, hn⟩ rfl)) _).trans (cut_out ⟨0, hn⟩ _ ((fun n h r j => RetChunk.dgt (RetData.chunk (args m c) n h) r j)) (fun b r j => dgt_entry m c ⟨0, hn⟩ b r j) r k)
  | succ n =>
    exact (congrFun (congrArg (·.2.2.2.1) (left_next m c n hn)) _).trans (cut_out ⟨n + 1, hn⟩ _ ((fun n h r j => RetChunk.dgt (RetData.chunk (args m c) n h) r j)) (fun b r j => dgt_entry m c ⟨n + 1, hn⟩ b r j) r k)

def dgtArr : Buf (Elt Ideal) (c.tc.loc main_v317_3 : Loc nD τ sig) := fun i => show EReal from outOf ((fun n h r j => RetChunk.dgt (RetData.chunk (args m c) n h) r j)) (i 0) (i 1)

/-- The block that holds row `p`. -/
def blkOf (p : Fin 8192) : Fin cfg0.N := ⟨15 - p.val / 512, by have hN : cfg0.N = 16 := N_0; omega⟩

theorem blk_at (p : Fin 8192) : 15 - (blkOf p).val = p.val / 512 := by show 15 - (15 - p.val / 512) = p.val / 512; omega

theorem read_13 (A : Buf (Elt Ideal) (c.tc.loc main_v317_0 : Loc nD τ sig)) (t : Fin cfg0.N) (r k : Fin 512) :
    ((cfg0.win 13).blk t).view.read (Elt Ideal) A (ix2 r k) = A (ix2 (grow t r) k) := by
  rw [View.read_apply]
  exact congrArg A (funext fun a => Fin.ext (match a with
    | ⟨0, _⟩ => at_row 512 r.val (idx_13 t).1
    | ⟨1, _⟩ => at_zero 512 k.val (idx_13 t).2))

theorem cover_13 (i : (⟨2, ![8192, 512]⟩ : Shape).Idx) : i ∈ ((cfg0.win 13).blk (blkOf (i 0))).view.set := by
  show i ∈ ((View.whole main_v317_0).slice (win0_13.rect (blkOf (i 0)))).set
  rw [View.set_slice_whole, Rect.mem_set_unit]
  exact fun a => match a with
    | ⟨0, _⟩ => in_row 512 (by decide) ((idx_13 (blkOf (i 0))).1.trans (blk_at (i 0)))
    | ⟨1, _⟩ => in_zero (idx_13 (blkOf (i 0))).2 (i 1).isLt

theorem final_dq : (dats m 0 c).arrAt 13 cfg0.N = dqArr m c :=
  (dats m 0 c).arrAt_eq_of_cover 13 (dqArr m c) (fun t _ => by
    rw [Value.flushed13]
    funext i
    idx_vars i
    exact (outs_dq m c t _ _).trans (read_13 c (dqArr m c) t _ _).symm) fun i => ⟨blkOf (i 0), flush0_13 _, cover_13 i⟩

theorem read_14 (A : Buf (Elt Ideal) (c.tc.loc main_v317_1 : Loc nD τ sig)) (t : Fin cfg0.N) (r k : Fin 512) :
    ((cfg0.win 14).blk t).view.read (Elt Ideal) A (ix2 r k) = A (ix2 (grow t r) k) := by
  rw [View.read_apply]
  exact congrArg A (funext fun a => Fin.ext (match a with
    | ⟨0, _⟩ => at_row 512 r.val (idx_14 t).1
    | ⟨1, _⟩ => at_zero 512 k.val (idx_14 t).2))

theorem cover_14 (i : (⟨2, ![8192, 512]⟩ : Shape).Idx) : i ∈ ((cfg0.win 14).blk (blkOf (i 0))).view.set := by
  show i ∈ ((View.whole main_v317_1).slice (win0_14.rect (blkOf (i 0)))).set
  rw [View.set_slice_whole, Rect.mem_set_unit]
  exact fun a => match a with
    | ⟨0, _⟩ => in_row 512 (by decide) ((idx_14 (blkOf (i 0))).1.trans (blk_at (i 0)))
    | ⟨1, _⟩ => in_zero (idx_14 (blkOf (i 0))).2 (i 1).isLt

theorem final_dk : (dats m 0 c).arrAt 14 cfg0.N = dkArr m c :=
  (dats m 0 c).arrAt_eq_of_cover 14 (dkArr m c) (fun t _ => by
    rw [Value.flushed14]
    funext i
    idx_vars i
    exact (outs_dk m c t _ _).trans (read_14 c (dkArr m c) t _ _).symm) fun i => ⟨blkOf (i 0), flush0_14 _, cover_14 i⟩

theorem read_15 (A : Buf (Elt Ideal) (c.tc.loc main_v317_2 : Loc nD τ sig)) (t : Fin cfg0.N) (r k : Fin 512) :
    ((cfg0.win 15).blk t).view.read (Elt Ideal) A (ix2 r k) = A (ix2 (grow t r) k) := by
  rw [View.read_apply]
  exact congrArg A (funext fun a => Fin.ext (match a with
    | ⟨0, _⟩ => at_row 512 r.val (idx_15 t).1
    | ⟨1, _⟩ => at_zero 512 k.val (idx_15 t).2))

theorem cover_15 (i : (⟨2, ![8192, 512]⟩ : Shape).Idx) : i ∈ ((cfg0.win 15).blk (blkOf (i 0))).view.set := by
  show i ∈ ((View.whole main_v317_2).slice (win0_15.rect (blkOf (i 0)))).set
  rw [View.set_slice_whole, Rect.mem_set_unit]
  exact fun a => match a with
    | ⟨0, _⟩ => in_row 512 (by decide) ((idx_15 (blkOf (i 0))).1.trans (blk_at (i 0)))
    | ⟨1, _⟩ => in_zero (idx_15 (blkOf (i 0))).2 (i 1).isLt

theorem final_dv : (dats m 0 c).arrAt 15 cfg0.N = dvArr m c :=
  (dats m 0 c).arrAt_eq_of_cover 15 (dvArr m c) (fun t _ => by
    rw [Value.flushed15]
    funext i
    idx_vars i
    exact (outs_dv m c t _ _).trans (read_15 c (dvArr m c) t _ _).symm) fun i => ⟨blkOf (i 0), flush0_15 _, cover_15 i⟩

theorem read_16 (A : Buf (Elt Ideal) (c.tc.loc main_v317_3 : Loc nD τ sig)) (t : Fin cfg0.N) (r k : Fin 512) :
    ((cfg0.win 16).blk t).view.read (Elt Ideal) A (ix2 r k) = A (ix2 (grow t r) k) := by
  rw [View.read_apply]
  exact congrArg A (funext fun a => Fin.ext (match a with
    | ⟨0, _⟩ => at_row 512 r.val (idx_16 t).1
    | ⟨1, _⟩ => at_zero 512 k.val (idx_16 t).2))

theorem cover_16 (i : (⟨2, ![8192, 512]⟩ : Shape).Idx) : i ∈ ((cfg0.win 16).blk (blkOf (i 0))).view.set := by
  show i ∈ ((View.whole main_v317_3).slice (win0_16.rect (blkOf (i 0)))).set
  rw [View.set_slice_whole, Rect.mem_set_unit]
  exact fun a => match a with
    | ⟨0, _⟩ => in_row 512 (by decide) ((idx_16 (blkOf (i 0))).1.trans (blk_at (i 0)))
    | ⟨1, _⟩ => in_zero (idx_16 (blkOf (i 0))).2 (i 1).isLt

theorem final_dgt : (dats m 0 c).arrAt 16 cfg0.N = dgtArr m c :=
  (dats m 0 c).arrAt_eq_of_cover 16 (dgtArr m c) (fun t _ => by
    rw [Value.flushed16]
    funext i
    idx_vars i
    exact (outs_dgt m c t _ _).trans (read_16 c (dgtArr m c) t _ _).symm) fun i => ⟨blkOf (i 0), flush0_16 _, cover_16 i⟩

/-- A step's part of the gain's gradient, and the running total. -/
def dgStep (h : Fin 4) (j : Fin 128) (n : ℕ) : EReal := part 4 64 (fun k => RetChunk.dg (RetData.chunk (args m c) k h) j) (15 - n)

theorem gain_entry (t : Fin cfg0.N) (g : Vec Ideal S1x512 .f32) (h : Fin 4) (j : Fin 128) :
    gainT (tile m c t) g (ix2 0 (at128 h j)) = g (ix2 0 (at128 h j)) + dgStep m c h j t.val := by
  rw [gain_at (tile m c t) g h j (at128 h j) rfl]
  refine congrArg (fun z => g (ix2 0 (at128 h j)) + z) ?_
  unfold dgStep
  rw [← part_eq _ _ (chk t) fun _ => rfl, Fin.sum_univ_four]
  simp only [chunk_at4]

theorem outs_dg (h : Fin 4) (j : Fin 128) (n : Nat) (hn : n < cfg0.N) :
    (outsAt0 m c n hn).2.2.2.2.1 (ix2 0 (at128 h j)) = ∑ t : Fin (n + 1), dgStep m c h j t :=
  running_sum (fun n hn => (outsAt0 m c n hn).2.2.2.2.1 (ix2 0 (at128 h j))) (dgStep m c h j)
    (fun hn => by
      exact (congrFun (congrArg (·.2.2.2.2.1) (left_A m c ⟨0, hn⟩ rfl)) _).trans ((gain_entry m c ⟨0, hn⟩ _ h j).trans (by rw [start_g])))
    (fun n hn => by
      exact (congrFun (congrArg (·.2.2.2.2.1) (left_next m c n hn)) _).trans (gain_entry m c ⟨n + 1, hn⟩ _ h j)) n hn

theorem dg_total (h : Fin 4) (j : Fin 128) : ∑ t : Fin 16, dgStep m c h j t.val = RetData.dgain (args m c) h j := by
  unfold RetData.dgain
  rw [← total_part 16 4 64 rfl, ← Equiv.sum_comp Fin.revPerm]
  refine Finset.sum_congr rfl fun t _ => ?_
  unfold dgStep
  exact congrArg _ (by show 15 - (16 - (t.val + 1)) = t.val; omega)

def dgArr : Buf (Elt Ideal) (c.tc.loc main_v317_4 : Loc nD τ sig) := fun i =>
  show EReal from RetData.dgain (args m c) ⟨(i 1).val / 128, by have : (i 1).val < 512 := (i 1).isLt; omega⟩ ⟨(i 1).val % 128, Nat.mod_lt _ (by norm_num)⟩

/-- The last step. -/
def last : Fin cfg0.N := ⟨15, by have hN : cfg0.N = 16 := N_0; omega⟩

theorem read_17 (A : Buf (Elt Ideal) (c.tc.loc main_v317_4 : Loc nD τ sig)) (t : Fin cfg0.N) (k : Fin 512) :
    ((cfg0.win 17).blk t).view.read (Elt Ideal) A (ix2 0 k) = A (ix2 0 k) := by
  rw [View.read_apply]
  exact congrArg A (funext fun a => Fin.ext (match a with
    | ⟨0, _⟩ => at_zero 1 0 (idx_17 t).1
    | ⟨1, _⟩ => at_zero 512 k.val (idx_17 t).2))

theorem cover_17 (i : (⟨2, ![1, 512]⟩ : Shape).Idx) : i ∈ ((cfg0.win 17).blk last).view.set := by
  show i ∈ ((View.whole main_v317_4).slice (win0_17.rect last)).set
  rw [View.set_slice_whole, Rect.mem_set_unit]
  exact fun a => match a with
    | ⟨0, _⟩ => in_zero (idx_17 last).1 (i 0).isLt
    | ⟨1, _⟩ => in_zero (idx_17 last).2 (i 1).isLt

theorem dg_out (k : Fin 512) : (outsAt0 m c 15 last.isLt).2.2.2.2.1 (ix2 0 k) = dgArr m c (ix2 0 k) := by
  have e : k = at128 ⟨k.val / 128, by omega⟩ ⟨k.val % 128, Nat.mod_lt _ (by norm_num)⟩ := Fin.ext (by show k.val = 128 * (k.val / 128) + k.val % 128; omega)
  rw [e]
  refine (outs_dg m c _ _ 15 last.isLt).trans ((dg_total m c _ _).trans ?_)
  rw [← e]
  rfl

theorem final_dg : (dats m 0 c).arrAt 17 cfg0.N = dgArr m c :=
  (dats m 0 c).arrAt_eq_of_cover 17 (dgArr m c) (fun t hf => by
    obtain rfl : t = last := Fin.ext (by
      have hN : cfg0.N = 16 := N_0; have h := t.isLt; have := (flush0_17 t).mp hf; have h' := lt16 t; show t.val = 15; omega)
    rw [Value.flushed17]
    funext i
    idx_vars i
    obtain rfl : i0 = 0 := Subsingleton.elim _ _
    exact (dg_out m c _).trans (read_17 c (dgArr m c) last _).symm) fun i => ⟨last, (flush0_17 _).mpr rfl, cover_17 i⟩

end Cert.RetIdeal.Hand

end
-- ==== Proof.RetRefA.lean ====
/-
  The retention's reference, read at an entry: the rotated queries and keys, the decays, what a chunk adds to the state.
-/
module

public import proofs.«01_k».proof.Proof.Gen.RetRefIdeal.Run
public import proofs.«01_k».proof.Proof.Gen.RetRefIdeal.Read
public import proofs.«01_k».proof.Proof.RetData

@[expose] public section

set_option maxRecDepth 16384

noncomputable section

namespace Cert.RetRefIdeal.Hand

open Cert.RetRefIdeal Cert.RetRefIdeal.Gen Cert.RetRefIdeal.Read Idealize.ShloMosaic

/-- The column of head `h`. -/
def col (h : Fin 4) (j : Fin 128) : Fin 512 := ⟨128 * h.val + j.val, by omega⟩

/-- The reference's arguments. -/
def args (x0 x1 x2 x3 : FVec Ideal S1x8192x512 .f32) (x4 : FVec Ideal S1x512 .f32) (x5 : FVec Ideal S1x8192x512 .f32) : RetData.Args where
  q p h j := x0 (ix3 0 p (col h j))
  k p h j := x1 (ix3 0 p (col h j))
  v p h j := x2 (ix3 0 p (col h j))
  gt p h j := x3 (ix3 0 p (col h j))
  g h j := x4 (ix2 0 (col h j))
  dy p h j := x5 (ix3 0 p (col h j))

theorem col_eq {h : Fin 4} {j : Fin 128} {k : Nat} (e : k = j.val) (l : h.val * 128 + k < 512) : (⟨h.val * 128 + k, l⟩ : Fin 512) = col h j :=
  Fin.ext (by show h.val * 128 + k = 128 * h.val + j.val; omega)
theorem row_eq {n : Fin 64} {r : Fin 128} (l : n.val * 128 + r.val < 8192) : (⟨n.val * 128 + r.val, l⟩ : Fin 8192) = RetData.row n r :=
  Fin.ext (by show n.val * 128 + r.val = 128 * n.val + r.val; omega)

/-- A rotated row as the reference forms it. -/
theorem rope_ref (x : Fin 128 → EReal) (p : Fin 8192) (j : Fin 128) :
    (if h : j.val < 64 then x j * Ideal.cos (RetData.ang p.val j.val) - x (RetData.turn j) * Ideal.sin (RetData.ang p.val j.val)
      else x (RetData.turn j) * Ideal.sin (RetData.ang p.val (j.val - 64)) + x j * Ideal.cos (RetData.ang p.val (j.val - 64))) = RetData.rope x p j := by
  unfold RetData.rope RetData.cs RetData.sn
  split_ifs with h
  · rw [sub_eq_add_neg, mul_neg]
  · exact add_comm _ _

variable (x0 x1 x2 x3 : FVec Ideal S1x8192x512 .f32) (x4 : FVec Ideal S1x512 .f32) (x5 : FVec Ideal S1x8192x512 .f32)

theorem cos_at (p : Fin 8192) (k : Fin 64) : val_main_v19 (F := Ideal) (ix3 p 0 k) = Ideal.cos (RetData.ang p.val k.val) := by
  pointwise [val_main_v6, val_main_v7, val_main_v8, val_main_v9, val_main_v10, val_main_v11, val_main_v12, val_main_v13, val_main_v14,
    val_main_v15, val_main_v16, val_main_v17, val_main_v18, val_main_v19, val_main_cst, val_main_cst_0]
  rfl
theorem sin_at (p : Fin 8192) (k : Fin 64) : val_main_v21 (F := Ideal) (ix3 p 0 k) = Ideal.sin (RetData.ang p.val k.val) := by
  pointwise [val_main_v6, val_main_v7, val_main_v8, val_main_v9, val_main_v10, val_main_v11, val_main_v12, val_main_v13, val_main_v14,
    val_main_v15, val_main_v16, val_main_v17, val_main_v20, val_main_v21, val_main_cst, val_main_cst_0]
  rfl
theorem cosk_at (p : Fin 8192) (k : Fin 64) : val_main_v49 (F := Ideal) (ix3 p 0 k) = Ideal.cos (RetData.ang p.val k.val) := by
  pointwise [val_main_v36, val_main_v37, val_main_v38, val_main_v39, val_main_v40, val_main_v41, val_main_v42, val_main_v43, val_main_v44,
    val_main_v45, val_main_v46, val_main_v47, val_main_v48, val_main_v49, val_main_cst_1, val_main_cst_2]
  rfl
theorem sink_at (p : Fin 8192) (k : Fin 64) : val_main_v51 (F := Ideal) (ix3 p 0 k) = Ideal.sin (RetData.ang p.val k.val) := by
  pointwise [val_main_v36, val_main_v37, val_main_v38, val_main_v39, val_main_v40, val_main_v41, val_main_v42, val_main_v43, val_main_v44,
    val_main_v45, val_main_v46, val_main_v47, val_main_v50, val_main_v51, val_main_cst_1, val_main_cst_2]
  rfl

/-- The half-turn's columns. -/
theorem up_col {h : Fin 4} {j : Fin 128} (b : j.val < 64) (l : h.val * 128 + (64 + j.val) < 512) :
    (⟨h.val * 128 + (64 + j.val), l⟩ : Fin 512) = col h (RetData.turn j) := col_eq (by show 64 + j.val = (j.val + 64) % 128; omega) l
theorem down_col {h : Fin 4} {j : Fin 128} (b : ¬j.val < 64) (l : h.val * 128 + (j.val - 64) < 512) :
    (⟨h.val * 128 + (j.val - 64), l⟩ : Fin 512) = col h (RetData.turn j) := col_eq (by show j.val - 64 = (j.val + 64) % 128; omega) l
theorem same_col {h : Fin 4} {j : Fin 128} (b : ¬j.val < 64) (l : h.val * 128 + (64 + (j.val - 64)) < 512) :
    (⟨h.val * 128 + (64 + (j.val - 64)), l⟩ : Fin 512) = col h j := col_eq (by omega) l

theorem rotq_at (p : Fin 8192) (h : Fin 4) (j : Fin 128) : val_main_v34 (F := Ideal) x0 (ix3 p h j) = RetData.Q (args x0 x1 x2 x3 x4 x5) p h j := by
  pointwise [val_main_v0, val_main_v5, val_main_v22, val_main_v23, val_main_v24, val_main_v25, val_main_v26, val_main_v27, val_main_v28,
    val_main_v29, val_main_v30, val_main_v31, val_main_v32, val_main_v33, val_main_v34]
  simp only [cos_at, sin_at]
  refine Eq.trans ?_ (rope_ref (fun j => x0 (ix3 0 p (col h j))) p j)
  split_ifs with b
  · rw [up_col b, col_eq rfl]
  all_goals rw [down_col b, same_col b]

theorem rotk_at (p : Fin 8192) (h : Fin 4) (j : Fin 128) : val_main_v66 (F := Ideal) x1 (ix3 p h j) = RetData.K (args x0 x1 x2 x3 x4 x5) p h j := by
  pointwise [val_main_v1, val_main_v35, val_main_v52, val_main_v53, val_main_v54, val_main_v55, val_main_v56, val_main_v57, val_main_v58,
    val_main_v59, val_main_v60, val_main_v61, val_main_v62, val_main_v63, val_main_v64, val_main_v65, val_main_v66, val_main_cst_3]
  simp only [cosk_at, sink_at]
  refine congrArg (· * _) (Eq.trans ?_ (rope_ref (fun j => x1 (ix3 0 p (col h j))) p j))
  split_ifs with b
  · rw [up_col b, col_eq rfl]
  all_goals rw [down_col b, same_col b]

theorem q_at (n : Fin 64) (r : Fin 128) (h : Fin 4) (j : Fin 128) :
    val_main_v73 (F := Ideal) x0 (ix4 n r h j) = RetData.Q (args x0 x1 x2 x3 x4 x5) (RetData.row n r) h j := by
  pointwise [val_main_v73]
  rw [row_eq, rotq_at x0 x1 x2 x3 x4 x5]
theorem k_at (n : Fin 64) (r : Fin 128) (h : Fin 4) (j : Fin 128) :
    val_main_v74 (F := Ideal) x1 (ix4 n r h j) = RetData.K (args x0 x1 x2 x3 x4 x5) (RetData.row n r) h j := by
  pointwise [val_main_v74]
  rw [row_eq, rotk_at x0 x1 x2 x3 x4 x5]
theorem v_at (n : Fin 64) (r : Fin 128) (h : Fin 4) (j : Fin 128) :
    val_main_v75 (F := Ideal) x2 (ix4 n r h j) = (args x0 x1 x2 x3 x4 x5).v (RetData.row n r) h j := by
  pointwise [val_main_v2, val_main_v67, val_main_v75]
  rw [row_eq, col_eq rfl]
  rfl

theorem lin_at (h : Fin 4) : val_main_v68 (F := Ideal) (ix1 h) = RetData.lin h := by
  pointwise [val_main_v68, val_main_call0_v0, val_main_call0_v1, val_main_call0_v4, val_main_call0_v5, val_main_call0_v6, val_main_call0_v7,
    val_main_call0_v8, val_main_call0_v9, val_main_call0_v10, val_main_call0_v11, val_main_call0_v12, val_main_call0_v13, val_main_call0_v14,
    val_main_call0_v15, val_main_call0_v16, val_main_call0_cst_0, val_main_call0_cst_1, val_main_cst_4, val_main_cst_5]
  rfl

theorem lg_at (h : Fin 4) : val_main_v72 (F := Ideal) (ix1 h) = RetData.lg h := by
  pointwise [val_main_v69, val_main_v70, val_main_v71, val_main_v72, val_main_cst_6]
  rw [lin_at]
  rfl

theorem dec_at (h : Fin 4) (r i : Fin 128) : val_main_v93 (F := Ideal) (ix3 h r i) = RetData.dec h r i := by
  pointwise [val_main_v76, val_main_v77, val_main_v78, val_main_v79, val_main_v80, val_main_v81, val_main_v82, val_main_v83, val_main_v84,
    val_main_v85, val_main_v86, val_main_v87, val_main_v88, val_main_v89, val_main_v90, val_main_v91, val_main_v92, val_main_v93,
    val_main_call1_v0, val_main_call1_v1, val_main_call1_v2, val_main_cst_7, val_main_cst_8, val_main_cst_9]
  simp only [lg_at]
  exact (congrArg (fun z : EReal => if 0 ≤ RetData.num r.val - RetData.num i.val then Ideal.exp (max (RetData.num r.val - RetData.num i.val) 0 * RetData.lg h) else z)
    (Ideal.ofBits_zero .f32))

theorem xi_at (h : Fin 4) (r : Fin 128) : val_main_v518 (F := Ideal) (ix2 h r) = RetData.xi h r := by
  pointwise [val_main_v76, val_main_v511, val_main_v512, val_main_v513, val_main_v514, val_main_v515, val_main_v516, val_main_v517, val_main_v518, val_main_cst_14]
  rw [lg_at]
  rfl

theorem zt_at (h : Fin 4) (r : Fin 128) : val_main_v107 (F := Ideal) (ix2 h r) = RetData.zt h r := by
  pointwise [val_main_v76, val_main_v100, val_main_v101, val_main_v102, val_main_v103, val_main_v104, val_main_v105, val_main_v106, val_main_v107, val_main_cst_10]
  rw [lg_at]
  rfl

theorem gc_at (h : Fin 4) (j l : Fin 128) : val_main_v123 (F := Ideal) (ix3 h j l) = RetData.gc h := by
  pointwise [val_main_v113, val_main_v114, val_main_v115, val_main_v116, val_main_v123, val_main_cst_11]
  rw [lg_at]
  rfl

/-- The values decayed to their chunk's end. -/
theorem vz_at (n : Fin 64) (r : Fin 128) (h : Fin 4) (l : Fin 128) :
    val_main_v111 (F := Ideal) x2 (ix4 n r h l) = (args x0 x1 x2 x3 x4 x5).v (RetData.row n r) h l * RetData.zt h r := by
  pointwise [val_main_v108, val_main_v109, val_main_v110, val_main_v111]
  rw [v_at x0 x1 x2 x3 x4 x5, zt_at]

theorem add_at (n : Fin 64) (h : Fin 4) (j l : Fin 128) :
    val_main_v112 (F := Ideal) x1 x2 (ix4 n h j l) = RetData.add (args x0 x1 x2 x3 x4 x5) n h j l := by
  pointwise [val_main_v112]
  simp only [k_at x0 x1 x2 x3 x4 x5, vz_at x0 x1 x2 x3 x4 x5]
  rfl

end Cert.RetRefIdeal.Hand

end
-- ==== Proof.RetRefB.lean ====
/-
  The states of the retention's reference: its two chains, forwards over the chunks and backwards, and their stacks.
-/
module

public import proofs.«01_k».proof.Proof.RetRefA

@[expose] public section

set_option maxRecDepth 16384

noncomputable section

namespace Cert.RetRefIdeal.Hand

open Cert.RetRefIdeal Cert.RetRefIdeal.Gen Cert.RetRefIdeal.Read Idealize.ShloMosaic

/-- A chunk's squares, and squares put into a stack of one. -/
abbrev Sq := FVec Ideal S4x128x128 .f32
def up (x : Sq) : S1x4x128x128.Idx → EReal := broadcastInDim S1x4x128x128 ![1, 2, 3] bcast_S4x128x128_S1x4x128x128_1_2_3 x
theorem up_at (x : Sq) (h : Fin 4) (j l : Fin 128) : up x (ix4 0 h j l) = x (ix3 h j l) := by
  unfold up; pointwise []

theorem cat16 {α : Type} (x : Fin 16 → S1x4x128x128.Idx → α) (n : Fin 16) (h : Fin 4) (j l : Fin 128) :
    concatenate S16x4x128x128 0 [⟨S1x4x128x128, x 0⟩, ⟨S1x4x128x128, x 1⟩, ⟨S1x4x128x128, x 2⟩, ⟨S1x4x128x128, x 3⟩, ⟨S1x4x128x128, x 4⟩, ⟨S1x4x128x128, x 5⟩, ⟨S1x4x128x128, x 6⟩, ⟨S1x4x128x128, x 7⟩, ⟨S1x4x128x128, x 8⟩, ⟨S1x4x128x128, x 9⟩, ⟨S1x4x128x128, x 10⟩, ⟨S1x4x128x128, x 11⟩, ⟨S1x4x128x128, x 12⟩, ⟨S1x4x128x128, x 13⟩, ⟨S1x4x128x128, x 14⟩, ⟨S1x4x128x128, x 15⟩]
      concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 (ix4 n h j l) = x n (ix4 0 h j l) := by
  refine concatenate_ofFn_unit_apply (t := S16x4x128x128) (s₁ := S1x4x128x128) 0 x concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 rfl rfl (ix4 n h j l) n rfl (ix4 0 h j l) ?_
  intro d hd
  fin_cases d
  · exact absurd rfl hd
  · rfl
  · rfl
  · rfl

theorem cat64 {α : Type} (x : Fin 4 → S16x4x128x128.Idx → α) (n : Fin 64) (h : Fin 4) (j l : Fin 128) :
    concatenate S64x4x128x128 0 [⟨S16x4x128x128, x 0⟩, ⟨S16x4x128x128, x 1⟩, ⟨S16x4x128x128, x 2⟩, ⟨S16x4x128x128, x 3⟩]
      concatenates_S16x4x128x128_S16x4x128x128_S16x4x128x128_S16x4x128x128_S64x4x128x128_d0 (ix4 n h j l) = x ⟨n.val / 16, by omega⟩ (ix4 ⟨n.val % 16, Nat.mod_lt _ (by norm_num)⟩ h j l) := by
  refine concatenate_ofFn_apply (t := S64x4x128x128) (s₁ := S16x4x128x128) 0 x concatenates_S16x4x128x128_S16x4x128x128_S16x4x128x128_S16x4x128x128_S64x4x128x128_d0 rfl 16 rfl (ix4 n h j l) ⟨n.val / 16, by omega⟩ rfl _ rfl ?_
  intro d hd
  fin_cases d
  · exact absurd rfl hd
  · rfl
  · rfl
  · rfl

/-- Sixteen squares stacked, and a stack of sixty-four. -/
def stack16 (x : Fin 16 → Sq) : S16x4x128x128.Idx → EReal :=
  concatenate S16x4x128x128 0 [⟨S1x4x128x128, up (x 0)⟩, ⟨S1x4x128x128, up (x 1)⟩, ⟨S1x4x128x128, up (x 2)⟩, ⟨S1x4x128x128, up (x 3)⟩, ⟨S1x4x128x128, up (x 4)⟩, ⟨S1x4x128x128, up (x 5)⟩, ⟨S1x4x128x128, up (x 6)⟩, ⟨S1x4x128x128, up (x 7)⟩, ⟨S1x4x128x128, up (x 8)⟩, ⟨S1x4x128x128, up (x 9)⟩, ⟨S1x4x128x128, up (x 10)⟩, ⟨S1x4x128x128, up (x 11)⟩, ⟨S1x4x128x128, up (x 12)⟩, ⟨S1x4x128x128, up (x 13)⟩, ⟨S1x4x128x128, up (x 14)⟩, ⟨S1x4x128x128, up (x 15)⟩] concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0
theorem stack16_at (x : Fin 16 → Sq) (n : Fin 16) (h : Fin 4) (j l : Fin 128) : stack16 x (ix4 n h j l) = x n (ix3 h j l) :=
  (cat16 (fun i => up (x i)) n h j l).trans (up_at ..)
def stack64 (x : Fin 4 → Fin 16 → Sq) : S64x4x128x128.Idx → EReal :=
  concatenate S64x4x128x128 0 [⟨S16x4x128x128, stack16 (x 0)⟩, ⟨S16x4x128x128, stack16 (x 1)⟩, ⟨S16x4x128x128, stack16 (x 2)⟩, ⟨S16x4x128x128, stack16 (x 3)⟩]
    concatenates_S16x4x128x128_S16x4x128x128_S16x4x128x128_S16x4x128x128_S64x4x128x128_d0
theorem stack64_at (x : Fin 4 → Fin 16 → Sq) (n : Fin 64) (h : Fin 4) (j l : Fin 128) :
    stack64 x (ix4 n h j l) = x ⟨n.val / 16, by omega⟩ ⟨n.val % 16, Nat.mod_lt _ (by norm_num)⟩ (ix3 h j l) :=
  (cat64 (fun i => stack16 (x i)) n h j l).trans (stack16_at ..)

/-- A chunk's squares taken from a stack. -/
theorem slices_at : ∀ n : Fin 64, S64x4x128x128.Slices ![n.val, 0, 0, 0] S1x4x128x128 := by decide
def pick (x : S64x4x128x128.Idx → EReal) (n : Fin 64) : Sq :=
  shapeCast S4x128x128 (extractStridedSlice S1x4x128x128 ![n.val, 0, 0, 0] x (slices_at n)) shapeCasts_S1x4x128x128_S4x128x128
theorem pick_at (x : S64x4x128x128.Idx → EReal) (n : Fin 64) (h : Fin 4) (j l : Fin 128) : pick x n (ix3 h j l) = x (ix4 n h j l) := by
  unfold pick
  pointwise []

variable (x0 x1 x2 x3 : FVec Ideal S1x8192x512 .f32) (x4 : FVec Ideal S1x512 .f32) (x5 : FVec Ideal S1x8192x512 .f32)

/-- The states before the chunks, in four groups of sixteen. -/
def fwd : Fin 4 → Fin 16 → Sq := ![![val_main_v117 (F := Ideal), val_main_v125 (F := Ideal) x1 x2, val_main_v130 (F := Ideal) x1 x2, val_main_v135 (F := Ideal) x1 x2, val_main_v140 (F := Ideal) x1 x2, val_main_v145 (F := Ideal) x1 x2,
    val_main_v150 (F := Ideal) x1 x2, val_main_v155 (F := Ideal) x1 x2, val_main_v160 (F := Ideal) x1 x2, val_main_v165 (F := Ideal) x1 x2, val_main_v170 (F := Ideal) x1 x2, val_main_v175 (F := Ideal) x1 x2,
    val_main_v180 (F := Ideal) x1 x2, val_main_v185 (F := Ideal) x1 x2, val_main_v190 (F := Ideal) x1 x2, val_main_v195 (F := Ideal) x1 x2],
  ![val_main_v200 (F := Ideal) x1 x2, val_main_v205 (F := Ideal) x1 x2, val_main_v210 (F := Ideal) x1 x2, val_main_v215 (F := Ideal) x1 x2, val_main_v220 (F := Ideal) x1 x2, val_main_v225 (F := Ideal) x1 x2,
    val_main_v230 (F := Ideal) x1 x2, val_main_v235 (F := Ideal) x1 x2, val_main_v240 (F := Ideal) x1 x2, val_main_v245 (F := Ideal) x1 x2, val_main_v250 (F := Ideal) x1 x2, val_main_v255 (F := Ideal) x1 x2,
    val_main_v260 (F := Ideal) x1 x2, val_main_v265 (F := Ideal) x1 x2, val_main_v270 (F := Ideal) x1 x2, val_main_v275 (F := Ideal) x1 x2],
  ![val_main_v280 (F := Ideal) x1 x2, val_main_v285 (F := Ideal) x1 x2, val_main_v290 (F := Ideal) x1 x2, val_main_v295 (F := Ideal) x1 x2, val_main_v300 (F := Ideal) x1 x2, val_main_v305 (F := Ideal) x1 x2,
    val_main_v310 (F := Ideal) x1 x2, val_main_v315 (F := Ideal) x1 x2, val_main_v320 (F := Ideal) x1 x2, val_main_v325 (F := Ideal) x1 x2, val_main_v330 (F := Ideal) x1 x2, val_main_v335 (F := Ideal) x1 x2,
    val_main_v340 (F := Ideal) x1 x2, val_main_v345 (F := Ideal) x1 x2, val_main_v350 (F := Ideal) x1 x2, val_main_v355 (F := Ideal) x1 x2],
  ![val_main_v360 (F := Ideal) x1 x2, val_main_v365 (F := Ideal) x1 x2, val_main_v370 (F := Ideal) x1 x2, val_main_v375 (F := Ideal) x1 x2, val_main_v380 (F := Ideal) x1 x2, val_main_v385 (F := Ideal) x1 x2,
    val_main_v390 (F := Ideal) x1 x2, val_main_v395 (F := Ideal) x1 x2, val_main_v400 (F := Ideal) x1 x2, val_main_v405 (F := Ideal) x1 x2, val_main_v410 (F := Ideal) x1 x2, val_main_v415 (F := Ideal) x1 x2,
    val_main_v420 (F := Ideal) x1 x2, val_main_v425 (F := Ideal) x1 x2, val_main_v430 (F := Ideal) x1 x2, val_main_v435 (F := Ideal) x1 x2]]

theorem fwd_zero : fwd x1 x2 0 0 = val_main_v117 (F := Ideal) := rfl
theorem fwd_succ : ∀ n : Fin 63, fwd x1 x2 ⟨(n.val + 1) / 16, by omega⟩ ⟨(n.val + 1) % 16, Nat.mod_lt _ (by norm_num)⟩ =
    addf (F := Ideal) (φ := .f32) (mulf (F := Ideal) (φ := .f32) (val_main_v123 (F := Ideal)) (fwd x1 x2 ⟨n.val / 16, by omega⟩ ⟨n.val % 16, Nat.mod_lt _ (by norm_num)⟩))
      (pick (val_main_v119 (F := Ideal) x1 x2) n.castSucc) := by
  intro n; fin_cases n <;> rfl

theorem fwd_at (n : Nat) (hn : n < 64) (h : Fin 4) (j l : Fin 128) :
    fwd x1 x2 ⟨n / 16, by omega⟩ ⟨n % 16, Nat.mod_lt _ (by norm_num)⟩ (ix3 h j l) = RetData.R (args x0 x1 x2 x3 x4 x5) n h j l := by
  induction n generalizing h j l with
  | zero =>
    refine (congrFun (fwd_zero x1 x2) _).trans ?_
    pointwise [val_main_v117, val_main_cst_12]
    rfl
  | succ n ih =>
    refine (congrFun (fwd_succ x1 x2 ⟨n, by omega⟩) _).trans ?_
    show _ * _ + _ = RetData.gc h * RetData.R (args x0 x1 x2 x3 x4 x5) n h j l + RetData.add (args x0 x1 x2 x3 x4 x5) ⟨n % 64, Nat.mod_lt _ (by norm_num)⟩ h j l
    rw [gc_at, ih (by omega), pick_at]
    have e : val_main_v119 (F := Ideal) x1 x2 (ix4 (⟨n, by omega⟩ : Fin 63).castSucc h j l) = RetData.add (args x0 x1 x2 x3 x4 x5) ⟨n, by omega⟩ h j l := by
      pointwise [val_main_v119]
      exact add_at x0 x1 x2 x3 x4 x5 _ h j l
    rw [e]
    exact congrArg (fun z : EReal => RetData.gc h * RetData.R (args x0 x1 x2 x3 x4 x5) n h j l + z) <| congrArg (fun k => RetData.add (args x0 x1 x2 x3 x4 x5) k h j l) (Fin.ext (Nat.mod_eq_of_lt (by omega)).symm)

theorem fwd_stack : val_main_v509 (F := Ideal) x1 x2 = stack64 (fwd x1 x2) := rfl

/-- The states, stacked. -/
theorem r_at (n : Fin 64) (h : Fin 4) (j l : Fin 128) : val_main_v510 (F := Ideal) x1 x2 (ix4 n h j l) = RetData.R (args x0 x1 x2 x3 x4 x5) n.val h j l := by
  pointwise [val_main_v510]
  rw [dif_neg (Nat.not_lt_zero _), fwd_stack]
  exact (stack64_at _ n h j l).trans (fwd_at x0 x1 x2 x3 x4 x5 n.val n.isLt h j l)

/-- The gradients of the states after the chunks, the last chunk's first. -/
def bwd : Fin 4 → Fin 16 → Sq := ![![val_main_v602 (F := Ideal), val_main_v610 (F := Ideal) x0 x1 x2 x3 x4 x5, val_main_v615 (F := Ideal) x0 x1 x2 x3 x4 x5, val_main_v620 (F := Ideal) x0 x1 x2 x3 x4 x5,
    val_main_v625 (F := Ideal) x0 x1 x2 x3 x4 x5, val_main_v630 (F := Ideal) x0 x1 x2 x3 x4 x5, val_main_v635 (F := Ideal) x0 x1 x2 x3 x4 x5, val_main_v640 (F := Ideal) x0 x1 x2 x3 x4 x5,
    val_main_v645 (F := Ideal) x0 x1 x2 x3 x4 x5, val_main_v650 (F := Ideal) x0 x1 x2 x3 x4 x5, val_main_v655 (F := Ideal) x0 x1 x2 x3 x4 x5, val_main_v660 (F := Ideal) x0 x1 x2 x3 x4 x5,
    val_main_v665 (F := Ideal) x0 x1 x2 x3 x4 x5, val_main_v670 (F := Ideal) x0 x1 x2 x3 x4 x5, val_main_v675 (F := Ideal) x0 x1 x2 x3 x4 x5, val_main_v680 (F := Ideal) x0 x1 x2 x3 x4 x5],
  ![val_main_v685 (F := Ideal) x0 x1 x2 x3 x4 x5, val_main_v690 (F := Ideal) x0 x1 x2 x3 x4 x5, val_main_v695 (F := Ideal) x0 x1 x2 x3 x4 x5, val_main_v700 (F := Ideal) x0 x1 x2 x3 x4 x5,
    val_main_v705 (F := Ideal) x0 x1 x2 x3 x4 x5, val_main_v710 (F := Ideal) x0 x1 x2 x3 x4 x5, val_main_v715 (F := Ideal) x0 x1 x2 x3 x4 x5, val_main_v720 (F := Ideal) x0 x1 x2 x3 x4 x5,
    val_main_v725 (F := Ideal) x0 x1 x2 x3 x4 x5, val_main_v730 (F := Ideal) x0 x1 x2 x3 x4 x5, val_main_v735 (F := Ideal) x0 x1 x2 x3 x4 x5, val_main_v740 (F := Ideal) x0 x1 x2 x3 x4 x5,
    val_main_v745 (F := Ideal) x0 x1 x2 x3 x4 x5, val_main_v750 (F := Ideal) x0 x1 x2 x3 x4 x5, val_main_v755 (F := Ideal) x0 x1 x2 x3 x4 x5, val_main_v760 (F := Ideal) x0 x1 x2 x3 x4 x5],
  ![val_main_v765 (F := Ideal) x0 x1 x2 x3 x4 x5, val_main_v770 (F := Ideal) x0 x1 x2 x3 x4 x5, val_main_v775 (F := Ideal) x0 x1 x2 x3 x4 x5, val_main_v780 (F := Ideal) x0 x1 x2 x3 x4 x5,
    val_main_v785 (F := Ideal) x0 x1 x2 x3 x4 x5, val_main_v790 (F := Ideal) x0 x1 x2 x3 x4 x5, val_main_v795 (F := Ideal) x0 x1 x2 x3 x4 x5, val_main_v800 (F := Ideal) x0 x1 x2 x3 x4 x5,
    val_main_v805 (F := Ideal) x0 x1 x2 x3 x4 x5, val_main_v810 (F := Ideal) x0 x1 x2 x3 x4 x5, val_main_v815 (F := Ideal) x0 x1 x2 x3 x4 x5, val_main_v820 (F := Ideal) x0 x1 x2 x3 x4 x5,
    val_main_v825 (F := Ideal) x0 x1 x2 x3 x4 x5, val_main_v830 (F := Ideal) x0 x1 x2 x3 x4 x5, val_main_v835 (F := Ideal) x0 x1 x2 x3 x4 x5, val_main_v840 (F := Ideal) x0 x1 x2 x3 x4 x5],
  ![val_main_v845 (F := Ideal) x0 x1 x2 x3 x4 x5, val_main_v850 (F := Ideal) x0 x1 x2 x3 x4 x5, val_main_v855 (F := Ideal) x0 x1 x2 x3 x4 x5, val_main_v860 (F := Ideal) x0 x1 x2 x3 x4 x5,
    val_main_v865 (F := Ideal) x0 x1 x2 x3 x4 x5, val_main_v870 (F := Ideal) x0 x1 x2 x3 x4 x5, val_main_v875 (F := Ideal) x0 x1 x2 x3 x4 x5, val_main_v880 (F := Ideal) x0 x1 x2 x3 x4 x5,
    val_main_v885 (F := Ideal) x0 x1 x2 x3 x4 x5, val_main_v890 (F := Ideal) x0 x1 x2 x3 x4 x5, val_main_v895 (F := Ideal) x0 x1 x2 x3 x4 x5, val_main_v900 (F := Ideal) x0 x1 x2 x3 x4 x5,
    val_main_v905 (F := Ideal) x0 x1 x2 x3 x4 x5, val_main_v910 (F := Ideal) x0 x1 x2 x3 x4 x5, val_main_v915 (F := Ideal) x0 x1 x2 x3 x4 x5, val_main_v920 (F := Ideal) x0 x1 x2 x3 x4 x5]]

theorem bwd_zero : bwd x0 x1 x2 x3 x4 x5 0 0 = val_main_v602 (F := Ideal) := rfl
theorem bwd_succ : ∀ n : Fin 63, bwd x0 x1 x2 x3 x4 x5 ⟨(n.val + 1) / 16, by omega⟩ ⟨(n.val + 1) % 16, Nat.mod_lt _ (by norm_num)⟩ =
    addf (F := Ideal) (φ := .f32) (pick (val_main_v603 (F := Ideal) x0 x1 x2 x3 x4 x5) ⟨63 - n.val, by omega⟩)
      (mulf (F := Ideal) (φ := .f32) (val_main_v123 (F := Ideal)) (bwd x0 x1 x2 x3 x4 x5 ⟨n.val / 16, by omega⟩ ⟨n.val % 16, Nat.mod_lt _ (by norm_num)⟩)) := by
  intro n; fin_cases n <;> rfl

/-- They follow the recurrence of the gradient of the states, once each chunk's part is known. -/
theorem bwd_at (hd : ∀ n h j l, val_main_v601 (F := Ideal) x0 x1 x2 x3 x4 x5 (ix4 n h j l) = RetChunk.dS (RetData.chunk (args x0 x1 x2 x3 x4 x5) n h) j l)
    (n : Nat) (hn : n < 64) (h : Fin 4) (j l : Fin 128) :
    bwd x0 x1 x2 x3 x4 x5 ⟨n / 16, by omega⟩ ⟨n % 16, Nat.mod_lt _ (by norm_num)⟩ (ix3 h j l) = RetData.G (args x0 x1 x2 x3 x4 x5) n h j l := by
  induction n generalizing h j l with
  | zero =>
    refine (congrFun (bwd_zero x0 x1 x2 x3 x4 x5) _).trans ?_
    pointwise [val_main_v602, val_main_cst_32]
    rfl
  | succ n ih =>
    refine (congrFun (bwd_succ x0 x1 x2 x3 x4 x5 ⟨n, by omega⟩) _).trans ?_
    show _ + _ * _ = RetChunk.dS (RetData.chunk (args x0 x1 x2 x3 x4 x5) ⟨63 - n, _⟩ h) j l + RetData.gc h * RetData.G (args x0 x1 x2 x3 x4 x5) n h j l
    rw [gc_at, ih (by omega), pick_at]
    refine congrArg (· + _) ?_
    pointwise [val_main_v603]
    exact hd _ h j l

theorem bwd_stack : val_main_v994 (F := Ideal) x0 x1 x2 x3 x4 x5 = stack64 fun a b => bwd x0 x1 x2 x3 x4 x5 ⟨3 - a.val, by omega⟩ ⟨15 - b.val, by omega⟩ := rfl

theorem g_at (hd : ∀ n h j l, val_main_v601 (F := Ideal) x0 x1 x2 x3 x4 x5 (ix4 n h j l) = RetChunk.dS (RetData.chunk (args x0 x1 x2 x3 x4 x5) n h) j l)
    (n : Fin 64) (h : Fin 4) (j l : Fin 128) : val_main_v995 (F := Ideal) x0 x1 x2 x3 x4 x5 (ix4 n h j l) = RetData.G (args x0 x1 x2 x3 x4 x5) (63 - n.val) h j l := by
  pointwise [val_main_v995]
  rw [bwd_stack]
  refine (stack64_at _ n h j l).trans ((congrArg₂ (fun a b => bwd x0 x1 x2 x3 x4 x5 a b (ix3 h j l)) (Fin.ext ?_) (Fin.ext ?_)).trans
    (bwd_at x0 x1 x2 x3 x4 x5 hd (63 - n.val) (by omega) h j l))
  · show 3 - n.val / 16 = (63 - n.val) / 16; omega
  · show 15 - n.val % 16 = (63 - n.val) % 16; omega

end Cert.RetRefIdeal.Hand

end
-- ==== Proof.NormGrad.lean ====
/-
  The gradient of root-mean-square normalisation, one row at a time. A row's gradient is written in the way the kernel
  computes it and in the way differentiation of the forward formula gives it, and the two are shown equal at real rows.
-/
module

public import proofs.«01_k».proof.Proof.Reals

@[expose] public section

noncomputable section

namespace Cert.NormGrad

open Idealize.ShloMosaic Cert.Reals

/-- The row's mean square plus the norm's small constant. -/
def ms (x : Fin 1024 → EReal) : EReal :=
  Ideal.div (∑ k, x k * x k) (Ideal.ofBits .f32 0x44800000#32) + Ideal.ofBits .f32 0x358637BD#32

/-- The reciprocal of the row's root mean square. -/
def rs (x : Fin 1024 → EReal) : EReal := Ideal.rsqrt (ms x)

/-- The gradient at a row as the kernel writes it: `a` is what is added, `d` the gradient of the normalised row. -/
def kgrad (x d : Fin 1024 → EReal) (j : Fin 1024) : EReal :=
  rs x * (d j - x j * rs x * Ideal.div (∑ k, d k * (x k * rs x)) (Ideal.ofBits .f32 0x44800000#32))

/-- The gradient of the mean square, as differentiation of the forward formula writes it. -/
def gms (x d : Fin 1024 → EReal) : EReal :=
  Ideal.div ((∑ k, x k * d k) * (Ideal.ofBits .f32 0xBF000000#32 * Ideal.div (rs x) (ms x)))
    (Ideal.ofBits .f32 0x44800000#32)

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- At a real row the mean square plus the constant is a positive real. -/
theorem ms_coe (a : Fin 1024 → ℝ) : ∃ v : ℝ, 0 < v ∧ ms (fun k => (a k : EReal)) = (v : EReal) := by
  obtain ⟨e, he, h⟩ := ofBits_eps
  refine ⟨(∑ k, a k * a k) / 1024 + e, ?_, ?_⟩
  · exact add_pos_of_nonneg_of_pos (div_nonneg (Finset.sum_nonneg fun k _ => mul_self_nonneg _) (by norm_num)) he
  · unfold ms
    simp only [h, ofBits_1024, ← EReal.coe_mul, ← coe_sum]
    rw [div_coe _ _ (by norm_num), ← EReal.coe_add]

/-- The gradient at a real row: the kernel's formula is the one differentiation gives, whatever both are added to. -/
theorem kgrad_eq (a d : Fin 1024 → ℝ) (j : Fin 1024) (b : EReal) :
    b + kgrad (fun k => (a k : EReal)) (fun k => (d k : EReal)) j =
      b + (d j : EReal) * rs (fun k => (a k : EReal)) + (a j : EReal) * gms (fun k => (a k : EReal)) (fun k => (d k : EReal))
        + gms (fun k => (a k : EReal)) (fun k => (d k : EReal)) * (a j : EReal) := by
  obtain ⟨v, hv, h⟩ := ms_coe a
  have hs : 0 < Real.sqrt v := Real.sqrt_pos.mpr hv
  have hq : Real.sqrt v * Real.sqrt v = v := Real.mul_self_sqrt hv.le
  unfold kgrad gms rs
  simp only [h, rsqrt_pos v hv, ofBits_1024, ofBits_neg_half, ← EReal.coe_mul, ← coe_sum]
  simp only [div_coe _ (1024 : ℝ) (by norm_num), div_coe _ v hv.ne', ← EReal.coe_mul, ← EReal.coe_sub]
  rw [add_assoc, add_assoc, ← EReal.coe_add, ← EReal.coe_add]
  congr 2
  have e : ∑ k, d k * (a k * (Real.sqrt v)⁻¹) = (∑ k, a k * d k) * (Real.sqrt v)⁻¹ := by
    rw [Finset.sum_mul]; exact Finset.sum_congr rfl fun k _ => by ring
  rw [e]
  generalize Real.sqrt v = s at *
  generalize ∑ k, a k * d k = u
  rw [← hq]
  field_simp
  ring

end Cert.NormGrad

end
-- ==== Proof.IsReal.lean ====
/-
  Extended reals that are real numbers: the operations of the gradients keep them real, and the norm's gradient at real rows.
-/
module

public import proofs.«01_k».proof.Proof.NormGrad

@[expose] public section

noncomputable section

namespace Cert.IsReal

open Idealize.ShloMosaic Cert.Reals Cert.NormGrad

/-- A real number among the extended reals. -/
def IsReal (x : EReal) : Prop := ∃ r : ℝ, x = (r : EReal)

theorem IsReal.zero : IsReal 0 := ⟨0, rfl⟩
theorem IsReal.add {x y : EReal} : IsReal x → IsReal y → IsReal (x + y) := fun ⟨a, h⟩ ⟨b, e⟩ => ⟨a + b, by rw [h, e, EReal.coe_add]⟩
theorem IsReal.sub {x y : EReal} : IsReal x → IsReal y → IsReal (x - y) := fun ⟨a, h⟩ ⟨b, e⟩ => ⟨a - b, by rw [h, e, EReal.coe_sub]⟩
theorem IsReal.mul {x y : EReal} : IsReal x → IsReal y → IsReal (x * y) := fun ⟨a, h⟩ ⟨b, e⟩ => ⟨a * b, by rw [h, e, EReal.coe_mul]⟩
theorem IsReal.max {x y : EReal} : IsReal x → IsReal y → IsReal (Max.max x y) := fun hx hy => by
  rcases le_total x y with h | h
  · rw [max_eq_right h]; exact hy
  · rw [max_eq_left h]; exact hx
theorem IsReal.sum {ι : Type*} {s : Finset ι} {f : ι → EReal} (h : ∀ i, IsReal (f i)) : IsReal (∑ i ∈ s, f i) := by
  choose a e using h
  exact ⟨∑ i ∈ s, a i, by rw [coe_sum]; exact Finset.sum_congr rfl fun i _ => e i⟩

/-- A real row, as real numbers. -/
theorem IsReal.row {ι : Type*} {f : ι → EReal} (h : ∀ i, IsReal (f i)) : ∃ a : ι → ℝ, f = fun i => (a i : EReal) := by
  choose a e using h
  exact ⟨a, funext e⟩

/-- The reciprocal root mean square of a real row. -/
theorem IsReal.rs {x : Fin 1024 → EReal} (h : ∀ k, IsReal (x k)) : IsReal (rs x) := by
  obtain ⟨a, rfl⟩ := IsReal.row h
  obtain ⟨v, hv, e⟩ := ms_coe a
  exact ⟨_, by unfold NormGrad.rs; rw [e, rsqrt_pos v hv]⟩

/-- The norm's gradient at a real row: the kernel's formula is the one differentiation gives. -/
theorem IsReal.kgrad {x d : Fin 1024 → EReal} (hx : ∀ k, IsReal (x k)) (hd : ∀ k, IsReal (d k)) (j : Fin 1024) (b : EReal) :
    b + kgrad x d j = b + d j * NormGrad.rs x + x j * gms x d + gms x d * x j := by
  obtain ⟨a, rfl⟩ := IsReal.row hx
  obtain ⟨d, rfl⟩ := IsReal.row hd
  exact kgrad_eq a d j b

theorem IsReal.kgrad_real {x d : Fin 1024 → EReal} (hx : ∀ k, IsReal (x k)) (hd : ∀ k, IsReal (d k)) (j : Fin 1024) :
    IsReal (NormGrad.kgrad x d j) := by
  have hr := IsReal.rs hx
  obtain ⟨u, hu⟩ : IsReal (∑ k, d k * (x k * NormGrad.rs x)) := IsReal.sum fun k => .mul (hd k) (.mul (hx k) hr)
  have hv : IsReal (Ideal.div (∑ k, d k * (x k * NormGrad.rs x)) (Ideal.ofBits .f32 0x44800000#32)) :=
    ⟨_, by rw [hu, ofBits_1024, div_coe _ _ (by norm_num)]⟩
  exact .mul hr (.sub (hd j) (.mul (.mul (hx j) hr) hv))

end Cert.IsReal

end
-- ==== Proof.RetReal.lean ====
/-
  Where the arguments of retention are real numbers, so is everything its gradient is formed from; and the group norm's
  gradient at a real row, as the kernel writes it and as differentiation gives it.
-/
module

public import proofs.«01_k».proof.Proof.RetData
public import proofs.«01_k».proof.Proof.IsReal

@[expose] public section

noncomputable section

namespace Cert.RetReal

open Idealize.ShloMosaic Cert.Reals Cert.NormGrad Cert.IsReal

theorem ofBits_128 : Ideal.ofBits .f32 0x43000000#32 = ((128 : ℝ) : EReal) := by
  simp [Ideal.ofBits, Ideal.ieee, -EReal.coe_mul]; norm_num
theorem ofBits_127 : Ideal.ofBits .f32 1123942400#32 = ((127 : ℝ) : EReal) := by
  simp [Ideal.ofBits, Ideal.ieee, -EReal.coe_mul]; norm_num
theorem ofBits_64 : Ideal.ofBits .f32 1115684864#32 = ((64 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_theta : IsReal (Ideal.ofBits .f32 1176256512#32) := ⟨_, by simp [Ideal.ofBits, Ideal.ieee, -EReal.coe_mul]; rfl⟩
theorem scale_real : IsReal RetData.scale := ⟨_, by simp [RetData.scale, Ideal.ofBits, Ideal.ieee, -EReal.coe_mul]; rfl⟩

theorem one_real : IsReal 1 := ⟨1, rfl⟩
theorem neg_real {x : EReal} : IsReal x → IsReal (-x) := fun ⟨a, h⟩ => ⟨-a, by rw [h, EReal.coe_neg]⟩
theorem div128 {x : EReal} : IsReal x → IsReal (Ideal.div x RetChunk.n128) := fun ⟨a, h⟩ =>
  ⟨a / 128, by rw [h, RetChunk.n128, ofBits_128, div_coe _ _ (by norm_num)]⟩

/-! ### The rotation and the decays -/

theorem num_real (n : ℕ) : IsReal (RetData.num n) := ⟨_, rfl⟩
theorem num_eq (r : Fin 128) : RetData.num r.val = ((r.val : ℝ) : EReal) := by
  have e : ∀ r : Fin 128, (BitVec.ofNat 32 r.val).toInt = (r.val : ℤ) := by decide
  show (((BitVec.ofNat 32 r.val).toInt : ℝ) : EReal) = _
  rw [e, Int.cast_natCast]

theorem ang_real (p k : ℕ) : IsReal (RetData.ang p k) := by
  obtain ⟨t, ht⟩ := ofBits_theta
  obtain ⟨n, hn⟩ := num_real k
  unfold RetData.ang
  rw [ht, ofBits_64, hn, ← EReal.coe_neg, div_coe _ _ (by norm_num)]
  exact (num_real p).mul ⟨_, rfl⟩
theorem cos_real {x : EReal} : IsReal x → IsReal (Ideal.cos x) := fun ⟨a, h⟩ => ⟨_, by rw [h]; rfl⟩
theorem sin_real {x : EReal} : IsReal x → IsReal (Ideal.sin x) := fun ⟨a, h⟩ => ⟨_, by rw [h]; rfl⟩
theorem cs_real (p : Fin 8192) (j : Fin 128) : IsReal (RetData.cs p j) := by
  unfold RetData.cs
  split_ifs <;> exact cos_real (ang_real _ _)
theorem sn_real (p : Fin 8192) (j : Fin 128) : IsReal (RetData.sn p j) := by
  unfold RetData.sn
  split_ifs
  · exact neg_real (sin_real (ang_real _ _))
  · exact sin_real (ang_real _ _)
theorem rope_real {x : Fin 128 → EReal} (h : ∀ j, IsReal (x j)) (p : Fin 8192) (j : Fin 128) : IsReal (RetData.rope x p j) :=
  ((h _).mul (cs_real p j)).add ((h _).mul (sn_real p j))

/-- The logarithm of a decay is not positive infinity, and a decay is real whatever its logarithm. -/
theorem lg_top (h : Fin 4) : RetData.lg h ≠ ⊤ := by
  unfold RetData.lg
  generalize RetData.lin h = y
  have key : ∀ r : ℝ, Ideal.log (r : EReal) ≠ ⊤ := fun r => by
    rw [Ideal.log_coe]; split_ifs
    · exact bot_ne_top
    · exact EReal.coe_ne_top _
  induction y with
  | bot => rw [Ideal.exp_bot, sub_zero]; exact key 1
  | top => rw [Ideal.exp_top, EReal.sub_top]; exact bot_ne_top
  | coe r => rw [Ideal.exp_coe]; exact key (1 - Real.exp r)

theorem decay_real {c : EReal} {r : ℝ} (e : c = (r : EReal)) (hr : 0 ≤ r) {x : EReal} (hx : x ≠ ⊤) : IsReal (Ideal.exp (c * x)) := by
  subst e
  induction x with
  | top => exact absurd rfl hx
  | coe y => exact ⟨_, by rw [← EReal.coe_mul]; rfl⟩
  | bot =>
    rcases hr.eq_or_lt with h | h
    · rw [← h, EReal.coe_zero, zero_mul]; exact ⟨_, Ideal.exp_coe 0⟩
    · rw [EReal.coe_mul_bot_of_pos h, Ideal.exp_bot]; exact .zero

theorem dec_real (h : Fin 4) (r i : Fin 128) : IsReal (RetData.dec h r i) := by
  unfold RetData.dec
  rw [num_eq, num_eq, ← EReal.coe_sub]
  split_ifs with hc
  · rw [max_eq_left hc]
    exact decay_real rfl (by exact_mod_cast hc) (lg_top h)
  · exact .zero
theorem xi_real (h : Fin 4) (r : Fin 128) : IsReal (RetData.xi h r) := by
  refine decay_real (r := r.val + 1) ?_ (by positivity) (lg_top h)
  rw [num_eq, EReal.coe_add]; rfl
theorem zt_real (h : Fin 4) (r : Fin 128) : IsReal (RetData.zt h r) := by
  refine decay_real (r := 127 - r.val) ?_ ?_ (lg_top h)
  · rw [num_eq, ofBits_127, EReal.coe_sub]
  · have : (r.val : ℝ) ≤ 127 := by exact_mod_cast Nat.le_of_lt_succ r.isLt
    linarith
theorem gc_real (h : Fin 4) : IsReal (RetData.gc h) := decay_real ofBits_128 (by norm_num) (lg_top h)

/-! ### A chunk -/

/-- A chunk of real numbers. -/
structure RealChunk (C : RetChunk.Chunk) : Prop where
  q : ∀ r j, IsReal (C.q r j)
  k : ∀ r j, IsReal (C.k r j)
  v : ∀ r j, IsReal (C.v r j)
  d : ∀ r j, IsReal (C.d r j)
  x : ∀ r j, IsReal (C.x r j)
  s : ∀ r j, IsReal (C.s r j)
  gt : ∀ r j, IsReal (C.gt r j)
  dy : ∀ r j, IsReal (C.dy r j)
  g : ∀ j, IsReal (C.g j)

/-- The mean of a real row's squares about its mean, plus the norm's constant, is a positive real. -/
theorem var_pos (a : Fin 128 → ℝ) : ∃ v : ℝ, 0 < v ∧
    Ideal.div (∑ l, (a l : EReal) * (a l : EReal)) RetChunk.n128 + RetChunk.eps = (v : EReal) := by
  obtain ⟨e, he, h⟩ := ofBits_eps
  refine ⟨(∑ k, a k * a k) / 128 + e, ?_, ?_⟩
  · exact add_pos_of_nonneg_of_pos (div_nonneg (Finset.sum_nonneg fun k _ => mul_self_nonneg _) (by norm_num)) he
  · simp only [RetChunk.eps, RetChunk.n128, h, ofBits_128, ← EReal.coe_mul, ← coe_sum]
    rw [div_coe _ _ (by norm_num), ← EReal.coe_add]

section chunk

variable {C : RetChunk.Chunk} (H : RealChunk C) (r : Fin 128)
include H

theorem sd_real (i : Fin 128) : IsReal (RetChunk.sd C r i) := (IsReal.sum fun j => (H.q r j).mul (H.k i j)).mul (H.d r i)
theorem o_real (l : Fin 128) : IsReal (RetChunk.o C r l) :=
  (IsReal.sum fun i => (sd_real H r i).mul (H.v i l)).add (IsReal.sum fun j => ((H.q r j).mul (H.x r j)).mul (H.s j l))
theorem oc_real (l : Fin 128) : IsReal (RetChunk.oc C r l) := (o_real H r l).sub (div128 (IsReal.sum fun l => o_real H r l))
theorem rs_real : IsReal (RetChunk.rs C r) := by
  obtain ⟨a, ha⟩ := IsReal.row (oc_real H r)
  obtain ⟨v, hv, e⟩ := var_pos a
  refine ⟨(Real.sqrt v)⁻¹, ?_⟩
  unfold RetChunk.rs RetChunk.ss
  rw [ha, e, rsqrt_pos v hv]
theorem on_real (l : Fin 128) : IsReal (RetChunk.on C r l) := (oc_real H r l).mul (rs_real H r)
theorem sg_real (l : Fin 128) : IsReal (RetChunk.sg C r l) := by
  obtain ⟨a, ha⟩ := H.gt r l
  refine ⟨1 / (1 + Real.exp (0 - a)), ?_⟩
  unfold RetChunk.sg
  rw [ha, ← EReal.coe_zero, ← EReal.coe_sub, Ideal.exp_coe, ← EReal.coe_one, ← EReal.coe_add, div_coe _ _ (by positivity)]
theorem don_real (l : Fin 128) : IsReal (RetChunk.don C r l) := ((H.dy r l).mul ((H.gt r l).mul (sg_real H r l))).mul (H.g l)
theorem dO_real (l : Fin 128) : IsReal (RetChunk.dO C r l) :=
  (rs_real H r).mul (((don_real H r l).sub (div128 (IsReal.sum fun l => don_real H r l))).sub
    ((on_real H r l).mul (div128 (IsReal.sum fun l => (don_real H r l).mul (on_real H r l)))))

end chunk

/-- A factor taken into a sum of real numbers. -/
theorem sum_mul {ι : Type*} [Fintype ι] {f : ι → EReal} (h : ∀ i, IsReal (f i)) {x : EReal} (hx : IsReal x) :
    (∑ i, f i) * x = ∑ i, f i * x := by
  obtain ⟨a, rfl⟩ := IsReal.row h
  obtain ⟨b, rfl⟩ := hx
  simp only [← EReal.coe_mul, ← coe_sum, Finset.sum_mul]

/-! ### The group norm's gradient -/

/-- What differentiation of the centred row's norm gives. -/
def half (c d : Fin 128 → EReal) (v : EReal) : EReal :=
  Ideal.div ((∑ x, c x * d x) * (Ideal.ofBits .f32 0xBF000000#32 * Ideal.div (Ideal.rsqrt v) v)) RetChunk.n128
def ngrad (c d : Fin 128 → EReal) (v : EReal) (l : Fin 128) : EReal :=
  d l * Ideal.rsqrt v + half c d v * (Ideal.ofBits .f32 0x40000000#32 * c l)
    + Ideal.div (∑ x, -(d x * Ideal.rsqrt v) + ∑ x, -(half c d v * (Ideal.ofBits .f32 0x40000000#32 * c x))) RetChunk.n128

/-- A real row less its mean sums to nothing. -/
theorem centred {a : Fin 128 → EReal} (h : ∀ l, IsReal (a l)) :
    ∃ c : Fin 128 → ℝ, (∀ l, a l - Ideal.div (∑ l, a l) RetChunk.n128 = (c l : EReal)) ∧ ∑ l, c l = 0 := by
  obtain ⟨a, rfl⟩ := IsReal.row h
  refine ⟨fun l => a l - (∑ l, a l) / 128, fun l => ?_, ?_⟩
  · rw [← coe_sum, RetChunk.n128, ofBits_128, div_coe _ _ (by norm_num), EReal.coe_sub]
  · rw [Finset.sum_sub_distrib, Finset.sum_const, Finset.card_univ, Fintype.card_fin, nsmul_eq_mul]
    push_cast
    ring

theorem ngrad_eq (c d : Fin 128 → ℝ) (hc : ∑ l, c l = 0) (v : ℝ) (hv : 0 < v) (l : Fin 128) :
    Ideal.rsqrt (v : EReal) * ((d l : EReal) - Ideal.div (∑ l, (d l : EReal)) RetChunk.n128
      - ((c l : EReal) * Ideal.rsqrt (v : EReal)) * Ideal.div (∑ l, (d l : EReal) * ((c l : EReal) * Ideal.rsqrt (v : EReal))) RetChunk.n128) =
      ngrad (fun l => (c l : EReal)) (fun l => (d l : EReal)) v l := by
  have hs : 0 < Real.sqrt v := Real.sqrt_pos.mpr hv
  have hq : Real.sqrt v * Real.sqrt v = v := Real.mul_self_sqrt hv.le
  unfold ngrad half
  simp only [rsqrt_pos v hv, RetChunk.n128, ofBits_128, ofBits_neg_half, ofBits_two, div_coe _ v hv.ne', ← EReal.coe_mul, ← coe_sum, ← EReal.coe_neg]
  simp only [div_coe _ (128 : ℝ) (by norm_num), ← EReal.coe_mul, ← coe_sum, ← EReal.coe_sub, ← EReal.coe_add, ← EReal.coe_neg]
  congr 1
  have e1 : ∑ x, d x * (c x * (Real.sqrt v)⁻¹) = (∑ x, c x * d x) * (Real.sqrt v)⁻¹ := by
    rw [Finset.sum_mul]; exact Finset.sum_congr rfl fun k _ => by ring
  have e2 : ∑ x, -(d x * (Real.sqrt v)⁻¹) = -((∑ x, d x) * (Real.sqrt v)⁻¹) := by
    rw [Finset.sum_neg_distrib, Finset.sum_mul]
  have e3 (u : ℝ) : ∑ x, -(u * (2 * c x)) = 0 := by
    rw [Finset.sum_neg_distrib, ← Finset.mul_sum, ← Finset.mul_sum, hc]; ring
  rw [e1, e2, e3]
  generalize Real.sqrt v = s at *
  generalize ∑ k, c k * d k = u
  generalize ∑ k, d k = w
  rw [← hq]
  field_simp
  ring

/-- The chunk's gradient before the norm, as differentiation gives it. -/
theorem dO_eq {C : RetChunk.Chunk} (H : RealChunk C) (r l : Fin 128) :
    RetChunk.dO C r l = ngrad (RetChunk.oc C r) (RetChunk.don C r) (Ideal.div (RetChunk.ss C r) RetChunk.n128 + RetChunk.eps) l := by
  obtain ⟨c, hc, h0⟩ := centred (o_real H r)
  obtain ⟨d, hd⟩ := IsReal.row (don_real H r)
  obtain ⟨v, hv, e⟩ := var_pos c
  have hc' : RetChunk.oc C r = fun l => (c l : EReal) := funext hc
  have e' : Ideal.div (RetChunk.ss C r) RetChunk.n128 + RetChunk.eps = (v : EReal) := by unfold RetChunk.ss; rw [hc']; exact e
  unfold RetChunk.dO RetChunk.on RetChunk.rs
  rw [e', hc', hd]
  exact ngrad_eq c d h0 v hv l

/-- The gate's gradient, as differentiation gives it. -/
theorem gate_eq {y t s : EReal} (hy : IsReal y) (ht : IsReal t) (hs : IsReal s) :
    y * s + (t * y) * (s * (1 - s)) = y * (s * (1 + t * (1 - s))) := by
  obtain ⟨y, rfl⟩ := hy
  obtain ⟨t, rfl⟩ := ht
  obtain ⟨s, rfl⟩ := hs
  rw [← EReal.coe_one]
  simp only [← EReal.coe_mul, ← EReal.coe_sub, ← EReal.coe_add]
  congr 1
  ring

/-! ### All chunks -/

/-- Real arguments. -/
structure RealArgs (a : RetData.Args) : Prop where
  q : ∀ p h j, IsReal (a.q p h j)
  k : ∀ p h j, IsReal (a.k p h j)
  v : ∀ p h j, IsReal (a.v p h j)
  gt : ∀ p h j, IsReal (a.gt p h j)
  dy : ∀ p h j, IsReal (a.dy p h j)
  g : ∀ h j, IsReal (a.g h j)

variable {a : RetData.Args} (H : RealArgs a)
include H

theorem q_real (p : Fin 8192) (h : Fin 4) (j : Fin 128) : IsReal (RetData.Q a p h j) := rope_real (H.q p h) p j
theorem k_real (p : Fin 8192) (h : Fin 4) (j : Fin 128) : IsReal (RetData.K a p h j) := (rope_real (H.k p h) p j).mul scale_real
theorem r_real : ∀ (n : ℕ) (h : Fin 4) (j l : Fin 128), IsReal (RetData.R a n h j l)
  | 0, _, _, _ => .zero
  | n + 1, h, j, l => ((gc_real h).mul (r_real n h j l)).add (IsReal.sum fun r => (k_real H _ h j).mul ((H.v _ h l).mul (zt_real h r)))

theorem chunk_real (n : Fin 64) (h : Fin 4) : RealChunk (RetData.chunk a n h) where
  q _ _ := q_real H _ h _
  k _ _ := k_real H _ h _
  v _ _ := H.v _ h _
  d _ _ := dec_real h _ _
  x _ _ := xi_real h _
  s _ _ := r_real H _ h _ _
  gt _ _ := H.gt _ h _
  dy _ _ := H.dy _ h _
  g _ := H.g h _

end Cert.RetReal

end
-- ==== Proof.RetRefC.lean ====
/-
  The retention's reference, read at an entry: the chunks' outputs, the group norm, the gate, and their gradients.
-/
module

public import proofs.«01_k».proof.Proof.RetRefB
public import proofs.«01_k».proof.Proof.RetReal

@[expose] public section

set_option maxRecDepth 16384

noncomputable section

namespace Cert.RetRefIdeal.Hand

open Cert.RetRefIdeal Cert.RetRefIdeal.Gen Cert.RetRefIdeal.Read Cert.IsReal Cert.RetReal Idealize.ShloMosaic

variable (x0 x1 x2 x3 : FVec Ideal S1x8192x512 .f32) (x4 : FVec Ideal S1x512 .f32) (x5 : FVec Ideal S1x8192x512 .f32)

local notation "𝐀" => args x0 x1 x2 x3 x4 x5
local notation "𝐂" => RetData.chunk (args x0 x1 x2 x3 x4 x5)

/-- A row taken apart. -/
theorem row_div (n : Fin 64) (r : Fin 128) (l : (RetData.row n r).val / 128 < 64) : (⟨(RetData.row n r).val / 128, l⟩ : Fin 64) = n :=
  Fin.ext (by show (128 * n.val + r.val) / 128 = n.val; omega)
theorem row_mod (n : Fin 64) (r : Fin 128) (l : (RetData.row n r).val % 128 < 128) : (⟨(RetData.row n r).val % 128, l⟩ : Fin 128) = r :=
  Fin.ext (by show (128 * n.val + r.val) % 128 = r.val; omega)
theorem col_div (h : Fin 4) (j : Fin 128) (l : (col h j).val / 128 < 4) : (⟨(col h j).val / 128, l⟩ : Fin 4) = h :=
  Fin.ext (by show (128 * h.val + j.val) / 128 = h.val; omega)
theorem col_mod (h : Fin 4) (j : Fin 128) (l : (col h j).val % 128 < 128) : (⟨(col h j).val % 128, l⟩ : Fin 128) = j :=
  Fin.ext (by show (128 * h.val + j.val) % 128 = j.val; omega)

/-- A sum over all rows, chunk by chunk. -/
theorem sum_rows (f : Fin 8192 → EReal) : ∑ p, f p = ∑ n, ∑ r, f (RetData.row n r) := by
  have e := Reals.sum_blocks 64 128 8192 rfl fun p => if h : p < 8192 then f ⟨p, h⟩ else 0
  simp only [Fin.is_lt, dite_true, Fin.eta] at e
  exact e.trans (Finset.sum_congr rfl fun n _ => Finset.sum_congr rfl fun r _ => dif_pos (RetData.row n r).isLt)

/-- The decayed scores. -/
theorem sd_at (n : Fin 64) (h : Fin 4) (r i : Fin 128) :
    val_main_v97 (F := Ideal) x0 x1 (ix4 n h r i) = RetChunk.sd (𝐂 n h) r i := by
  pointwise [val_main_v94, val_main_v95, val_main_v96, val_main_v97]
  simp only [q_at x0 x1 x2 x3 x4 x5, k_at x0 x1 x2 x3 x4 x5, dec_at]
  rfl

/-- The chunks' outputs. -/
theorem o_chunk (H : RealArgs 𝐀) (n : Fin 64) (r : Fin 128) (h : Fin 4) (l : Fin 128) :
    val_main_v525 (F := Ideal) x0 x1 x2 (ix4 n r h l) = RetChunk.o (𝐂 n h) r l := by
  pointwise [val_main_v98, val_main_v99, val_main_v519, val_main_v520, val_main_v521, val_main_v522, val_main_v523, val_main_v524, val_main_v525]
  simp only [sd_at x0 x1 x2 x3 x4 x5, q_at x0 x1 x2 x3 x4 x5, v_at x0 x1 x2 x3 x4 x5, r_at x0 x1 x2 x3 x4 x5, xi_at]
  refine congrArg₂ (fun x y : EReal => x + y) (Finset.sum_congr rfl fun i _ => mul_comm _ _) ?_
  rw [RetReal.sum_mul (fun j => (r_real H n.val h j l).mul (q_real H _ h j)) (xi_real h r)]
  exact Finset.sum_congr rfl fun j _ => by rw [mul_comm (RetData.R _ _ _ _ _), mul_right_comm]; rfl
theorem o_at (H : RealArgs 𝐀) (n : Fin 64) (r : Fin 128) (h : Fin 4) (l : Fin 128) :
    val_main_v526 (F := Ideal) x0 x1 x2 (ix3 (RetData.row n r) h l) = RetChunk.o (𝐂 n h) r l := by
  pointwise [val_main_v526]
  rw [row_div, row_mod, o_chunk x0 x1 x2 x3 x4 x5 H]

/-- The norm. -/
theorem oc_at (H : RealArgs 𝐀) (n : Fin 64) (r : Fin 128) (h : Fin 4) (l : Fin 128) :
    val_main_v541 (F := Ideal) x0 x1 x2 (ix3 (RetData.row n r) h l) = RetChunk.oc (𝐂 n h) r l := by
  pointwise [val_main_v527, val_main_v528, val_main_v529, val_main_v530, val_main_v540, val_main_v541, val_main_cst_15, val_main_cst_16]
  simp only [o_at x0 x1 x2 x3 x4 x5 H]
  rfl
theorem oc2_at (H : RealArgs 𝐀) (n : Fin 64) (r : Fin 128) (h : Fin 4) (l : Fin 128) :
    val_main_v532 (F := Ideal) x0 x1 x2 (ix3 (RetData.row n r) h l) = RetChunk.oc (𝐂 n h) r l := by
  pointwise [val_main_v527, val_main_v528, val_main_v529, val_main_v530, val_main_v531, val_main_v532, val_main_cst_15, val_main_cst_16]
  simp only [o_at x0 x1 x2 x3 x4 x5 H]
  rfl
theorem var_at (H : RealArgs 𝐀) (n : Fin 64) (r : Fin 128) (h : Fin 4) (z : Fin 1) :
    val_main_v543 (F := Ideal) x0 x1 x2 (ix3 (RetData.row n r) h z) = Ideal.div (RetChunk.ss (𝐂 n h) r) RetChunk.n128 + RetChunk.eps := by
  pointwise [val_main_v533, val_main_v536, val_main_v537, val_main_v538, val_main_v539, val_main_v542, val_main_v543,
    val_main_cst_18, val_main_cst_19, val_main_cst_20]
  simp only [oc2_at x0 x1 x2 x3 x4 x5 H]
  rfl
theorem rs_at (H : RealArgs 𝐀) (n : Fin 64) (r : Fin 128) (h : Fin 4) (z : Fin 1) :
    val_main_v544 (F := Ideal) x0 x1 x2 (ix3 (RetData.row n r) h z) = RetChunk.rs (𝐂 n h) r := by
  pointwise [val_main_v544]
  rw [var_at x0 x1 x2 x3 x4 x5 H]
  rfl
theorem on_at (H : RealArgs 𝐀) (n : Fin 64) (r : Fin 128) (h : Fin 4) (l : Fin 128) :
    val_main_v549 (F := Ideal) x0 x1 x2 (ix3 (RetData.row n r) h l) = RetChunk.on (𝐂 n h) r l := by
  pointwise [val_main_v548, val_main_v549]
  rw [oc_at x0 x1 x2 x3 x4 x5 H, rs_at x0 x1 x2 x3 x4 x5 H]
  rfl

/-- The gate. -/
theorem gate_in (n : Fin 64) (r : Fin 128) (h : Fin 4) (l : Fin 128) :
    val_main_v3 (F := Ideal) x3 (ix2 (RetData.row n r) (col h l)) = (𝐂 n h).gt r l := by
  pointwise [val_main_v3]
  rfl
theorem sg_at (n : Fin 64) (r : Fin 128) (h : Fin 4) (l : Fin 128) :
    val_main_v555_2 (F := Ideal) x3 (ix2 (RetData.row n r) (col h l)) = RetChunk.sg (𝐂 n h) r l := by
  pointwise [val_main_v555_2, val_main_call2_v0, val_main_call2_v1, val_main_call2_v2, val_main_call2_v3, val_main_call2_v4, val_main_call2_cst, val_main_call2_cst_0]
  rw [gate_in x0 x1 x2 x3 x4 x5]
  unfold RetChunk.sg
  rw [zero_sub]
theorem gain_at (h : Fin 4) (l : Fin 128) : val_main_v551 (F := Ideal) x4 (ix3 0 h l) = (𝐀).g h l := by
  pointwise [val_main_v4, val_main_v550, val_main_v551]
  rw [col_eq rfl]
  rfl
theorem dyg_at (n : Fin 64) (r : Fin 128) (h : Fin 4) (l : Fin 128) :
    val_main_v562 (F := Ideal) x3 x5 (ix3 (RetData.row n r) h l) = RetChunk.dyg (𝐂 n h) r l := by
  pointwise [val_main_v562, val_main_v559, val_main_v557, val_main_v555_0]
  rw [col_eq rfl, gate_in x0 x1 x2 x3 x4 x5, sg_at x0 x1 x2 x3 x4 x5]
  exact mul_comm _ _
theorem don_at (n : Fin 64) (r : Fin 128) (h : Fin 4) (l : Fin 128) :
    val_main_v567 (F := Ideal) x3 x4 x5 (ix3 (RetData.row n r) h l) = RetChunk.don (𝐂 n h) r l := by
  pointwise [val_main_v566, val_main_v567]
  rw [dyg_at x0 x1 x2 x3 x4 x5, gain_at x0 x1 x2 x3 x4 x5]
  rfl
theorem dgt_at (H : RealArgs 𝐀) (n : Fin 64) (r : Fin 128) (h : Fin 4) (l : Fin 128) :
    val_main_v561 (F := Ideal) x0 x1 x2 x3 x4 x5 (ix2 (RetData.row n r) (col h l)) = RetChunk.dgt (𝐂 n h) r l := by
  pointwise [val_main_v561, val_main_call3_v0, val_main_call3_v1, val_main_call3_v2, val_main_v560, val_main_v557, val_main_v554, val_main_v553, val_main_v552, val_main_v555_1,
    val_main_call2_v6, val_main_call2_v7, val_main_call2_cst_1]
  rw [col_div, col_mod, on_at x0 x1 x2 x3 x4 x5 H, gain_at x0 x1 x2 x3 x4 x5, gate_in x0 x1 x2 x3 x4 x5, sg_at x0 x1 x2 x3 x4 x5]
  have C := chunk_real H n h
  exact gate_eq ((C.dy r l).mul ((on_real C r l).mul (C.g l))) (C.gt r l) (sg_real C r l)

/-- The gains' gradient. -/
theorem dgain_at (H : RealArgs 𝐀) (h : Fin 4) (l : Fin 128) :
    val_main_v569 (F := Ideal) x0 x1 x2 x3 x5 (ix1 (col h l)) = RetData.dgain 𝐀 h l := by
  pointwise [val_main_v569, val_main_v568, val_main_v565, val_main_v564, val_main_v563, val_main_cst_23, val_main_cst_24]
  rw [Fin.sum_univ_one, sum_rows]
  simp only [col_div, col_mod, on_at x0 x1 x2 x3 x4 x5 H, dyg_at x0 x1 x2 x3 x4 x5]
  exact Finset.sum_congr rfl fun n _ => Finset.sum_congr rfl fun r _ => mul_comm _ _

/-- The gradient before the norm. -/
theorem half_at (H : RealArgs 𝐀) (n : Fin 64) (r : Fin 128) (h : Fin 4) (z : Fin 1) :
    val_main_v580 (F := Ideal) x0 x1 x2 x3 x4 x5 (ix3 (RetData.row n r) h z) =
      half (RetChunk.oc (𝐂 n h) r) (RetChunk.don (𝐂 n h) r) (Ideal.div (RetChunk.ss (𝐂 n h) r) RetChunk.n128 + RetChunk.eps) := by
  pointwise [val_main_v545, val_main_v546, val_main_v547, val_main_v570, val_main_v571, val_main_v572, val_main_v575, val_main_v579, val_main_v580,
    val_main_cst_21, val_main_cst_25, val_main_cst_27]
  simp only [oc_at x0 x1 x2 x3 x4 x5 H, don_at x0 x1 x2 x3 x4 x5, var_at x0 x1 x2 x3 x4 x5 H, rs_at x0 x1 x2 x3 x4 x5 H]
  rfl
theorem do_row (H : RealArgs 𝐀) (n : Fin 64) (r : Fin 128) (h : Fin 4) (l : Fin 128) :
    val_main_v593 (F := Ideal) x0 x1 x2 x3 x4 x5 (ix3 (RetData.row n r) h l) = RetChunk.dO (𝐂 n h) r l := by
  rw [dO_eq (chunk_real H n h)]
  pointwise [val_main_v534, val_main_v535, val_main_v573, val_main_v574, val_main_v576, val_main_v577, val_main_v578, val_main_v581, val_main_v582, val_main_v583, val_main_v584,
    val_main_v585, val_main_v586, val_main_v587, val_main_v588, val_main_v589, val_main_v590, val_main_v591, val_main_v592, val_main_v593,
    val_main_cst_17, val_main_cst_26, val_main_cst_28, val_main_cst_29, val_main_cst_30, val_main_cst_31]
  simp only [oc2_at x0 x1 x2 x3 x4 x5 H, don_at x0 x1 x2 x3 x4 x5, half_at x0 x1 x2 x3 x4 x5 H, rs_at x0 x1 x2 x3 x4 x5 H, Fin.sum_univ_one]
  rfl
theorem do_at (H : RealArgs 𝐀) (n : Fin 64) (r : Fin 128) (h : Fin 4) (l : Fin 128) :
    val_main_v594 (F := Ideal) x0 x1 x2 x3 x4 x5 (ix4 n r h l) = RetChunk.dO (𝐂 n h) r l := by
  pointwise [val_main_v594]
  rw [row_eq, do_row x0 x1 x2 x3 x4 x5 H]

/-- What each chunk adds to the gradient of the state before it. -/
theorem ds_state (H : RealArgs 𝐀) (n : Fin 64) (h : Fin 4) (j l : Fin 128) :
    val_main_v601 (F := Ideal) x0 x1 x2 x3 x4 x5 (ix4 n h j l) = RetChunk.dS (𝐂 n h) j l := by
  pointwise [val_main_v521, val_main_v522, val_main_v601, val_main_v600, val_main_v597, val_main_v596, val_main_v595]
  simp only [do_at x0 x1 x2 x3 x4 x5 H, q_at x0 x1 x2 x3 x4 x5, xi_at]
  exact Finset.sum_congr rfl fun r _ => by rw [mul_comm, ← mul_assoc, mul_right_comm]; rfl
theorem state_grad (H : RealArgs 𝐀) (n : Fin 64) (h : Fin 4) (j l : Fin 128) :
    val_main_v995 (F := Ideal) x0 x1 x2 x3 x4 x5 (ix4 n h j l) = RetData.G 𝐀 (63 - n.val) h j l :=
  g_at x0 x1 x2 x3 x4 x5 (ds_state x0 x1 x2 x3 x4 x5 H) n h j l

/-- The scores' gradient, decayed. -/
theorem ds_at (H : RealArgs 𝐀) (n : Fin 64) (h : Fin 4) (r i : Fin 128) :
    val_main_v1008 (F := Ideal) x0 x1 x2 x3 x4 x5 (ix4 n h r i) = RetChunk.ds (𝐂 n h) r i := by
  pointwise [val_main_v95, val_main_v1002, val_main_v1003, val_main_v1007, val_main_v1008]
  simp only [do_at x0 x1 x2 x3 x4 x5 H, v_at x0 x1 x2 x3 x4 x5, dec_at]
  rfl

/-- The gradients of the values, keys and queries, the last two still rotated. -/
theorem dv_chunk (H : RealArgs 𝐀) (n : Fin 64) (r : Fin 128) (h : Fin 4) (l : Fin 128) :
    val_main_v1006 (F := Ideal) x0 x1 x2 x3 x4 x5 (ix4 n r h l) = RetData.dv 𝐀 n h r l := by
  pointwise [val_main_v108, val_main_v109, val_main_v996, val_main_v997, val_main_v1000, val_main_v1001, val_main_v1002, val_main_v1004, val_main_v1005, val_main_v1006]
  simp only [do_at x0 x1 x2 x3 x4 x5 H, k_at x0 x1 x2 x3 x4 x5, zt_at, sd_at x0 x1 x2 x3 x4 x5, state_grad x0 x1 x2 x3 x4 x5 H]
  refine (add_comm _ _).trans (congrArg₂ (fun x y : EReal => x + y) (Finset.sum_congr rfl fun i _ => mul_comm _ _)
    (congrArg (fun z : EReal => z * _) (Finset.sum_congr rfl fun i _ => mul_comm _ _)))
theorem dk_chunk (H : RealArgs 𝐀) (n : Fin 64) (r : Fin 128) (h : Fin 4) (j : Fin 128) :
    val_main_v1011 (F := Ideal) x0 x1 x2 x3 x4 x5 (ix4 n r h j) =
      RetChunk.dkIn (𝐂 n h) r j + RetChunk.dkX (𝐂 n h) (RetData.G 𝐀 (63 - n.val) h) r j := by
  pointwise [val_main_v998, val_main_v999, val_main_v1009, val_main_v1010, val_main_v1011]
  simp only [vz_at x0 x1 x2 x3 x4 x5, q_at x0 x1 x2 x3 x4 x5, ds_at x0 x1 x2 x3 x4 x5 H, state_grad x0 x1 x2 x3 x4 x5 H]
  exact (add_comm _ _).trans (congrArg₂ (fun x y : EReal => x + y) rfl (Finset.sum_congr rfl fun i _ => mul_comm _ _))
theorem dq_chunk (H : RealArgs 𝐀) (n : Fin 64) (r : Fin 128) (h : Fin 4) (j : Fin 128) :
    val_main_v1014 (F := Ideal) x0 x1 x2 x3 x4 x5 (ix4 n r h j) = RetChunk.dq (𝐂 n h) r j := by
  pointwise [val_main_v521, val_main_v522, val_main_v595, val_main_v596, val_main_v597, val_main_v598, val_main_v599, val_main_v1012, val_main_v1013, val_main_v1014]
  simp only [do_at x0 x1 x2 x3 x4 x5 H, k_at x0 x1 x2 x3 x4 x5, r_at x0 x1 x2 x3 x4 x5, ds_at x0 x1 x2 x3 x4 x5 H, xi_at]
  refine (add_comm _ _).trans (congrArg₂ (fun x y : EReal => x + y) rfl ?_)
  refine Eq.trans ?_ (RetReal.sum_mul (fun l => (dO_real (chunk_real H n h) r l).mul (r_real H n.val h j l)) (xi_real h r)).symm
  exact Finset.sum_congr rfl fun l _ => mul_right_comm _ _ _

end Cert.RetRefIdeal.Hand

end
-- ==== Proof.RetRefD.lean ====
/-
  The retention's reference, read at an entry: its five results.
-/
module

public import proofs.«01_k».proof.Proof.RetRefC

@[expose] public section

set_option maxRecDepth 16384

noncomputable section

namespace Cert.RetRefIdeal.Hand

open Cert.RetRefIdeal Cert.RetRefIdeal.Gen Cert.RetRefIdeal.Read Cert.IsReal Cert.RetReal Idealize.ShloMosaic

variable (x0 x1 x2 x3 : FVec Ideal S1x8192x512 .f32) (x4 : FVec Ideal S1x512 .f32) (x5 : FVec Ideal S1x8192x512 .f32)

local notation "𝐀" => args x0 x1 x2 x3 x4 x5

/-- The rotation's transpose as the reference forms it: the two halves, each set among zeros, added. -/
theorem unrope_up (y : Fin 128 → EReal) (p : Fin 8192) (j : Fin 128) (b : j.val < 64) :
    0 + (y (RetData.turn j) * Ideal.sin (RetData.ang p.val j.val) + y j * Ideal.cos (RetData.ang p.val j.val)) = RetData.unrope y p j := by
  unfold RetData.unrope RetData.cs RetData.sn
  have e : (RetData.turn j).val = j.val + 64 := by show (j.val + 64) % 128 = _; omega
  rw [zero_add, if_pos b, if_neg (by omega), e, Nat.add_sub_cancel]
  exact add_comm _ _
theorem unrope_down (y : Fin 128 → EReal) (p : Fin 8192) (j : Fin 128) (b : ¬j.val < 64) :
    (y j * Ideal.cos (RetData.ang p.val (j.val - 64)) + -y (RetData.turn j) * Ideal.sin (RetData.ang p.val (j.val - 64))) + 0 = RetData.unrope y p j := by
  unfold RetData.unrope RetData.cs RetData.sn
  have e : (RetData.turn j).val = j.val - 64 := by show (j.val + 64) % 128 = _; omega
  rw [add_zero, if_neg b, if_pos (by omega), e, neg_mul, mul_neg]

theorem turn_up {j : Fin 128} (b : j.val < 64) (l : 64 + j.val < 128) : (⟨64 + j.val, l⟩ : Fin 128) = RetData.turn j :=
  Fin.ext (by show 64 + j.val = (j.val + 64) % 128; omega)
theorem turn_down {j : Fin 128} (b : ¬j.val < 64) (l : j.val - 64 < 128) : (⟨j.val - 64, l⟩ : Fin 128) = RetData.turn j :=
  Fin.ext (by show j.val - 64 = (j.val + 64) % 128; omega)
theorem stay {j : Fin 128} (b : ¬j.val < 64) (l : 64 + (j.val - 64) < 128) : (⟨64 + (j.val - 64), l⟩ : Fin 128) = j :=
  Fin.ext (by show 64 + (j.val - 64) = j.val; omega)

theorem dv_out (H : RealArgs 𝐀) (n : Fin 64) (r : Fin 128) (h : Fin 4) (j : Fin 128) :
    val_main_v1057 (F := Ideal) x0 x1 x2 x3 x4 x5 (ix2 (RetData.row n r) (col h j)) = RetData.dv 𝐀 n h r j := by
  pointwise [val_main_v1015, val_main_v1018, val_main_v1057]
  rw [row_div, row_mod, col_div, col_mod, dv_chunk x0 x1 x2 x3 x4 x5 H]

theorem dk_row (H : RealArgs 𝐀) (n : Fin 64) (r : Fin 128) (h : Fin 4) (j : Fin 128) :
    val_main_v1036 (F := Ideal) x0 x1 x2 x3 x4 x5 (ix3 (RetData.row n r) h j) = RetData.dk 𝐀 n h r j := by
  pointwise [val_main_v1016, val_main_v1019, val_main_v1020, val_main_v1021, val_main_v1022, val_main_v1023, val_main_v1024, val_main_v1025, val_main_v1026, val_main_v1027,
    val_main_v1028, val_main_v1029, val_main_v1030, val_main_v1031, val_main_v1032, val_main_v1033, val_main_v1034, val_main_v1035, val_main_v1036,
    val_main_cst_34, val_main_cst_35, val_main_cst_36]
  simp only [row_div, row_mod, dk_chunk x0 x1 x2 x3 x4 x5 H, cosk_at, sink_at]
  by_cases b : j.val < 64
  · rw [dif_neg (by omega), dif_pos (by omega), turn_up b]
    exact unrope_up (fun j => (RetChunk.dkIn (RetData.chunk 𝐀 n h) r j + RetChunk.dkX (RetData.chunk 𝐀 n h) (RetData.G 𝐀 (63 - n.val) h) r j) * RetData.scale) _ j b
  · rw [dif_pos (by omega), dif_neg (by omega), turn_down b, stay b]
    exact unrope_down (fun j => (RetChunk.dkIn (RetData.chunk 𝐀 n h) r j + RetChunk.dkX (RetData.chunk 𝐀 n h) (RetData.G 𝐀 (63 - n.val) h) r j) * RetData.scale) _ j b
theorem dk_out (H : RealArgs 𝐀) (n : Fin 64) (r : Fin 128) (h : Fin 4) (j : Fin 128) :
    val_main_v1056 (F := Ideal) x0 x1 x2 x3 x4 x5 (ix2 (RetData.row n r) (col h j)) = RetData.dk 𝐀 n h r j := by
  pointwise [val_main_v1037, val_main_v1056]
  rw [col_div, col_mod, dk_row x0 x1 x2 x3 x4 x5 H]

theorem dq_row (H : RealArgs 𝐀) (n : Fin 64) (r : Fin 128) (h : Fin 4) (j : Fin 128) :
    val_main_v1053 (F := Ideal) x0 x1 x2 x3 x4 x5 (ix3 (RetData.row n r) h j) = RetData.dq 𝐀 n h r j := by
  pointwise [val_main_v1017, val_main_v1038, val_main_v1039, val_main_v1040, val_main_v1041, val_main_v1042, val_main_v1043, val_main_v1044, val_main_v1045, val_main_v1046, val_main_v1047,
    val_main_v1048, val_main_v1049, val_main_v1050, val_main_v1051, val_main_v1052, val_main_v1053, val_main_cst_37, val_main_cst_38]
  simp only [row_div, row_mod, dq_chunk x0 x1 x2 x3 x4 x5 H, cos_at, sin_at]
  by_cases b : j.val < 64
  · rw [dif_neg (by omega), dif_pos (by omega), turn_up b]
    exact unrope_up (RetChunk.dq (RetData.chunk 𝐀 n h) r) _ j b
  · rw [dif_pos (by omega), dif_neg (by omega), turn_down b, stay b]
    exact unrope_down (RetChunk.dq (RetData.chunk 𝐀 n h) r) _ j b
theorem dq_out (H : RealArgs 𝐀) (n : Fin 64) (r : Fin 128) (h : Fin 4) (j : Fin 128) :
    val_main_v1055 (F := Ideal) x0 x1 x2 x3 x4 x5 (ix2 (RetData.row n r) (col h j)) = RetData.dq 𝐀 n h r j := by
  pointwise [val_main_v1054, val_main_v1055]
  rw [col_div, col_mod, dq_row x0 x1 x2 x3 x4 x5 H]

theorem dgt_out (H : RealArgs 𝐀) (n : Fin 64) (r : Fin 128) (h : Fin 4) (j : Fin 128) :
    val_main_v1058 (F := Ideal) x0 x1 x2 x3 x4 x5 (ix2 (RetData.row n r) (col h j)) = RetChunk.dgt (RetData.chunk 𝐀 n h) r j := by
  pointwise [val_main_v1058]
  exact dgt_at x0 x1 x2 x3 x4 x5 H n r h j
theorem dg_out (H : RealArgs 𝐀) (h : Fin 4) (j : Fin 128) :
    val_main_v1059 (F := Ideal) x0 x1 x2 x3 x5 (ix2 0 (col h j)) = RetData.dgain 𝐀 h j := by
  pointwise [val_main_v1059]
  exact dgain_at x0 x1 x2 x3 x4 x5 H h j

end Cert.RetRefIdeal.Hand

end
-- ==== Proof.Finite.lean ====
/-
  What the preconditions say: every entry of an array is finite.
-/
module

public import Idealize.ShloMosaic.Lib.ReduceAll
public import proofs.«01_k».proof.Proof.Reals

@[expose] public section

noncomputable section

namespace Cert.Finite

open Idealize.ShloMosaic

theorem ofBits_top : Ideal.ofBits .f32 0x7F800000#32 = ⊤ := by
  simp [Ideal.ofBits, Ideal.ieee]

/-- The shape of a scalar. -/
abbrev S0 : Shape := ⟨0, ![]⟩

/-- `jnp.all(jnp.abs(x) < jnp.inf)` holds only when every entry is finite. -/
theorem of_all {S : Shape} {dims : List (Fin S.rank)} {d : Fin S0.rank → Fin S.rank} (x : FVec Ideal S .f32)
    (b : S0.BroadcastsInDim S d) (init : IVec S0 1) (h : S.ReducesTo dims S0) (hu : 0 < S0.numel) (j : S0.Idx)
    (e : Host.reduce IntOp.andi (cmpf .olt (Host.absf x) (broadcastInDim S d b (constant S0 .f32 0x7F800000#32))) init h hu j = 1#1)
    (i : S.Idx) : max (x i) (-(x i)) < ⊤ := by
  have h1 := Host.reduce_andi_all _ _ _ _ j e i
  have h2 : BitVec.ofBool (decide (max (x i) (-(x i)) < Ideal.ofBits .f32 0x7F800000#32)) = 1#1 := h1
  rw [ofBits_top] at h2
  by_contra hn
  rw [decide_eq_false hn] at h2
  exact absurd h2 (by decide)

/-- So its entries are real numbers. -/
theorem real {S : Shape} {dims : List (Fin S.rank)} {d : Fin S0.rank → Fin S.rank} (x : FVec Ideal S .f32)
    (b : S0.BroadcastsInDim S d) (init : IVec S0 1) (h : S.ReducesTo dims S0) (hu : 0 < S0.numel) (j : S0.Idx)
    (e : Host.reduce IntOp.andi (cmpf .olt (Host.absf x) (broadcastInDim S d b (constant S0 .f32 0x7F800000#32))) init h hu j = 1#1) :
    ∃ a : S.Idx → ℝ, ∀ i, x i = ((a i : ℝ) : EReal) :=
  ⟨fun i => (x i : EReal).toReal, fun i => (Reals.eq_coe (of_all x b init h hu j e i)).symm⟩

/-- A conjunction that holds, taken apart. -/
theorem and_one {a b : BitVec 1} (h : IntOp.andi a b = 1#1) : a = 1#1 ∧ b = 1#1 := by
  revert a b; decide

end Cert.Finite

end
-- ==== Proof.RetEq.lean ====
/-
  The retention's gradient call and its reference end with the same five arrays, where the arguments are finite.
-/
module

public import proofs.«01_k».proof.Defs
public import proofs.«01_k».proof.Proof.Gen.Ret.Frame
public import proofs.«01_k».proof.Proof.Gen.Pre_finite_ret
public import proofs.«01_k».proof.Proof.RetArrays
public import proofs.«01_k».proof.Proof.RetRefD
public import proofs.«01_k».proof.Proof.Finite
public import Idealize.ShloMosaic.Lib.Quiescent

@[expose] public section

set_option maxRecDepth 16384

noncomputable section

namespace Cert.RetEq

open Cert.IsReal Cert.RetReal Idealize.ShloMosaic Idealize.ShloMosaic.TcCoe Idealize.SL.Sem
open Cert.RetIdeal (nD τ sig main_arg0 main_arg1 main_arg2 main_arg3 main_arg4 main_arg5)
open Cert.RetIdeal.Hand (args outOf dqArr dkArr dvArr dgtArr dgArr)
open Cert.RetRefIdeal.Read
open Cert.RetRefIdeal.Hand (col)

attribute [local irreducible] StableHlo.after

variable (m : (ℓ : Loc nD τ sig) → Buf (Elt Ideal) ℓ) (c : Dev nD)

/-- The reference's arguments are the kernel's. -/
theorem args_eq : Cert.RetRefIdeal.Hand.args (m (c.tc.loc main_arg0)) (m (c.tc.loc main_arg1)) (m (c.tc.loc main_arg2))
    (m (c.tc.loc main_arg3)) (m (c.tc.loc main_arg4)) (m (c.tc.loc main_arg5)) = args m c := rfl

/-- The arrays hold real numbers. -/
theorem finite (h : Cert.Pre_RetIdeal_finite_ret m) : RealArgs (args m c) := by
  have e := congrFun (h c) (fun a => a.elim0)
  obtain ⟨e, e5⟩ := Finite.and_one e
  obtain ⟨e, e4⟩ := Finite.and_one e
  obtain ⟨e, e3⟩ := Finite.and_one e
  obtain ⟨e, e2⟩ := Finite.and_one e
  obtain ⟨e0, e1⟩ := Finite.and_one e
  obtain ⟨a0, h0⟩ := Finite.real _ _ _ _ _ _ e0
  obtain ⟨a1, h1⟩ := Finite.real _ _ _ _ _ _ e1
  obtain ⟨a2, h2⟩ := Finite.real _ _ _ _ _ _ e2
  obtain ⟨a3, h3⟩ := Finite.real _ _ _ _ _ _ e3
  obtain ⟨a4, h4⟩ := Finite.real _ _ _ _ _ _ e4
  obtain ⟨a5, h5⟩ := Finite.real _ _ _ _ _ _ e5
  exact ⟨fun p k j => ⟨_, h0 _⟩, fun p k j => ⟨_, h1 _⟩, fun p k j => ⟨_, h2 _⟩, fun p k j => ⟨_, h3 _⟩, fun p k j => ⟨_, h5 _⟩, fun k j => ⟨_, h4 _⟩⟩

/-- An array given at each chunk, row, head and column is the array laid out by rows and columns. -/
theorem laid {A : (⟨2, ![8192, 512]⟩ : Shape).Idx → EReal} {f : Fin 64 → Fin 4 → Fin 128 → Fin 128 → EReal}
    (h : ∀ n r k j, A (ix2 (RetData.row n r) (col k j)) = f n k r j) : (fun i => outOf f (i 0) (i 1)) = A := by
  funext i
  idx_vars i
  refine (h ⟨i0.val / 128, by omega⟩ ⟨i0.val % 128, by omega⟩ ⟨i1.val / 128, by omega⟩ ⟨i1.val % 128, by omega⟩).symm.trans (congrArg₂ (fun p k => A (ix2 p k)) (Fin.ext ?_) (Fin.ext ?_))
  · show 128 * (i0.val / 128) + i0.val % 128 = i0.val; omega
  · show 128 * (i1.val / 128) + i1.val % 128 = i1.val; omega

theorem dq_eq (h : Cert.Pre_RetIdeal_finite_ret m) : dqArr m c = val_main_v1055 (F := Ideal) (m (c.tc.loc main_arg0))
    (m (c.tc.loc main_arg1)) (m (c.tc.loc main_arg2)) (m (c.tc.loc main_arg3)) (m (c.tc.loc main_arg4)) (m (c.tc.loc main_arg5)) :=
  laid fun n r k j => Cert.RetRefIdeal.Hand.dq_out _ _ _ _ _ _ (finite m c h) n r k j
theorem dk_eq (h : Cert.Pre_RetIdeal_finite_ret m) : dkArr m c = val_main_v1056 (F := Ideal) (m (c.tc.loc main_arg0))
    (m (c.tc.loc main_arg1)) (m (c.tc.loc main_arg2)) (m (c.tc.loc main_arg3)) (m (c.tc.loc main_arg4)) (m (c.tc.loc main_arg5)) :=
  laid fun n r k j => Cert.RetRefIdeal.Hand.dk_out _ _ _ _ _ _ (finite m c h) n r k j
theorem dv_eq (h : Cert.Pre_RetIdeal_finite_ret m) : dvArr m c = val_main_v1057 (F := Ideal) (m (c.tc.loc main_arg0))
    (m (c.tc.loc main_arg1)) (m (c.tc.loc main_arg2)) (m (c.tc.loc main_arg3)) (m (c.tc.loc main_arg4)) (m (c.tc.loc main_arg5)) :=
  laid fun n r k j => Cert.RetRefIdeal.Hand.dv_out _ _ _ _ _ _ (finite m c h) n r k j
theorem dgt_eq (h : Cert.Pre_RetIdeal_finite_ret m) : dgtArr m c = val_main_v1058 (F := Ideal) (m (c.tc.loc main_arg0))
    (m (c.tc.loc main_arg1)) (m (c.tc.loc main_arg2)) (m (c.tc.loc main_arg3)) (m (c.tc.loc main_arg4)) (m (c.tc.loc main_arg5)) :=
  laid fun n r k j => Cert.RetRefIdeal.Hand.dgt_out _ _ _ _ _ _ (finite m c h) n r k j
theorem dg_eq (h : Cert.Pre_RetIdeal_finite_ret m) : dgArr m c = val_main_v1059 (F := Ideal) (m (c.tc.loc main_arg0))
    (m (c.tc.loc main_arg1)) (m (c.tc.loc main_arg2)) (m (c.tc.loc main_arg3)) (m (c.tc.loc main_arg5)) := by
  funext i
  idx_vars i
  obtain rfl : i0 = 0 := Subsingleton.elim _ _
  refine (Cert.RetRefIdeal.Hand.dg_out _ _ _ _ (m (c.tc.loc main_arg4)) _ (finite m c h) ⟨i1.val / 128, by omega⟩ ⟨i1.val % 128, by omega⟩).symm.trans
    (congrArg (fun k => val_main_v1059 (F := Ideal) (m (c.tc.loc main_arg0)) (m (c.tc.loc main_arg1)) (m (c.tc.loc main_arg2)) (m (c.tc.loc main_arg3)) (m (c.tc.loc main_arg5)) (ix2 0 k)) (Fin.ext ?_))
  show 128 * (i1.val / 128) + i1.val % 128 = i1.val
  omega

/-- The claim: from memories that agree on the arguments, the call and its reference both run and end with equal results. -/
theorem algebraic : Cert.algebraic_RetIdeal_RetRefIdeal_pre_finite_ret (hRetIdeal := Cert.RetIdeal.Gen.facts)
    (hRetRefIdeal := Cert.RetRefIdeal.Gen.facts) (hPre_finite_ret := Cert.Pre_finite_ret.Gen.facts) := by
  intro m g m' g' h hm
  refine ⟨fun c => dqArr m c, fun c => dkArr m c, fun c => dvArr m c, fun c => dgtArr m c, fun c => dgArr m c, ?_, ?_⟩
  · refine (θ_run _ _ _).mono (fun r hr c => ?_) (Cert.RetIdeal.Value.run_blocks m g)
    obtain ⟨h0, h1, h2, h3, h4, hr⟩ := hr c
    exact ⟨h0.trans (Cert.RetIdeal.Hand.final_dq m c), h1.trans (Cert.RetIdeal.Hand.final_dk m c), h2.trans (Cert.RetIdeal.Hand.final_dv m c),
      h3.trans (Cert.RetIdeal.Hand.final_dgt m c), h4.trans (Cert.RetIdeal.Hand.final_dg m c), hr⟩
  · refine (θ_run _ _ _).mono (fun r hr c => ?_) (Cert.RetRefIdeal.Value.run m' g')
    obtain ⟨h0, h1, h2, h3, h4, hr⟩ := hr c
    obtain ⟨e0, e1, e2, e3, e4, e5⟩ := hm c
    have a0 : StableHlo.launchContents m' c (Proc.devRef .tc Cert.RetRefIdeal.main_arg0) = m (c.tc.loc main_arg0) := e0
    have a1 : StableHlo.launchContents m' c (Proc.devRef .tc Cert.RetRefIdeal.main_arg1) = m (c.tc.loc main_arg1) := e1
    have a2 : StableHlo.launchContents m' c (Proc.devRef .tc Cert.RetRefIdeal.main_arg2) = m (c.tc.loc main_arg2) := e2
    have a3 : StableHlo.launchContents m' c (Proc.devRef .tc Cert.RetRefIdeal.main_arg3) = m (c.tc.loc main_arg3) := e3
    have a4 : StableHlo.launchContents m' c (Proc.devRef .tc Cert.RetRefIdeal.main_arg4) = m (c.tc.loc main_arg4) := e4
    have a5 : StableHlo.launchContents m' c (Proc.devRef .tc Cert.RetRefIdeal.main_arg5) = m (c.tc.loc main_arg5) := e5
    refine ⟨h0.trans ?_, h1.trans ?_, h2.trans ?_, h3.trans ?_, h4.trans ?_, hr⟩
    · rw [val_main_v1055_eq, a0, a1, a2, a3, a4, a5]; exact (dq_eq m c h).symm
    · rw [val_main_v1056_eq, a0, a1, a2, a3, a4, a5]; exact (dk_eq m c h).symm
    · rw [val_main_v1057_eq, a0, a1, a2, a3, a4, a5]; exact (dv_eq m c h).symm
    · rw [val_main_v1058_eq, a0, a1, a2, a3, a4, a5]; exact (dgt_eq m c h).symm
    · rw [val_main_v1059_eq, a0, a1, a2, a3, a5]; exact (dg_eq m c h).symm

/-- The reference runs, keeps its arguments, and ends with every counter at zero: it has no semaphores. -/
theorem refFrame : Cert.quiescent_RetRefIdeal (hRetRefIdeal := Cert.RetRefIdeal.Gen.facts) := fun m g _ =>
  (θ_run _ _ _).mono (fun r h => ⟨fun c => (h c).2.2.2.2.2, sem_eq_zero_of_no_sems (by decide) r.2⟩) (Cert.RetRefIdeal.Value.run m g)

end Cert.RetEq

end
-- ==== Proof.MixRows.lean ====
/-
  One row of the gradient call of the S5 gate and the mixing projection: the gate's two halves, the gradients that pass
  through the projection, and what they become at the gate's input.
-/
module

public import proofs.«01_k».proof.Proof.NormGrad

@[expose] public section

noncomputable section

namespace Cert.MixRows

open Cert.NormGrad Idealize.ShloMosaic

/-- Column `j` of the left and of the right half. -/
def lo (j : Fin 512) : Fin 1024 := ⟨j.val, by omega⟩
def hi (j : Fin 512) : Fin 1024 := ⟨512 + j.val, by omega⟩

/-- Two halves side by side. -/
def cat (u v : Fin 512 → EReal) (i : Fin 1024) : EReal := if h : i.val < 512 then u ⟨i.val, h⟩ else v ⟨i.val - 512, by omega⟩

/-- The tanh form of gelu and its derivative. -/
def th (y : EReal) : EReal := Ideal.tanh (Ideal.ofBits .f32 0x3F4C422A#32 * (y + ((8943 / 200000 : ℝ) : EReal) * (y * y * y)))
def gel (y : EReal) : EReal := Ideal.ofBits .f32 0x3F000000#32 * y * (1 + th y)
def gelD (y : EReal) : EReal := Ideal.ofBits .f32 0x3F000000#32 * (1 + th y)
  + Ideal.ofBits .f32 0x3F000000#32 * y * (1 - th y * th y)
    * (Ideal.ofBits .f32 0x3F4C422A#32 * (1 + ((26829 / 200000 : ℝ) : EReal) * (y * y)))

variable (mx dx1 g : Fin 1024 → EReal) (ys : Fin 512 → EReal) (wg : Fin 512 → Fin 1024 → EReal) (wo : Fin 1024 → Fin 1024 → EReal)

/-- The gate's linear half and the sigmoid of its other half. -/
def lin (j : Fin 512) : EReal := ∑ k, gel (ys k) * wg k (lo j)
def sg (j : Fin 512) : EReal := Ideal.div 1 (1 + Ideal.exp (0 - ∑ k, gel (ys k) * wg k (hi j)))

/-- The two halves the projection's product is taken of, and that product. -/
def both (ys yr : Fin 512 → EReal) (wg : Fin 512 → Fin 1024 → EReal) : Fin 1024 → EReal := cat yr (fun l => lin ys wg l * sg ys wg l)
def mix (ys yr : Fin 512 → EReal) (wg : Fin 512 → Fin 1024 → EReal) (wo : Fin 1024 → Fin 1024 → EReal) (j : Fin 1024) : EReal :=
  ∑ i, both ys yr wg i * wo i j

/-- The gradient of the projection's product, and of the two halves it was taken of. -/
def dm (j : Fin 1024) : EReal := kgrad mx (fun k => dx1 k * g k) j
def dlo (j : Fin 512) : EReal := ∑ k, dm mx dx1 g k * wo (lo j) k
def dhi (j : Fin 512) : EReal := ∑ k, dm mx dx1 g k * wo (hi j) k

/-- The gradient of the gate's two halves, and of the gate's input. -/
def dzl (j : Fin 512) : EReal := dhi mx dx1 g wo j * sg ys wg j
def dzg (j : Fin 512) : EReal := dhi mx dx1 g wo j * lin ys wg j * sg ys wg j * (1 - sg ys wg j)
def dgel (k : Fin 512) : EReal := ∑ j, dzl mx dx1 g ys wg wo j * wg k (lo j) + ∑ j, dzg mx dx1 g ys wg wo j * wg k (hi j)
def dys (k : Fin 512) : EReal := dgel mx dx1 g ys wg wo k * gelD (ys k)

/-- A product of two halves side by side is the sum of the products of the halves. -/
theorem sum_cat (u v : Fin 512 → EReal) (w : Fin 1024 → EReal) :
    ∑ i, cat u v i * w i = ∑ j, u j * w (lo j) + ∑ j, v j * w (hi j) := by
  rw [show (∑ i : Fin 1024, cat u v i * w i) = ∑ i : Fin (512 + 512), cat u v (Fin.cast rfl i) * w (Fin.cast rfl i) from rfl, Fin.sum_univ_add]
  refine congr_arg₂ (· + ·) (Finset.sum_congr rfl fun j _ => ?_) (Finset.sum_congr rfl fun j _ => ?_)
  · rw [show cat u v (Fin.cast rfl (Fin.castAdd 512 j)) = u j from dif_pos j.isLt]
    rfl
  · rw [show cat u v (Fin.cast rfl (Fin.natAdd 512 j)) = v j from
      (dif_neg (by show ¬ 512 + j.val < 512; omega)).trans (congr_arg v (Fin.ext (by show 512 + j.val - 512 = j.val; omega)))]
    rfl

/-- The forward lines' coefficient, a quotient of two constants. -/
def co : EReal := Ideal.div (Ideal.ofBits .f32 0x472EAB00#32) (Ideal.ofBits .f32 0x49742400#32)

theorem co_eq : co = ((8943 / 200000 : ℝ) : EReal) := by
  have e1 : Ideal.ofBits .f32 0x472EAB00#32 = ((44715 : ℝ) : EReal) := by
    simp [Ideal.ofBits, Ideal.ieee, -EReal.coe_mul]; norm_num
  have e2 : Ideal.ofBits .f32 0x49742400#32 = ((1000000 : ℝ) : EReal) := by
    simp [Ideal.ofBits, Ideal.ieee, -EReal.coe_mul]; norm_num
  unfold co
  rw [e1, e2, Ideal.div_coe (by norm_num), ← EReal.coe_mul]
  norm_num

/-- Gelu, the gate's sigmoid and the product as the forward lines write them. -/
def fth (y : EReal) : EReal := Ideal.tanh (Ideal.ofBits .f32 0x3F4C422A#32 * (y + co * (y * y * y)))
def fgel (y : EReal) : EReal := y * (Ideal.ofBits .f32 0x3F000000#32 * (1 + fth y))
def flin (ys : Fin 512 → EReal) (wg : Fin 512 → Fin 1024 → EReal) (j : Fin 512) : EReal := ∑ k, fgel (ys k) * wg k (lo j)
def fsg (ys : Fin 512 → EReal) (wg : Fin 512 → Fin 1024 → EReal) (j : Fin 512) : EReal :=
  Ideal.div 1 (1 + Ideal.exp (-∑ k, fgel (ys k) * wg k (hi j)))

theorem fth_eq (y : EReal) : fth y = th y := by unfold fth th; rw [co_eq]
theorem fgel_eq (y : EReal) : fgel y = gel y := by
  unfold fgel gel
  rw [fth_eq, ← mul_assoc, mul_comm y]
theorem flin_eq (ys : Fin 512 → EReal) (wg : Fin 512 → Fin 1024 → EReal) (j : Fin 512) : flin ys wg j = lin ys wg j := by
  unfold flin lin; simp only [fgel_eq]
theorem fsg_eq (ys : Fin 512 → EReal) (wg : Fin 512 → Fin 1024 → EReal) (j : Fin 512) : fsg ys wg j = sg ys wg j := by
  unfold fsg sg; simp only [fgel_eq, zero_sub]

theorem mix_eq (ys yr : Fin 512 → EReal) (wg : Fin 512 → Fin 1024 → EReal) (wo : Fin 1024 → Fin 1024 → EReal) (j : Fin 1024) :
    ∑ l, yr l * wo (lo l) j + ∑ l, flin ys wg l * fsg ys wg l * wo (hi l) j = mix ys yr wg wo j := by
  simp only [flin_eq, fsg_eq]
  exact (sum_cat yr (fun l => lin ys wg l * sg ys wg l) fun i => wo i j).symm

end Cert.MixRows

end
-- ==== Proof.MixHalves.lean ====
/-
  Two stores of 512 rows each that together fill a buffer of 1024 rows.
-/
module

public import Idealize.ShloMosaic.Lib.Tactic
public import Idealize.ShloMosaic.Lib.Pointwise
public import Idealize.ShloMosaic.Lib.Pipeline.ReadBack
public import proofs.«01_k».proof.Proof.Gen.MixIdeal.Value

@[expose] public section

noncomputable section

namespace Cert.MixIdeal.Hand

open Cert.MixIdeal Cert.MixIdeal.Gen Idealize.ShloMosaic Idealize.ShloMosaic.TcCoe Idealize.SL.Sem

/-- The last 512 rows of a square of 1024. -/
abbrev rectHi : Rect S1024x1024 := Rect.unit (s := S1024x1024) ![512, 0] ![512, 1024] (fun i => by fin_cases i <;> decide)
/-- The first 512 rows. -/
abbrev rectLo : Rect S1024x1024 := Rect.unit (s := S1024x1024) ![0, 0] ![512, 1024] (fun i => by fin_cases i <;> decide)

variable {β : Type}

/-- One block of 512 rows above another. -/
def stack (lo hi : S512x1024.Idx → β) : S1024x1024.Idx → β := fun i =>
  if h : (i 0).val < 512 then lo (ix2 ⟨(i 0).val, h⟩ ⟨(i 1).val, (i 1).isLt⟩)
  else hi (ix2 ⟨(i 0).val - 512, by have : (i 0).val < 1024 := (i 0).isLt; omega⟩ ⟨(i 1).val, (i 1).isLt⟩)

theorem stack_hi (lo hi : S512x1024.Idx → β) (x : S512x1024.Idx) : hi x = stack lo hi (rectHi.emb x) := by
  have h0 : ((rectHi.emb x) 0).val = 512 + (x 0).val := (Rect.emb_apply rectHi x 0).trans (by simp)
  have h1 : ((rectHi.emb x) 1).val = (x 1).val := (Rect.emb_apply rectHi x 1).trans (by simp)
  unfold stack
  rw [dif_neg (by rw [h0]; omega)]
  congr 1
  funext a
  fin_cases a
  · exact Fin.ext (by show (x 0).val = ((rectHi.emb x) 0).val - 512; omega)
  · exact Fin.ext h1.symm

theorem stack_lo (lo hi : S512x1024.Idx → β) (x : S512x1024.Idx) : lo x = stack lo hi (rectLo.emb x) := by
  have h0 : ((rectLo.emb x) 0).val = (x 0).val := (Rect.emb_apply rectLo x 0).trans (by simp)
  have h1 : ((rectLo.emb x) 1).val = (x 1).val := (Rect.emb_apply rectLo x 1).trans (by simp)
  have hx : (x 0).val < 512 := (x 0).isLt
  unfold stack
  rw [dif_pos (by rw [h0]; omega)]
  congr 1
  funext a
  fin_cases a
  · exact Fin.ext h0.symm
  · exact Fin.ext h1.symm

/-- The two stores, over anything stored before, leave the two blocks one above the other. -/
theorem canon_stack {Val : EltTy → Type} [∀ e, Nonempty (Val e)] {e : EltTy} (lo hi : S512x1024.Idx → Val e)
    (L : List (View.Piece Val S1024x1024 e)) :
    View.canon ((⟨rectHi, hi⟩ : View.Piece Val S1024x1024 e) :: ⟨rectLo, lo⟩ :: L) = stack lo hi := by
  funext i
  refine View.canon_append_of_piecesOf (stack lo hi) L
    [⟨rectHi, hi⟩, ⟨rectLo, lo⟩] ⟨fun x => stack_hi lo hi x, fun x => stack_lo lo hi x, trivial⟩ i ?_
  have hi0 : (i 0).val < 1024 := (i 0).isLt
  have hi1 : (i 1).val < 1024 := (i 1).isLt
  by_cases h : (i 0).val < 512
  · refine ⟨⟨rectLo, lo⟩, List.mem_cons_of_mem _ (List.mem_cons_self ..), ?_⟩
    show i ∈ rectLo.set
    rw [Rect.mem_set_unit]
    intro a
    fin_cases a
    · exact ⟨Nat.zero_le _, by show (i 0).val < 0 + 512; omega⟩
    · exact ⟨Nat.zero_le _, by show (i 1).val < 0 + 1024; omega⟩
  · refine ⟨⟨rectHi, hi⟩, List.mem_cons_self .., ?_⟩
    show i ∈ rectHi.set
    rw [Rect.mem_set_unit]
    intro a
    fin_cases a
    · exact ⟨by show 512 ≤ (i 0).val; omega, by show (i 0).val < 512 + 512; omega⟩
    · exact ⟨Nat.zero_le _, by show (i 1).val < 0 + 1024; omega⟩

/-- A load of the last rows after a store of the first and a fill reads the fill. -/
theorem load_hi {κ : Kind} {sp : Space} {Val : EltTy → Type} [∀ e, Nonempty (Val e)] {e : EltTy} (v : View sig κ sp S1024x1024 e)
    (lo : S512x1024.Idx → Val e) (L : List (View.Piece Val S1024x1024 e)) :
    v.readCov (⟨rectLo, lo⟩ :: L) rectHi.toLoadRect = v.readCov L rectHi.toLoadRect :=
  View.readCov_skip v rectLo lo L _ (by decide)

/-- A load of some rows after a fill of the whole square reads the fill there. -/
theorem load_fill {κ : Kind} {sp : Space} {Val : EltTy → Type} [∀ e, Nonempty (Val e)] {e : EltTy} (v : View sig κ sp S1024x1024 e)
    (inb : ∀ a, (![0, 0] : Fin 2 → ℕ) a + (![1024, 1024] : Fin 2 → ℕ) a ≤ S1024x1024.size a)
    (Z : S1024x1024.Idx → Val e) (L : List (View.Piece Val S1024x1024 e)) (r : Rect S1024x1024) :
    v.readCov (⟨Rect.unit (s := S1024x1024) ![0, 0] ![1024, 1024] inb, Z⟩ :: L) r.toLoadRect = View.ld Z r :=
  View.readCov_fill v inb Z L r (fun a => by fin_cases a <;> rfl)

end Cert.MixIdeal.Hand
-- ==== Proof.MixBlock.lean ====
/-
  The gradient call of the S5 gate and the mixing projection (`_mix_bwd`), one block at a time: what its body leaves in its
  five output buffers, as named functions of the blocks it reads, and the entries of those functions over the extended reals.
-/
module

public import proofs.«01_k».proof.Proof.Gen.MixIdeal.Value
public import Idealize.ShloMosaic.Lib.Pointwise
public import Idealize.ShloMosaic.Lib.Tactic
public import proofs.«01_k».proof.Proof.MixRows
public import proofs.«01_k».proof.Proof.MixHalves

@[expose] public section

set_option maxRecDepth 16384

noncomputable section

namespace Cert.MixIdeal.Hand

open Cert.NormGrad Cert.MixIdeal Cert.MixIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

section Blocks

variable (dx1 : Vec F S512x1024 .f32) (mx : Vec F S512x1024 .bf16) (g : Vec F S1x1024 .f32) (ys : Vec F S512x512 .f32)
  (yr : Vec F S512x512 .bf16) (wg : Vec F S512x1024 .bf16) (wo : Vec F S1024x1024 .bf16)

/-- The block of the gradient of the projection's product, and of the right half of what it was taken of. -/
def dmBlk : Vec F S512x1024 .bf16 := k0_pay10 mx g dx1
def dhiBlk : Vec F S512x512 .f32 := k0_pay13 (dmBlk dx1 mx g) wo

/-- The blocks of the two gradients passed on. -/
def dyrBlk : Vec F S512x512 .f32 := k0_pay12 (dmBlk dx1 mx g) wo
def dysBlk : Vec F S512x512 .f32 :=
  k0_pay1 (k0_pay14 ys) (k0_pay25 (dhiBlk dx1 mx g wo) (k0_pay17 ys wg) (k0_pay18 ys wg) wg) (k0_pay26 (k0_pay14 ys))
    (k0_pay27 (k0_pay14 ys)) (Scalar.ofBits .f32 0x3F000000#32)

/-- One block's step of the gate weight's gradient. -/
def dwgBlk (dwg : Vec F S512x1024 .f32) : Vec F S512x1024 .f32 :=
  k0_pay24 (dhiBlk dx1 mx g wo) (k0_pay15 ys) (k0_pay17 ys wg) (k0_pay18 ys wg) dwg

/-- One block's step of the norm gain's gradient. -/
def dgBlk (dg : Vec F S1x1024 .f32) : Vec F S1x1024 .f32 := k0_pay9 mx dx1 dg

/-- One block's step of those rows. -/
def dwoLo (dwo : Vec F S1024x1024 .f32) : Vec F S512x1024 .f32 :=
  k0_pay21 (dmBlk dx1 mx g) (k0_pay19 (View.ld dwo rectLo)) (k0_pay20 yr)
def dwoHi (dwo : Vec F S1024x1024 .f32) : Vec F S512x1024 .f32 :=
  k0_pay22 (dmBlk dx1 mx g) (k0_pay17 ys wg) (k0_pay18 ys wg) (View.ld dwo rectHi)

/-- The whole block of rows after the step. -/
def dwoBlk (dwo : Vec F S1024x1024 .f32) : Vec F S1024x1024 .f32 := stack (dwoLo dx1 mx g yr dwo) (dwoHi dx1 mx g ys wg dwo)

end Blocks

section Cases

variable (c : Dev nD) (i : grid0.Coords)
  (a1 : Memref sig .tc .vmem S512x1024 .f32) (h1 : a1.IsWhole)
  (a2 : Memref sig .tc .vmem S512x1024 .bf16) (h2 : a2.IsWhole)
  (a3 : Memref sig .tc .vmem S1x1024 .f32) (h3 : a3.IsWhole)
  (a4 : Memref sig .tc .vmem S512x512 .f32) (h4 : a4.IsWhole)
  (a5 : Memref sig .tc .vmem S512x512 .bf16) (h5 : a5.IsWhole)
  (a6 : Memref sig .tc .vmem S512x1024 .bf16) (h6 : a6.IsWhole)
  (a7 : Memref sig .tc .vmem S1024x1024 .bf16) (h7 : a7.IsWhole)
  (a8 : Memref sig .tc .vmem S512x512 .f32) (h8 : a8.IsWhole)
  (a9 : Memref sig .tc .vmem S512x512 .f32) (h9 : a9.IsWhole)
  (a10 : Memref sig .tc .vmem S1024x1024 .f32) (h10 : a10.IsWhole)
  (a11 : Memref sig .tc .vmem S512x1024 .f32) (h11 : a11.IsWhole)
  (a12 : Memref sig .tc .vmem S1x1024 .f32) (h12 : a12.IsWhole)
  (dx1 : Vec F S512x1024 .f32)
  (mx : Vec F S512x1024 .bf16)
  (g : Vec F S1x1024 .f32)
  (ys : Vec F S512x512 .f32)
  (yr : Vec F S512x512 .bf16)
  (wg : Vec F S512x1024 .bf16)
  (wo : Vec F S1024x1024 .bf16)
  (dwo : Vec F S1024x1024 .f32)
  (dwg : Vec F S512x1024 .f32)
  (dg : Vec F S1x1024 .f32)

theorem out_A_7 (hc : cond0_0 i) : out0_A_7 c i a1 h1 a2 h2 a3 h3 a4 h4 a5 h5 a6 h6 a7 h7 a8 h8 a9 h9 a10 h10 a11 h11 a12 h12 hc dx1 mx g ys yr wg wo = dyrBlk dx1 mx g wo := by
  unfold out0_A_7
  rw [View.read_writes_eq_canon _ _ _ (fun _ => cover0_A_7 ..)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_B_7 (hc : ¬cond0_0 i) : out0_B_7 c i a1 h1 a2 h2 a3 h3 a4 h4 a5 h5 a6 h6 a7 h7 a8 h8 a9 h9 a10 h10 a11 h11 a12 h12 hc dx1 mx g ys yr wg wo dwo dwg dg = dyrBlk dx1 mx g wo := by
  unfold out0_B_7
  rw [View.read_writes_eq_canon _ _ _ (fun _ => cover0_B_7 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_A_8 (hc : cond0_0 i) : out0_A_8 c i a1 h1 a2 h2 a3 h3 a4 h4 a5 h5 a6 h6 a7 h7 a8 h8 a9 h9 a10 h10 a11 h11 a12 h12 hc dx1 mx g ys yr wg wo = dysBlk dx1 mx g ys wg wo := by
  unfold out0_A_8
  rw [View.read_writes_eq_canon _ _ _ (fun _ => cover0_A_8 ..)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_B_8 (hc : ¬cond0_0 i) : out0_B_8 c i a1 h1 a2 h2 a3 h3 a4 h4 a5 h5 a6 h6 a7 h7 a8 h8 a9 h9 a10 h10 a11 h11 a12 h12 hc dx1 mx g ys yr wg wo dwo dwg dg = dysBlk dx1 mx g ys wg wo := by
  unfold out0_B_8
  rw [View.read_writes_eq_canon _ _ _ (fun _ => cover0_B_8 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_A_9 (hc : cond0_0 i) : out0_A_9 c i a1 h1 a2 h2 a3 h3 a4 h4 a5 h5 a6 h6 a7 h7 a8 h8 a9 h9 a10 h10 a11 h11 a12 h12 hc dx1 mx g ys yr wg wo = dwoBlk dx1 mx g ys yr wg k0_pay2 := by
  unfold out0_A_9
  rw [View.read_writes_eq_canon _ _ _ (fun _ => cover0_A_9 ..)]
  unfold kernelRun0_A
  dsimp only
  sl_unfold_words
  simp only [load_hi, load_fill, View.readAt_eq_ld, h1.read_unread, h2.read_unread, h3.read_unread, h4.read_unread, h5.read_unread, h6.read_unread, h7.read_unread, h10.read_unread,
    View.ld_unit_zero (S := S512x1024) hz, View.ld_unit_zero (S := S1x1024) hz, View.ld_unit_zero (S := S512x512) hz, View.ld_unit_zero (S := S1024x1024) hz]
  exact canon_stack (Val := Elt F) ..

theorem out_B_9 (hc : ¬cond0_0 i) : out0_B_9 c i a1 h1 a2 h2 a3 h3 a4 h4 a5 h5 a6 h6 a7 h7 a8 h8 a9 h9 a10 h10 a11 h11 a12 h12 hc dx1 mx g ys yr wg wo dwo dwg dg = dwoBlk dx1 mx g ys yr wg dwo := by
  unfold out0_B_9
  rw [View.read_writes_eq_canon _ _ _ (fun _ => cover0_B_9 ..)]
  unfold kernelRun0_B
  dsimp only
  sl_unfold_words
  simp only [load_hi, load_fill, View.readAt_eq_ld, h1.read_unread, h2.read_unread, h3.read_unread, h4.read_unread, h5.read_unread, h6.read_unread, h7.read_unread, h10.read_unread,
    View.ld_unit_zero (S := S512x1024) hz, View.ld_unit_zero (S := S1x1024) hz, View.ld_unit_zero (S := S512x512) hz, View.ld_unit_zero (S := S1024x1024) hz]
  exact canon_stack (Val := Elt F) ..

theorem out_A_10 (hc : cond0_0 i) : out0_A_10 c i a1 h1 a2 h2 a3 h3 a4 h4 a5 h5 a6 h6 a7 h7 a8 h8 a9 h9 a10 h10 a11 h11 a12 h12 hc dx1 mx g ys yr wg wo = dwgBlk dx1 mx g ys wg wo k0_pay3 := by
  unfold out0_A_10
  rw [View.read_writes_eq_canon _ _ _ (fun _ => cover0_A_10 ..)]
  unfold kernelRun0_A
  dsimp only
  sl_unfold_words
  rw [View.canon_cons_unit_zero (S := S512x1024) hz]
  simp only [View.readCov_unit_zero (S := S512x1024) _ hz, View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_B_10 (hc : ¬cond0_0 i) : out0_B_10 c i a1 h1 a2 h2 a3 h3 a4 h4 a5 h5 a6 h6 a7 h7 a8 h8 a9 h9 a10 h10 a11 h11 a12 h12 hc dx1 mx g ys yr wg wo dwo dwg dg = dwgBlk dx1 mx g ys wg wo dwg := by
  unfold out0_B_10
  rw [View.read_writes_eq_canon _ _ _ (fun _ => cover0_B_10 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h11.read_unread,
    View.ld_unit_zero (S := S512x1024) hz, View.ld_unit_zero (S := S1x1024) hz, View.ld_unit_zero (S := S512x512) hz, View.ld_unit_zero (S := S1024x1024) hz]
  rfl

theorem out_A_11 (hc : cond0_0 i) : out0_A_11 c i a1 h1 a2 h2 a3 h3 a4 h4 a5 h5 a6 h6 a7 h7 a8 h8 a9 h9 a10 h10 a11 h11 a12 h12 hc dx1 mx g ys yr wg wo = dgBlk dx1 mx k0_pay4 := by
  unfold out0_A_11
  rw [View.read_writes_eq_canon _ _ _ (fun _ => cover0_A_11 ..)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread,
    View.ld_unit_zero (S := S512x1024) hz, View.ld_unit_zero (S := S1x1024) hz, View.ld_unit_zero (S := S512x512) hz, View.ld_unit_zero (S := S1024x1024) hz]
  rfl

theorem out_B_11 (hc : ¬cond0_0 i) : out0_B_11 c i a1 h1 a2 h2 a3 h3 a4 h4 a5 h5 a6 h6 a7 h7 a8 h8 a9 h9 a10 h10 a11 h11 a12 h12 hc dx1 mx g ys yr wg wo dwo dwg dg = dgBlk dx1 mx dg := by
  unfold out0_B_11
  rw [View.read_writes_eq_canon _ _ _ (fun _ => cover0_B_11 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread,
    View.ld_unit_zero (S := S512x1024) hz, View.ld_unit_zero (S := S1x1024) hz, View.ld_unit_zero (S := S512x512) hz, View.ld_unit_zero (S := S1024x1024) hz]
  rfl

end Cases

section Entries

theorem named_a : Named.named (F := Ideal) (φ := .f32) κ "gelu_a" 0x3D372713#32 = ((8943 / 200000 : ℝ) : EReal) :=
  IdealRules.named_const.ideal_named_scalar _ _ _ _ rfl
theorem named_3a : Named.named (F := Ideal) (φ := .f32) κ "gelu_3a" 0x3E095D4F#32 = ((26829 / 200000 : ℝ) : EReal) :=
  IdealRules.named_const.ideal_named_scalar _ _ _ _ rfl

variable (dx1 : Vec Ideal S512x1024 .f32) (mx : Vec Ideal S512x1024 .bf16) (g : Vec Ideal S1x1024 .f32) (ys : Vec Ideal S512x512 .f32)
  (yr : Vec Ideal S512x512 .bf16) (wg : Vec Ideal S512x1024 .bf16) (wo : Vec Ideal S1024x1024 .bf16)

/-- Rows of the blocks, the only row of a gain, and the two weights, as functions of their coordinates. -/
def dxRow (r : Fin 512) (k : Fin 1024) : EReal := dx1 (ix2 r k)
def mxRow (r : Fin 512) (k : Fin 1024) : EReal := mx (ix2 r k)
def ysRow (r : Fin 512) (k : Fin 512) : EReal := ys (ix2 r k)
def gain (k : Fin 1024) : EReal := g (ix2 0 k)
def gate (k : Fin 512) (j : Fin 1024) : EReal := wg (ix2 k j)
def proj (k : Fin 1024) (j : Fin 1024) : EReal := wo (ix2 k j)

theorem gel_apply (r k : Fin 512) : k0_pay15 ys (ix2 r k) = MixRows.gel (ysRow ys r k) := by
  unfold_payloads
  pointwise [named_a]
  rfl

theorem lin_apply (r j : Fin 512) : k0_pay17 ys wg (ix2 r j) = MixRows.lin (ysRow ys r) (gate wg) j := by
  unfold_payloads
  pointwise [named_a]
  rfl

theorem sg_apply (r j : Fin 512) : k0_pay18 ys wg (ix2 r j) = MixRows.sg (ysRow ys r) (gate wg) j := by
  unfold_payloads
  pointwise [named_a]
  rfl

theorem dm_apply (r : Fin 512) (j : Fin 1024) : dmBlk dx1 mx g (ix2 r j) = MixRows.dm (mxRow mx r) (dxRow dx1 r) (gain g) j := by
  unfold dmBlk
  unfold_payloads
  pointwise []
  rfl

theorem dcat_apply (r : Fin 512) (i : Fin 1024) : k0_pay11 (dmBlk dx1 mx g) wo (ix2 r i) =
    ∑ k, MixRows.dm (mxRow mx r) (dxRow dx1 r) (gain g) k * proj wo i k := by
  unfold k0_pay11
  pointwise [dm_apply]
  rfl

theorem dhi_apply (r j : Fin 512) : dhiBlk dx1 mx g wo (ix2 r j) = MixRows.dhi (mxRow mx r) (dxRow dx1 r) (gain g) (proj wo) j := by
  unfold dhiBlk k0_pay13
  pointwise [dcat_apply]
  rfl

theorem dyr_apply (r j : Fin 512) : dyrBlk dx1 mx g wo (ix2 r j) = MixRows.dlo (mxRow mx r) (dxRow dx1 r) (gain g) (proj wo) j := by
  unfold dyrBlk k0_pay12
  pointwise [dcat_apply]
  rfl

/-- The gradients of the gate's two halves, side by side. -/
theorem dz_apply (r : Fin 512) (i : Fin 1024) : k0_pay23 (dhiBlk dx1 mx g wo) (k0_pay17 ys wg) (k0_pay18 ys wg) (ix2 r i) =
    MixRows.cat (MixRows.dzl (mxRow mx r) (dxRow dx1 r) (gain g) (ysRow ys r) (gate wg) (proj wo))
      (MixRows.dzg (mxRow mx r) (dxRow dx1 r) (gain g) (ysRow ys r) (gate wg) (proj wo)) i := by
  unfold k0_pay23
  pointwise [dhi_apply, lin_apply, sg_apply]
  rfl

theorem dgel_apply (r k : Fin 512) : k0_pay25 (dhiBlk dx1 mx g wo) (k0_pay17 ys wg) (k0_pay18 ys wg) wg (ix2 r k) =
    MixRows.dgel (mxRow mx r) (dxRow dx1 r) (gain g) (ysRow ys r) (gate wg) (proj wo) k := by
  unfold k0_pay25
  pointwise [dz_apply]
  exact MixRows.sum_cat ..

theorem gelD_apply (d : Vec Ideal S512x512 .f32) (r k : Fin 512) :
    k0_pay1 (k0_pay14 ys) d (k0_pay26 (k0_pay14 ys)) (k0_pay27 (k0_pay14 ys)) (Scalar.ofBits .f32 0x3F000000#32) (ix2 r k) =
      d (ix2 r k) * MixRows.gelD (ysRow ys r k) := by
  unfold_payloads
  pointwise [named_a, named_3a]
  rfl

theorem dys_apply (r k : Fin 512) : dysBlk dx1 mx g ys wg wo (ix2 r k) =
    MixRows.dys (mxRow mx r) (dxRow dx1 r) (gain g) (ysRow ys r) (gate wg) (proj wo) k := by
  unfold dysBlk
  rw [gelD_apply, dgel_apply]
  rfl

theorem dwg_apply (dwg : Vec Ideal S512x1024 .f32) (k : Fin 512) (j : Fin 1024) : dwgBlk dx1 mx g ys wg wo dwg (ix2 k j) =
    dwg (ix2 k j) + ∑ r, MixRows.gel (ysRow ys r k) * MixRows.cat
      (MixRows.dzl (mxRow mx r) (dxRow dx1 r) (gain g) (ysRow ys r) (gate wg) (proj wo))
      (MixRows.dzg (mxRow mx r) (dxRow dx1 r) (gain g) (ysRow ys r) (gate wg) (proj wo)) j := by
  unfold dwgBlk k0_pay24
  pointwise [dz_apply, gel_apply]

theorem dg_apply (dg : Vec Ideal S1x1024 .f32) (j : Fin 1024) : dgBlk dx1 mx dg (ix2 0 j) =
    dg (ix2 0 j) + ∑ r, dxRow dx1 r j * (mxRow mx r j * rs (mxRow mx r)) := by
  unfold dgBlk
  unfold_payloads
  pointwise []
  rfl

theorem ld_lo (w : Vec Ideal S1024x1024 .f32) (i : Fin 512) (j : Fin 1024) : View.ld w rectLo (ix2 i j) = w (ix2 (MixRows.lo i) j) := by
  refine congr_arg w (funext fun a => ?_)
  fin_cases a
  · exact Fin.ext (by show 0 + 1 * i.val = i.val; omega)
  · exact Fin.ext (by show 0 + 1 * j.val = j.val; omega)
theorem ld_hi (w : Vec Ideal S1024x1024 .f32) (i : Fin 512) (j : Fin 1024) : View.ld w rectHi (ix2 i j) = w (ix2 (MixRows.hi i) j) := by
  refine congr_arg w (funext fun a => ?_)
  fin_cases a
  · exact Fin.ext (by show 512 + 1 * i.val = 512 + i.val; omega)
  · exact Fin.ext (by show 0 + 1 * j.val = j.val; omega)

theorem dwoLo_apply (dwo : Vec Ideal S1024x1024 .f32) (i : Fin 512) (j : Fin 1024) : dwoLo dx1 mx g yr dwo (ix2 i j) =
    dwo (ix2 (MixRows.lo i) j) + ∑ r, ysRow yr r i * MixRows.dm (mxRow mx r) (dxRow dx1 r) (gain g) j := by
  unfold dwoLo k0_pay21 k0_pay19 k0_pay20
  pointwise [dm_apply, ld_lo]
  rfl

theorem dwoHi_apply (dwo : Vec Ideal S1024x1024 .f32) (i : Fin 512) (j : Fin 1024) : dwoHi dx1 mx g ys wg dwo (ix2 i j) =
    dwo (ix2 (MixRows.hi i) j) + ∑ r, MixRows.lin (ysRow ys r) (gate wg) i * MixRows.sg (ysRow ys r) (gate wg) i
      * MixRows.dm (mxRow mx r) (dxRow dx1 r) (gain g) j := by
  unfold dwoHi k0_pay22
  pointwise [dm_apply, lin_apply, sg_apply, ld_hi]
  rfl

theorem dwo_apply (dwo : Vec Ideal S1024x1024 .f32) (i j : Fin 1024) : dwoBlk dx1 mx g ys yr wg dwo (ix2 i j) =
    dwo (ix2 i j) + ∑ r, MixRows.both (ysRow ys r) (ysRow yr r) (gate wg) i
      * MixRows.dm (mxRow mx r) (dxRow dx1 r) (gain g) j := by
  by_cases h : i.val < 512
  · have e := dwoLo_apply dx1 mx g yr dwo ⟨i.val, h⟩ j
    unfold dwoBlk stack
    simp only [MixRows.both, MixRows.cat, h, dite_true]
    exact (dif_pos h).trans e
  · have e := dwoHi_apply dx1 mx g ys wg dwo ⟨i.val - 512, by omega⟩ j
    have hh : MixRows.hi ⟨i.val - 512, by omega⟩ = i := Fin.ext (by show 512 + (i.val - 512) = i.val; omega)
    rw [hh] at e
    unfold dwoBlk stack
    simp only [MixRows.both, MixRows.cat, h, dite_false]
    exact (dif_neg h).trans e

/-- What the totals are set to before the first block. -/
theorem dwo_start (i j : Fin 1024) : (k0_pay2 (F := Ideal)) (ix2 i j) = 0 := by
  unfold k0_pay2
  pointwise []
theorem dwg_start (k : Fin 512) (j : Fin 1024) : (k0_pay3 (F := Ideal)) (ix2 k j) = 0 := by
  unfold k0_pay3
  pointwise []
theorem dg_start (j : Fin 1024) : (k0_pay4 (F := Ideal)) (ix2 0 j) = 0 := by
  unfold k0_pay4
  pointwise []

end Entries

end Cert.MixIdeal.Hand

end
-- ==== Proof.MixArrays.lean ====
/-
  What the gate's and mixing projection's gradient call leaves in its five result arrays, entry by entry: its blocks of rows
  read from the arguments and from the forward product the host computes, the running totals over the sixteen blocks, and the
  rows written block by block.
-/
module

public import proofs.«01_k».proof.Proof.MixBlock
public import proofs.«01_k».proof.Proof.Blocks
public import Idealize.ShloMosaic.Lib.StableHlo.ReadAt

@[expose] public section

set_option maxRecDepth 16384

noncomputable section

namespace Cert.MixIdeal.Hand

open Cert.Reals Cert.NormGrad Cert.Blocks Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The argument arrays: the gate's input, the other half's rows, the two weights, the gain and the cotangent. -/
def ys (p : Fin 8192) (k : Fin 512) : EReal := m (c.tc.loc main_arg0) (ix3 0 p k)
def yr (p : Fin 8192) (k : Fin 512) : EReal := m (c.tc.loc main_arg1) (ix3 0 p k)
def wg (k : Fin 512) (j : Fin 1024) : EReal := m (c.tc.loc main_arg2) (ix3 0 k j)
def wo (k : Fin 1024) (j : Fin 1024) : EReal := m (c.tc.loc main_arg3) (ix3 0 k j)
def g (k : Fin 1024) : EReal := m (c.tc.loc main_arg4) (ix2 0 k)
def dx1 (p : Fin 8192) (k : Fin 1024) : EReal := m (c.tc.loc main_arg5) (ix3 0 p k)

/-- Row `p` of the forward product. -/
def mx (p : Fin 8192) : Fin 1024 → EReal := MixRows.mix (ys m c p) (yr m c p) (wg m c) (wo m c)

/-- Row `r` of block `t`. -/
def row (t : Fin cfg0.N) (r : Fin 512) : Fin 8192 :=
  ⟨512 * t.val + r.val, by have h := t.isLt; have hN : cfg0.N = 16 := N_0; omega⟩

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = 0 ∧ win0_5.index t 1 = 0 := by decide +kernel
theorem idx_6 : ∀ t : Fin grid0.N, win0_6.index t 0 = 0 ∧ win0_6.index t 1 = 0 := by decide +kernel
theorem idx_7 : ∀ t : Fin grid0.N, win0_7.index t 0 = t.val ∧ win0_7.index t 1 = 0 := by decide +kernel
theorem idx_8 : ∀ t : Fin grid0.N, win0_8.index t 0 = t.val ∧ win0_8.index t 1 = 0 := by decide +kernel
theorem idx_9 : ∀ t : Fin grid0.N, win0_9.index t 0 = 0 ∧ win0_9.index t 1 = 0 := by decide +kernel
theorem idx_10 : ∀ t : Fin grid0.N, win0_10.index t 0 = 0 ∧ win0_10.index t 1 = 0 := by decide +kernel
theorem idx_11 : ∀ t : Fin grid0.N, win0_11.index t 0 = 0 ∧ win0_11.index t 1 = 0 := by decide +kernel

theorem V_dx1 (p : Fin 8192) (k : Fin 1024) : V m c main_v32 (ix2 p k) = dx1 m c p k := by
  unfold V; after_reads_at; rfl
theorem V_mx (p : Fin 8192) (k : Fin 1024) : V m c main_v31 (ix2 p k) = mx m c p k := by
  unfold V; after_reads_at
  after_reads_at
  exact MixRows.mix_eq (ys m c p) (yr m c p) (wg m c) (wo m c) k
theorem V_g (k : Fin 1024) : V m c main_arg4 (ix2 0 k) = g m c k := by
  unfold V; after_reads_at; rfl
theorem V_ys (p : Fin 8192) (k : Fin 512) : V m c main_v33 (ix2 p k) = ys m c p k := by
  unfold V; after_reads_at; rfl
theorem V_yr (p : Fin 8192) (k : Fin 512) : V m c main_v35 (ix2 p k) = yr m c p k := by
  unfold V; after_reads_at; rfl
theorem V_wg (p : Fin 512) (k : Fin 1024) : V m c main_v37 (ix2 p k) = wg m c p k := by
  unfold V; after_reads_at; rfl
theorem V_wo (p : Fin 1024) (k : Fin 1024) : V m c main_v39 (ix2 p k) = wo m c p k := by
  unfold V; after_reads_at; rfl

theorem blk_dx1 (t : Fin cfg0.N) (r : Fin 512) (k : Fin 1024) : iblk m c 0 t (ix2 r k) = dx1 m c (row t r) k := by
  rw [← V_dx1]; unfold iblk; rw [View.read_apply]
  exact congrArg (V m c main_v32) (funext fun a => Fin.ext (match a with
    | ⟨0, _⟩ => at_row 512 r.val (idx_0 t).1
    | ⟨1, _⟩ => at_zero 1024 k.val (idx_0 t).2))

theorem blk_mx (t : Fin cfg0.N) (r : Fin 512) (k : Fin 1024) : iblk m c 1 t (ix2 r k) = mx m c (row t r) k := by
  rw [← V_mx]; unfold iblk; rw [View.read_apply]
  exact congrArg (V m c main_v31) (funext fun a => Fin.ext (match a with
    | ⟨0, _⟩ => at_row 512 r.val (idx_1 t).1
    | ⟨1, _⟩ => at_zero 1024 k.val (idx_1 t).2))

theorem blk_g (t : Fin cfg0.N) (k : Fin 1024) : iblk m c 2 t (ix2 0 k) = g m c k := by
  rw [← V_g]; unfold iblk; rw [View.read_apply]
  exact congrArg (V m c main_arg4) (funext fun a => Fin.ext (match a with
    | ⟨0, _⟩ => at_zero 1 0 (idx_2 t).1
    | ⟨1, _⟩ => at_zero 1024 k.val (idx_2 t).2))

theorem blk_ys (t : Fin cfg0.N) (r : Fin 512) (k : Fin 512) : iblk m c 3 t (ix2 r k) = ys m c (row t r) k := by
  rw [← V_ys]; unfold iblk; rw [View.read_apply]
  exact congrArg (V m c main_v33) (funext fun a => Fin.ext (match a with
    | ⟨0, _⟩ => at_row 512 r.val (idx_3 t).1
    | ⟨1, _⟩ => at_zero 512 k.val (idx_3 t).2))

theorem blk_yr (t : Fin cfg0.N) (r : Fin 512) (k : Fin 512) : iblk m c 4 t (ix2 r k) = yr m c (row t r) k := by
  rw [← V_yr]; unfold iblk; rw [View.read_apply]
  exact congrArg (V m c main_v35) (funext fun a => Fin.ext (match a with
    | ⟨0, _⟩ => at_row 512 r.val (idx_4 t).1
    | ⟨1, _⟩ => at_zero 512 k.val (idx_4 t).2))

theorem blk_wg (t : Fin cfg0.N) (r : Fin 512) (k : Fin 1024) : iblk m c 5 t (ix2 r k) = wg m c r k := by
  rw [← V_wg]; unfold iblk; rw [View.read_apply]
  exact congrArg (V m c main_v37) (funext fun a => Fin.ext (match a with
    | ⟨0, _⟩ => at_zero 512 r.val (idx_5 t).1
    | ⟨1, _⟩ => at_zero 1024 k.val (idx_5 t).2))

theorem blk_wo (t : Fin cfg0.N) (r : Fin 1024) (k : Fin 1024) : iblk m c 6 t (ix2 r k) = wo m c r k := by
  rw [← V_wo]; unfold iblk; rw [View.read_apply]
  exact congrArg (V m c main_v39) (funext fun a => Fin.ext (match a with
    | ⟨0, _⟩ => at_zero 1024 r.val (idx_6 t).1
    | ⟨1, _⟩ => at_zero 1024 k.val (idx_6 t).2))

/-- The blocks' rows are the arrays' rows. -/
theorem row_dx1 (t : Fin cfg0.N) (r : Fin 512) : dxRow (iblk m c 0 t) r = dx1 m c (row t r) := funext fun k => blk_dx1 m c t r k
theorem row_mx (t : Fin cfg0.N) (r : Fin 512) : mxRow (iblk m c 1 t) r = mx m c (row t r) := funext fun k => blk_mx m c t r k
theorem gain_g (t : Fin cfg0.N) : gain (iblk m c 2 t) = g m c := funext fun k => blk_g m c t k
theorem row_ys (t : Fin cfg0.N) (r : Fin 512) : ysRow (iblk m c 3 t) r = ys m c (row t r) := funext fun k => blk_ys m c t r k
theorem row_yr (t : Fin cfg0.N) (r : Fin 512) : ysRow (iblk m c 4 t) r = yr m c (row t r) := funext fun k => blk_yr m c t r k
theorem gate_wg (t : Fin cfg0.N) : gate (iblk m c 5 t) = wg m c := funext fun k => funext fun l => blk_wg m c t k l
theorem proj_wo (t : Fin cfg0.N) : proj (iblk m c 6 t) = wo m c := funext fun l => funext fun j => blk_wo m c t l j

/-- Row `p` of the gradients. -/
def dm (p : Fin 8192) : Fin 1024 → EReal := MixRows.dm (mx m c p) (dx1 m c p) (g m c)
def dyr (p : Fin 8192) : Fin 512 → EReal := MixRows.dlo (mx m c p) (dx1 m c p) (g m c) (wo m c)
def dys (p : Fin 8192) : Fin 512 → EReal := MixRows.dys (mx m c p) (dx1 m c p) (g m c) (ys m c p) (wg m c) (wo m c)
def dz (p : Fin 8192) : Fin 1024 → EReal := MixRows.cat
  (MixRows.dzl (mx m c p) (dx1 m c p) (g m c) (ys m c p) (wg m c) (wo m c))
  (MixRows.dzg (mx m c p) (dx1 m c p) (g m c) (ys m c p) (wg m c) (wo m c))

/-- Row `p`'s parts of the two weights' gradients and of the gain's. -/
def dwoRow (i j : Fin 1024) (p : Fin 8192) : EReal := MixRows.both (ys m c p) (yr m c p) (wg m c) i * dm m c p j
def dwgRow (k : Fin 512) (j : Fin 1024) (p : Fin 8192) : EReal := MixRows.gel (ys m c p k) * dz m c p j
def dgRow (j : Fin 1024) (p : Fin 8192) : EReal := dx1 m c p j * (mx m c p j * rs (mx m c p))

theorem dyrBlk_at (t : Fin cfg0.N) (r : Fin 512) (k : Fin 512) : dyrBlk (iblk m c 0 t) (iblk m c 1 t) (iblk m c 2 t) (iblk m c 6 t) (ix2 r k) = dyr m c (row t r) k := by
  simp only [dyr_apply, row_dx1, row_mx, gain_g, row_ys, row_yr, gate_wg, proj_wo]
  rfl

theorem dysBlk_at (t : Fin cfg0.N) (r : Fin 512) (k : Fin 512) : dysBlk (iblk m c 0 t) (iblk m c 1 t) (iblk m c 2 t) (iblk m c 3 t) (iblk m c 5 t) (iblk m c 6 t) (ix2 r k) = dys m c (row t r) k := by
  simp only [dys_apply, row_dx1, row_mx, gain_g, row_ys, row_yr, gate_wg, proj_wo]
  rfl

theorem dwoBlk_at (t : Fin cfg0.N) (acc : Vec Ideal S1024x1024 .f32) (r : Fin 1024) (k : Fin 1024) : dwoBlk (iblk m c 0 t) (iblk m c 1 t) (iblk m c 2 t) (iblk m c 3 t) (iblk m c 4 t) (iblk m c 5 t) acc (ix2 r k) =
    acc (ix2 r k) + part 512 8192 (dwoRow m c r k) t.val := by
  simp only [dwo_apply, row_dx1, row_mx, gain_g, row_ys, row_yr, gate_wg, proj_wo]
  exact congrArg _ (part_eq (dwoRow m c r k) t.val (row t) fun _ => rfl)

theorem dwgBlk_at (t : Fin cfg0.N) (acc : Vec Ideal S512x1024 .f32) (r : Fin 512) (k : Fin 1024) : dwgBlk (iblk m c 0 t) (iblk m c 1 t) (iblk m c 2 t) (iblk m c 3 t) (iblk m c 5 t) (iblk m c 6 t) acc (ix2 r k) =
    acc (ix2 r k) + part 512 8192 (dwgRow m c r k) t.val := by
  simp only [dwg_apply, row_dx1, row_mx, gain_g, row_ys, row_yr, gate_wg, proj_wo]
  exact congrArg _ (part_eq (dwgRow m c r k) t.val (row t) fun _ => rfl)

theorem dgBlk_at (t : Fin cfg0.N) (acc : Vec Ideal S1x1024 .f32) (k : Fin 1024) : dgBlk (iblk m c 0 t) (iblk m c 1 t) acc (ix2 0 k) =
    acc (ix2 0 k) + part 512 8192 (dgRow m c k) t.val := by
  simp only [dg_apply, row_dx1, row_mx, gain_g, row_ys, row_yr, gate_wg, proj_wo]
  exact congrArg _ (part_eq (dgRow m c k) t.val (row t) fun _ => rfl)

theorem not_first (n : Nat) (h : n + 1 < cfg0.N) : ¬(n + 1) % 16 = 0 := by have hN : cfg0.N = 16 := N_0; omega

/-- What the output buffer of `dyr` holds after point `t`. -/
theorem outs_dyr (t : Fin cfg0.N) : (outsAt0 m c t.val t.isLt).1 = dyrBlk (iblk m c 0 t) (iblk m c 1 t) (iblk m c 2 t) (iblk m c 6 t) := by
  by_cases h : t.val % 16 = 0
  · rw [outsAt0_A m c t h]; dsimp only
    rw [out_A_7]
  · rw [outsAt0_B m c t h]; dsimp only
    rw [out_B_7]

/-- What the output buffer of `dys` holds after point `t`. -/
theorem outs_dys (t : Fin cfg0.N) : (outsAt0 m c t.val t.isLt).2.1 = dysBlk (iblk m c 0 t) (iblk m c 1 t) (iblk m c 2 t) (iblk m c 3 t) (iblk m c 5 t) (iblk m c 6 t) := by
  by_cases h : t.val % 16 = 0
  · rw [outsAt0_A m c t h]; dsimp only
    rw [out_A_8]
  · rw [outsAt0_B m c t h]; dsimp only
    rw [out_B_8]

/-- The running total of `dwo`. -/
theorem outs_dwo (r : Fin 1024) (k : Fin 1024) (n : Nat) (h : n < cfg0.N) :
    (outsAt0 m c n h).2.2.1 (ix2 r k) = ∑ t : Fin (n + 1), part 512 8192 (dwoRow m c r k) t :=
  running_sum (fun n h => (outsAt0 m c n h).2.2.1 (ix2 r k)) (part 512 8192 (dwoRow m c r k))
    (fun h => by
      rw [outsAt0_A m c ⟨0, h⟩ rfl]
      dsimp only
      rw [out_A_9]
      exact ((dwoBlk_at m c ⟨0, h⟩ _ r k).trans (by rw [dwo_start])))
    (fun n h => by
      rw [outsAt0_B m c ⟨n + 1, h⟩ (not_first n h)]
      dsimp only
      rw [out_B_9]
      exact dwoBlk_at m c ⟨n + 1, h⟩ _ r k) n h

/-- The running total of `dwg`. -/
theorem outs_dwg (r : Fin 512) (k : Fin 1024) (n : Nat) (h : n < cfg0.N) :
    (outsAt0 m c n h).2.2.2.1 (ix2 r k) = ∑ t : Fin (n + 1), part 512 8192 (dwgRow m c r k) t :=
  running_sum (fun n h => (outsAt0 m c n h).2.2.2.1 (ix2 r k)) (part 512 8192 (dwgRow m c r k))
    (fun h => by
      rw [outsAt0_A m c ⟨0, h⟩ rfl]
      dsimp only
      rw [out_A_10]
      exact ((dwgBlk_at m c ⟨0, h⟩ _ r k).trans (by rw [dwg_start])))
    (fun n h => by
      rw [outsAt0_B m c ⟨n + 1, h⟩ (not_first n h)]
      dsimp only
      rw [out_B_10]
      exact dwgBlk_at m c ⟨n + 1, h⟩ _ r k) n h

/-- The running total of `dg`. -/
theorem outs_dg (k : Fin 1024) (n : Nat) (h : n < cfg0.N) :
    (outsAt0 m c n h).2.2.2.2 (ix2 0 k) = ∑ t : Fin (n + 1), part 512 8192 (dgRow m c k) t :=
  running_sum (fun n h => (outsAt0 m c n h).2.2.2.2 (ix2 0 k)) (part 512 8192 (dgRow m c k))
    (fun h => by
      rw [outsAt0_A m c ⟨0, h⟩ rfl]
      dsimp only
      rw [out_A_11]
      exact ((dgBlk_at m c ⟨0, h⟩ _ k).trans (by rw [dg_start])))
    (fun n h => by
      rw [outsAt0_B m c ⟨n + 1, h⟩ (not_first n h)]
      dsimp only
      rw [out_B_11]
      exact dgBlk_at m c ⟨n + 1, h⟩ _ k) n h

/-- The result arrays. -/
def dyrArr : Buf (Elt Ideal) (c.tc.loc main_v40_0 : Loc nD τ sig) := fun i => show EReal from dyr m c (i 0) (i 1)
def dysArr : Buf (Elt Ideal) (c.tc.loc main_v40_1 : Loc nD τ sig) := fun i => show EReal from dys m c (i 0) (i 1)
def dwoArr : Buf (Elt Ideal) (c.tc.loc main_v40_2 : Loc nD τ sig) := fun i => show EReal from ∑ p, dwoRow m c (i 0) (i 1) p
def dwgArr : Buf (Elt Ideal) (c.tc.loc main_v40_3 : Loc nD τ sig) := fun i => show EReal from ∑ p, dwgRow m c (i 0) (i 1) p
def dgArr : Buf (Elt Ideal) (c.tc.loc main_v40_4 : Loc nD τ sig) := fun i => show EReal from ∑ p, dgRow m c (i 1) p

/-- The last block, and the block that holds row `p`. -/
def last : Fin cfg0.N := ⟨15, by have hN : cfg0.N = 16 := N_0; omega⟩
def blkOf (p : Fin 8192) : Fin cfg0.N := ⟨p.val / 512, by have hN : cfg0.N = 16 := N_0; omega⟩

theorem read_7 (A : Buf (Elt Ideal) (c.tc.loc main_v40_0 : Loc nD τ sig)) (t : Fin cfg0.N) (r : Fin 512) (k : Fin 512) :
    ((cfg0.win 7).blk t).view.read (Elt Ideal) A (ix2 r k) = A (ix2 (row t r) k) := by
  rw [View.read_apply]
  exact congrArg A (funext fun a => Fin.ext (match a with
    | ⟨0, _⟩ => at_row 512 r.val (idx_7 t).1
    | ⟨1, _⟩ => at_zero 512 k.val (idx_7 t).2))

theorem cover_7 (i : (⟨2, ![8192, 512]⟩ : Shape).Idx) : i ∈ ((cfg0.win 7).blk (blkOf (i 0))).view.set := by
  show i ∈ ((View.whole main_v40_0).slice (win0_7.rect (blkOf (i 0)))).set
  rw [View.set_slice_whole, Rect.mem_set_unit]
  exact fun a => match a with
    | ⟨0, _⟩ => in_row 512 (by decide) (idx_7 (blkOf (i 0))).1
    | ⟨1, _⟩ => in_zero (idx_7 (blkOf (i 0))).2 (i 1).isLt

theorem flushed_dyr (t : Fin cfg0.N) (_ : (cfg0.win 7).flush t = true) :
    (dats m 0 c).flushed 7 t = ((cfg0.win 7).blk t).view.read (Elt Ideal) (dyrArr m c) := by
  rw [Value.flushed7, outs_dyr]
  funext i
  idx_vars i
  exact (dyrBlk_at m c t _ _).trans (read_7 c (dyrArr m c) t _ _).symm

theorem final_dyr : (dats m 0 c).arrAt 7 cfg0.N = dyrArr m c :=
  (dats m 0 c).arrAt_eq_of_cover 7 (dyrArr m c) (flushed_dyr m c) fun i => ⟨blkOf (i 0), flush0_7 _, cover_7 i⟩

theorem read_8 (A : Buf (Elt Ideal) (c.tc.loc main_v40_1 : Loc nD τ sig)) (t : Fin cfg0.N) (r : Fin 512) (k : Fin 512) :
    ((cfg0.win 8).blk t).view.read (Elt Ideal) A (ix2 r k) = A (ix2 (row t r) k) := by
  rw [View.read_apply]
  exact congrArg A (funext fun a => Fin.ext (match a with
    | ⟨0, _⟩ => at_row 512 r.val (idx_8 t).1
    | ⟨1, _⟩ => at_zero 512 k.val (idx_8 t).2))

theorem cover_8 (i : (⟨2, ![8192, 512]⟩ : Shape).Idx) : i ∈ ((cfg0.win 8).blk (blkOf (i 0))).view.set := by
  show i ∈ ((View.whole main_v40_1).slice (win0_8.rect (blkOf (i 0)))).set
  rw [View.set_slice_whole, Rect.mem_set_unit]
  exact fun a => match a with
    | ⟨0, _⟩ => in_row 512 (by decide) (idx_8 (blkOf (i 0))).1
    | ⟨1, _⟩ => in_zero (idx_8 (blkOf (i 0))).2 (i 1).isLt

theorem flushed_dys (t : Fin cfg0.N) (_ : (cfg0.win 8).flush t = true) :
    (dats m 0 c).flushed 8 t = ((cfg0.win 8).blk t).view.read (Elt Ideal) (dysArr m c) := by
  rw [Value.flushed8, outs_dys]
  funext i
  idx_vars i
  exact (dysBlk_at m c t _ _).trans (read_8 c (dysArr m c) t _ _).symm

theorem final_dys : (dats m 0 c).arrAt 8 cfg0.N = dysArr m c :=
  (dats m 0 c).arrAt_eq_of_cover 8 (dysArr m c) (flushed_dys m c) fun i => ⟨blkOf (i 0), flush0_8 _, cover_8 i⟩

theorem read_9 (A : Buf (Elt Ideal) (c.tc.loc main_v40_2 : Loc nD τ sig)) (t : Fin cfg0.N) (r : Fin 1024) (k : Fin 1024) :
    ((cfg0.win 9).blk t).view.read (Elt Ideal) A (ix2 r k) = A (ix2 r k) := by
  rw [View.read_apply]
  exact congrArg A (funext fun a => Fin.ext (match a with
    | ⟨0, _⟩ => at_zero 1024 r.val (idx_9 t).1
    | ⟨1, _⟩ => at_zero 1024 k.val (idx_9 t).2))

theorem cover_9 (i : (⟨2, ![1024, 1024]⟩ : Shape).Idx) : i ∈ ((cfg0.win 9).blk last).view.set := by
  show i ∈ ((View.whole main_v40_2).slice (win0_9.rect last)).set
  rw [View.set_slice_whole, Rect.mem_set_unit]
  exact fun a => match a with
    | ⟨0, _⟩ => in_zero (idx_9 last).1 (i 0).isLt
    | ⟨1, _⟩ => in_zero (idx_9 last).2 (i 1).isLt

theorem flushed_dwo (t : Fin cfg0.N) (hf : (cfg0.win 9).flush t = true) :
    (dats m 0 c).flushed 9 t = ((cfg0.win 9).blk t).view.read (Elt Ideal) (dwoArr m c) := by
  obtain rfl : t = last := Fin.ext (by
    have hN : cfg0.N = 16 := N_0; have h := t.isLt; have := (flush0_9 t).mp hf; show t.val = 15; omega)
  rw [Value.flushed9]
  funext i
  idx_vars i
  exact ((outs_dwo m c _ _ 15 last.isLt).trans (total_part 16 512 8192 rfl _)).trans (read_9 c (dwoArr m c) last _ _).symm

theorem final_dwo : (dats m 0 c).arrAt 9 cfg0.N = dwoArr m c :=
  (dats m 0 c).arrAt_eq_of_cover 9 (dwoArr m c) (flushed_dwo m c) fun i => ⟨last, (flush0_9 _).mpr rfl, cover_9 i⟩

theorem read_10 (A : Buf (Elt Ideal) (c.tc.loc main_v40_3 : Loc nD τ sig)) (t : Fin cfg0.N) (r : Fin 512) (k : Fin 1024) :
    ((cfg0.win 10).blk t).view.read (Elt Ideal) A (ix2 r k) = A (ix2 r k) := by
  rw [View.read_apply]
  exact congrArg A (funext fun a => Fin.ext (match a with
    | ⟨0, _⟩ => at_zero 512 r.val (idx_10 t).1
    | ⟨1, _⟩ => at_zero 1024 k.val (idx_10 t).2))

theorem cover_10 (i : (⟨2, ![512, 1024]⟩ : Shape).Idx) : i ∈ ((cfg0.win 10).blk last).view.set := by
  show i ∈ ((View.whole main_v40_3).slice (win0_10.rect last)).set
  rw [View.set_slice_whole, Rect.mem_set_unit]
  exact fun a => match a with
    | ⟨0, _⟩ => in_zero (idx_10 last).1 (i 0).isLt
    | ⟨1, _⟩ => in_zero (idx_10 last).2 (i 1).isLt

theorem flushed_dwg (t : Fin cfg0.N) (hf : (cfg0.win 10).flush t = true) :
    (dats m 0 c).flushed 10 t = ((cfg0.win 10).blk t).view.read (Elt Ideal) (dwgArr m c) := by
  obtain rfl : t = last := Fin.ext (by
    have hN : cfg0.N = 16 := N_0; have h := t.isLt; have := (flush0_10 t).mp hf; show t.val = 15; omega)
  rw [Value.flushed10]
  funext i
  idx_vars i
  exact ((outs_dwg m c _ _ 15 last.isLt).trans (total_part 16 512 8192 rfl _)).trans (read_10 c (dwgArr m c) last _ _).symm

theorem final_dwg : (dats m 0 c).arrAt 10 cfg0.N = dwgArr m c :=
  (dats m 0 c).arrAt_eq_of_cover 10 (dwgArr m c) (flushed_dwg m c) fun i => ⟨last, (flush0_10 _).mpr rfl, cover_10 i⟩

theorem read_11 (A : Buf (Elt Ideal) (c.tc.loc main_v40_4 : Loc nD τ sig)) (t : Fin cfg0.N) (k : Fin 1024) :
    ((cfg0.win 11).blk t).view.read (Elt Ideal) A (ix2 0 k) = A (ix2 0 k) := by
  rw [View.read_apply]
  exact congrArg A (funext fun a => Fin.ext (match a with
    | ⟨0, _⟩ => at_zero 1 0 (idx_11 t).1
    | ⟨1, _⟩ => at_zero 1024 k.val (idx_11 t).2))

theorem cover_11 (i : (⟨2, ![1, 1024]⟩ : Shape).Idx) : i ∈ ((cfg0.win 11).blk last).view.set := by
  show i ∈ ((View.whole main_v40_4).slice (win0_11.rect last)).set
  rw [View.set_slice_whole, Rect.mem_set_unit]
  exact fun a => match a with
    | ⟨0, _⟩ => in_zero (idx_11 last).1 (i 0).isLt
    | ⟨1, _⟩ => in_zero (idx_11 last).2 (i 1).isLt

theorem flushed_dg (t : Fin cfg0.N) (hf : (cfg0.win 11).flush t = true) :
    (dats m 0 c).flushed 11 t = ((cfg0.win 11).blk t).view.read (Elt Ideal) (dgArr m c) := by
  obtain rfl : t = last := Fin.ext (by
    have hN : cfg0.N = 16 := N_0; have h := t.isLt; have := (flush0_11 t).mp hf; show t.val = 15; omega)
  rw [Value.flushed11]
  funext i
  idx_vars i
  obtain rfl : i0 = 0 := Subsingleton.elim _ _
  exact ((outs_dg m c _ 15 last.isLt).trans (total_part 16 512 8192 rfl _)).trans (read_11 c (dgArr m c) last _).symm

theorem final_dg : (dats m 0 c).arrAt 11 cfg0.N = dgArr m c :=
  (dats m 0 c).arrAt_eq_of_cover 11 (dgArr m c) (flushed_dg m c) fun i => ⟨last, (flush0_11 _).mpr rfl, cover_11 i⟩

end Cert.MixIdeal.Hand

end
-- ==== Proof.MixRef.lean ====
/-
  The reference of the gate's and mixing projection's gradient call, read at an entry: its forward rows, and what
  differentiation makes of each of its results.
-/
module

public import proofs.«01_k».proof.Proof.Gen.MixRefIdeal.Run
public import proofs.«01_k».proof.Proof.Gen.MixRefIdeal.Read
public import proofs.«01_k».proof.Proof.MixRows

@[expose] public section

set_option maxRecDepth 16384

noncomputable section

namespace Cert.MixRefIdeal.Hand

open Cert.NormGrad Cert.MixRefIdeal Cert.MixRefIdeal.Gen Cert.MixRefIdeal.Read Idealize.ShloMosaic

variable (ys yr : FVec Ideal S1x8192x512 .f32) (wg : FVec Ideal S1x512x1024 .f32) (wo : FVec Ideal S1x1024x1024 .f32)
  (g : FVec Ideal S1x1024 .f32) (dx1 : FVec Ideal S1x8192x1024 .f32)

/-- The arguments' rows. -/
def half (x : FVec Ideal S1x8192x512 .f32) (p : Fin 8192) (k : Fin 512) : EReal := x (ix3 0 p k)
def rowOf (x : FVec Ideal S1x8192x1024 .f32) (p : Fin 8192) (k : Fin 1024) : EReal := x (ix3 0 p k)
def gain (g : FVec Ideal S1x1024 .f32) (k : Fin 1024) : EReal := g (ix2 0 k)
def gate (w : FVec Ideal S1x512x1024 .f32) (k : Fin 512) (l : Fin 1024) : EReal := w (ix3 0 k l)
def proj (w : FVec Ideal S1x1024x1024 .f32) (l : Fin 1024) (j : Fin 1024) : EReal := w (ix3 0 l j)

theorem th_apply (p : Fin 8192) (k : Fin 512) : val_main_v17 (F := Ideal) ys (ix2 p k) = MixRows.th (half ys p k) := by
  rw [← MixRows.fth_eq]
  pointwise [val_main_v0, val_main_v5, val_main_v6, val_main_v7, val_main_v11, val_main_v12, val_main_v13, val_main_v14,
    val_main_v15, val_main_v16, val_main_v17, val_main_cst, val_main_cst_0, val_main_cst_2]
  rfl

theorem gel_apply (p : Fin 8192) (k : Fin 512) : val_main_v27 (F := Ideal) ys (ix2 p k) = MixRows.gel (half ys p k) := by
  rw [← MixRows.fgel_eq]
  unfold MixRows.fgel
  rw [MixRows.fth_eq, ← th_apply]
  pointwise [val_main_v0, val_main_v23, val_main_v24, val_main_v25, val_main_v26, val_main_v27, val_main_cst_5, val_main_cst_6]
  rfl

theorem z_apply (p : Fin 8192) (j : Fin 1024) : val_main_v28 (F := Ideal) ys wg (ix2 p j) =
    ∑ k, MixRows.gel (half ys p k) * gate wg k j := by
  pointwise [val_main_v2, val_main_v28]
  simp only [gel_apply]
  rfl

theorem lin_apply (p : Fin 8192) (j : Fin 512) : val_main_v29 (F := Ideal) ys wg (ix2 p j) = MixRows.lin (half ys p) (gate wg) j := by
  pointwise [val_main_v29]
  rw [z_apply]
  rfl

theorem sg_apply (p : Fin 8192) (j : Fin 512) : val_main_v36 (F := Ideal) ys wg (ix2 p j) = MixRows.sg (half ys p) (gate wg) j := by
  rw [← MixRows.fsg_eq]
  pointwise [val_main_v30, val_main_v31, val_main_v32, val_main_v33, val_main_v34, val_main_v35, val_main_v36, val_main_cst_7, val_main_cst_8]
  rw [z_apply]
  unfold MixRows.fsg
  simp only [MixRows.fgel_eq]
  rfl

theorem both_apply (p : Fin 8192) (i : Fin 1024) : val_main_v41 (F := Ideal) ys yr wg (ix2 p i) =
    MixRows.both (half ys p) (half yr p) (gate wg) i := by
  pointwise [val_main_v1, val_main_v40, val_main_v41]
  simp only [lin_apply, sg_apply]
  rfl

/-- Row `p` of the forward product. -/
def mx (p : Fin 8192) : Fin 1024 → EReal := MixRows.mix (half ys p) (half yr p) (gate wg) (proj wo)

theorem mx_apply (p : Fin 8192) (j : Fin 1024) : val_main_v42 (F := Ideal) ys yr wg wo (ix2 p j) = mx ys yr wg wo p j := by
  pointwise [val_main_v3, val_main_v42]
  simp only [both_apply]
  rfl

/-- The gradient of the forward product. -/
def dm (p : Fin 8192) (j : Fin 1024) : EReal :=
  rowOf dx1 p j * gain g j * rs (mx ys yr wg wo p)
    + mx ys yr wg wo p j * gms (mx ys yr wg wo p) (fun k => rowOf dx1 p k * gain g k)
    + gms (mx ys yr wg wo p) (fun k => rowOf dx1 p k * gain g k) * mx ys yr wg wo p j

theorem dm_apply (p : Fin 8192) (j : Fin 1024) :
    val_main_v79 (F := Ideal) ys yr wg wo g dx1 (ix2 p j) = dm ys yr wg wo g dx1 p j := by
  pointwise [val_main_v4, val_main_v43, val_main_v44, val_main_v45, val_main_v46, val_main_v47, val_main_v48, val_main_v49,
    val_main_v50, val_main_v51, val_main_v52, val_main_v53, val_main_v56, val_main_v59, val_main_v63, val_main_v64, val_main_v66,
    val_main_v67, val_main_v68, val_main_v69, val_main_v70, val_main_v71, val_main_v72, val_main_v73, val_main_v74, val_main_v75,
    val_main_v76, val_main_v77, val_main_v78, val_main_v79, val_main_cst_10, val_main_cst_11, val_main_cst_12, val_main_cst_13,
    val_main_cst_16, val_main_cst_17, val_main_cst_18, Finset.univ_unique, Finset.sum_singleton]
  simp only [mx_apply]
  rfl

/-- The gradient of the projection. -/
theorem dwo_apply (i j : Fin 1024) : val_main_v81 (F := Ideal) ys yr wg wo g dx1 (ix2 i j) =
    ∑ p, dm ys yr wg wo g dx1 p j * MixRows.both (half ys p) (half yr p) (gate wg) i := by
  pointwise [val_main_v80, val_main_v81]
  simp only [dm_apply, both_apply]

/-- The gradient of the two halves. -/
def dcat (p : Fin 8192) (i : Fin 1024) : EReal := ∑ k, dm ys yr wg wo g dx1 p k * proj wo i k

theorem dcat_apply (p : Fin 8192) (i : Fin 1024) :
    val_main_v82 (F := Ideal) ys yr wg wo g dx1 (ix2 p i) = dcat ys yr wg wo g dx1 p i := by
  pointwise [val_main_v3, val_main_v82]
  simp only [dm_apply]
  rfl

theorem dyr_apply (p : Fin 8192) (j : Fin 512) :
    val_main_v83 (F := Ideal) ys yr wg wo g dx1 (ix2 p j) = dcat ys yr wg wo g dx1 p (MixRows.lo j) := by
  pointwise [val_main_v83]
  exact dcat_apply ..

theorem dhi_apply (p : Fin 8192) (j : Fin 512) :
    val_main_v84 (F := Ideal) ys yr wg wo g dx1 (ix2 p j) = dcat ys yr wg wo g dx1 p (MixRows.hi j) := by
  pointwise [val_main_v84]
  exact dcat_apply ..

/-- The gradients of the gate's two halves, side by side. -/
def dz (p : Fin 8192) : Fin 1024 → EReal := MixRows.cat
  (fun j => dcat ys yr wg wo g dx1 p (MixRows.hi j) * MixRows.sg (half ys p) (gate wg) j)
  (fun j => MixRows.lin (half ys p) (gate wg) j * dcat ys yr wg wo g dx1 p (MixRows.hi j)
    * (MixRows.sg (half ys p) (gate wg) j * (1 - MixRows.sg (half ys p) (gate wg) j)))

theorem dz_apply (p : Fin 8192) (i : Fin 1024) :
    val_main_v88 (F := Ideal) ys yr wg wo g dx1 (ix2 p i) = dz ys yr wg wo g dx1 p i := by
  pointwise [val_main_v37, val_main_v38, val_main_v39, val_main_v85, val_main_v86, val_main_v87, val_main_v88, val_main_cst_9]
  simp only [dhi_apply, lin_apply, sg_apply]
  rfl

/-- The gradient of the gate's weight. -/
theorem dwg_apply (k : Fin 512) (j : Fin 1024) : val_main_v90 (F := Ideal) ys yr wg wo g dx1 (ix2 k j) =
    ∑ p, dz ys yr wg wo g dx1 p j * MixRows.gel (half ys p k) := by
  pointwise [val_main_v89, val_main_v90]
  simp only [dz_apply, gel_apply]

/-- The gradient of gelu's result, and of its argument. -/
def dgel (p : Fin 8192) (k : Fin 512) : EReal := ∑ i, dz ys yr wg wo g dx1 p i * gate wg k i

theorem dgel_apply (p : Fin 8192) (k : Fin 512) :
    val_main_v91 (F := Ideal) ys yr wg wo g dx1 (ix2 p k) = dgel ys yr wg wo g dx1 p k := by
  pointwise [val_main_v2, val_main_v91]
  simp only [dz_apply]
  rfl

/-- The gradient that reaches the argument through the tangent. -/
def dth (p : Fin 8192) (k : Fin 512) : EReal := Ideal.ofBits .f32 0x3F4C422A#32
  * (Ideal.ofBits .f32 0x3F000000#32 * (half ys p k * dgel ys yr wg wo g dx1 p k)
    * ((1 + MixRows.th (half ys p k)) * (1 - MixRows.th (half ys p k))))

theorem dth_apply (p : Fin 8192) (k : Fin 512) :
    val_main_v98 (F := Ideal) ys yr wg wo g dx1 (ix2 p k) = dth ys yr wg wo g dx1 p k := by
  pointwise [val_main_v0, val_main_v18, val_main_v19, val_main_v20, val_main_v21, val_main_v22, val_main_v92, val_main_v94,
    val_main_v95, val_main_v96, val_main_v97, val_main_v98, val_main_cst_3, val_main_cst_4, val_main_cst_19, val_main_cst_20]
  rw [dgel_apply, th_apply]
  rfl

theorem dys_apply (p : Fin 8192) (k : Fin 512) : val_main_v103 (F := Ideal) ys yr wg wo g dx1 (ix2 p k) =
    dgel ys yr wg wo g dx1 p k * (Ideal.ofBits .f32 0x3F000000#32 * (1 + MixRows.th (half ys p k))) + dth ys yr wg wo g dx1 p k
      + MixRows.co * dth ys yr wg wo g dx1 p k * (Ideal.ofBits .f32 0x40400000#32 * (half ys p k * half ys p k)) := by
  pointwise [val_main_v0, val_main_v5, val_main_v8, val_main_v9, val_main_v10, val_main_v11, val_main_v23, val_main_v24, val_main_v25, val_main_v26,
    val_main_v93, val_main_v99, val_main_v100, val_main_v101, val_main_v102, val_main_v103, val_main_cst, val_main_cst_0, val_main_cst_1,
    val_main_cst_5, val_main_cst_6]
  rw [dgel_apply, th_apply, dth_apply]
  rfl

/-- The gradient of the norm's gain. -/
theorem dg_apply (j : Fin 1024) : val_main_v104 (F := Ideal) ys yr wg wo dx1 (ix2 0 j) =
    ∑ p, mx ys yr wg wo p j * rs (mx ys yr wg wo p) * rowOf dx1 p j := by
  pointwise [val_main_v43, val_main_v44, val_main_v45, val_main_v46, val_main_v47, val_main_v48, val_main_v49,
    val_main_v50, val_main_v54, val_main_v55, val_main_v59, val_main_v60, val_main_v61, val_main_v62, val_main_v65, val_main_v104,
    val_main_cst_10, val_main_cst_11, val_main_cst_12, val_main_cst_14, val_main_cst_15, Finset.univ_unique, Finset.sum_singleton]
  simp only [mx_apply]
  rfl

end Cert.MixRefIdeal.Hand

end
-- ==== Proof.MixEq.lean ====
/-
  The gate's and mixing projection's gradient call and its reference end with the same five arrays, where all arguments are
  finite.
-/
module

public import proofs.«01_k».proof.Defs
public import proofs.«01_k».proof.Proof.Gen.Mix.Frame
public import proofs.«01_k».proof.Proof.Gen.Pre_finite_mix
public import proofs.«01_k».proof.Proof.MixArrays
public import proofs.«01_k».proof.Proof.MixRef
public import proofs.«01_k».proof.Proof.Finite
public import proofs.«01_k».proof.Proof.IsReal
public import Idealize.ShloMosaic.Lib.Quiescent

@[expose] public section

set_option maxRecDepth 16384

noncomputable section

namespace Cert.MixEq

open Cert.Reals Cert.NormGrad Cert.IsReal Idealize.ShloMosaic Idealize.ShloMosaic.TcCoe Idealize.SL.Sem
open Cert.MixIdeal (nD τ sig main_arg0 main_arg1 main_arg2 main_arg3 main_arg4 main_arg5)
open Cert.MixIdeal.Hand (ys yr wg wo g dx1 mx dm dyr dys dz dwoRow dwgRow dgRow dyrArr dysArr dwoArr dwgArr dgArr)
open Cert.MixRefIdeal.Read

variable (m : (ℓ : Loc nD τ sig) → Buf (Elt Ideal) ℓ) (c : Dev nD)

/-- The arrays hold real numbers. -/
theorem finite (h : Cert.Pre_MixIdeal_finite_mix m) :
    (∀ p k, IsReal (ys m c p k)) ∧ (∀ p k, IsReal (yr m c p k)) ∧ (∀ k j, IsReal (wg m c k j)) ∧ (∀ k j, IsReal (wo m c k j))
    ∧ (∀ k, IsReal (g m c k)) ∧ (∀ p k, IsReal (dx1 m c p k)) := by
  have e := congrFun (h c) (fun a => a.elim0)
  obtain ⟨e, e5⟩ := Finite.and_one e
  obtain ⟨e, e4⟩ := Finite.and_one e
  obtain ⟨e, e3⟩ := Finite.and_one e
  obtain ⟨e, e2⟩ := Finite.and_one e
  obtain ⟨e0, e1⟩ := Finite.and_one e
  obtain ⟨a0, h0⟩ := Finite.real _ _ _ _ _ _ e0
  obtain ⟨a1, h1⟩ := Finite.real _ _ _ _ _ _ e1
  obtain ⟨a2, h2⟩ := Finite.real _ _ _ _ _ _ e2
  obtain ⟨a3, h3⟩ := Finite.real _ _ _ _ _ _ e3
  obtain ⟨a4, h4⟩ := Finite.real _ _ _ _ _ _ e4
  obtain ⟨a5, h5⟩ := Finite.real _ _ _ _ _ _ e5
  exact ⟨fun p k => ⟨_, h0 _⟩, fun p k => ⟨_, h1 _⟩, fun k j => ⟨_, h2 _⟩, fun k j => ⟨_, h3 _⟩, fun k => ⟨_, h4 _⟩,
    fun p k => ⟨_, h5 _⟩⟩

theorem ofBits_half : Ideal.ofBits .f32 0x3F000000#32 = ((1 / 2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_c : ∃ r : ℝ, Ideal.ofBits .f32 0x3F4C422A#32 = (r : EReal) :=
  ⟨_, by simp [Ideal.ofBits, Ideal.ieee, -EReal.coe_mul]; rfl⟩

/-- The gate at real rows. -/
theorem th_real {y : EReal} (h : IsReal y) : IsReal (MixRows.th y) := by
  obtain ⟨r, e⟩ := IsReal.mul ofBits_c (h.add (IsReal.mul ⟨8943 / 200000, rfl⟩ ((h.mul h).mul h)))
  exact ⟨_, by unfold MixRows.th; rw [e, Ideal.tanh_coe]⟩

theorem gel_real {y : EReal} (h : IsReal y) : IsReal (MixRows.gel y) :=
  .mul (.mul ⟨_, ofBits_half⟩ h) (.add ⟨1, rfl⟩ (th_real h))

theorem lin_real {y : Fin 512 → EReal} {w : Fin 512 → Fin 1024 → EReal} (hy : ∀ k, IsReal (y k)) (hw : ∀ k j, IsReal (w k j))
    (j : Fin 512) : IsReal (MixRows.lin y w j) := IsReal.sum fun k => .mul (gel_real (hy k)) (hw _ _)

theorem sg_real {y : Fin 512 → EReal} {w : Fin 512 → Fin 1024 → EReal} (hy : ∀ k, IsReal (y k)) (hw : ∀ k j, IsReal (w k j))
    (j : Fin 512) : IsReal (MixRows.sg y w j) := by
  obtain ⟨r, e⟩ : IsReal (0 - ∑ k, MixRows.gel (y k) * w k (MixRows.hi j)) :=
    .sub IsReal.zero (IsReal.sum fun k => .mul (gel_real (hy k)) (hw _ _))
  unfold MixRows.sg
  rw [e, Ideal.exp_coe]
  exact ⟨1 / (1 + Real.exp r), div_coe 1 (1 + Real.exp r) (by positivity)⟩

/-- Two real halves side by side are real. -/
theorem cat_real {u v : Fin 512 → EReal} (hu : ∀ j, IsReal (u j)) (hv : ∀ j, IsReal (v j)) (i : Fin 1024) : IsReal (MixRows.cat u v i) := by
  unfold MixRows.cat
  split
  · exact hu _
  · exact hv _

theorem mx_real (h : Cert.Pre_MixIdeal_finite_mix m) (p : Fin 8192) (j : Fin 1024) : IsReal (mx m c p j) := by
  obtain ⟨hs, hr, hg, ho, -, -⟩ := finite m c h
  unfold mx MixRows.mix MixRows.both
  exact IsReal.sum fun i => .mul (cat_real (hr p) (fun l => .mul (lin_real (hs p) hg l) (sg_real (hs p) hg l)) i) (ho _ _)

/-- The norm's gradient is real, and it is the one differentiation gives. -/
theorem dm_both (h : Cert.Pre_MixIdeal_finite_mix m) (p : Fin 8192) (j : Fin 1024) :
    IsReal (dm m c p j) ∧ dm m c p j = Cert.MixRefIdeal.Hand.dm (m (c.tc.loc main_arg0)) (m (c.tc.loc main_arg1))
      (m (c.tc.loc main_arg2)) (m (c.tc.loc main_arg3)) (m (c.tc.loc main_arg4)) (m (c.tc.loc main_arg5)) p j := by
  obtain ⟨-, -, -, -, hg, hd⟩ := finite m c h
  have hm := mx_real m c h p
  have hk : ∀ k, IsReal (dx1 m c p k * g m c k) := fun k => .mul (hd p k) (hg k)
  have e := IsReal.kgrad hm hk j 0
  rw [zero_add, zero_add] at e
  exact ⟨IsReal.kgrad_real hm hk j, e⟩

theorem dm_eq (h : Cert.Pre_MixIdeal_finite_mix m) (p : Fin 8192) : dm m c p = Cert.MixRefIdeal.Hand.dm (m (c.tc.loc main_arg0))
    (m (c.tc.loc main_arg1)) (m (c.tc.loc main_arg2)) (m (c.tc.loc main_arg3)) (m (c.tc.loc main_arg4)) (m (c.tc.loc main_arg5)) p :=
  funext fun j => (dm_both m c h p j).2

/-- The gradient of the two halves the projection's product is taken of. -/
def dcat (p : Fin 8192) (i : Fin 1024) : EReal := ∑ k, dm m c p k * wo m c i k

theorem dcat_eq (h : Cert.Pre_MixIdeal_finite_mix m) (p : Fin 8192) (i : Fin 1024) : dcat m c p i = Cert.MixRefIdeal.Hand.dcat
    (m (c.tc.loc main_arg0)) (m (c.tc.loc main_arg1)) (m (c.tc.loc main_arg2)) (m (c.tc.loc main_arg3)) (m (c.tc.loc main_arg4))
    (m (c.tc.loc main_arg5)) p i := by
  unfold dcat
  rw [dm_eq m c h]
  rfl

theorem dz_eq (h : Cert.Pre_MixIdeal_finite_mix m) (p : Fin 8192) : dz m c p = Cert.MixRefIdeal.Hand.dz (m (c.tc.loc main_arg0))
    (m (c.tc.loc main_arg1)) (m (c.tc.loc main_arg2)) (m (c.tc.loc main_arg3)) (m (c.tc.loc main_arg4)) (m (c.tc.loc main_arg5)) p := by
  unfold Cert.MixRefIdeal.Hand.dz
  simp only [← dcat_eq m c h]
  refine congrArg (MixRows.cat _) (funext fun j => ?_)
  show dcat m c p (MixRows.hi j) * MixRows.lin (ys m c p) (wg m c) j * MixRows.sg (ys m c p) (wg m c) j
    * (1 - MixRows.sg (ys m c p) (wg m c) j) = _
  rw [mul_comm (dcat m c p (MixRows.hi j)), mul_assoc]
  rfl

/-- The gradient of gelu's result. -/
def dgel (p : Fin 8192) (k : Fin 512) : EReal := ∑ i, dz m c p i * wg m c k i

theorem dgel_real (h : Cert.Pre_MixIdeal_finite_mix m) (p : Fin 8192) (k : Fin 512) : IsReal (dgel m c p k) := by
  obtain ⟨hs, -, hg, ho, -, -⟩ := finite m c h
  have hd : ∀ i, IsReal (dcat m c p i) := fun i => IsReal.sum fun k => .mul (dm_both m c h p k).1 (ho i k)
  have h1 := sg_real (hs p) hg
  have h2 := lin_real (hs p) hg
  exact IsReal.sum fun i => .mul (cat_real (fun j => .mul (hd _) (h1 j))
    (fun j => .mul (.mul (.mul (hd _) (h2 j)) (h1 j)) (.sub ⟨1, rfl⟩ (h1 j))) i) (hg k i)

/-- Gelu's derivative as the kernel writes it is the one differentiation gives. -/
theorem gelD_eq {d y : EReal} (hd : IsReal d) (hy : IsReal y) : d * MixRows.gelD y =
    d * (Ideal.ofBits .f32 0x3F000000#32 * (1 + MixRows.th y))
      + Ideal.ofBits .f32 0x3F4C422A#32 * (Ideal.ofBits .f32 0x3F000000#32 * (y * d) * ((1 + MixRows.th y) * (1 - MixRows.th y)))
      + MixRows.co * (Ideal.ofBits .f32 0x3F4C422A#32
          * (Ideal.ofBits .f32 0x3F000000#32 * (y * d) * ((1 + MixRows.th y) * (1 - MixRows.th y))))
        * (Ideal.ofBits .f32 0x40400000#32 * (y * y)) := by
  obtain ⟨t, ht⟩ := th_real hy
  obtain ⟨d, rfl⟩ := hd
  obtain ⟨y, rfl⟩ := hy
  obtain ⟨r, hr⟩ := ofBits_c
  unfold MixRows.gelD
  rw [ht, hr, ofBits_half, ofBits_three, MixRows.co_eq, ← EReal.coe_one]
  simp only [← EReal.coe_mul, ← EReal.coe_add, ← EReal.coe_sub]
  congr 1
  ring

theorem dyrArr_eq (h : Cert.Pre_MixIdeal_finite_mix m) : dyrArr m c = val_main_v83 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  exact (dcat_eq m c h i0 (MixRows.lo i1)).trans (Cert.MixRefIdeal.Hand.dyr_apply _ _ _ _ _ _ i0 i1).symm

theorem dysArr_eq (h : Cert.Pre_MixIdeal_finite_mix m) : dysArr m c = val_main_v103 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  have e0 : dys m c i0 i1 = dgel m c i0 i1 * MixRows.gelD (ys m c i0 i1) :=
    congrArg (· * MixRows.gelD (ys m c i0 i1)) (MixRows.sum_cat _ _ fun i => wg m c i1 i).symm
  have e1 := e0.trans (gelD_eq (dgel_real m c h i0 i1) ((finite m c h).1 i0 i1))
  unfold dgel at e1
  rw [dz_eq m c h] at e1
  exact e1.trans (Cert.MixRefIdeal.Hand.dys_apply _ _ _ _ _ _ i0 i1).symm

theorem dwoArr_eq (h : Cert.Pre_MixIdeal_finite_mix m) : dwoArr m c = val_main_v81 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  have e : ∑ p, dwoRow m c i0 i1 p = ∑ p, dm m c p i1 * MixRows.both (ys m c p) (yr m c p) (wg m c) i0 :=
    Finset.sum_congr rfl fun p _ => mul_comm _ _
  simp only [dm_eq m c h] at e
  exact e.trans (Cert.MixRefIdeal.Hand.dwo_apply _ _ _ _ _ _ i0 i1).symm

theorem dwgArr_eq (h : Cert.Pre_MixIdeal_finite_mix m) : dwgArr m c = val_main_v90 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  have e : ∑ p, dwgRow m c i0 i1 p = ∑ p, dz m c p i1 * MixRows.gel (ys m c p i0) :=
    Finset.sum_congr rfl fun p _ => mul_comm _ _
  simp only [dz_eq m c h] at e
  exact e.trans (Cert.MixRefIdeal.Hand.dwg_apply _ _ _ _ _ _ i0 i1).symm

theorem dgArr_eq : dgArr m c = val_main_v104 (F := Ideal) (m (c.tc.loc main_arg0)) (m (c.tc.loc main_arg1))
    (m (c.tc.loc main_arg2)) (m (c.tc.loc main_arg3)) (m (c.tc.loc main_arg5)) := by
  funext i
  idx_vars i
  obtain rfl : i0 = 0 := Subsingleton.elim _ _
  have e : ∑ p, dgRow m c i1 p = ∑ p, mx m c p i1 * rs (mx m c p) * dx1 m c p i1 :=
    Finset.sum_congr rfl fun p _ => mul_comm _ _
  exact e.trans (Cert.MixRefIdeal.Hand.dg_apply _ _ _ _ _ i1).symm

/-- The claim: from memories that agree on the arguments, the call and its reference both run and end with equal results. -/
theorem algebraic : Cert.algebraic_MixIdeal_MixRefIdeal_pre_finite_mix (hMixIdeal := Cert.MixIdeal.Gen.facts)
    (hMixRefIdeal := Cert.MixRefIdeal.Gen.facts) (hPre_finite_mix := Cert.Pre_finite_mix.Gen.facts) := by
  intro m g m' g' h hm
  refine ⟨fun c => dyrArr m c, fun c => dysArr m c, fun c => dwoArr m c, fun c => dwgArr m c, fun c => dgArr m c, ?_, ?_⟩
  · refine (θ_run _ _ _).mono (fun r hr c => ?_) (Cert.MixIdeal.Value.run_blocks m g)
    obtain ⟨h0, h1, h2, h3, h4, hr⟩ := hr c
    exact ⟨h0.trans (Cert.MixIdeal.Hand.final_dyr m c), h1.trans (Cert.MixIdeal.Hand.final_dys m c),
      h2.trans (Cert.MixIdeal.Hand.final_dwo m c), h3.trans (Cert.MixIdeal.Hand.final_dwg m c),
      h4.trans (Cert.MixIdeal.Hand.final_dg m c), hr⟩
  · refine (θ_run _ _ _).mono (fun r hr c => ?_) (Cert.MixRefIdeal.Value.run m' g')
    obtain ⟨h0, h1, h2, h3, h4, hr⟩ := hr c
    obtain ⟨e0, e1, e2, e3, e4, e5⟩ := hm c
    have a0 : StableHlo.launchContents m' c (Proc.devRef .tc MixRefIdeal.main_arg0) = m (c.tc.loc main_arg0) := e0
    have a1 : StableHlo.launchContents m' c (Proc.devRef .tc MixRefIdeal.main_arg1) = m (c.tc.loc main_arg1) := e1
    have a2 : StableHlo.launchContents m' c (Proc.devRef .tc MixRefIdeal.main_arg2) = m (c.tc.loc main_arg2) := e2
    have a3 : StableHlo.launchContents m' c (Proc.devRef .tc MixRefIdeal.main_arg3) = m (c.tc.loc main_arg3) := e3
    have a4 : StableHlo.launchContents m' c (Proc.devRef .tc MixRefIdeal.main_arg4) = m (c.tc.loc main_arg4) := e4
    have a5 : StableHlo.launchContents m' c (Proc.devRef .tc MixRefIdeal.main_arg5) = m (c.tc.loc main_arg5) := e5
    refine ⟨h0.trans ?_, h1.trans ?_, h2.trans ?_, h3.trans ?_, h4.trans ?_, hr⟩
    · rw [val_main_v83_eq, a0, a1, a2, a3, a4, a5]; exact (dyrArr_eq m c h).symm
    · rw [val_main_v103_eq, a0, a1, a2, a3, a4, a5]; exact (dysArr_eq m c h).symm
    · rw [val_main_v81_eq, a0, a1, a2, a3, a4, a5]; exact (dwoArr_eq m c h).symm
    · rw [val_main_v90_eq, a0, a1, a2, a3, a4, a5]; exact (dwgArr_eq m c h).symm
    · rw [val_main_v104_eq, a0, a1, a2, a3, a5]; exact (dgArr_eq m c).symm

/-- The reference runs, keeps its arguments, and ends with every counter at zero: it has no semaphores. -/
theorem refFrame : Cert.quiescent_MixRefIdeal (hMixRefIdeal := Cert.MixRefIdeal.Gen.facts) := fun m g _ =>
  (θ_run _ _ _).mono (fun r h => ⟨fun c => (h c).2.2.2.2.2, sem_eq_zero_of_no_sems (by decide) r.2⟩) (Cert.MixRefIdeal.Value.run m g)

end Cert.MixEq

end
-- ==== Proof.MlpARows.lean ====
/-
  One row of the first feed-forward gradient call: its hidden layer, its product, the error against the target and the
  gradients at that row.
-/
module

public import proofs.«01_k».proof.Proof.NormGrad

@[expose] public section

noncomputable section

namespace Cert.MlpARows

open Cert.NormGrad Idealize.ShloMosaic

variable (x tg gp gq : Fin 1024 → EReal) (w1 : Fin 1024 → Fin 4096 → EReal) (w2 : Fin 4096 → Fin 1024 → EReal)

/-- The first product of the normalised row. -/
def pre (l : Fin 4096) : EReal := ∑ k, x k * rs x * gp k * w1 k l

/-- The hidden layer before it is squared. -/
def rl (l : Fin 4096) : EReal := max (pre x gp w1 l) 0

/-- The second product. -/
def mm (j : Fin 1024) : EReal := ∑ l, rl x gp w1 l * rl x gp w1 l * w2 l j

/-- The output's distance from the target. -/
def err (j : Fin 1024) : EReal := x j + mm x gp w1 w2 j * rs (mm x gp w1 w2) * gq j - tg j

/-- The loss's gradient at the output. -/
def dx2 (j : Fin 1024) : EReal := err x tg gp gq w1 w2 j * Ideal.ofBits .f32 0x3A800000#32

/-- The gradient of the normalised second product. -/
def dn (j : Fin 1024) : EReal := dx2 x tg gp gq w1 w2 j * gq j

/-- The gradient of the second product. -/
def dm (j : Fin 1024) : EReal := kgrad (mm x gp w1 w2) (dn x tg gp gq w1 w2) j

/-- The gradient of the first product. -/
def df (l : Fin 4096) : EReal := (∑ j, dm x tg gp gq w1 w2 j * w2 l j) * (Ideal.ofBits .f32 0x40000000#32 * rl x gp w1 l)

end Cert.MlpARows

end
-- ==== Proof.MlpABlock.lean ====
/-
  The first feed-forward gradient call (`_mlp_a`), one block at a time: what its body leaves in its five output buffers,
  as named functions of the blocks it reads, and the entries of those functions over the extended reals.
-/
module

public import proofs.«01_k».proof.Proof.Gen.MlpAIdeal.Value
public import Idealize.ShloMosaic.Lib.Pointwise
public import Idealize.ShloMosaic.Lib.Tactic
public import proofs.«01_k».proof.Proof.MlpARows

@[expose] public section

set_option maxRecDepth 16384

noncomputable section

namespace Cert.MlpAIdeal.Hand

open Cert.NormGrad Cert.MlpAIdeal Cert.MlpAIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The block of the second product's gradient. -/
def dmBlk (x tg : Vec F S256x1024 .f32) (gp gq : Vec F S1x1024 .f32) (w1 : Vec F S1024x4096 .bf16)
    (w2 : Vec F S4096x1024 .bf16) : Vec F S256x1024 .bf16 :=
  k0_pay16 (k0_pay6 x) (k0_pay10 x gp w1 w2) (k0_pay11 x gp w1 w2) gq tg

/-- The block of the first product's gradient. -/
def dfBlk (x tg : Vec F S256x1024 .f32) (gp gq : Vec F S1x1024 .f32) (w1 : Vec F S1024x4096 .bf16)
    (w2 : Vec F S4096x1024 .bf16) : Vec F S256x4096 .bf16 :=
  k0_pay2 (k0_pay7 x gp w1) (dmBlk x tg gp gq w1 w2) w2

/-- The block of the loss's gradient at the output. -/
def dx2Blk (x tg : Vec F S256x1024 .f32) (gp gq : Vec F S1x1024 .f32) (w1 : Vec F S1024x4096 .bf16)
    (w2 : Vec F S4096x1024 .bf16) : Vec F S256x1024 .f32 :=
  k0_pay14 (k0_pay6 x) (k0_pay11 x gp w1 w2) gq tg

/-- One block's step of the second weight's gradient. -/
def dwBlk (x tg : Vec F S256x1024 .f32) (gp gq : Vec F S1x1024 .f32) (w1 : Vec F S1024x4096 .bf16)
    (w2 : Vec F S4096x1024 .bf16) (dw : Vec F S4096x1024 .f32) : Vec F S4096x1024 .f32 :=
  k0_pay1 (k0_pay8 x gp w1) (dmBlk x tg gp gq w1 w2) dw

/-- One block's step of the norm gain's gradient. -/
def dgBlk (x tg : Vec F S256x1024 .f32) (gp gq : Vec F S1x1024 .f32) (w1 : Vec F S1024x4096 .bf16)
    (w2 : Vec F S4096x1024 .bf16) (dg : Vec F S1x1024 .f32) : Vec F S1x1024 .f32 :=
  k0_pay15 (k0_pay6 x) (k0_pay11 x gp w1 w2) gq tg dg

/-- One block's step of the column sums of the squared error. -/
def sqBlk (x tg : Vec F S256x1024 .f32) (gp gq : Vec F S1x1024 .f32) (w1 : Vec F S1024x4096 .bf16)
    (w2 : Vec F S4096x1024 .bf16) (sq : Vec F S1x1024 .f32) : Vec F S1x1024 .f32 :=
  k0_pay13 (k0_pay6 x) (k0_pay11 x gp w1 w2) gq tg sq

section Cases

variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S1x1024 .f32) (h4 : a4.IsWhole)
  (a5 : Memref sig .tc .vmem S1024x4096 .bf16) (h5 : a5.IsWhole)
  (a6 : Memref sig .tc .vmem S4096x1024 .bf16) (h6 : a6.IsWhole)
  (a7 : Memref sig .tc .vmem S256x4096 .bf16) (h7 : a7.IsWhole)
  (a8 : Memref sig .tc .vmem S256x1024 .f32) (h8 : a8.IsWhole)
  (a9 : Memref sig .tc .vmem S4096x1024 .f32) (h9 : a9.IsWhole)
  (a10 : Memref sig .tc .vmem S1x1024 .f32) (h10 : a10.IsWhole)
  (a11 : Memref sig .tc .vmem S1x1024 .f32) (h11 : a11.IsWhole)
  (x : Vec F S256x1024 .f32)
  (tg : Vec F S256x1024 .f32)
  (gp : Vec F S1x1024 .f32)
  (gq : Vec F S1x1024 .f32)
  (w1 : Vec F S1024x4096 .bf16)
  (w2 : Vec F S4096x1024 .bf16)
  (dw : Vec F S4096x1024 .f32)
  (dg : Vec F S1x1024 .f32)
  (sq : Vec F S1x1024 .f32)

theorem out_A_6 (hc : cond0_0 i) : out0_A_6 c i a1 h1 a2 h2 a3 h3 a4 h4 a5 h5 a6 h6 a7 h7 a8 h8 a9 h9 a10 h10 a11 h11 hc x tg gp gq w1 w2 = dfBlk x tg gp gq w1 w2 := by
  unfold out0_A_6
  rw [View.read_writes_eq_canon _ _ _ (fun _ => cover0_A_6 ..)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_B_6 (hc : ¬cond0_0 i) : out0_B_6 c i a1 h1 a2 h2 a3 h3 a4 h4 a5 h5 a6 h6 a7 h7 a8 h8 a9 h9 a10 h10 a11 h11 hc x tg gp gq w1 w2 dw dg sq = dfBlk x tg gp gq w1 w2 := by
  unfold out0_B_6
  rw [View.read_writes_eq_canon _ _ _ (fun _ => cover0_B_6 ..)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_A_7 (hc : cond0_0 i) : out0_A_7 c i a1 h1 a2 h2 a3 h3 a4 h4 a5 h5 a6 h6 a7 h7 a8 h8 a9 h9 a10 h10 a11 h11 hc x tg gp gq w1 w2 = dx2Blk x tg gp gq w1 w2 := by
  unfold out0_A_7
  rw [View.read_writes_eq_canon _ _ _ (fun _ => cover0_A_7 ..)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_B_7 (hc : ¬cond0_0 i) : out0_B_7 c i a1 h1 a2 h2 a3 h3 a4 h4 a5 h5 a6 h6 a7 h7 a8 h8 a9 h9 a10 h10 a11 h11 hc x tg gp gq w1 w2 dw dg sq = dx2Blk x tg gp gq w1 w2 := by
  unfold out0_B_7
  rw [View.read_writes_eq_canon _ _ _ (fun _ => cover0_B_7 ..)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_A_8 (hc : cond0_0 i) : out0_A_8 c i a1 h1 a2 h2 a3 h3 a4 h4 a5 h5 a6 h6 a7 h7 a8 h8 a9 h9 a10 h10 a11 h11 hc x tg gp gq w1 w2 = dwBlk x tg gp gq w1 w2 k0_pay3 := by
  unfold out0_A_8
  rw [View.read_writes_eq_canon _ _ _ (fun _ => cover0_A_8 ..)]
  unfold kernelRun0_A
  dsimp only
  sl_unfold_words
  rw [View.canon_cons_unit_zero (S := S4096x1024) hz]
  simp only [View.readCov_unit_zero (S := S4096x1024) _ hz, View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_B_8 (hc : ¬cond0_0 i) : out0_B_8 c i a1 h1 a2 h2 a3 h3 a4 h4 a5 h5 a6 h6 a7 h7 a8 h8 a9 h9 a10 h10 a11 h11 hc x tg gp gq w1 w2 dw dg sq = dwBlk x tg gp gq w1 w2 dw := by
  unfold out0_B_8
  rw [View.read_writes_eq_canon _ _ _ (fun _ => cover0_B_8 ..)]
  unfold kernelRun0_B
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S256x1024) hz, View.ld_unit_zero (S := S1x1024) hz, View.ld_unit_zero (S := S1024x4096) hz, View.ld_unit_zero (S := S4096x1024) hz]
  rfl

theorem out_A_9 (hc : cond0_0 i) : out0_A_9 c i a1 h1 a2 h2 a3 h3 a4 h4 a5 h5 a6 h6 a7 h7 a8 h8 a9 h9 a10 h10 a11 h11 hc x tg gp gq w1 w2 = dgBlk x tg gp gq w1 w2 k0_pay4 := by
  unfold out0_A_9
  rw [View.read_writes_eq_canon _ _ _ (fun _ => cover0_A_9 ..)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_B_9 (hc : ¬cond0_0 i) : out0_B_9 c i a1 h1 a2 h2 a3 h3 a4 h4 a5 h5 a6 h6 a7 h7 a8 h8 a9 h9 a10 h10 a11 h11 hc x tg gp gq w1 w2 dw dg sq = dgBlk x tg gp gq w1 w2 dg := by
  unfold out0_B_9
  rw [View.read_writes_eq_canon _ _ _ (fun _ => cover0_B_9 ..)]
  unfold kernelRun0_B
  dsimp only
  sl_unfold_words
  rw [View.canon_unit_zero hz]
  simp only [View.readAt_eq_ld, h1.read_unread, h2.read_unread, h3.read_unread, h4.read_unread, h5.read_unread, h6.read_unread, h10.read_unread,
    View.ld_unit_zero (S := S256x1024) hz, View.ld_unit_zero (S := S1x1024) hz, View.ld_unit_zero (S := S1024x4096) hz, View.ld_unit_zero (S := S4096x1024) hz]
  rfl

theorem out_A_10 (hc : cond0_0 i) : out0_A_10 c i a1 h1 a2 h2 a3 h3 a4 h4 a5 h5 a6 h6 a7 h7 a8 h8 a9 h9 a10 h10 a11 h11 hc x tg gp gq w1 w2 = sqBlk x tg gp gq w1 w2 k0_pay5 := by
  unfold out0_A_10
  rw [View.read_writes_eq_canon _ _ _ (fun _ => cover0_A_10 ..)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread,
    View.ld_unit_zero (S := S256x1024) hz, View.ld_unit_zero (S := S1x1024) hz, View.ld_unit_zero (S := S1024x4096) hz, View.ld_unit_zero (S := S4096x1024) hz]
  rfl

theorem out_B_10 (hc : ¬cond0_0 i) : out0_B_10 c i a1 h1 a2 h2 a3 h3 a4 h4 a5 h5 a6 h6 a7 h7 a8 h8 a9 h9 a10 h10 a11 h11 hc x tg gp gq w1 w2 dw dg sq = sqBlk x tg gp gq w1 w2 sq := by
  unfold out0_B_10
  rw [View.read_writes_eq_canon _ _ _ (fun _ => cover0_B_10 ..)]
  unfold kernelRun0_B
  dsimp only
  sl_unfold_words
  rw [View.canon_unit_zero hz]
  simp only [View.readAt_eq_ld, h1.read_unread, h2.read_unread, h3.read_unread, h4.read_unread, h5.read_unread, h6.read_unread, h11.read_unread,
    View.ld_unit_zero (S := S256x1024) hz, View.ld_unit_zero (S := S1x1024) hz, View.ld_unit_zero (S := S1024x4096) hz, View.ld_unit_zero (S := S4096x1024) hz]
  rfl

end Cases

section Entries

variable (x tg : Vec Ideal S256x1024 .f32) (gp gq : Vec Ideal S1x1024 .f32) (w1 : Vec Ideal S1024x4096 .bf16)
  (w2 : Vec Ideal S4096x1024 .bf16)

/-- Row `r` of a block, and the only row of a gain. -/
def rowOf (x : Vec Ideal S256x1024 .f32) (r : Fin 256) (k : Fin 1024) : EReal := x (ix2 r k)
def gain (g : Vec Ideal S1x1024 .f32) (k : Fin 1024) : EReal := g (ix2 0 k)
def up (w : Vec Ideal S1024x4096 .bf16) (k : Fin 1024) (l : Fin 4096) : EReal := w (ix2 k l)
def down (w : Vec Ideal S4096x1024 .bf16) (l : Fin 4096) (j : Fin 1024) : EReal := w (ix2 l j)

theorem mm_apply (r : Fin 256) (j : Fin 1024) :
    k0_pay9 x gp w1 w2 (ix2 r j) = MlpARows.mm (rowOf x r) (gain gp) (up w1) (down w2) j := by
  unfold_payloads
  pointwise []
  rfl

theorem dm_apply (r : Fin 256) (j : Fin 1024) : dmBlk x tg gp gq w1 w2 (ix2 r j) =
    MlpARows.dm (rowOf x r) (rowOf tg r) (gain gp) (gain gq) (up w1) (down w2) j := by
  unfold dmBlk
  unfold_payloads
  pointwise []
  rfl

theorem dx2_apply (r : Fin 256) (j : Fin 1024) : dx2Blk x tg gp gq w1 w2 (ix2 r j) =
    MlpARows.dx2 (rowOf x r) (rowOf tg r) (gain gp) (gain gq) (up w1) (down w2) j := by
  unfold dx2Blk
  unfold_payloads
  pointwise []
  rfl

theorem df_apply (r : Fin 256) (l : Fin 4096) : dfBlk x tg gp gq w1 w2 (ix2 r l) =
    MlpARows.df (rowOf x r) (rowOf tg r) (gain gp) (gain gq) (up w1) (down w2) l := by
  unfold dfBlk dmBlk
  unfold_payloads
  pointwise []
  rfl

theorem dw_apply (dw : Vec Ideal S4096x1024 .f32) (l : Fin 4096) (j : Fin 1024) : dwBlk x tg gp gq w1 w2 dw (ix2 l j) =
    dw (ix2 l j) + ∑ r, MlpARows.rl (rowOf x r) (gain gp) (up w1) l * MlpARows.rl (rowOf x r) (gain gp) (up w1) l
      * MlpARows.dm (rowOf x r) (rowOf tg r) (gain gp) (gain gq) (up w1) (down w2) j := by
  unfold dwBlk dmBlk
  unfold_payloads
  pointwise []
  rfl

theorem dg_apply (dg : Vec Ideal S1x1024 .f32) (j : Fin 1024) : dgBlk x tg gp gq w1 w2 dg (ix2 0 j) =
    dg (ix2 0 j) + ∑ r, MlpARows.dx2 (rowOf x r) (rowOf tg r) (gain gp) (gain gq) (up w1) (down w2) j
      * (MlpARows.mm (rowOf x r) (gain gp) (up w1) (down w2) j * rs (MlpARows.mm (rowOf x r) (gain gp) (up w1) (down w2))) := by
  unfold dgBlk
  unfold_payloads
  pointwise []
  rfl

theorem sq_apply (sq : Vec Ideal S1x1024 .f32) (j : Fin 1024) : sqBlk x tg gp gq w1 w2 sq (ix2 0 j) =
    sq (ix2 0 j) + ∑ r, MlpARows.err (rowOf x r) (rowOf tg r) (gain gp) (gain gq) (up w1) (down w2) j
      * MlpARows.err (rowOf x r) (rowOf tg r) (gain gp) (gain gq) (up w1) (down w2) j := by
  unfold sqBlk
  unfold_payloads
  pointwise []
  rfl

/-- What the totals are set to before the first block. -/
theorem dw_start (l : Fin 4096) (j : Fin 1024) : (k0_pay3 (F := Ideal)) (ix2 l j) = 0 := by
  unfold k0_pay3
  pointwise []
theorem dg_start (j : Fin 1024) : (k0_pay4 (F := Ideal)) (ix2 0 j) = 0 := by
  unfold k0_pay4
  pointwise []
theorem sq_start (j : Fin 1024) : (k0_pay5 (F := Ideal)) (ix2 0 j) = 0 := by
  unfold k0_pay5
  pointwise []

end Entries

end Cert.MlpAIdeal.Hand

end
-- ==== Proof.MlpAArrays.lean ====
/-
  What the first feed-forward gradient call leaves in its five result arrays, entry by entry: its blocks of rows read from
  the arguments, the running totals over the thirty-two blocks, and the rows written block by block.
-/
module

public import proofs.«01_k».proof.Proof.MlpABlock
public import proofs.«01_k».proof.Proof.Blocks
public import Idealize.ShloMosaic.Lib.StableHlo.ReadAt

@[expose] public section

set_option maxRecDepth 16384

noncomputable section

namespace Cert.MlpAIdeal.Hand

open Cert.Reals Cert.NormGrad Cert.Blocks Cert.MlpAIdeal Cert.MlpAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows of the argument arrays: the residual stream, the target, the two norms' gains and the two weights. -/
def x (p : Fin 8192) (k : Fin 1024) : EReal := m (c.tc.loc main_arg0) (ix3 0 p k)
def tg (p : Fin 8192) (k : Fin 1024) : EReal := m (c.tc.loc main_arg1) (ix3 0 p k)
def gp (k : Fin 1024) : EReal := m (c.tc.loc main_arg2) (ix2 0 k)
def gq (k : Fin 1024) : EReal := m (c.tc.loc main_arg3) (ix2 0 k)
def w1 (k : Fin 1024) (l : Fin 4096) : EReal := m (c.tc.loc main_arg4) (ix3 0 k l)
def w2 (l : Fin 4096) (j : Fin 1024) : EReal := m (c.tc.loc main_arg5) (ix3 0 l j)

/-- Row `r` of block `t`. -/
def row (t : Fin cfg0.N) (r : Fin 256) : Fin 8192 :=
  ⟨256 * t.val + r.val, by have h := t.isLt; have hN : cfg0.N = 32 := N_0; omega⟩

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = 0 ∧ win0_4.index t 1 = 0 := by decide +kernel
theorem idx_5 : ∀ t : Fin grid0.N, win0_5.index t 0 = 0 ∧ win0_5.index t 1 = 0 := by decide +kernel
theorem idx_6 : ∀ t : Fin grid0.N, win0_6.index t 0 = t.val ∧ win0_6.index t 1 = 0 := by decide +kernel
theorem idx_7 : ∀ t : Fin grid0.N, win0_7.index t 0 = t.val ∧ win0_7.index t 1 = 0 := by decide +kernel
theorem idx_8 : ∀ t : Fin grid0.N, win0_8.index t 0 = 0 ∧ win0_8.index t 1 = 0 := by decide +kernel
theorem idx_9 : ∀ t : Fin grid0.N, win0_9.index t 0 = 0 ∧ win0_9.index t 1 = 0 := by decide +kernel
theorem idx_10 : ∀ t : Fin grid0.N, win0_10.index t 0 = 0 ∧ win0_10.index t 1 = 0 := by decide +kernel

theorem V_x (p : Fin 8192) (k : Fin 1024) : V m c main_v0 (ix2 p k) = x m c p k := by
  unfold V; after_reads_at; rfl
theorem V_tg (p : Fin 8192) (k : Fin 1024) : V m c main_v1 (ix2 p k) = tg m c p k := by
  unfold V; after_reads_at; rfl
theorem V_gp (k : Fin 1024) : V m c main_arg2 (ix2 0 k) = gp m c k := by
  unfold V; after_reads_at; rfl
theorem V_gq (k : Fin 1024) : V m c main_arg3 (ix2 0 k) = gq m c k := by
  unfold V; after_reads_at; rfl
theorem V_w1 (p : Fin 1024) (k : Fin 4096) : V m c main_v3 (ix2 p k) = w1 m c p k := by
  unfold V; after_reads_at; rfl
theorem V_w2 (p : Fin 4096) (k : Fin 1024) : V m c main_v5 (ix2 p k) = w2 m c p k := by
  unfold V; after_reads_at; rfl

theorem blk_x (t : Fin cfg0.N) (r : Fin 256) (k : Fin 1024) : iblk m c 0 t (ix2 r k) = x m c (row t r) k := by
  rw [← V_x]; unfold iblk; rw [View.read_apply]
  exact congrArg (V m c main_v0) (funext fun a => Fin.ext (match a with
    | ⟨0, _⟩ => at_row 256 r.val (idx_0 t).1
    | ⟨1, _⟩ => at_zero 1024 k.val (idx_0 t).2))

theorem blk_tg (t : Fin cfg0.N) (r : Fin 256) (k : Fin 1024) : iblk m c 1 t (ix2 r k) = tg m c (row t r) k := by
  rw [← V_tg]; unfold iblk; rw [View.read_apply]
  exact congrArg (V m c main_v1) (funext fun a => Fin.ext (match a with
    | ⟨0, _⟩ => at_row 256 r.val (idx_1 t).1
    | ⟨1, _⟩ => at_zero 1024 k.val (idx_1 t).2))

theorem blk_gp (t : Fin cfg0.N) (k : Fin 1024) : iblk m c 2 t (ix2 0 k) = gp m c k := by
  rw [← V_gp]; unfold iblk; rw [View.read_apply]
  exact congrArg (V m c main_arg2) (funext fun a => Fin.ext (match a with
    | ⟨0, _⟩ => at_zero 1 0 (idx_2 t).1
    | ⟨1, _⟩ => at_zero 1024 k.val (idx_2 t).2))

theorem blk_gq (t : Fin cfg0.N) (k : Fin 1024) : iblk m c 3 t (ix2 0 k) = gq m c k := by
  rw [← V_gq]; unfold iblk; rw [View.read_apply]
  exact congrArg (V m c main_arg3) (funext fun a => Fin.ext (match a with
    | ⟨0, _⟩ => at_zero 1 0 (idx_3 t).1
    | ⟨1, _⟩ => at_zero 1024 k.val (idx_3 t).2))

theorem blk_w1 (t : Fin cfg0.N) (r : Fin 1024) (k : Fin 4096) : iblk m c 4 t (ix2 r k) = w1 m c r k := by
  rw [← V_w1]; unfold iblk; rw [View.read_apply]
  exact congrArg (V m c main_v3) (funext fun a => Fin.ext (match a with
    | ⟨0, _⟩ => at_zero 1024 r.val (idx_4 t).1
    | ⟨1, _⟩ => at_zero 4096 k.val (idx_4 t).2))

theorem blk_w2 (t : Fin cfg0.N) (r : Fin 4096) (k : Fin 1024) : iblk m c 5 t (ix2 r k) = w2 m c r k := by
  rw [← V_w2]; unfold iblk; rw [View.read_apply]
  exact congrArg (V m c main_v5) (funext fun a => Fin.ext (match a with
    | ⟨0, _⟩ => at_zero 4096 r.val (idx_5 t).1
    | ⟨1, _⟩ => at_zero 1024 k.val (idx_5 t).2))

/-- The blocks' rows are the arrays' rows. -/
theorem row_x (t : Fin cfg0.N) (r : Fin 256) : rowOf (iblk m c 0 t) r = x m c (row t r) := funext fun k => blk_x m c t r k
theorem row_tg (t : Fin cfg0.N) (r : Fin 256) : rowOf (iblk m c 1 t) r = tg m c (row t r) := funext fun k => blk_tg m c t r k
theorem gain_gp (t : Fin cfg0.N) : gain (iblk m c 2 t) = gp m c := funext fun k => blk_gp m c t k
theorem gain_gq (t : Fin cfg0.N) : gain (iblk m c 3 t) = gq m c := funext fun k => blk_gq m c t k
theorem up_w1 (t : Fin cfg0.N) : up (iblk m c 4 t) = w1 m c := funext fun k => funext fun l => blk_w1 m c t k l
theorem down_w2 (t : Fin cfg0.N) : down (iblk m c 5 t) = w2 m c := funext fun l => funext fun j => blk_w2 m c t l j

/-- Row `p` of the hidden layer, of the second product, of its error and of the gradients. -/
def rl (p : Fin 8192) : Fin 4096 → EReal := MlpARows.rl (x m c p) (gp m c) (w1 m c)
def mm (p : Fin 8192) : Fin 1024 → EReal := MlpARows.mm (x m c p) (gp m c) (w1 m c) (w2 m c)
def err (p : Fin 8192) : Fin 1024 → EReal := MlpARows.err (x m c p) (tg m c p) (gp m c) (gq m c) (w1 m c) (w2 m c)
def dx2 (p : Fin 8192) : Fin 1024 → EReal := MlpARows.dx2 (x m c p) (tg m c p) (gp m c) (gq m c) (w1 m c) (w2 m c)
def dm (p : Fin 8192) : Fin 1024 → EReal := MlpARows.dm (x m c p) (tg m c p) (gp m c) (gq m c) (w1 m c) (w2 m c)
def df (p : Fin 8192) : Fin 4096 → EReal := MlpARows.df (x m c p) (tg m c p) (gp m c) (gq m c) (w1 m c) (w2 m c)

/-- Row `p`'s parts of the weight's gradient, of the gain's gradient and of the squared error. -/
def dwRow (l : Fin 4096) (j : Fin 1024) (p : Fin 8192) : EReal := rl m c p l * rl m c p l * dm m c p j
def dgRow (j : Fin 1024) (p : Fin 8192) : EReal := dx2 m c p j * (mm m c p j * rs (mm m c p))
def sqRow (j : Fin 1024) (p : Fin 8192) : EReal := err m c p j * err m c p j

theorem dfBlk_at (t : Fin cfg0.N) (r : Fin 256) (j : Fin 4096) :
    dfBlk (iblk m c 0 t) (iblk m c 1 t) (iblk m c 2 t) (iblk m c 3 t) (iblk m c 4 t) (iblk m c 5 t) (ix2 r j) = df m c (row t r) j := by
  simp only [df_apply, row_x, row_tg, gain_gp, gain_gq, up_w1, down_w2]
  rfl

theorem dx2Blk_at (t : Fin cfg0.N) (r : Fin 256) (j : Fin 1024) :
    dx2Blk (iblk m c 0 t) (iblk m c 1 t) (iblk m c 2 t) (iblk m c 3 t) (iblk m c 4 t) (iblk m c 5 t) (ix2 r j) = dx2 m c (row t r) j := by
  simp only [dx2_apply, row_x, row_tg, gain_gp, gain_gq, up_w1, down_w2]
  rfl

theorem dwBlk_at (t : Fin cfg0.N) (acc : Vec Ideal S4096x1024 .f32) (l : Fin 4096) (j : Fin 1024) :
    dwBlk (iblk m c 0 t) (iblk m c 1 t) (iblk m c 2 t) (iblk m c 3 t) (iblk m c 4 t) (iblk m c 5 t) acc (ix2 l j) =
      acc (ix2 l j) + part 256 8192 (dwRow m c l j) t.val := by
  simp only [dw_apply, row_x, row_tg, gain_gp, gain_gq, up_w1, down_w2]
  exact congrArg _ (part_eq (dwRow m c l j) t.val (row t) fun _ => rfl)

theorem dgBlk_at (t : Fin cfg0.N) (acc : Vec Ideal S1x1024 .f32) (j : Fin 1024) :
    dgBlk (iblk m c 0 t) (iblk m c 1 t) (iblk m c 2 t) (iblk m c 3 t) (iblk m c 4 t) (iblk m c 5 t) acc (ix2 0 j) =
      acc (ix2 0 j) + part 256 8192 (dgRow m c j) t.val := by
  simp only [dg_apply, row_x, row_tg, gain_gp, gain_gq, up_w1, down_w2]
  exact congrArg _ (part_eq (dgRow m c j) t.val (row t) fun _ => rfl)

theorem sqBlk_at (t : Fin cfg0.N) (acc : Vec Ideal S1x1024 .f32) (j : Fin 1024) :
    sqBlk (iblk m c 0 t) (iblk m c 1 t) (iblk m c 2 t) (iblk m c 3 t) (iblk m c 4 t) (iblk m c 5 t) acc (ix2 0 j) =
      acc (ix2 0 j) + part 256 8192 (sqRow m c j) t.val := by
  simp only [sq_apply, row_x, row_tg, gain_gp, gain_gq, up_w1, down_w2]
  exact congrArg _ (part_eq (sqRow m c j) t.val (row t) fun _ => rfl)

/-- What the output buffer of `df` holds after point `t`. -/
theorem outs_df (t : Fin cfg0.N) : (outsAt0 m c t.val t.isLt).1 =
    dfBlk (iblk m c 0 t) (iblk m c 1 t) (iblk m c 2 t) (iblk m c 3 t) (iblk m c 4 t) (iblk m c 5 t) := by
  by_cases h : t.val % 32 = 0
  · rw [outsAt0_A m c t h]; dsimp only
    rw [out_A_6]
  · rw [outsAt0_B m c t h]; dsimp only
    rw [out_B_6]

/-- What the output buffer of `dx2` holds after point `t`. -/
theorem outs_dx2 (t : Fin cfg0.N) : (outsAt0 m c t.val t.isLt).2.1 =
    dx2Blk (iblk m c 0 t) (iblk m c 1 t) (iblk m c 2 t) (iblk m c 3 t) (iblk m c 4 t) (iblk m c 5 t) := by
  by_cases h : t.val % 32 = 0
  · rw [outsAt0_A m c t h]; dsimp only
    rw [out_A_7]
  · rw [outsAt0_B m c t h]; dsimp only
    rw [out_B_7]

theorem not_first (n : Nat) (h : n + 1 < cfg0.N) : ¬(n + 1) % 32 = 0 := by have hN : cfg0.N = 32 := N_0; omega

/-- The running total of `dw`. -/
theorem outs_dw (l : Fin 4096) (j : Fin 1024) (n : Nat) (h : n < cfg0.N) :
    (outsAt0 m c n h).2.2.1 (ix2 l j) = ∑ t : Fin (n + 1), part 256 8192 (dwRow m c l j) t :=
  running_sum (fun n h => (outsAt0 m c n h).2.2.1 (ix2 l j)) (part 256 8192 (dwRow m c l j))
    (fun h => by
      rw [outsAt0_A m c ⟨0, h⟩ rfl]
      dsimp only
      rw [out_A_8]
      exact ((dwBlk_at m c ⟨0, h⟩ _ l j).trans (by rw [dw_start])))
    (fun n h => by
      rw [outsAt0_B m c ⟨n + 1, h⟩ (not_first n h)]
      dsimp only
      rw [out_B_8]
      exact dwBlk_at m c ⟨n + 1, h⟩ _ l j) n h

/-- The running total of `dg`. -/
theorem outs_dg (j : Fin 1024) (n : Nat) (h : n < cfg0.N) :
    (outsAt0 m c n h).2.2.2.1 (ix2 0 j) = ∑ t : Fin (n + 1), part 256 8192 (dgRow m c j) t :=
  running_sum (fun n h => (outsAt0 m c n h).2.2.2.1 (ix2 0 j)) (part 256 8192 (dgRow m c j))
    (fun h => by
      rw [outsAt0_A m c ⟨0, h⟩ rfl]
      dsimp only
      rw [out_A_9]
      exact ((dgBlk_at m c ⟨0, h⟩ _ j).trans (by rw [dg_start])))
    (fun n h => by
      rw [outsAt0_B m c ⟨n + 1, h⟩ (not_first n h)]
      dsimp only
      rw [out_B_9]
      exact dgBlk_at m c ⟨n + 1, h⟩ _ j) n h

/-- The running total of `sq`. -/
theorem outs_sq (j : Fin 1024) (n : Nat) (h : n < cfg0.N) :
    (outsAt0 m c n h).2.2.2.2 (ix2 0 j) = ∑ t : Fin (n + 1), part 256 8192 (sqRow m c j) t :=
  running_sum (fun n h => (outsAt0 m c n h).2.2.2.2 (ix2 0 j)) (part 256 8192 (sqRow m c j))
    (fun h => by
      rw [outsAt0_A m c ⟨0, h⟩ rfl]
      dsimp only
      rw [out_A_10]
      exact ((sqBlk_at m c ⟨0, h⟩ _ j).trans (by rw [sq_start])))
    (fun n h => by
      rw [outsAt0_B m c ⟨n + 1, h⟩ (not_first n h)]
      dsimp only
      rw [out_B_10]
      exact sqBlk_at m c ⟨n + 1, h⟩ _ j) n h

/-- The five result arrays. -/
def dfArr : Buf (Elt Ideal) (c.tc.loc main_v6_0 : Loc nD τ sig) := fun i => show EReal from df m c (i 0) (i 1)
def dx2Arr : Buf (Elt Ideal) (c.tc.loc main_v6_1 : Loc nD τ sig) := fun i => show EReal from dx2 m c (i 0) (i 1)
def dwArr : Buf (Elt Ideal) (c.tc.loc main_v6_2 : Loc nD τ sig) := fun i => show EReal from ∑ p, dwRow m c (i 0) (i 1) p
def dgArr : Buf (Elt Ideal) (c.tc.loc main_v6_3 : Loc nD τ sig) := fun i => show EReal from ∑ p, dgRow m c (i 1) p
def sqArr : Buf (Elt Ideal) (c.tc.loc main_v6_4 : Loc nD τ sig) := fun i => show EReal from ∑ p, sqRow m c (i 1) p

/-- The last block, and the block that holds row `p`. -/
def last : Fin cfg0.N := ⟨31, by have hN : cfg0.N = 32 := N_0; omega⟩
def blkOf (p : Fin 8192) : Fin cfg0.N := ⟨p.val / 256, by have hN : cfg0.N = 32 := N_0; omega⟩

theorem read_6 (A : Buf (Elt Ideal) (c.tc.loc main_v6_0 : Loc nD τ sig)) (t : Fin cfg0.N) (r : Fin 256) (k : Fin 4096) :
    ((cfg0.win 6).blk t).view.read (Elt Ideal) A (ix2 r k) = A (ix2 (row t r) k) := by
  rw [View.read_apply]
  exact congrArg A (funext fun a => Fin.ext (match a with
    | ⟨0, _⟩ => at_row 256 r.val (idx_6 t).1
    | ⟨1, _⟩ => at_zero 4096 k.val (idx_6 t).2))

theorem cover_6 (i : (⟨2, ![8192, 4096]⟩ : Shape).Idx) : i ∈ ((cfg0.win 6).blk (blkOf (i 0))).view.set := by
  show i ∈ ((View.whole main_v6_0).slice (win0_6.rect (blkOf (i 0)))).set
  rw [View.set_slice_whole, Rect.mem_set_unit]
  exact fun a => match a with
    | ⟨0, _⟩ => in_row 256 (by decide) (idx_6 (blkOf (i 0))).1
    | ⟨1, _⟩ => in_zero (idx_6 (blkOf (i 0))).2 (i 1).isLt

theorem flushed_df (t : Fin cfg0.N) (_ : (cfg0.win 6).flush t = true) :
    (dats m 0 c).flushed 6 t = ((cfg0.win 6).blk t).view.read (Elt Ideal) (dfArr m c) := by
  rw [Value.flushed6, outs_df]
  funext i
  idx_vars i
  exact (dfBlk_at m c t _ _).trans (read_6 c (dfArr m c) t _ _).symm

theorem final_df : (dats m 0 c).arrAt 6 cfg0.N = dfArr m c :=
  (dats m 0 c).arrAt_eq_of_cover 6 (dfArr m c) (flushed_df m c) fun i => ⟨blkOf (i 0), flush0_6 _, cover_6 i⟩

theorem read_7 (A : Buf (Elt Ideal) (c.tc.loc main_v6_1 : Loc nD τ sig)) (t : Fin cfg0.N) (r : Fin 256) (k : Fin 1024) :
    ((cfg0.win 7).blk t).view.read (Elt Ideal) A (ix2 r k) = A (ix2 (row t r) k) := by
  rw [View.read_apply]
  exact congrArg A (funext fun a => Fin.ext (match a with
    | ⟨0, _⟩ => at_row 256 r.val (idx_7 t).1
    | ⟨1, _⟩ => at_zero 1024 k.val (idx_7 t).2))

theorem cover_7 (i : (⟨2, ![8192, 1024]⟩ : Shape).Idx) : i ∈ ((cfg0.win 7).blk (blkOf (i 0))).view.set := by
  show i ∈ ((View.whole main_v6_1).slice (win0_7.rect (blkOf (i 0)))).set
  rw [View.set_slice_whole, Rect.mem_set_unit]
  exact fun a => match a with
    | ⟨0, _⟩ => in_row 256 (by decide) (idx_7 (blkOf (i 0))).1
    | ⟨1, _⟩ => in_zero (idx_7 (blkOf (i 0))).2 (i 1).isLt

theorem flushed_dx2 (t : Fin cfg0.N) (_ : (cfg0.win 7).flush t = true) :
    (dats m 0 c).flushed 7 t = ((cfg0.win 7).blk t).view.read (Elt Ideal) (dx2Arr m c) := by
  rw [Value.flushed7, outs_dx2]
  funext i
  idx_vars i
  exact (dx2Blk_at m c t _ _).trans (read_7 c (dx2Arr m c) t _ _).symm

theorem final_dx2 : (dats m 0 c).arrAt 7 cfg0.N = dx2Arr m c :=
  (dats m 0 c).arrAt_eq_of_cover 7 (dx2Arr m c) (flushed_dx2 m c) fun i => ⟨blkOf (i 0), flush0_7 _, cover_7 i⟩

theorem read_8 (A : Buf (Elt Ideal) (c.tc.loc main_v6_2 : Loc nD τ sig)) (t : Fin cfg0.N) (r : Fin 4096) (k : Fin 1024) :
    ((cfg0.win 8).blk t).view.read (Elt Ideal) A (ix2 r k) = A (ix2 r k) := by
  rw [View.read_apply]
  exact congrArg A (funext fun a => Fin.ext (match a with
    | ⟨0, _⟩ => at_zero 4096 r.val (idx_8 t).1
    | ⟨1, _⟩ => at_zero 1024 k.val (idx_8 t).2))

theorem cover_8 (i : (⟨2, ![4096, 1024]⟩ : Shape).Idx) : i ∈ ((cfg0.win 8).blk last).view.set := by
  show i ∈ ((View.whole main_v6_2).slice (win0_8.rect last)).set
  rw [View.set_slice_whole, Rect.mem_set_unit]
  exact fun a => match a with
    | ⟨0, _⟩ => in_zero (idx_8 last).1 (i 0).isLt
    | ⟨1, _⟩ => in_zero (idx_8 last).2 (i 1).isLt

theorem flushed_dw (t : Fin cfg0.N) (hf : (cfg0.win 8).flush t = true) :
    (dats m 0 c).flushed 8 t = ((cfg0.win 8).blk t).view.read (Elt Ideal) (dwArr m c) := by
  obtain rfl : t = last := Fin.ext (by
    have hN : cfg0.N = 32 := N_0; have h := t.isLt; have := (flush0_8 t).mp hf; show t.val = 31; omega)
  rw [Value.flushed8]
  funext i
  idx_vars i
  exact ((outs_dw m c _ _ 31 last.isLt).trans (total_part 32 256 8192 rfl _)).trans (read_8 c (dwArr m c) last _ _).symm

theorem final_dw : (dats m 0 c).arrAt 8 cfg0.N = dwArr m c :=
  (dats m 0 c).arrAt_eq_of_cover 8 (dwArr m c) (flushed_dw m c) fun i => ⟨last, (flush0_8 _).mpr rfl, cover_8 i⟩

theorem read_9 (A : Buf (Elt Ideal) (c.tc.loc main_v6_3 : Loc nD τ sig)) (t : Fin cfg0.N) (k : Fin 1024) :
    ((cfg0.win 9).blk t).view.read (Elt Ideal) A (ix2 0 k) = A (ix2 0 k) := by
  rw [View.read_apply]
  exact congrArg A (funext fun a => Fin.ext (match a with
    | ⟨0, _⟩ => at_zero 1 0 (idx_9 t).1
    | ⟨1, _⟩ => at_zero 1024 k.val (idx_9 t).2))

theorem cover_9 (i : (⟨2, ![1, 1024]⟩ : Shape).Idx) : i ∈ ((cfg0.win 9).blk last).view.set := by
  show i ∈ ((View.whole main_v6_3).slice (win0_9.rect last)).set
  rw [View.set_slice_whole, Rect.mem_set_unit]
  exact fun a => match a with
    | ⟨0, _⟩ => in_zero (idx_9 last).1 (i 0).isLt
    | ⟨1, _⟩ => in_zero (idx_9 last).2 (i 1).isLt

theorem flushed_dg (t : Fin cfg0.N) (hf : (cfg0.win 9).flush t = true) :
    (dats m 0 c).flushed 9 t = ((cfg0.win 9).blk t).view.read (Elt Ideal) (dgArr m c) := by
  obtain rfl : t = last := Fin.ext (by
    have hN : cfg0.N = 32 := N_0; have h := t.isLt; have := (flush0_9 t).mp hf; show t.val = 31; omega)
  rw [Value.flushed9]
  funext i
  idx_vars i
  obtain rfl : i0 = 0 := Subsingleton.elim _ _
  exact ((outs_dg m c _ 31 last.isLt).trans (total_part 32 256 8192 rfl _)).trans (read_9 c (dgArr m c) last _).symm

theorem final_dg : (dats m 0 c).arrAt 9 cfg0.N = dgArr m c :=
  (dats m 0 c).arrAt_eq_of_cover 9 (dgArr m c) (flushed_dg m c) fun i => ⟨last, (flush0_9 _).mpr rfl, cover_9 i⟩

theorem read_10 (A : Buf (Elt Ideal) (c.tc.loc main_v6_4 : Loc nD τ sig)) (t : Fin cfg0.N) (k : Fin 1024) :
    ((cfg0.win 10).blk t).view.read (Elt Ideal) A (ix2 0 k) = A (ix2 0 k) := by
  rw [View.read_apply]
  exact congrArg A (funext fun a => Fin.ext (match a with
    | ⟨0, _⟩ => at_zero 1 0 (idx_10 t).1
    | ⟨1, _⟩ => at_zero 1024 k.val (idx_10 t).2))

theorem cover_10 (i : (⟨2, ![1, 1024]⟩ : Shape).Idx) : i ∈ ((cfg0.win 10).blk last).view.set := by
  show i ∈ ((View.whole main_v6_4).slice (win0_10.rect last)).set
  rw [View.set_slice_whole, Rect.mem_set_unit]
  exact fun a => match a with
    | ⟨0, _⟩ => in_zero (idx_10 last).1 (i 0).isLt
    | ⟨1, _⟩ => in_zero (idx_10 last).2 (i 1).isLt

theorem flushed_sq (t : Fin cfg0.N) (hf : (cfg0.win 10).flush t = true) :
    (dats m 0 c).flushed 10 t = ((cfg0.win 10).blk t).view.read (Elt Ideal) (sqArr m c) := by
  obtain rfl : t = last := Fin.ext (by
    have hN : cfg0.N = 32 := N_0; have h := t.isLt; have := (flush0_10 t).mp hf; show t.val = 31; omega)
  rw [Value.flushed10]
  funext i
  idx_vars i
  obtain rfl : i0 = 0 := Subsingleton.elim _ _
  exact ((outs_sq m c _ 31 last.isLt).trans (total_part 32 256 8192 rfl _)).trans (read_10 c (sqArr m c) last _).symm

theorem final_sq : (dats m 0 c).arrAt 10 cfg0.N = sqArr m c :=
  (dats m 0 c).arrAt_eq_of_cover 10 (sqArr m c) (flushed_sq m c) fun i => ⟨last, (flush0_10 _).mpr rfl, cover_10 i⟩
end Cert.MlpAIdeal.Hand

end
-- ==== Proof.MlpARef.lean ====
/-
  The reference of the first feed-forward gradient call, read at an entry: its forward rows, and what differentiation of the
  loss makes of each of its results.
-/
module

public import proofs.«01_k».proof.Proof.Gen.MlpARefIdeal.Run
public import proofs.«01_k».proof.Proof.Gen.MlpARefIdeal.Read
public import proofs.«01_k».proof.Proof.MlpARows

@[expose] public section

set_option maxRecDepth 16384

noncomputable section

namespace Cert.MlpARefIdeal.Hand

open Cert.NormGrad Cert.MlpARefIdeal Cert.MlpARefIdeal.Gen Cert.MlpARefIdeal.Read Idealize.ShloMosaic

variable (x tg : FVec Ideal S1x8192x1024 .f32) (gp gq : FVec Ideal S1x1024 .f32) (w1 : FVec Ideal S1x1024x4096 .f32)
  (w2 : FVec Ideal S1x4096x1024 .f32)

/-- The arguments' rows. -/
def rowOf (x : FVec Ideal S1x8192x1024 .f32) (p : Fin 8192) (k : Fin 1024) : EReal := x (ix3 0 p k)
def gain (g : FVec Ideal S1x1024 .f32) (k : Fin 1024) : EReal := g (ix2 0 k)
def up (w : FVec Ideal S1x1024x4096 .f32) (k : Fin 1024) (l : Fin 4096) : EReal := w (ix3 0 k l)
def down (w : FVec Ideal S1x4096x1024 .f32) (l : Fin 4096) (j : Fin 1024) : EReal := w (ix3 0 l j)

theorem pre_apply (p : Fin 8192) (l : Fin 4096) :
    val_main_v16 (F := Ideal) x gp w1 (ix2 p l) = MlpARows.pre (rowOf x p) (gain gp) (up w1) l := by
  pointwise [val_main_v0, val_main_v1, val_main_v2, val_main_v3, val_main_v4, val_main_v5, val_main_v6, val_main_v7,
    val_main_v8, val_main_v9, val_main_v10, val_main_v11, val_main_v12, val_main_v13, val_main_v14, val_main_v15, val_main_v16,
    val_main_cst, val_main_cst_0, val_main_cst_1]
  rfl

theorem rl_apply (p : Fin 8192) (l : Fin 4096) :
    val_main_v20 (F := Ideal) x gp w1 (ix2 p l) = MlpARows.rl (rowOf x p) (gain gp) (up w1) l := by
  pointwise [val_main_v20, val_main_call0_v0, val_main_call0_cst]
  rw [pre_apply]
  rfl

theorem mm_apply (p : Fin 8192) (j : Fin 1024) :
    val_main_v27 (F := Ideal) x gp w1 w2 (ix2 p j) = MlpARows.mm (rowOf x p) (gain gp) (up w1) (down w2) j := by
  pointwise [val_main_v18, val_main_v24, val_main_v27]
  simp only [rl_apply]
  rfl

theorem err_apply (p : Fin 8192) (j : Fin 1024) : val_main_v46 (F := Ideal) x tg gp gq w1 w2 (ix2 p j) =
    MlpARows.err (rowOf x p) (rowOf tg p) (gain gp) (gain gq) (up w1) (down w2) j := by
  pointwise [val_main_v17, val_main_v19, val_main_v28, val_main_v29, val_main_v30, val_main_v31, val_main_v32, val_main_v33,
    val_main_v34, val_main_v35, val_main_v39, val_main_v40, val_main_v41, val_main_v42, val_main_v43, val_main_v44,
    val_main_v45, val_main_v46, val_main_cst_5, val_main_cst_6, val_main_cst_7]
  simp only [mm_apply]
  rfl

/-- The loss's gradient at the output. -/
def dx2 (p : Fin 8192) (j : Fin 1024) : EReal :=
  Ideal.div (Ideal.ofBits .f32 0x3F000000#32) (Ideal.ofBits .f32 0x44800000#32)
    * (Ideal.ofBits .f32 0x40000000#32 * MlpARows.err (rowOf x p) (rowOf tg p) (gain gp) (gain gq) (up w1) (down w2) j)

theorem dx2_apply (p : Fin 8192) (j : Fin 1024) :
    val_main_v64 (F := Ideal) x tg gp gq w1 w2 (ix2 p j) = dx2 x tg gp gq w1 w2 p j := by
  pointwise [val_main_v48, val_main_v49, val_main_v59, val_main_v60, val_main_v61, val_main_v62, val_main_v63, val_main_v64,
    val_main_cst_9, val_main_cst_16, val_main_cst_17, val_main_cst_18]
  rw [err_apply]
  rfl

/-- The gradient of the second product. -/
def dm (p : Fin 8192) (j : Fin 1024) : EReal :=
  dx2 x tg gp gq w1 w2 p j * gain gq j * rs (MlpARows.mm (rowOf x p) (gain gp) (up w1) (down w2))
    + MlpARows.mm (rowOf x p) (gain gp) (up w1) (down w2) j
      * gms (MlpARows.mm (rowOf x p) (gain gp) (up w1) (down w2)) (fun k => dx2 x tg gp gq w1 w2 p k * gain gq k)
    + gms (MlpARows.mm (rowOf x p) (gain gp) (up w1) (down w2)) (fun k => dx2 x tg gp gq w1 w2 p k * gain gq k)
      * MlpARows.mm (rowOf x p) (gain gp) (up w1) (down w2) j

theorem dm_apply (p : Fin 8192) (j : Fin 1024) :
    val_main_v84 (F := Ideal) x tg gp gq w1 w2 (ix2 p j) = dm x tg gp gq w1 w2 p j := by
  pointwise [val_main_v19, val_main_v28, val_main_v29, val_main_v30, val_main_v31, val_main_v32, val_main_v33, val_main_v34,
    val_main_v35, val_main_v36, val_main_v37, val_main_v38, val_main_v41, val_main_v68, val_main_v69, val_main_v71, val_main_v72,
    val_main_v73, val_main_v74, val_main_v75, val_main_v76, val_main_v77, val_main_v78, val_main_v79, val_main_v80,
    val_main_v81, val_main_v82, val_main_v83, val_main_v84, val_main_cst_5, val_main_cst_6, val_main_cst_7, val_main_cst_8,
    val_main_cst_21, val_main_cst_22, val_main_cst_23, Finset.univ_unique, Finset.sum_singleton]
  simp only [mm_apply, dx2_apply]
  rfl

/-- The gradient of the second weight. -/
theorem dw_apply (l : Fin 4096) (j : Fin 1024) : val_main_v86 (F := Ideal) x tg gp gq w1 w2 (ix2 l j) =
    ∑ p, dm x tg gp gq w1 w2 p j
      * (MlpARows.rl (rowOf x p) (gain gp) (up w1) l * MlpARows.rl (rowOf x p) (gain gp) (up w1) l) := by
  pointwise [val_main_v24, val_main_v85, val_main_v86]
  simp only [rl_apply, dm_apply]

/-- The gradient of the first product. -/
theorem df_apply (p : Fin 8192) (l : Fin 4096) : val_main_v91 (F := Ideal) x tg gp gq w1 w2 (ix2 p l) =
    if 0 < MlpARows.pre (rowOf x p) (gain gp) (up w1) l then
      (∑ j, dm x tg gp gq w1 w2 p j * down w2 l j)
        * (Ideal.ofBits .f32 0x40000000#32 * MlpARows.rl (rowOf x p) (gain gp) (up w1) l)
    else 0 := by
  pointwise [val_main_v18, val_main_v21, val_main_v22, val_main_v25, val_main_v26, val_main_v87, val_main_v88, val_main_v89,
    val_main_v90, val_main_v91, val_main_cst_2, val_main_cst_4, val_main_cst_24]
  simp only [rl_apply, dm_apply, pre_apply]
  rfl

/-- The gradient of the second norm's gain. -/
theorem dg_apply (j : Fin 1024) : val_main_v92 (F := Ideal) x tg gp gq w1 w2 (ix2 0 j) =
    ∑ p, MlpARows.mm (rowOf x p) (gain gp) (up w1) (down w2) j * rs (MlpARows.mm (rowOf x p) (gain gp) (up w1) (down w2))
      * dx2 x tg gp gq w1 w2 p j := by
  pointwise [val_main_v28, val_main_v29, val_main_v30, val_main_v31, val_main_v32, val_main_v33, val_main_v34,
    val_main_v35, val_main_v39, val_main_v40, val_main_v65, val_main_v66, val_main_v67, val_main_v70, val_main_v92,
    val_main_cst_5, val_main_cst_6, val_main_cst_7, val_main_cst_19, val_main_cst_20, Finset.univ_unique, Finset.sum_singleton]
  simp only [mm_apply, dx2_apply]
  rfl

/-- The column sums of the squared error. -/
theorem sq_apply (j : Fin 1024) : val_main_v93 (F := Ideal) x tg gp gq w1 w2 (ix2 0 j) =
    ∑ p, MlpARows.err (rowOf x p) (rowOf tg p) (gain gp) (gain gq) (up w1) (down w2) j
      * MlpARows.err (rowOf x p) (rowOf tg p) (gain gp) (gain gq) (up w1) (down w2) j := by
  pointwise [val_main_v55, val_main_v58, val_main_v93, val_main_cst_15]
  simp only [err_apply]

end Cert.MlpARefIdeal.Hand

end
-- ==== Proof.MlpAEq.lean ====
/-
  The first feed-forward gradient call and its reference end with the same five arrays, where all arguments are finite.
-/
module

public import proofs.«01_k».proof.Defs
public import proofs.«01_k».proof.Proof.Gen.MlpA.Frame
public import proofs.«01_k».proof.Proof.Gen.Pre_finite_a
public import proofs.«01_k».proof.Proof.MlpAArrays
public import proofs.«01_k».proof.Proof.MlpARef
public import proofs.«01_k».proof.Proof.Finite
public import proofs.«01_k».proof.Proof.IsReal
public import Idealize.ShloMosaic.Lib.Quiescent

@[expose] public section

set_option maxRecDepth 16384

noncomputable section

namespace Cert.MlpAEq

open Cert.Reals Cert.NormGrad Cert.IsReal Idealize.ShloMosaic Idealize.ShloMosaic.TcCoe Idealize.SL.Sem
open Cert.MlpAIdeal (nD τ sig main_arg0 main_arg1 main_arg2 main_arg3 main_arg4 main_arg5)
open Cert.MlpAIdeal.Hand (x tg gp gq w1 w2 rl mm err dx2 dm df dwRow dgRow sqRow dfArr dx2Arr dwArr dgArr sqArr)
open Cert.MlpARefIdeal.Read

variable (m : (ℓ : Loc nD τ sig) → Buf (Elt Ideal) ℓ) (c : Dev nD)

/-- The arrays hold real numbers. -/
theorem finite (h : Cert.Pre_MlpAIdeal_finite_a m) :
    (∀ p k, IsReal (x m c p k)) ∧ (∀ p k, IsReal (tg m c p k)) ∧ (∀ k, IsReal (gp m c k)) ∧ (∀ k, IsReal (gq m c k))
    ∧ (∀ k l, IsReal (w1 m c k l)) ∧ (∀ l j, IsReal (w2 m c l j)) := by
  have e := congrFun (h c) (fun a => a.elim0)
  obtain ⟨e, e5⟩ := Finite.and_one e
  obtain ⟨e, e4⟩ := Finite.and_one e
  obtain ⟨e, e3⟩ := Finite.and_one e
  obtain ⟨e, e2⟩ := Finite.and_one e
  obtain ⟨e0, e1⟩ := Finite.and_one e
  obtain ⟨a0, h0⟩ := Finite.real _ _ _ _ _ _ e0
  obtain ⟨a1, h1⟩ := Finite.real _ _ _ _ _ _ e1
  obtain ⟨a2, h2⟩ := Finite.real _ _ _ _ _ _ e2
  obtain ⟨a3, h3⟩ := Finite.real _ _ _ _ _ _ e3
  obtain ⟨a4, h4⟩ := Finite.real _ _ _ _ _ _ e4
  obtain ⟨a5, h5⟩ := Finite.real _ _ _ _ _ _ e5
  exact ⟨fun p k => ⟨_, h0 _⟩, fun p k => ⟨_, h1 _⟩, fun k => ⟨_, h2 _⟩, fun k => ⟨_, h3 _⟩, fun k l => ⟨_, h4 _⟩,
    fun l j => ⟨_, h5 _⟩⟩

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- The reference's gradient at the output. -/
theorem dx2_eq (p : Fin 8192) (j : Fin 1024) : dx2 m c p j = Cert.MlpARefIdeal.Hand.dx2 (m (c.tc.loc main_arg0))
    (m (c.tc.loc main_arg1)) (m (c.tc.loc main_arg2)) (m (c.tc.loc main_arg3)) (m (c.tc.loc main_arg4)) (m (c.tc.loc main_arg5)) p j := by
  have e : err m c p j * Ideal.ofBits .f32 0x3A800000#32 =
      Ideal.div (Ideal.ofBits .f32 0x3F000000#32) (Ideal.ofBits .f32 0x44800000#32)
        * (Ideal.ofBits .f32 0x40000000#32 * err m c p j) := by
    rw [ofBits_inv_1024, ofBits_half, ofBits_two, ofBits_1024, div_coe _ _ (by norm_num), ← mul_assoc,
      ← EReal.coe_mul, mul_comm]
    norm_num
  exact e

theorem mm_real (h : Cert.Pre_MlpAIdeal_finite_a m) (p : Fin 8192) (j : Fin 1024) : IsReal (mm m c p j) := by
  obtain ⟨hx, -, hp, -, hw1, hw2⟩ := finite m c h
  have hr : ∀ l, IsReal (rl m c p l) := fun l =>
    IsReal.max (IsReal.sum fun k => .mul (.mul (.mul (hx p k) (IsReal.rs (hx p))) (hp k)) (hw1 k l)) IsReal.zero
  unfold mm MlpARows.mm
  exact IsReal.sum fun l => .mul (.mul (hr l) (hr l)) (hw2 l j)

/-- The reference's gradient of the second product. -/
theorem dm_eq (h : Cert.Pre_MlpAIdeal_finite_a m) (p : Fin 8192) (j : Fin 1024) : dm m c p j = Cert.MlpARefIdeal.Hand.dm
    (m (c.tc.loc main_arg0)) (m (c.tc.loc main_arg1)) (m (c.tc.loc main_arg2)) (m (c.tc.loc main_arg3)) (m (c.tc.loc main_arg4))
    (m (c.tc.loc main_arg5)) p j := by
  obtain ⟨hx, ht, -, hq, -, -⟩ := finite m c h
  have hm := mm_real m c h p
  have hd : ∀ k, IsReal (dx2 m c p k * gq m c k) := fun k =>
    .mul (.mul (.sub (.add (hx p k) (.mul (.mul (hm k) (IsReal.rs hm)) (hq k))) (ht p k)) ⟨_, ofBits_inv_1024⟩) (hq k)
  have e := IsReal.kgrad hm hd j 0
  rw [zero_add, zero_add] at e
  unfold Cert.MlpARefIdeal.Hand.dm
  simp only [← dx2_eq]
  exact e

theorem df_eq (h : Cert.Pre_MlpAIdeal_finite_a m) : dfArr m c = val_main_v91 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  have e : df m c i0 i1 = if 0 < MlpARows.pre (x m c i0) (gp m c) (w1 m c) i1 then
      (∑ j, dm m c i0 j * w2 m c i1 j) * (Ideal.ofBits .f32 0x40000000#32 * rl m c i0 i1) else 0 := by
    by_cases hp : 0 < MlpARows.pre (x m c i0) (gp m c) (w1 m c) i1
    · rw [if_pos hp]; rfl
    · rw [if_neg hp]
      have h0 : rl m c i0 i1 = 0 := max_eq_right (not_lt.mp hp)
      show (∑ j, dm m c i0 j * w2 m c i1 j) * (Ideal.ofBits .f32 0x40000000#32 * rl m c i0 i1) = 0
      rw [h0, mul_zero, mul_zero]
  simp only [dm_eq m c h] at e
  exact e.trans (Cert.MlpARefIdeal.Hand.df_apply _ _ _ _ _ _ i0 i1).symm

theorem dx2Arr_eq : dx2Arr m c = val_main_v64 (F := Ideal) (m (c.tc.loc main_arg0)) (m (c.tc.loc main_arg1))
    (m (c.tc.loc main_arg2)) (m (c.tc.loc main_arg3)) (m (c.tc.loc main_arg4)) (m (c.tc.loc main_arg5)) := by
  funext i
  idx_vars i
  exact (dx2_eq m c i0 i1).trans (Cert.MlpARefIdeal.Hand.dx2_apply _ _ _ _ _ _ i0 i1).symm

theorem dw_eq (h : Cert.Pre_MlpAIdeal_finite_a m) : dwArr m c = val_main_v86 (F := Ideal) (m (c.tc.loc main_arg0))
    (m (c.tc.loc main_arg1)) (m (c.tc.loc main_arg2)) (m (c.tc.loc main_arg3)) (m (c.tc.loc main_arg4)) (m (c.tc.loc main_arg5)) := by
  funext i
  idx_vars i
  have e : ∑ p, dwRow m c i0 i1 p = ∑ p, dm m c p i1 * (rl m c p i0 * rl m c p i0) :=
    Finset.sum_congr rfl fun p _ => mul_comm _ _
  simp only [dm_eq m c h] at e
  exact e.trans (Cert.MlpARefIdeal.Hand.dw_apply _ _ _ _ _ _ i0 i1).symm

theorem dg_eq : dgArr m c = val_main_v92 (F := Ideal) (m (c.tc.loc main_arg0)) (m (c.tc.loc main_arg1))
    (m (c.tc.loc main_arg2)) (m (c.tc.loc main_arg3)) (m (c.tc.loc main_arg4)) (m (c.tc.loc main_arg5)) := by
  funext i
  idx_vars i
  obtain rfl : i0 = 0 := Subsingleton.elim _ _
  have e : ∑ p, dgRow m c i1 p = ∑ p, mm m c p i1 * rs (mm m c p) * dx2 m c p i1 :=
    Finset.sum_congr rfl fun p _ => mul_comm _ _
  simp only [dx2_eq] at e
  exact e.trans (Cert.MlpARefIdeal.Hand.dg_apply _ _ _ _ _ _ i1).symm

theorem sq_eq : sqArr m c = val_main_v93 (F := Ideal) (m (c.tc.loc main_arg0)) (m (c.tc.loc main_arg1))
    (m (c.tc.loc main_arg2)) (m (c.tc.loc main_arg3)) (m (c.tc.loc main_arg4)) (m (c.tc.loc main_arg5)) := by
  funext i
  idx_vars i
  obtain rfl : i0 = 0 := Subsingleton.elim _ _
  exact (Cert.MlpARefIdeal.Hand.sq_apply _ _ _ _ _ _ i1).symm

/-- The claim: from memories that agree on the arguments, the call and its reference both run and end with equal results. -/
theorem algebraic : Cert.algebraic_MlpAIdeal_MlpARefIdeal_pre_finite_a (hMlpAIdeal := Cert.MlpAIdeal.Gen.facts)
    (hMlpARefIdeal := Cert.MlpARefIdeal.Gen.facts) (hPre_finite_a := Cert.Pre_finite_a.Gen.facts) := by
  intro m g m' g' h hm
  refine ⟨fun c => dfArr m c, fun c => dx2Arr m c, fun c => dwArr m c, fun c => dgArr m c, fun c => sqArr m c, ?_, ?_⟩
  · refine (θ_run _ _ _).mono (fun r hr c => ?_) (Cert.MlpAIdeal.Value.run_blocks m g)
    obtain ⟨h0, h1, h2, h3, h4, hr⟩ := hr c
    exact ⟨h0.trans (Cert.MlpAIdeal.Hand.final_df m c), h1.trans (Cert.MlpAIdeal.Hand.final_dx2 m c),
      h2.trans (Cert.MlpAIdeal.Hand.final_dw m c), h3.trans (Cert.MlpAIdeal.Hand.final_dg m c),
      h4.trans (Cert.MlpAIdeal.Hand.final_sq m c), hr⟩
  · refine (θ_run _ _ _).mono (fun r hr c => ?_) (Cert.MlpARefIdeal.Value.run m' g')
    obtain ⟨h0, h1, h2, h3, h4, hr⟩ := hr c
    obtain ⟨e0, e1, e2, e3, e4, e5⟩ := hm c
    refine ⟨h0.trans ?_, h1.trans ?_, h2.trans ?_, h3.trans ?_, h4.trans ?_, hr⟩
    · rw [val_main_v91_eq, e0, e1, e2, e3, e4, e5]; exact (df_eq m c h).symm
    · rw [val_main_v64_eq, e0, e1, e2, e3, e4, e5]; exact (dx2Arr_eq m c).symm
    · rw [val_main_v86_eq, e0, e1, e2, e3, e4, e5]; exact (dw_eq m c h).symm
    · rw [val_main_v92_eq, e0, e1, e2, e3, e4, e5]; exact (dg_eq m c).symm
    · rw [val_main_v93_eq, e0, e1, e2, e3, e4, e5]; exact (sq_eq m c).symm

/-- The reference runs, keeps its arguments, and ends with every counter at zero: it has no semaphores. -/
theorem refFrame : Cert.quiescent_MlpARefIdeal (hMlpARefIdeal := Cert.MlpARefIdeal.Gen.facts) := fun m g _ =>
  (θ_run _ _ _).mono (fun r h => ⟨fun c => (h c).2.2.2.2.2, sem_eq_zero_of_no_sems (by decide) r.2⟩) (Cert.MlpARefIdeal.Value.run m g)

end Cert.MlpAEq

end
-- ==== Proof.InProjRows.lean ====
/-
  One row of the gradient call of the input projection: the normalised row, the gradient that comes back through the
  projection in five column blocks, and what it becomes at the norm's input.
-/
module

public import proofs.«01_k».proof.Proof.NormGrad

@[expose] public section

noncomputable section

namespace Cert.InProjRows

open Cert.NormGrad Idealize.ShloMosaic

/-- Column `j` of block `a`; the block and the column of a column. -/
def col (a : Fin 5) (j : Fin 512) : Fin 2560 := ⟨512 * a.val + j.val, by omega⟩
def pc (l : Fin 2560) : Fin 5 := ⟨l.val / 512, by omega⟩
def pj (l : Fin 2560) : Fin 512 := ⟨l.val % 512, by omega⟩

theorem col_pc (l : Fin 2560) : col (pc l) (pj l) = l :=
  Fin.ext (by show 512 * (l.val / 512) + l.val % 512 = l.val; omega)
theorem pc_col (a : Fin 5) (j : Fin 512) : pc (col a j) = a :=
  Fin.ext (by show (512 * a.val + j.val) / 512 = a.val; omega)
theorem pj_col (a : Fin 5) (j : Fin 512) : pj (col a j) = j :=
  Fin.ext (by show (512 * a.val + j.val) % 512 = j.val; omega)

variable (x g : Fin 1024 → EReal) (w : Fin 1024 → Fin 2560 → EReal) (d : Fin 5 → Fin 512 → EReal) (dres : Fin 1024 → EReal)

/-- The normalised row. -/
def h (k : Fin 1024) : EReal := x k * rs x * g k

/-- Column block `a`'s part of the normalised row's gradient, and the sum of the five. -/
def back (a : Fin 5) (k : Fin 1024) : EReal := ∑ j, d a j * w k (col a j)
def dh (k : Fin 1024) : EReal := back w d 0 k + back w d 1 k + back w d 2 k + back w d 3 k + back w d 4 k

/-- The five blocks' columns are all the columns. -/
def cols : Fin 5 × Fin 512 ≃ Fin 2560 where
  toFun q := col q.1 q.2
  invFun l := (pc l, pj l)
  left_inv q := Prod.ext (pc_col q.1 q.2) (pj_col q.1 q.2)
  right_inv := col_pc

/-- The sum of the five parts is the product over all columns. -/
theorem sum_cols (k : Fin 1024) : ∑ l, d (pc l) (pj l) * w k l = dh w d k := by
  rw [← Fintype.sum_equiv cols (fun q => d q.1 q.2 * w k (col q.1 q.2)) (fun l => d (pc l) (pj l) * w k l)
    (fun q => by show _ = d (pc (col q.1 q.2)) (pj (col q.1 q.2)) * _; rw [pc_col, pj_col]; rfl), Fintype.sum_prod_type, Fin.sum_univ_five]
  rfl

/-- The gradient at the norm's input: the residual's and the norm's. -/
def dx (j : Fin 1024) : EReal := dres j + kgrad x (fun k => dh w d k * g k) j

end Cert.InProjRows

end
-- ==== Proof.InProjCols.lean ====
/-
  Five stores of 512 columns each that together fill a buffer of 2560 columns.
-/
module

public import Idealize.ShloMosaic.Lib.Tactic
public import Idealize.ShloMosaic.Lib.Pointwise
public import Idealize.ShloMosaic.Lib.Pipeline.ReadBack
public import proofs.«01_k».proof.Proof.Gen.InProjIdeal.Value
public import proofs.«01_k».proof.Proof.InProjRows

@[expose] public section

noncomputable section

namespace Cert.InProjIdeal.Hand

open Cert.InProjIdeal Cert.InProjIdeal.Gen Cert.InProjRows Idealize.ShloMosaic Idealize.ShloMosaic.TcCoe Idealize.SL.Sem

/-- The five column blocks. -/
abbrev rect0 : Rect S1024x2560 := Rect.unit (s := S1024x2560) ![0, 0] ![1024, 512] (fun i => by fin_cases i <;> decide)
abbrev rect1 : Rect S1024x2560 := Rect.unit (s := S1024x2560) ![0, 512] ![1024, 512] (fun i => by fin_cases i <;> decide)
abbrev rect2 : Rect S1024x2560 := Rect.unit (s := S1024x2560) ![0, 1024] ![1024, 512] (fun i => by fin_cases i <;> decide)
abbrev rect3 : Rect S1024x2560 := Rect.unit (s := S1024x2560) ![0, 1536] ![1024, 512] (fun i => by fin_cases i <;> decide)
abbrev rect4 : Rect S1024x2560 := Rect.unit (s := S1024x2560) ![0, 2048] ![1024, 512] (fun i => by fin_cases i <;> decide)

variable {β : Type}

/-- Five column blocks side by side. -/
def side (f : Fin 5 → S1024x512.Idx → β) : S1024x2560.Idx → β := fun i =>
  f (pc ⟨(i 1).val, (i 1).isLt⟩) (ix2 ⟨(i 0).val, (i 0).isLt⟩ (pj ⟨(i 1).val, (i 1).isLt⟩))

theorem side_at (f : Fin 5 → S1024x512.Idx → β) (k : Fin 1024) (l : Fin 2560) : side f (ix2 k l) = f (pc l) (ix2 k (pj l)) := rfl

theorem side_emb (f : Fin 5 → S1024x512.Idx → β) (a : Fin 5) (off : Fin 2 → ℕ) (h : off = ![0, 512 * a.val])
    (inb : ∀ i, off i + (![1024, 512] : Fin 2 → ℕ) i ≤ S1024x2560.size i) (x : S1024x512.Idx) :
    f a x = side f ((Rect.unit (s := S1024x2560) off ![1024, 512] inb).emb x) := by
  subst h
  have h0 := (Rect.emb_apply (Rect.unit (s := S1024x2560) ![0, 512 * a.val] ![1024, 512] inb) x 0).trans
    (show 0 + 1 * (x 0).val = (x 0).val by omega)
  have h1 := (Rect.emb_apply (Rect.unit (s := S1024x2560) ![0, 512 * a.val] ![1024, 512] inb) x 1).trans
    (show 512 * a.val + 1 * (x 1).val = 512 * a.val + (x 1).val by omega)
  have hx : (x 1).val < 512 := (x 1).isLt
  unfold side
  have e1 : pc ⟨_, (((Rect.unit (s := S1024x2560) ![0, 512 * a.val] ![1024, 512] inb).emb x) 1).isLt⟩ = a :=
    Fin.ext (by show _ / 512 = a.val; rw [h1]; omega)
  rw [e1]
  congr 1
  funext b
  fin_cases b
  · exact Fin.ext h0.symm
  · exact Fin.ext (by show (x 1).val = _ % 512; rw [h1]; omega)

/-- A load of a column block. -/
theorem ld_at {Val : EltTy → Type} {e : EltTy} (w : S1024x2560.Idx → Val e) (a : Fin 5) (off : Fin 2 → ℕ) (h : off = ![0, 512 * a.val])
    (inb : ∀ i, off i + (![1024, 512] : Fin 2 → ℕ) i ≤ S1024x2560.size i) (k : Fin 1024) (j : Fin 512) :
    View.ld w (Rect.unit (s := S1024x2560) off ![1024, 512] inb) (ix2 k j) = w (ix2 k (col a j)) := by
  subst h
  refine congr_arg w (funext fun b => ?_)
  fin_cases b
  · exact Fin.ext (by show 0 + 1 * k.val = k.val; omega)
  · exact Fin.ext (by show 512 * a.val + 1 * j.val = 512 * a.val + j.val; omega)

/-- The five stores, over anything stored before, leave the five blocks side by side. -/
theorem canon_side {Val : EltTy → Type} [∀ e, Nonempty (Val e)] {e : EltTy} (f0 f1 f2 f3 f4 : S1024x512.Idx → Val e)
    (L : List (View.Piece Val S1024x2560 e)) :
    View.canon ((⟨rect4, f4⟩ : View.Piece Val S1024x2560 e) :: ⟨rect3, f3⟩ :: ⟨rect2, f2⟩ :: ⟨rect1, f1⟩ :: ⟨rect0, f0⟩ :: L) =
      side ![f0, f1, f2, f3, f4] := by
  funext i
  refine View.canon_append_of_piecesOf (side ![f0, f1, f2, f3, f4]) L
    [⟨rect4, f4⟩, ⟨rect3, f3⟩, ⟨rect2, f2⟩, ⟨rect1, f1⟩, ⟨rect0, f0⟩]
    ⟨fun x => side_emb ![f0, f1, f2, f3, f4] 4 _ rfl (fun i => by fin_cases i <;> decide) x, fun x => side_emb ![f0, f1, f2, f3, f4] 3 _ rfl (fun i => by fin_cases i <;> decide) x,
      fun x => side_emb ![f0, f1, f2, f3, f4] 2 _ rfl (fun i => by fin_cases i <;> decide) x, fun x => side_emb ![f0, f1, f2, f3, f4] 1 _ rfl (fun i => by fin_cases i <;> decide) x,
      fun x => side_emb ![f0, f1, f2, f3, f4] 0 _ rfl (fun i => by fin_cases i <;> decide) x, trivial⟩ i ?_
  have hi0 : (i 0).val < 1024 := (i 0).isLt
  have hi1 : (i 1).val < 2560 := (i 1).isLt
  have key : ∀ (o : ℕ) (inb : ∀ a, (![0, o] : Fin 2 → ℕ) a + (![1024, 512] : Fin 2 → ℕ) a ≤ S1024x2560.size a),
      o ≤ (i 1).val → (i 1).val < o + 512 → i ∈ (Rect.unit (s := S1024x2560) ![0, o] ![1024, 512] inb).set := by
    intro o inb h1 h2
    rw [Rect.mem_set_unit]
    intro a
    fin_cases a
    · exact ⟨Nat.zero_le _, by show (i 0).val < 0 + 1024; omega⟩
    · exact ⟨h1, h2⟩
  by_cases c0 : (i 1).val < 512
  · exact ⟨⟨rect0, f0⟩, by simp, key 0 (fun i => by fin_cases i <;> decide) (by omega) (by omega)⟩
  by_cases c1 : (i 1).val < 1024
  · exact ⟨⟨rect1, f1⟩, by simp, key 512 (fun i => by fin_cases i <;> decide) (by omega) (by omega)⟩
  by_cases c2 : (i 1).val < 1536
  · exact ⟨⟨rect2, f2⟩, by simp, key 1024 (fun i => by fin_cases i <;> decide) (by omega) (by omega)⟩
  by_cases c3 : (i 1).val < 2048
  · exact ⟨⟨rect3, f3⟩, by simp, key 1536 (fun i => by fin_cases i <;> decide) (by omega) (by omega)⟩
  · exact ⟨⟨rect4, f4⟩, by simp, key 2048 (fun i => by fin_cases i <;> decide) (by omega) (by omega)⟩

/-- A load of some columns after a fill of the whole buffer reads the fill there. -/
theorem load_fill {κ : Kind} {sp : Space} {Val : EltTy → Type} [∀ e, Nonempty (Val e)] {e : EltTy} (v : View sig κ sp S1024x2560 e)
    (inb : ∀ a, (![0, 0] : Fin 2 → ℕ) a + (![1024, 2560] : Fin 2 → ℕ) a ≤ S1024x2560.size a)
    (Z : S1024x2560.Idx → Val e) (L : List (View.Piece Val S1024x2560 e)) (r : Rect S1024x2560) :
    v.readCov (⟨Rect.unit (s := S1024x2560) ![0, 0] ![1024, 2560] inb, Z⟩ :: L) r.toLoadRect = View.ld Z r :=
  View.readCov_fill v inb Z L r (fun a => by fin_cases a <;> rfl)

end Cert.InProjIdeal.Hand

end
-- ==== Proof.InProjBlock.lean ====
/-
  The input projection's gradient call (`_inproj_bwd`), one block at a time: what its body leaves in its three output
  buffers, as named functions of the blocks it reads, and the entries of those functions over the extended reals.
-/
module

public import proofs.«01_k».proof.Proof.InProjCols

@[expose] public section

set_option maxRecDepth 16384

noncomputable section

namespace Cert.InProjIdeal.Hand

open Cert.NormGrad Cert.InProjIdeal Cert.InProjIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The first four column blocks' part of the normalised rows' gradient. -/
def dhBlk (w : Vec F S1024x2560 .bf16) (d0 d1 d2 d3 : Vec F S512x512 .bf16) : Vec F S512x1024 .f32 :=
  k0_pay22 (k0_pay14 d0 (View.ld w rect0)) (k0_pay15 d1) (View.ld w rect1) d2 (View.ld w rect2) d3 (View.ld w rect3)

/-- The block of the gradient at the norm's input. -/
def dxBlk (x : Vec F S512x1024 .f32) (g : Vec F S1x1024 .f32) (w : Vec F S1024x2560 .bf16) (d0 d1 d2 d3 d4 : Vec F S512x512 .bf16)
    (dres : Vec F S512x1024 .f32) : Vec F S512x1024 .f32 :=
  k0_pay5 (k0_pay9 x) (k0_pay10 x) g (dhBlk w d0 d1 d2 d3) d4 (View.ld w rect4) dres

/-- One block's step of the weight's gradient, column block by column block. -/
def dwBlk (x : Vec F S512x1024 .f32) (g : Vec F S1x1024 .f32) (d0 d1 d2 d3 d4 : Vec F S512x512 .bf16)
    (dw : Vec F S1024x2560 .f32) : Vec F S1024x2560 .f32 :=
  side ![k0_pay13 x g d0 (View.ld dw rect0),
    k0_pay17 (k0_pay11 x g) (k0_pay15 d1) (k0_pay16 (View.ld dw rect1)) (constant S1024x512 .f32 0#32),
    k0_pay19 (k0_pay11 x g) d2 (View.ld dw rect2),
    k0_pay21 (k0_pay11 x g) d3 (View.ld dw rect3),
    k0_pay2 (k0_pay11 x g) d4 (View.ld dw rect4)]

/-- One block's step of the norm gain's gradient. -/
def dgBlk (x : Vec F S512x1024 .f32) (w : Vec F S1024x2560 .bf16) (d0 d1 d2 d3 d4 : Vec F S512x512 .bf16)
    (dg : Vec F S1x1024 .f32) : Vec F S1x1024 .f32 :=
  k0_pay4 (k0_pay10 x) (dhBlk w d0 d1 d2 d3) d4 (View.ld w rect4) dg

section Cases

variable (c : Dev nD) (i : grid0.Coords)
  (a1 : Memref sig .tc .vmem S512x1024 .f32) (h1 : a1.IsWhole)
  (a2 : Memref sig .tc .vmem S1x1024 .f32) (h2 : a2.IsWhole)
  (a3 : Memref sig .tc .vmem S1024x2560 .bf16) (h3 : a3.IsWhole)
  (a4 : Memref sig .tc .vmem S512x512 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .bf16) (h7 : a7.IsWhole)
  (a8 : Memref sig .tc .vmem S512x512 .bf16) (h8 : a8.IsWhole)
  (a9 : Memref sig .tc .vmem S512x1024 .f32) (h9 : a9.IsWhole)
  (a10 : Memref sig .tc .vmem S512x1024 .f32) (h10 : a10.IsWhole)
  (a11 : Memref sig .tc .vmem S1024x2560 .f32) (h11 : a11.IsWhole)
  (a12 : Memref sig .tc .vmem S1x1024 .f32) (h12 : a12.IsWhole)
  (x : Vec F S512x1024 .f32)
  (g : Vec F S1x1024 .f32)
  (w : Vec F S1024x2560 .bf16)
  (d0 : Vec F S512x512 .bf16)
  (d1 : Vec F S512x512 .bf16)
  (d2 : Vec F S512x512 .bf16)
  (d3 : Vec F S512x512 .bf16)
  (d4 : Vec F S512x512 .bf16)
  (dres : Vec F S512x1024 .f32)
  (dw : Vec F S1024x2560 .f32)
  (dg : Vec F S1x1024 .f32)

theorem out_A_9 (hc : cond0_0 i) : out0_A_9 c i a1 h1 a2 h2 a3 h3 a4 h4 a5 h5 a6 h6 a7 h7 a8 h8 a9 h9 a10 h10 a11 h11 a12 h12 hc x g w d0 d1 d2 d3 d4 dres = dxBlk x g w d0 d1 d2 d3 d4 dres := by
  unfold out0_A_9
  rw [View.read_writes_eq_canon _ _ _ (fun _ => cover0_A_9 ..)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S512x1024) hz, View.ld_unit_zero (S := S1x1024) hz, View.ld_unit_zero (S := S1024x2560) hz, View.ld_unit_zero (S := S512x512) hz]
  rfl

theorem out_B_9 (hc : ¬cond0_0 i) : out0_B_9 c i a1 h1 a2 h2 a3 h3 a4 h4 a5 h5 a6 h6 a7 h7 a8 h8 a9 h9 a10 h10 a11 h11 a12 h12 hc x g w d0 d1 d2 d3 d4 dres dw dg = dxBlk x g w d0 d1 d2 d3 d4 dres := by
  unfold out0_B_9
  rw [View.read_writes_eq_canon _ _ _ (fun _ => cover0_B_9 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread,
    View.ld_unit_zero (S := S512x1024) hz, View.ld_unit_zero (S := S1x1024) hz, View.ld_unit_zero (S := S1024x2560) hz, View.ld_unit_zero (S := S512x512) hz]
  rfl

theorem out_A_10 (hc : cond0_0 i) : out0_A_10 c i a1 h1 a2 h2 a3 h3 a4 h4 a5 h5 a6 h6 a7 h7 a8 h8 a9 h9 a10 h10 a11 h11 a12 h12 hc x g w d0 d1 d2 d3 d4 dres = dwBlk x g d0 d1 d2 d3 d4 k0_pay6 := by
  unfold out0_A_10
  rw [View.read_writes_eq_canon _ _ _ (fun _ => cover0_A_10 ..)]
  unfold kernelRun0_A
  dsimp only
  sl_unfold_words
  simp (decide := true) only [View.readCov_skip, load_fill, View.readAt_eq_ld, h1.read_unread, h2.read_unread, h3.read_unread, h4.read_unread, h5.read_unread, h6.read_unread, h7.read_unread, h8.read_unread, h9.read_unread,
    View.ld_unit_zero (S := S512x1024) hz, View.ld_unit_zero (S := S1x1024) hz, View.ld_unit_zero (S := S1024x2560) hz, View.ld_unit_zero (S := S512x512) hz]
  exact canon_side (Val := Elt F) ..

theorem out_B_10 (hc : ¬cond0_0 i) : out0_B_10 c i a1 h1 a2 h2 a3 h3 a4 h4 a5 h5 a6 h6 a7 h7 a8 h8 a9 h9 a10 h10 a11 h11 a12 h12 hc x g w d0 d1 d2 d3 d4 dres dw dg = dwBlk x g d0 d1 d2 d3 d4 dw := by
  unfold out0_B_10
  rw [View.read_writes_eq_canon _ _ _ (fun _ => cover0_B_10 ..)]
  unfold kernelRun0_B
  dsimp only
  sl_unfold_words
  simp only [View.readAt_eq_ld, h1.read_unread, h2.read_unread, h3.read_unread, h4.read_unread, h5.read_unread, h6.read_unread, h7.read_unread, h8.read_unread, h9.read_unread, h11.read_unread,
    View.ld_unit_zero (S := S512x1024) hz, View.ld_unit_zero (S := S1x1024) hz, View.ld_unit_zero (S := S1024x2560) hz, View.ld_unit_zero (S := S512x512) hz]
  exact canon_side (Val := Elt F) ..

theorem out_A_11 (hc : cond0_0 i) : out0_A_11 c i a1 h1 a2 h2 a3 h3 a4 h4 a5 h5 a6 h6 a7 h7 a8 h8 a9 h9 a10 h10 a11 h11 a12 h12 hc x g w d0 d1 d2 d3 d4 dres = dgBlk x w d0 d1 d2 d3 d4 k0_pay7 := by
  unfold out0_A_11
  rw [View.read_writes_eq_canon _ _ _ (fun _ => cover0_A_11 ..)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread, h7.read_unread, h8.read_unread, h9.read_unread,
    View.ld_unit_zero (S := S512x1024) hz, View.ld_unit_zero (S := S1x1024) hz, View.ld_unit_zero (S := S1024x2560) hz, View.ld_unit_zero (S := S512x512) hz]
  rfl

theorem out_B_11 (hc : ¬cond0_0 i) : out0_B_11 c i a1 h1 a2 h2 a3 h3 a4 h4 a5 h5 a6 h6 a7 h7 a8 h8 a9 h9 a10 h10 a11 h11 a12 h12 hc x g w d0 d1 d2 d3 d4 dres dw dg = dgBlk x w d0 d1 d2 d3 d4 dg := by
  unfold out0_B_11
  rw [View.read_writes_eq_canon _ _ _ (fun _ => cover0_B_11 ..)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread,
    View.ld_unit_zero (S := S512x1024) hz, View.ld_unit_zero (S := S1x1024) hz, View.ld_unit_zero (S := S1024x2560) hz, View.ld_unit_zero (S := S512x512) hz]
  rfl

end Cases

section Entries

variable (x : Vec Ideal S512x1024 .f32) (g : Vec Ideal S1x1024 .f32) (w : Vec Ideal S1024x2560 .bf16)
  (d0 d1 d2 d3 d4 : Vec Ideal S512x512 .bf16) (dres : Vec Ideal S512x1024 .f32)

/-- Row `r` of a block, of the five pieces together, and the only row of a gain. -/
def rowOf (x : Vec Ideal S512x1024 .f32) (r : Fin 512) (k : Fin 1024) : EReal := x (ix2 r k)
def piece (d : Vec Ideal S512x512 .bf16) (r : Fin 512) (k : Fin 512) : EReal := d (ix2 r k)
def pieces (d0 d1 d2 d3 d4 : Vec Ideal S512x512 .bf16) (r : Fin 512) : Fin 5 → Fin 512 → EReal :=
  ![piece d0 r, piece d1 r, piece d2 r, piece d3 r, piece d4 r]
def gain (g : Vec Ideal S1x1024 .f32) (k : Fin 1024) : EReal := g (ix2 0 k)
def proj (w : Vec Ideal S1024x2560 .bf16) (k : Fin 1024) (l : Fin 2560) : EReal := w (ix2 k l)

/-- The entries of the five column blocks. -/
theorem ld0 {e : EltTy} (w : Vec Ideal S1024x2560 e) (k : Fin 1024) (j : Fin 512) : View.ld w rect0 (ix2 k j) = w (ix2 k (InProjRows.col 0 j)) :=
  ld_at w 0 _ rfl _ k j
theorem ld1 {e : EltTy} (w : Vec Ideal S1024x2560 e) (k : Fin 1024) (j : Fin 512) : View.ld w rect1 (ix2 k j) = w (ix2 k (InProjRows.col 1 j)) :=
  ld_at w 1 _ rfl _ k j
theorem ld2 {e : EltTy} (w : Vec Ideal S1024x2560 e) (k : Fin 1024) (j : Fin 512) : View.ld w rect2 (ix2 k j) = w (ix2 k (InProjRows.col 2 j)) :=
  ld_at w 2 _ rfl _ k j
theorem ld3 {e : EltTy} (w : Vec Ideal S1024x2560 e) (k : Fin 1024) (j : Fin 512) : View.ld w rect3 (ix2 k j) = w (ix2 k (InProjRows.col 3 j)) :=
  ld_at w 3 _ rfl _ k j
theorem ld4 {e : EltTy} (w : Vec Ideal S1024x2560 e) (k : Fin 1024) (j : Fin 512) : View.ld w rect4 (ix2 k j) = w (ix2 k (InProjRows.col 4 j)) :=
  ld_at w 4 _ rfl _ k j

theorem dx_apply (r : Fin 512) (k : Fin 1024) : dxBlk x g w d0 d1 d2 d3 d4 dres (ix2 r k) =
    InProjRows.dx (rowOf x r) (gain g) (proj w) (pieces d0 d1 d2 d3 d4 r) (rowOf dres r) k := by
  unfold dxBlk dhBlk
  unfold_payloads
  pointwise [ld0, ld1, ld2, ld3, ld4]
  rfl

theorem dg_apply (dg : Vec Ideal S1x1024 .f32) (k : Fin 1024) : dgBlk x w d0 d1 d2 d3 d4 dg (ix2 0 k) =
    dg (ix2 0 k) + ∑ r, InProjRows.dh (proj w) (pieces d0 d1 d2 d3 d4 r) k * (rowOf x r k * rs (rowOf x r)) := by
  unfold dgBlk dhBlk
  unfold_payloads
  pointwise [ld0, ld1, ld2, ld3, ld4]
  rfl

/-- The step at column `j` of block `a`. -/
theorem dw_piece (dw : Vec Ideal S1024x2560 .f32) (k : Fin 1024) (a : Fin 5) (j : Fin 512) :
    dwBlk x g d0 d1 d2 d3 d4 dw (ix2 k (InProjRows.col a j)) =
    dw (ix2 k (InProjRows.col a j)) + ∑ r, InProjRows.h (rowOf x r) (gain g) k * pieces d0 d1 d2 d3 d4 r a j := by
  unfold dwBlk
  rw [side_at, InProjRows.pc_col, InProjRows.pj_col]
  fin_cases a
  · show k0_pay13 x g d0 (View.ld dw rect0) (ix2 k j) = _
    unfold_payloads
    pointwise [ld0]
    rw [show (⟨j.val, by omega⟩ : Fin 2560) = InProjRows.col 0 j from Fin.ext (by show j.val = 512 * 0 + j.val; omega)]
    rfl
  · show k0_pay17 (k0_pay11 x g) (k0_pay15 d1) (k0_pay16 (View.ld dw rect1)) (constant S1024x512 .f32 0#32) (ix2 k j) = _
    unfold_payloads
    pointwise [ld1]
    rfl
  · show k0_pay19 (k0_pay11 x g) d2 (View.ld dw rect2) (ix2 k j) = _
    unfold_payloads
    pointwise [ld2]
    rfl
  · show k0_pay21 (k0_pay11 x g) d3 (View.ld dw rect3) (ix2 k j) = _
    unfold_payloads
    pointwise [ld3]
    rfl
  · show k0_pay2 (k0_pay11 x g) d4 (View.ld dw rect4) (ix2 k j) = _
    unfold_payloads
    pointwise [ld4]
    rfl

theorem dw_apply (dw : Vec Ideal S1024x2560 .f32) (k : Fin 1024) (l : Fin 2560) : dwBlk x g d0 d1 d2 d3 d4 dw (ix2 k l) =
    dw (ix2 k l) + ∑ r, InProjRows.h (rowOf x r) (gain g) k * pieces d0 d1 d2 d3 d4 r (InProjRows.pc l) (InProjRows.pj l) := by
  have e := dw_piece x g d0 d1 d2 d3 d4 dw k (InProjRows.pc l) (InProjRows.pj l)
  rwa [InProjRows.col_pc] at e

/-- What the totals are set to before the first block. -/
theorem dw_start (k : Fin 1024) (l : Fin 2560) : (k0_pay6 (F := Ideal)) (ix2 k l) = 0 := by
  unfold k0_pay6
  pointwise []
theorem dg_start (k : Fin 1024) : (k0_pay7 (F := Ideal)) (ix2 0 k) = 0 := by
  unfold k0_pay7
  pointwise []

end Entries

end Cert.InProjIdeal.Hand

end
-- ==== Proof.InProjArrays.lean ====
/-
  What the input projection's gradient call leaves in its three result arrays, entry by entry: its blocks of rows read from
  the arguments, the running totals over the sixteen blocks, and the rows written block by block.
-/
module

public import proofs.«01_k».proof.Proof.InProjBlock
public import proofs.«01_k».proof.Proof.Blocks
public import Idealize.ShloMosaic.Lib.StableHlo.ReadAt

@[expose] public section

set_option maxRecDepth 16384

noncomputable section

namespace Cert.InProjIdeal.Hand

open Cert.Reals Cert.NormGrad Cert.Blocks Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The argument arrays: the norm's input and gain, the weight, the cotangent's five pieces and the residual's cotangent. -/
def x (p : Fin 8192) (k : Fin 1024) : EReal := m (c.tc.loc main_arg0) (ix3 0 p k)
def g (k : Fin 1024) : EReal := m (c.tc.loc main_arg1) (ix2 0 k)
def w (k : Fin 1024) (l : Fin 2560) : EReal := m (c.tc.loc main_arg2) (ix3 0 k l)
def d0 (p : Fin 8192) (k : Fin 512) : EReal := m (c.tc.loc main_arg3) (ix3 0 p k)
def d1 (p : Fin 8192) (k : Fin 512) : EReal := m (c.tc.loc main_arg4) (ix3 0 p k)
def d2 (p : Fin 8192) (k : Fin 512) : EReal := m (c.tc.loc main_arg5) (ix3 0 p k)
def d3 (p : Fin 8192) (k : Fin 512) : EReal := m (c.tc.loc main_arg6) (ix3 0 p k)
def d4 (p : Fin 8192) (k : Fin 512) : EReal := m (c.tc.loc main_arg7) (ix3 0 p k)
def dres (p : Fin 8192) (k : Fin 1024) : EReal := m (c.tc.loc main_arg8) (ix3 0 p k)

/-- The five pieces of row `p`. -/
def d (p : Fin 8192) : Fin 5 → Fin 512 → EReal := ![d0 m c p, d1 m c p, d2 m c p, d3 m c p, d4 m c p]

/-- Row `r` of block `t`. -/
def row (t : Fin cfg0.N) (r : Fin 512) : Fin 8192 :=
  ⟨512 * t.val + r.val, by have h := t.isLt; have hN : cfg0.N = 16 := N_0; omega⟩

theorem idx_0 : ∀ t : Fin grid0.N, win0_0.index t 0 = t.val ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = 0 ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = t.val ∧ win0_5.index t 1 = 0 := by decide +kernel
theorem idx_6 : ∀ t : Fin grid0.N, win0_6.index t 0 = t.val ∧ win0_6.index t 1 = 0 := by decide +kernel
theorem idx_7 : ∀ t : Fin grid0.N, win0_7.index t 0 = t.val ∧ win0_7.index t 1 = 0 := by decide +kernel
theorem idx_8 : ∀ t : Fin grid0.N, win0_8.index t 0 = t.val ∧ win0_8.index t 1 = 0 := by decide +kernel
theorem idx_9 : ∀ t : Fin grid0.N, win0_9.index t 0 = t.val ∧ win0_9.index t 1 = 0 := by decide +kernel
theorem idx_10 : ∀ t : Fin grid0.N, win0_10.index t 0 = 0 ∧ win0_10.index t 1 = 0 := by decide +kernel
theorem idx_11 : ∀ t : Fin grid0.N, win0_11.index t 0 = 0 ∧ win0_11.index t 1 = 0 := by decide +kernel

theorem V_x (p : Fin 8192) (k : Fin 1024) : V m c main_v10 (ix2 p k) = x m c p k := by
  unfold V; after_reads_at; rfl
theorem V_g (k : Fin 1024) : V m c main_arg1 (ix2 0 k) = g m c k := by
  unfold V; after_reads_at; rfl
theorem V_w (p : Fin 1024) (k : Fin 2560) : V m c main_v12 (ix2 p k) = w m c p k := by
  unfold V; after_reads_at; rfl
theorem V_d0 (p : Fin 8192) (k : Fin 512) : V m c main_v1 (ix2 p k) = d0 m c p k := by
  unfold V; after_reads_at; rfl
theorem V_d1 (p : Fin 8192) (k : Fin 512) : V m c main_v3 (ix2 p k) = d1 m c p k := by
  unfold V; after_reads_at; rfl
theorem V_d2 (p : Fin 8192) (k : Fin 512) : V m c main_v5 (ix2 p k) = d2 m c p k := by
  unfold V; after_reads_at; rfl
theorem V_d3 (p : Fin 8192) (k : Fin 512) : V m c main_v7 (ix2 p k) = d3 m c p k := by
  unfold V; after_reads_at; rfl
theorem V_d4 (p : Fin 8192) (k : Fin 512) : V m c main_v9 (ix2 p k) = d4 m c p k := by
  unfold V; after_reads_at; rfl
theorem V_dres (p : Fin 8192) (k : Fin 1024) : V m c main_v13 (ix2 p k) = dres m c p k := by
  unfold V; after_reads_at; rfl

theorem blk_x (t : Fin cfg0.N) (r : Fin 512) (k : Fin 1024) : iblk m c 0 t (ix2 r k) = x m c (row t r) k := by
  rw [← V_x]; unfold iblk; rw [View.read_apply]
  exact congrArg (V m c main_v10) (funext fun a => Fin.ext (match a with
    | ⟨0, _⟩ => at_row 512 r.val (idx_0 t).1
    | ⟨1, _⟩ => at_zero 1024 k.val (idx_0 t).2))

theorem blk_g (t : Fin cfg0.N) (k : Fin 1024) : iblk m c 1 t (ix2 0 k) = g m c k := by
  rw [← V_g]; unfold iblk; rw [View.read_apply]
  exact congrArg (V m c main_arg1) (funext fun a => Fin.ext (match a with
    | ⟨0, _⟩ => at_zero 1 0 (idx_1 t).1
    | ⟨1, _⟩ => at_zero 1024 k.val (idx_1 t).2))

theorem blk_w (t : Fin cfg0.N) (r : Fin 1024) (k : Fin 2560) : iblk m c 2 t (ix2 r k) = w m c r k := by
  rw [← V_w]; unfold iblk; rw [View.read_apply]
  exact congrArg (V m c main_v12) (funext fun a => Fin.ext (match a with
    | ⟨0, _⟩ => at_zero 1024 r.val (idx_2 t).1
    | ⟨1, _⟩ => at_zero 2560 k.val (idx_2 t).2))

theorem blk_d0 (t : Fin cfg0.N) (r : Fin 512) (k : Fin 512) : iblk m c 3 t (ix2 r k) = d0 m c (row t r) k := by
  rw [← V_d0]; unfold iblk; rw [View.read_apply]
  exact congrArg (V m c main_v1) (funext fun a => Fin.ext (match a with
    | ⟨0, _⟩ => at_row 512 r.val (idx_3 t).1
    | ⟨1, _⟩ => at_zero 512 k.val (idx_3 t).2))

theorem blk_d1 (t : Fin cfg0.N) (r : Fin 512) (k : Fin 512) : iblk m c 4 t (ix2 r k) = d1 m c (row t r) k := by
  rw [← V_d1]; unfold iblk; rw [View.read_apply]
  exact congrArg (V m c main_v3) (funext fun a => Fin.ext (match a with
    | ⟨0, _⟩ => at_row 512 r.val (idx_4 t).1
    | ⟨1, _⟩ => at_zero 512 k.val (idx_4 t).2))

theorem blk_d2 (t : Fin cfg0.N) (r : Fin 512) (k : Fin 512) : iblk m c 5 t (ix2 r k) = d2 m c (row t r) k := by
  rw [← V_d2]; unfold iblk; rw [View.read_apply]
  exact congrArg (V m c main_v5) (funext fun a => Fin.ext (match a with
    | ⟨0, _⟩ => at_row 512 r.val (idx_5 t).1
    | ⟨1, _⟩ => at_zero 512 k.val (idx_5 t).2))

theorem blk_d3 (t : Fin cfg0.N) (r : Fin 512) (k : Fin 512) : iblk m c 6 t (ix2 r k) = d3 m c (row t r) k := by
  rw [← V_d3]; unfold iblk; rw [View.read_apply]
  exact congrArg (V m c main_v7) (funext fun a => Fin.ext (match a with
    | ⟨0, _⟩ => at_row 512 r.val (idx_6 t).1
    | ⟨1, _⟩ => at_zero 512 k.val (idx_6 t).2))

theorem blk_d4 (t : Fin cfg0.N) (r : Fin 512) (k : Fin 512) : iblk m c 7 t (ix2 r k) = d4 m c (row t r) k := by
  rw [← V_d4]; unfold iblk; rw [View.read_apply]
  exact congrArg (V m c main_v9) (funext fun a => Fin.ext (match a with
    | ⟨0, _⟩ => at_row 512 r.val (idx_7 t).1
    | ⟨1, _⟩ => at_zero 512 k.val (idx_7 t).2))

theorem blk_dres (t : Fin cfg0.N) (r : Fin 512) (k : Fin 1024) : iblk m c 8 t (ix2 r k) = dres m c (row t r) k := by
  rw [← V_dres]; unfold iblk; rw [View.read_apply]
  exact congrArg (V m c main_v13) (funext fun a => Fin.ext (match a with
    | ⟨0, _⟩ => at_row 512 r.val (idx_8 t).1
    | ⟨1, _⟩ => at_zero 1024 k.val (idx_8 t).2))

/-- The blocks' rows are the arrays' rows. -/
theorem row_x (t : Fin cfg0.N) (r : Fin 512) : rowOf (iblk m c 0 t) r = x m c (row t r) := funext fun k => blk_x m c t r k
theorem gain_g (t : Fin cfg0.N) : gain (iblk m c 1 t) = g m c := funext fun k => blk_g m c t k
theorem proj_w (t : Fin cfg0.N) : proj (iblk m c 2 t) = w m c := funext fun k => funext fun l => blk_w m c t k l
theorem row_d (t : Fin cfg0.N) (r : Fin 512) :
    pieces (iblk m c 3 t) (iblk m c 4 t) (iblk m c 5 t) (iblk m c 6 t) (iblk m c 7 t) r = d m c (row t r) := by
  unfold pieces d
  rw [show piece (iblk m c 3 t) r = d0 m c (row t r) from funext fun k => blk_d0 m c t r k,
    show piece (iblk m c 4 t) r = d1 m c (row t r) from funext fun k => blk_d1 m c t r k,
    show piece (iblk m c 5 t) r = d2 m c (row t r) from funext fun k => blk_d2 m c t r k,
    show piece (iblk m c 6 t) r = d3 m c (row t r) from funext fun k => blk_d3 m c t r k,
    show piece (iblk m c 7 t) r = d4 m c (row t r) from funext fun k => blk_d4 m c t r k]
theorem row_dres (t : Fin cfg0.N) (r : Fin 512) : rowOf (iblk m c 8 t) r = dres m c (row t r) := funext fun k => blk_dres m c t r k

/-- Row `p` of the gradients. -/
def dh (p : Fin 8192) : Fin 1024 → EReal := InProjRows.dh (w m c) (d m c p)
def dx (p : Fin 8192) : Fin 1024 → EReal := InProjRows.dx (x m c p) (g m c) (w m c) (d m c p) (dres m c p)

/-- Row `p`'s parts of the weight's gradient and of the gain's. -/
def dwRow (k : Fin 1024) (l : Fin 2560) (p : Fin 8192) : EReal :=
  InProjRows.h (x m c p) (g m c) k * d m c p (InProjRows.pc l) (InProjRows.pj l)
def dgRow (k : Fin 1024) (p : Fin 8192) : EReal := dh m c p k * (x m c p k * rs (x m c p))

theorem dxBlk_at (t : Fin cfg0.N) (r : Fin 512) (k : Fin 1024) : dxBlk (iblk m c 0 t) (iblk m c 1 t) (iblk m c 2 t) (iblk m c 3 t) (iblk m c 4 t) (iblk m c 5 t) (iblk m c 6 t) (iblk m c 7 t) (iblk m c 8 t) (ix2 r k) = dx m c (row t r) k := by
  simp only [dx_apply, row_x, gain_g, proj_w, row_d, row_dres]
  rfl

theorem dwBlk_at (t : Fin cfg0.N) (acc : Vec Ideal S1024x2560 .f32) (r : Fin 1024) (k : Fin 2560) : dwBlk (iblk m c 0 t) (iblk m c 1 t) (iblk m c 3 t) (iblk m c 4 t) (iblk m c 5 t) (iblk m c 6 t) (iblk m c 7 t) acc (ix2 r k) =
    acc (ix2 r k) + part 512 8192 (dwRow m c r k) t.val := by
  simp only [dw_apply, row_x, gain_g, proj_w, row_d, row_dres]
  exact congrArg _ (part_eq (dwRow m c r k) t.val (row t) fun _ => rfl)

theorem dgBlk_at (t : Fin cfg0.N) (acc : Vec Ideal S1x1024 .f32) (k : Fin 1024) : dgBlk (iblk m c 0 t) (iblk m c 2 t) (iblk m c 3 t) (iblk m c 4 t) (iblk m c 5 t) (iblk m c 6 t) (iblk m c 7 t) acc (ix2 0 k) =
    acc (ix2 0 k) + part 512 8192 (dgRow m c k) t.val := by
  simp only [dg_apply, row_x, gain_g, proj_w, row_d, row_dres]
  exact congrArg _ (part_eq (dgRow m c k) t.val (row t) fun _ => rfl)

theorem not_first (n : Nat) (h : n + 1 < cfg0.N) : ¬(n + 1) % 16 = 0 := by have hN : cfg0.N = 16 := N_0; omega

/-- What the output buffer of `dx` holds after point `t`. -/
theorem outs_dx (t : Fin cfg0.N) : (outsAt0 m c t.val t.isLt).1 = dxBlk (iblk m c 0 t) (iblk m c 1 t) (iblk m c 2 t) (iblk m c 3 t) (iblk m c 4 t) (iblk m c 5 t) (iblk m c 6 t) (iblk m c 7 t) (iblk m c 8 t) := by
  by_cases h : t.val % 16 = 0
  · rw [outsAt0_A m c t h]; dsimp only
    rw [out_A_9]
  · rw [outsAt0_B m c t h]; dsimp only
    rw [out_B_9]

/-- The running total of `dw`. -/
theorem outs_dw (r : Fin 1024) (k : Fin 2560) (n : Nat) (h : n < cfg0.N) :
    (outsAt0 m c n h).2.1 (ix2 r k) = ∑ t : Fin (n + 1), part 512 8192 (dwRow m c r k) t :=
  running_sum (fun n h => (outsAt0 m c n h).2.1 (ix2 r k)) (part 512 8192 (dwRow m c r k))
    (fun h => by
      rw [outsAt0_A m c ⟨0, h⟩ rfl]
      dsimp only
      rw [out_A_10]
      exact ((dwBlk_at m c ⟨0, h⟩ _ r k).trans (by rw [dw_start])))
    (fun n h => by
      rw [outsAt0_B m c ⟨n + 1, h⟩ (not_first n h)]
      dsimp only
      rw [out_B_10]
      exact dwBlk_at m c ⟨n + 1, h⟩ _ r k) n h

/-- The running total of `dg`. -/
theorem outs_dg (k : Fin 1024) (n : Nat) (h : n < cfg0.N) :
    (outsAt0 m c n h).2.2 (ix2 0 k) = ∑ t : Fin (n + 1), part 512 8192 (dgRow m c k) t :=
  running_sum (fun n h => (outsAt0 m c n h).2.2 (ix2 0 k)) (part 512 8192 (dgRow m c k))
    (fun h => by
      rw [outsAt0_A m c ⟨0, h⟩ rfl]
      dsimp only
      rw [out_A_11]
      exact ((dgBlk_at m c ⟨0, h⟩ _ k).trans (by rw [dg_start])))
    (fun n h => by
      rw [outsAt0_B m c ⟨n + 1, h⟩ (not_first n h)]
      dsimp only
      rw [out_B_11]
      exact dgBlk_at m c ⟨n + 1, h⟩ _ k) n h

/-- The result arrays. -/
def dxArr : Buf (Elt Ideal) (c.tc.loc main_v14_0 : Loc nD τ sig) := fun i => show EReal from dx m c (i 0) (i 1)
def dwArr : Buf (Elt Ideal) (c.tc.loc main_v14_1 : Loc nD τ sig) := fun i => show EReal from ∑ p, dwRow m c (i 0) (i 1) p
def dgArr : Buf (Elt Ideal) (c.tc.loc main_v14_2 : Loc nD τ sig) := fun i => show EReal from ∑ p, dgRow m c (i 1) p

/-- The last block, and the block that holds row `p`. -/
def last : Fin cfg0.N := ⟨15, by have hN : cfg0.N = 16 := N_0; omega⟩
def blkOf (p : Fin 8192) : Fin cfg0.N := ⟨p.val / 512, by have hN : cfg0.N = 16 := N_0; omega⟩

theorem read_9 (A : Buf (Elt Ideal) (c.tc.loc main_v14_0 : Loc nD τ sig)) (t : Fin cfg0.N) (r : Fin 512) (k : Fin 1024) :
    ((cfg0.win 9).blk t).view.read (Elt Ideal) A (ix2 r k) = A (ix2 (row t r) k) := by
  rw [View.read_apply]
  exact congrArg A (funext fun a => Fin.ext (match a with
    | ⟨0, _⟩ => at_row 512 r.val (idx_9 t).1
    | ⟨1, _⟩ => at_zero 1024 k.val (idx_9 t).2))

theorem cover_9 (i : (⟨2, ![8192, 1024]⟩ : Shape).Idx) : i ∈ ((cfg0.win 9).blk (blkOf (i 0))).view.set := by
  show i ∈ ((View.whole main_v14_0).slice (win0_9.rect (blkOf (i 0)))).set
  rw [View.set_slice_whole, Rect.mem_set_unit]
  exact fun a => match a with
    | ⟨0, _⟩ => in_row 512 (by decide) (idx_9 (blkOf (i 0))).1
    | ⟨1, _⟩ => in_zero (idx_9 (blkOf (i 0))).2 (i 1).isLt

theorem flushed_dx (t : Fin cfg0.N) (_ : (cfg0.win 9).flush t = true) :
    (dats m 0 c).flushed 9 t = ((cfg0.win 9).blk t).view.read (Elt Ideal) (dxArr m c) := by
  rw [Value.flushed9, outs_dx]
  funext i
  idx_vars i
  exact (dxBlk_at m c t _ _).trans (read_9 c (dxArr m c) t _ _).symm

theorem final_dx : (dats m 0 c).arrAt 9 cfg0.N = dxArr m c :=
  (dats m 0 c).arrAt_eq_of_cover 9 (dxArr m c) (flushed_dx m c) fun i => ⟨blkOf (i 0), flush0_9 _, cover_9 i⟩

theorem read_10 (A : Buf (Elt Ideal) (c.tc.loc main_v14_1 : Loc nD τ sig)) (t : Fin cfg0.N) (r : Fin 1024) (k : Fin 2560) :
    ((cfg0.win 10).blk t).view.read (Elt Ideal) A (ix2 r k) = A (ix2 r k) := by
  rw [View.read_apply]
  exact congrArg A (funext fun a => Fin.ext (match a with
    | ⟨0, _⟩ => at_zero 1024 r.val (idx_10 t).1
    | ⟨1, _⟩ => at_zero 2560 k.val (idx_10 t).2))

theorem cover_10 (i : (⟨2, ![1024, 2560]⟩ : Shape).Idx) : i ∈ ((cfg0.win 10).blk last).view.set := by
  show i ∈ ((View.whole main_v14_1).slice (win0_10.rect last)).set
  rw [View.set_slice_whole, Rect.mem_set_unit]
  exact fun a => match a with
    | ⟨0, _⟩ => in_zero (idx_10 last).1 (i 0).isLt
    | ⟨1, _⟩ => in_zero (idx_10 last).2 (i 1).isLt

theorem flushed_dw (t : Fin cfg0.N) (hf : (cfg0.win 10).flush t = true) :
    (dats m 0 c).flushed 10 t = ((cfg0.win 10).blk t).view.read (Elt Ideal) (dwArr m c) := by
  obtain rfl : t = last := Fin.ext (by
    have hN : cfg0.N = 16 := N_0; have h := t.isLt; have := (flush0_10 t).mp hf; show t.val = 15; omega)
  rw [Value.flushed10]
  funext i
  idx_vars i
  exact ((outs_dw m c _ _ 15 last.isLt).trans (total_part 16 512 8192 rfl _)).trans (read_10 c (dwArr m c) last _ _).symm

theorem final_dw : (dats m 0 c).arrAt 10 cfg0.N = dwArr m c :=
  (dats m 0 c).arrAt_eq_of_cover 10 (dwArr m c) (flushed_dw m c) fun i => ⟨last, (flush0_10 _).mpr rfl, cover_10 i⟩

theorem read_11 (A : Buf (Elt Ideal) (c.tc.loc main_v14_2 : Loc nD τ sig)) (t : Fin cfg0.N) (k : Fin 1024) :
    ((cfg0.win 11).blk t).view.read (Elt Ideal) A (ix2 0 k) = A (ix2 0 k) := by
  rw [View.read_apply]
  exact congrArg A (funext fun a => Fin.ext (match a with
    | ⟨0, _⟩ => at_zero 1 0 (idx_11 t).1
    | ⟨1, _⟩ => at_zero 1024 k.val (idx_11 t).2))

theorem cover_11 (i : (⟨2, ![1, 1024]⟩ : Shape).Idx) : i ∈ ((cfg0.win 11).blk last).view.set := by
  show i ∈ ((View.whole main_v14_2).slice (win0_11.rect last)).set
  rw [View.set_slice_whole, Rect.mem_set_unit]
  exact fun a => match a with
    | ⟨0, _⟩ => in_zero (idx_11 last).1 (i 0).isLt
    | ⟨1, _⟩ => in_zero (idx_11 last).2 (i 1).isLt

theorem flushed_dg (t : Fin cfg0.N) (hf : (cfg0.win 11).flush t = true) :
    (dats m 0 c).flushed 11 t = ((cfg0.win 11).blk t).view.read (Elt Ideal) (dgArr m c) := by
  obtain rfl : t = last := Fin.ext (by
    have hN : cfg0.N = 16 := N_0; have h := t.isLt; have := (flush0_11 t).mp hf; show t.val = 15; omega)
  rw [Value.flushed11]
  funext i
  idx_vars i
  obtain rfl : i0 = 0 := Subsingleton.elim _ _
  exact ((outs_dg m c _ 15 last.isLt).trans (total_part 16 512 8192 rfl _)).trans (read_11 c (dgArr m c) last _).symm

theorem final_dg : (dats m 0 c).arrAt 11 cfg0.N = dgArr m c :=
  (dats m 0 c).arrAt_eq_of_cover 11 (dgArr m c) (flushed_dg m c) fun i => ⟨last, (flush0_11 _).mpr rfl, cover_11 i⟩

end Cert.InProjIdeal.Hand

end
-- ==== Proof.InProjRef.lean ====
/-
  The reference of the input projection's gradient call, read at an entry: its normalised rows, the five pieces of the
  cotangent side by side, and what differentiation makes of each of its results.
-/
module

public import proofs.«01_k».proof.Proof.Gen.InProjRefIdeal.Run
public import proofs.«01_k».proof.Proof.Gen.InProjRefIdeal.Read
public import proofs.«01_k».proof.Proof.InProjRows

@[expose] public section

set_option maxRecDepth 16384

noncomputable section

namespace Cert.InProjRefIdeal.Hand

open Cert.NormGrad Cert.InProjRefIdeal Cert.InProjRefIdeal.Gen Cert.InProjRefIdeal.Read Idealize.ShloMosaic

variable (x : FVec Ideal S1x8192x1024 .f32) (g : FVec Ideal S1x1024 .f32) (w : FVec Ideal S1x1024x2560 .f32)
  (d0 d1 d2 d3 d4 : FVec Ideal S1x8192x512 .f32) (dres : FVec Ideal S1x8192x1024 .f32)

/-- The arguments' rows. -/
def rowOf (x : FVec Ideal S1x8192x1024 .f32) (p : Fin 8192) (k : Fin 1024) : EReal := x (ix3 0 p k)
def piece (d : FVec Ideal S1x8192x512 .f32) (p : Fin 8192) (k : Fin 512) : EReal := d (ix3 0 p k)
def pieces (p : Fin 8192) : Fin 5 → Fin 512 → EReal := ![piece d0 p, piece d1 p, piece d2 p, piece d3 p, piece d4 p]
def gain (g : FVec Ideal S1x1024 .f32) (k : Fin 1024) : EReal := g (ix2 0 k)
def proj (w : FVec Ideal S1x1024x2560 .f32) (k : Fin 1024) (l : Fin 2560) : EReal := w (ix3 0 k l)

theorem n_apply (p : Fin 8192) (k : Fin 1024) : val_main_v15 (F := Ideal) x (ix2 p k) = rowOf x p k * rs (rowOf x p) := by
  pointwise [val_main_v0, val_main_v3, val_main_v4, val_main_v5, val_main_v6, val_main_v7, val_main_v8, val_main_v9, val_main_v10,
    val_main_v14, val_main_v15, val_main_cst, val_main_cst_0, val_main_cst_1]
  rfl

theorem h_apply (p : Fin 8192) (k : Fin 1024) :
    val_main_v18 (F := Ideal) x g (ix2 p k) = InProjRows.h (rowOf x p) (gain g) k := by
  pointwise [val_main_v1, val_main_v16, val_main_v17, val_main_v18]
  rw [n_apply]
  rfl

theorem cat_apply (p : Fin 8192) (l : Fin 2560) : val_main_v31 (F := Ideal) d0 d1 d2 d3 d4 (ix2 p l) =
    pieces d0 d1 d2 d3 d4 p (InProjRows.pc l) (InProjRows.pj l) := by
  pointwise [val_main_v26, val_main_v27, val_main_v28, val_main_v29, val_main_v30, val_main_v31]
  have key (a : Fin 5) (j : Fin 512) (e : l.val = 512 * a.val + j.val) :
      pieces d0 d1 d2 d3 d4 p (InProjRows.pc l) (InProjRows.pj l) = pieces d0 d1 d2 d3 d4 p a j := by
    have h : l = InProjRows.col a j := Fin.ext e
    rw [h, InProjRows.pc_col, InProjRows.pj_col]
  have hl := l.isLt
  by_cases c0 : l.val < 512
  · rw [dif_pos c0]
    exact (key 0 ⟨l.val, c0⟩ (by show l.val = 512 * 0 + l.val; omega)).symm
  rw [dif_neg c0]
  by_cases c1 : l.val - 512 < 512
  · rw [dif_pos c1]
    exact (key 1 ⟨l.val - 512, c1⟩ (by show l.val = 512 * 1 + (l.val - 512); omega)).symm
  rw [dif_neg c1]
  by_cases c2 : l.val - 512 - 512 < 512
  · rw [dif_pos c2]
    exact (key 2 ⟨l.val - 512 - 512, c2⟩ (by show l.val = 512 * 2 + (l.val - 512 - 512); omega)).symm
  rw [dif_neg c2]
  by_cases c3 : l.val - 512 - 512 - 512 < 512
  · rw [dif_pos c3]
    exact (key 3 ⟨l.val - 512 - 512 - 512, c3⟩ (by show l.val = 512 * 3 + (l.val - 512 - 512 - 512); omega)).symm
  rw [dif_neg c3]
  exact (key 4 ⟨l.val - 512 - 512 - 512 - 512, by omega⟩ (by show l.val = 512 * 4 + (l.val - 512 - 512 - 512 - 512); omega)).symm

/-- The gradient of the weight. -/
theorem dw_apply (k : Fin 1024) (l : Fin 2560) : val_main_v33 (F := Ideal) x g d0 d1 d2 d3 d4 (ix2 k l) =
    ∑ p, pieces d0 d1 d2 d3 d4 p (InProjRows.pc l) (InProjRows.pj l) * InProjRows.h (rowOf x p) (gain g) k := by
  pointwise [val_main_v32, val_main_v33]
  simp only [cat_apply, h_apply]

/-- The gradient of the normalised row. -/
def dh (p : Fin 8192) (k : Fin 1024) : EReal :=
  ∑ l, pieces d0 d1 d2 d3 d4 p (InProjRows.pc l) (InProjRows.pj l) * proj w k l

theorem dh_apply (p : Fin 8192) (k : Fin 1024) :
    val_main_v34 (F := Ideal) w d0 d1 d2 d3 d4 (ix2 p k) = dh w d0 d1 d2 d3 d4 p k := by
  pointwise [val_main_v2, val_main_v34]
  simp only [cat_apply]
  rfl

/-- The gradient of the norm's gain. -/
theorem dg_apply (k : Fin 1024) : val_main_v56 (F := Ideal) x w d0 d1 d2 d3 d4 (ix2 0 k) =
    ∑ p, rowOf x p k * rs (rowOf x p) * dh w d0 d1 d2 d3 d4 p k := by
  pointwise [val_main_v35, val_main_v36, val_main_v37, val_main_v40, val_main_v56, val_main_cst_3, val_main_cst_4,
    Finset.univ_unique, Finset.sum_singleton]
  simp only [n_apply, dh_apply]

/-- The gradient at the norm's input. -/
theorem dx_apply (p : Fin 8192) (k : Fin 1024) : val_main_v55 (F := Ideal) x g w d0 d1 d2 d3 d4 dres (ix2 p k) =
    rowOf dres p k + dh w d0 d1 d2 d3 d4 p k * gain g k * rs (rowOf x p)
      + rowOf x p k * gms (rowOf x p) (fun k => dh w d0 d1 d2 d3 d4 p k * gain g k)
      + gms (rowOf x p) (fun k => dh w d0 d1 d2 d3 d4 p k * gain g k) * rowOf x p k := by
  pointwise [val_main_v0, val_main_v1, val_main_v3, val_main_v4, val_main_v5, val_main_v6, val_main_v7, val_main_v8, val_main_v9,
    val_main_v10, val_main_v11, val_main_v12, val_main_v13, val_main_v16, val_main_v25, val_main_v38, val_main_v39, val_main_v41,
    val_main_v42, val_main_v43, val_main_v44, val_main_v45, val_main_v46, val_main_v47, val_main_v48, val_main_v49, val_main_v50,
    val_main_v51, val_main_v52, val_main_v53, val_main_v54, val_main_v55, val_main_cst, val_main_cst_0, val_main_cst_1,
    val_main_cst_2, val_main_cst_5, val_main_cst_6, val_main_cst_7, Finset.univ_unique, Finset.sum_singleton]
  simp only [dh_apply]
  rfl

end Cert.InProjRefIdeal.Hand

end
-- ==== Proof.InProjEq.lean ====
/-
  The input projection's gradient call and its reference end with the same three arrays, where the arguments are finite.
-/
module

public import proofs.«01_k».proof.Defs
public import proofs.«01_k».proof.Proof.Gen.InProj.Frame
public import proofs.«01_k».proof.Proof.Gen.Pre_finite_in
public import proofs.«01_k».proof.Proof.InProjArrays
public import proofs.«01_k».proof.Proof.InProjRef
public import proofs.«01_k».proof.Proof.Finite
public import proofs.«01_k».proof.Proof.IsReal
public import Idealize.ShloMosaic.Lib.Quiescent

@[expose] public section

set_option maxRecDepth 16384

noncomputable section

namespace Cert.InProjEq

open Cert.Reals Cert.NormGrad Cert.IsReal Idealize.ShloMosaic Idealize.ShloMosaic.TcCoe Idealize.SL.Sem
open Cert.InProjIdeal (nD τ sig main_arg0 main_arg1 main_arg2 main_arg3 main_arg4 main_arg5 main_arg6 main_arg7 main_arg8)
open Cert.InProjIdeal.Hand (x g w d d0 d1 d2 d3 d4 dres dh dx dwRow dgRow dxArr dwArr dgArr)
open Cert.InProjRefIdeal.Read

variable (m : (ℓ : Loc nD τ sig) → Buf (Elt Ideal) ℓ) (c : Dev nD)

/-- The arrays hold real numbers. -/
theorem finite (h : Cert.Pre_InProjIdeal_finite_in m) :
    (∀ p k, IsReal (x m c p k)) ∧ (∀ k, IsReal (g m c k)) ∧ (∀ k l, IsReal (w m c k l)) ∧ (∀ p a j, IsReal (d m c p a j)) := by
  have e := congrFun (h c) (fun a => a.elim0)
  obtain ⟨e, e7⟩ := Finite.and_one e
  obtain ⟨e, e6⟩ := Finite.and_one e
  obtain ⟨e, e5⟩ := Finite.and_one e
  obtain ⟨e, e4⟩ := Finite.and_one e
  obtain ⟨e, e3⟩ := Finite.and_one e
  obtain ⟨e, e2⟩ := Finite.and_one e
  obtain ⟨e0, e1⟩ := Finite.and_one e
  obtain ⟨a0, h0⟩ := Finite.real _ _ _ _ _ _ e0
  obtain ⟨a1, h1⟩ := Finite.real _ _ _ _ _ _ e1
  obtain ⟨a2, h2⟩ := Finite.real _ _ _ _ _ _ e2
  obtain ⟨a3, h3⟩ := Finite.real _ _ _ _ _ _ e3
  obtain ⟨a4, h4⟩ := Finite.real _ _ _ _ _ _ e4
  obtain ⟨a5, h5⟩ := Finite.real _ _ _ _ _ _ e5
  obtain ⟨a6, h6⟩ := Finite.real _ _ _ _ _ _ e6
  obtain ⟨a7, h7⟩ := Finite.real _ _ _ _ _ _ e7
  refine ⟨fun p k => ⟨_, h0 _⟩, fun k => ⟨_, h1 _⟩, fun k l => ⟨_, h2 _⟩, fun p a j => ?_⟩
  fin_cases a
  · exact ⟨_, h3 (ix3 0 p j)⟩
  · exact ⟨_, h4 (ix3 0 p j)⟩
  · exact ⟨_, h5 (ix3 0 p j)⟩
  · exact ⟨_, h6 (ix3 0 p j)⟩
  · exact ⟨_, h7 (ix3 0 p j)⟩

/-- The gradient of the normalised row is the reference's, and it is real. -/
theorem dh_eq (p : Fin 8192) : Cert.InProjRefIdeal.Hand.dh (m (c.tc.loc main_arg2)) (m (c.tc.loc main_arg3)) (m (c.tc.loc main_arg4))
    (m (c.tc.loc main_arg5)) (m (c.tc.loc main_arg6)) (m (c.tc.loc main_arg7)) p = dh m c p :=
  funext fun k => InProjRows.sum_cols (w m c) (d m c p) k

theorem dh_real (h : Cert.Pre_InProjIdeal_finite_in m) (p : Fin 8192) (k : Fin 1024) : IsReal (dh m c p k) := by
  obtain ⟨-, -, hw, hd⟩ := finite m c h
  have hb (a : Fin 5) : IsReal (InProjRows.back (w m c) (d m c p) a k) := IsReal.sum fun j => .mul (hd p a j) (hw _ _)
  exact ((((hb 0).add (hb 1)).add (hb 2)).add (hb 3)).add (hb 4)

theorem dxArr_eq (h : Cert.Pre_InProjIdeal_finite_in m) : dxArr m c = val_main_v55 (F := Ideal) (m (c.tc.loc main_arg0))
    (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) := by
  funext i
  idx_vars i
  obtain ⟨hx, hg, -, -⟩ := finite m c h
  choose a ha using hx i0
  choose b hb using fun k => IsReal.mul (dh_real m c h i0 k) (hg k)
  have e := kgrad_eq a b i1 (dres m c i0 i1)
  simp only [← ha, ← hb] at e
  refine (show dxArr m c (ix2 i0 i1) = dres m c i0 i1 + kgrad (x m c i0) (fun k => dh m c i0 k * g m c k) i1 from rfl).trans (e.trans ?_)
  rw [← dh_eq]
  exact (Cert.InProjRefIdeal.Hand.dx_apply _ _ _ _ _ _ _ _ _ i0 i1).symm

theorem dwArr_eq : dwArr m c = val_main_v33 (F := Ideal) (m (c.tc.loc main_arg0)) (m (c.tc.loc main_arg1)) (m (c.tc.loc main_arg3))
    (m (c.tc.loc main_arg4)) (m (c.tc.loc main_arg5)) (m (c.tc.loc main_arg6)) (m (c.tc.loc main_arg7)) := by
  funext i
  idx_vars i
  have e : ∑ p, dwRow m c i0 i1 p = ∑ p, d m c p (InProjRows.pc i1) (InProjRows.pj i1) * InProjRows.h (x m c p) (g m c) i0 :=
    Finset.sum_congr rfl fun p _ => mul_comm _ _
  exact e.trans (Cert.InProjRefIdeal.Hand.dw_apply _ _ _ _ _ _ _ i0 i1).symm

theorem dgArr_eq : dgArr m c = val_main_v56 (F := Ideal) (m (c.tc.loc main_arg0)) (m (c.tc.loc main_arg2)) (m (c.tc.loc main_arg3))
    (m (c.tc.loc main_arg4)) (m (c.tc.loc main_arg5)) (m (c.tc.loc main_arg6)) (m (c.tc.loc main_arg7)) := by
  funext i
  idx_vars i
  obtain rfl : i0 = 0 := Subsingleton.elim _ _
  have e : ∑ p, dgRow m c i1 p = ∑ p, x m c p i1 * rs (x m c p) * dh m c p i1 :=
    Finset.sum_congr rfl fun p _ => mul_comm _ _
  simp only [← dh_eq] at e
  exact e.trans (Cert.InProjRefIdeal.Hand.dg_apply _ _ _ _ _ _ _ i1).symm

/-- The claim: from memories that agree on the arguments, the call and its reference both run and end with equal results. -/
theorem algebraic : Cert.algebraic_InProjIdeal_InProjRefIdeal_pre_finite_in (hInProjIdeal := Cert.InProjIdeal.Gen.facts)
    (hInProjRefIdeal := Cert.InProjRefIdeal.Gen.facts) (hPre_finite_in := Cert.Pre_finite_in.Gen.facts) := by
  intro m g m' g' h hm
  refine ⟨fun c => dxArr m c, fun c => dwArr m c, fun c => dgArr m c, ?_, ?_⟩
  · refine (θ_run _ _ _).mono (fun r hr c => ?_) (Cert.InProjIdeal.Value.run_blocks m g)
    obtain ⟨h0, h1, h2, hr⟩ := hr c
    exact ⟨h0.trans (Cert.InProjIdeal.Hand.final_dx m c), h1.trans (Cert.InProjIdeal.Hand.final_dw m c),
      h2.trans (Cert.InProjIdeal.Hand.final_dg m c), hr⟩
  · refine (θ_run _ _ _).mono (fun r hr c => ?_) (Cert.InProjRefIdeal.Value.run m' g')
    obtain ⟨h0, h1, h2, hr⟩ := hr c
    obtain ⟨e0, e1, e2, e3, e4, e5, e6, e7, e8⟩ := hm c
    refine ⟨h0.trans ?_, h1.trans ?_, h2.trans ?_, hr⟩
    · rw [val_main_v55_eq, e0, e1, e2, e3, e4, e5, e6, e7, e8]; exact (dxArr_eq m c h).symm
    · rw [val_main_v33_eq, e0, e1, e3, e4, e5, e6, e7]; exact (dwArr_eq m c).symm
    · rw [val_main_v56_eq, e0, e2, e3, e4, e5, e6, e7]; exact (dgArr_eq m c).symm

/-- The reference runs, keeps its arguments, and ends with every counter at zero: it has no semaphores. -/
theorem refFrame : Cert.quiescent_InProjRefIdeal (hInProjRefIdeal := Cert.InProjRefIdeal.Gen.facts) := fun m g _ =>
  (θ_run _ _ _).mono (fun r h => ⟨fun c => (h c).2.2.2, sem_eq_zero_of_no_sems (by decide) r.2⟩) (Cert.InProjRefIdeal.Value.run m g)

end Cert.InProjEq

end
-- ==== Proof.MlpBBlock.lean ====
/-
  The second feed-forward gradient call (`_mlp_b`), one block at a time: what its body leaves in its three output
  buffers, as named functions of the blocks it reads, and the entries of those functions over the extended reals.
-/
module

public import proofs.«01_k».proof.Proof.Gen.MlpBIdeal.Value
public import Idealize.ShloMosaic.Lib.Pointwise
public import Idealize.ShloMosaic.Lib.Tactic
public import proofs.«01_k».proof.Proof.NormGrad

@[expose] public section

set_option maxRecDepth 16384

noncomputable section

namespace Cert.MlpBIdeal.Hand

open Cert.NormGrad Cert.MlpBIdeal Cert.MlpBIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The block of the residual stream's gradient: the gradient after the norm's gradient is added. -/
def dxBlk (df : Vec F S512x4096 .bf16) (dx2 x : Vec F S512x1024 .f32) (g : Vec F S1x1024 .f32) (w : Vec F S1024x4096 .bf16) :
    Vec F S512x1024 .f32 :=
  k0_pay2 (k0_pay6 x) (k0_pay7 x) (k0_pay12 g df w) (k0_pay13 x g df w) k0_pay14 dx2

/-- One block's step of the weight gradient. -/
def dwBlk (df : Vec F S512x4096 .bf16) (x : Vec F S512x1024 .f32) (g : Vec F S1x1024 .f32) (acc : Vec F S1024x4096 .f32) :
    Vec F S1024x4096 .f32 := k0_pay10 x g df acc

/-- One block's step of the norm gain's gradient. -/
def dgBlk (df : Vec F S512x4096 .bf16) (x : Vec F S512x1024 .f32) (w : Vec F S1024x4096 .bf16) (acc : Vec F S1x1024 .f32) :
    Vec F S1x1024 .f32 := k0_pay1 (k0_pay7 x) (k0_pay11 df w) acc

section Cases

variable (c : Dev nD) (i : grid0.Coords) (a1 : Memref sig .tc .vmem S512x4096 .bf16) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S1024x4096 .bf16) (h5 : a5.IsWhole)
  (a6 : Memref sig .tc .vmem S512x1024 .f32) (h6 : a6.IsWhole) (a7 : Memref sig .tc .vmem S1024x4096 .f32) (h7 : a7.IsWhole)
  (a8 : Memref sig .tc .vmem S1x1024 .f32) (h8 : a8.IsWhole)
  (df : Vec F S512x4096 .bf16) (dx2 x : Vec F S512x1024 .f32) (g : Vec F S1x1024 .f32) (w : Vec F S1024x4096 .bf16)
  (dw : Vec F S1024x4096 .f32) (dg : Vec F S1x1024 .f32)

theorem out_A_5 (hc : cond0_0 i) :
    out0_A_5 c i a1 h1 a2 h2 a3 h3 a4 h4 a5 h5 a6 h6 a7 h7 a8 h8 hc df dx2 x g w = dxBlk df dx2 x g w := by
  unfold out0_A_5
  rw [View.read_writes_eq_canon _ _ _ (fun _ => cover0_A_5 ..)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x4096) hz, View.ld_unit_zero (S := S512x1024) hz, View.ld_unit_zero (S := S1x1024) hz,
    View.ld_unit_zero (S := S1024x4096) hz]
  rfl

theorem out_B_5 (hc : ¬cond0_0 i) :
    out0_B_5 c i a1 h1 a2 h2 a3 h3 a4 h4 a5 h5 a6 h6 a7 h7 a8 h8 hc df dx2 x g w dw dg = dxBlk df dx2 x g w := by
  unfold out0_B_5
  rw [View.read_writes_eq_canon _ _ _ (fun _ => cover0_B_5 ..)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x4096) hz, View.ld_unit_zero (S := S512x1024) hz, View.ld_unit_zero (S := S1x1024) hz,
    View.ld_unit_zero (S := S1024x4096) hz]
  rfl

theorem out_A_6 (hc : cond0_0 i) :
    out0_A_6 c i a1 h1 a2 h2 a3 h3 a4 h4 a5 h5 a6 h6 a7 h7 a8 h8 hc df dx2 x g w = dwBlk df x g k0_pay3 := by
  unfold out0_A_6
  rw [View.read_writes_eq_canon _ _ _ (fun _ => cover0_A_6 ..)]
  unfold kernelRun0_A
  dsimp only
  sl_unfold_words
  rw [View.canon_cons_unit_zero (S := S1024x4096) hz]
  simp only [View.readCov_unit_zero (S := S1024x4096) _ hz, View.readAt_eq_ld, h1.read_unread, h2.read_unread, h3.read_unread, h4.read_unread, h5.read_unread,
    View.ld_unit_zero (S := S512x4096) hz, View.ld_unit_zero (S := S512x1024) hz, View.ld_unit_zero (S := S1x1024) hz,
    View.ld_unit_zero (S := S1024x4096) hz]
  rfl

theorem out_B_6 (hc : ¬cond0_0 i) :
    out0_B_6 c i a1 h1 a2 h2 a3 h3 a4 h4 a5 h5 a6 h6 a7 h7 a8 h8 hc df dx2 x g w dw dg = dwBlk df x g dw := by
  unfold out0_B_6
  rw [View.read_writes_eq_canon _ _ _ (fun _ => cover0_B_6 ..)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x4096) hz, View.ld_unit_zero (S := S512x1024) hz, View.ld_unit_zero (S := S1x1024) hz,
    View.ld_unit_zero (S := S1024x4096) hz]
  rfl

theorem out_A_7 (hc : cond0_0 i) :
    out0_A_7 c i a1 h1 a2 h2 a3 h3 a4 h4 a5 h5 a6 h6 a7 h7 a8 h8 hc df dx2 x g w = dgBlk df x w k0_pay4 := by
  unfold out0_A_7
  rw [View.read_writes_eq_canon _ _ _ (fun _ => cover0_A_7 ..)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread,
    View.ld_unit_zero (S := S512x4096) hz, View.ld_unit_zero (S := S512x1024) hz, View.ld_unit_zero (S := S1x1024) hz,
    View.ld_unit_zero (S := S1024x4096) hz]
  rfl

theorem out_B_7 (hc : ¬cond0_0 i) :
    out0_B_7 c i a1 h1 a2 h2 a3 h3 a4 h4 a5 h5 a6 h6 a7 h7 a8 h8 hc df dx2 x g w dw dg = dgBlk df x w dg := by
  unfold out0_B_7
  rw [View.read_writes_eq_canon _ _ _ (fun _ => cover0_B_7 ..)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S512x4096) hz, View.ld_unit_zero (S := S512x1024) hz, View.ld_unit_zero (S := S1x1024) hz,
    View.ld_unit_zero (S := S1024x4096) hz]
  rfl

end Cases

section Entries

variable (df : Vec Ideal S512x4096 .bf16) (dx2 x : Vec Ideal S512x1024 .f32) (g : Vec Ideal S1x1024 .f32)
  (w : Vec Ideal S1024x4096 .bf16) (dw : Vec Ideal S1024x4096 .f32) (dg : Vec Ideal S1x1024 .f32)

/-- An entry of the block of the residual stream's gradient: the norm's gradient at that row, added to `dx2`. -/
theorem dx_apply (r : Fin 512) (j : Fin 1024) : dxBlk df dx2 x g w (ix2 r j) =
    dx2 (ix2 r j) + kgrad (fun k => x (ix2 r k)) (fun k => (∑ l, df (ix2 r l) * w (ix2 k l)) * g (ix2 0 k)) j := by
  unfold dxBlk
  unfold_payloads
  pointwise []
  rfl

/-- An entry of the weight gradient after one block: the block's rows' products are added. -/
theorem dw_apply (k : Fin 1024) (j : Fin 4096) : dwBlk df x g dw (ix2 k j) =
    dw (ix2 k j) + ∑ r, x (ix2 r k) * rs (fun l => x (ix2 r l)) * g (ix2 0 k) * df (ix2 r j) := by
  unfold dwBlk
  unfold_payloads
  pointwise []
  rfl

/-- An entry of the gain's gradient after one block. -/
theorem dg_apply (j : Fin 1024) : dgBlk df x w dg (ix2 0 j) =
    dg (ix2 0 j) + ∑ r, (∑ l, df (ix2 r l) * w (ix2 j l)) * (x (ix2 r j) * rs (fun l => x (ix2 r l))) := by
  unfold dgBlk
  unfold_payloads
  pointwise []
  rfl

/-- What the weight gradient is set to before the first block. -/
theorem dw_start (k : Fin 1024) (j : Fin 4096) : (k0_pay3 (F := Ideal)) (ix2 k j) = 0 := by
  unfold k0_pay3
  pointwise []

/-- What the gain's gradient is set to before the first block. -/
theorem dg_start (j : Fin 1024) : (k0_pay4 (F := Ideal)) (ix2 0 j) = 0 := by
  unfold k0_pay4
  pointwise []

end Entries

end Cert.MlpBIdeal.Hand

end
-- ==== Proof.MlpBArrays.lean ====
/-
  What the second feed-forward gradient call leaves in its three result arrays, entry by entry: its blocks of rows read
  from the arguments, the running totals over the sixteen blocks, and the rows written block by block.
-/
module

public import proofs.«01_k».proof.Proof.MlpBBlock
public import Idealize.ShloMosaic.Lib.StableHlo.ReadAt

@[expose] public section

set_option maxRecDepth 16384

noncomputable section

namespace Cert.MlpBIdeal.Hand

open Cert.Reals Cert.NormGrad Cert.MlpBIdeal Cert.MlpBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows of the argument arrays: the residual stream, the incoming gradients, the norm's gain and the weight. -/
def x (p : Fin 8192) (k : Fin 1024) : EReal := m (c.tc.loc main_arg0) (ix3 0 p k)
def g (k : Fin 1024) : EReal := m (c.tc.loc main_arg1) (ix2 0 k)
def w (k : Fin 1024) (l : Fin 4096) : EReal := m (c.tc.loc main_arg2) (ix3 0 k l)
def dx2 (p : Fin 8192) (k : Fin 1024) : EReal := m (c.tc.loc main_arg3) (ix3 0 p k)
def df (p : Fin 8192) (l : Fin 4096) : EReal := m (c.tc.loc main_arg4) (ix3 0 p l)

/-- Row `r` of block `t`. -/
def row (t : Fin cfg0.N) (r : Fin 512) : Fin 8192 :=
  ⟨512 * t.val + r.val, by have h := t.isLt; have hN : cfg0.N = 16 := N_0; omega⟩

theorem idx_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0) := by
  decide +kernel

theorem V_v1 (p : Fin 8192) (l : Fin 4096) : V m c main_v1 (ix2 p l) = df m c p l := by
  unfold V; after_reads_at; rfl
theorem V_v2 (p : Fin 8192) (k : Fin 1024) : V m c main_v2 (ix2 p k) = dx2 m c p k := by
  unfold V; after_reads_at; rfl
theorem V_v3 (p : Fin 8192) (k : Fin 1024) : V m c main_v3 (ix2 p k) = x m c p k := by
  unfold V; after_reads_at; rfl
theorem V_v5 (k : Fin 1024) : V m c main_v5 (ix2 0 k) = g m c k := by
  unfold V; after_reads_at; rfl
theorem V_v7 (k : Fin 1024) (l : Fin 4096) : V m c main_v7 (ix2 k l) = w m c k l := by
  unfold V; after_reads_at; rfl

theorem blk_df (t : Fin cfg0.N) (r : Fin 512) (l : Fin 4096) : iblk m c 0 t (ix2 r l) = df m c (row t r) l := by
  rw [← V_v1]
  unfold iblk
  rw [View.read_apply]
  show V m c main_v1 _ = V m c main_v1 _
  congr 1
  funext a
  apply Fin.ext
  match a with
  | ⟨0, _⟩ => show win0_0.index t 0 * 512 + 1 * r.val = 512 * t.val + r.val; rw [(idx_rows t).1.1]; omega
  | ⟨1, _⟩ => show win0_0.index t 1 * 4096 + 1 * l.val = l.val; rw [(idx_rows t).1.2]; omega

theorem blk_dx2 (t : Fin cfg0.N) (r : Fin 512) (k : Fin 1024) : iblk m c 1 t (ix2 r k) = dx2 m c (row t r) k := by
  rw [← V_v2]
  unfold iblk
  rw [View.read_apply]
  show V m c main_v2 _ = V m c main_v2 _
  congr 1
  funext a
  apply Fin.ext
  match a with
  | ⟨0, _⟩ => show win0_1.index t 0 * 512 + 1 * r.val = 512 * t.val + r.val; rw [(idx_rows t).2.1.1]; omega
  | ⟨1, _⟩ => show win0_1.index t 1 * 1024 + 1 * k.val = k.val; rw [(idx_rows t).2.1.2]; omega

theorem blk_x (t : Fin cfg0.N) (r : Fin 512) (k : Fin 1024) : iblk m c 2 t (ix2 r k) = x m c (row t r) k := by
  rw [← V_v3]
  unfold iblk
  rw [View.read_apply]
  show V m c main_v3 _ = V m c main_v3 _
  congr 1
  funext a
  apply Fin.ext
  match a with
  | ⟨0, _⟩ => show win0_2.index t 0 * 512 + 1 * r.val = 512 * t.val + r.val; rw [(idx_rows t).2.2.1.1]; omega
  | ⟨1, _⟩ => show win0_2.index t 1 * 1024 + 1 * k.val = k.val; rw [(idx_rows t).2.2.1.2]; omega

theorem blk_g (t : Fin cfg0.N) (k : Fin 1024) : iblk m c 3 t (ix2 0 k) = g m c k := by
  rw [← V_v5]
  unfold iblk
  rw [View.read_apply]
  show V m c main_v5 _ = V m c main_v5 _
  congr 1
  funext a
  apply Fin.ext
  match a with
  | ⟨0, _⟩ => show win0_3.index t 0 * 1 + 1 * 0 = 0; rw [(idx_rows t).2.2.2.1.1]
  | ⟨1, _⟩ => show win0_3.index t 1 * 1024 + 1 * k.val = k.val; rw [(idx_rows t).2.2.2.1.2]; omega

theorem blk_w (t : Fin cfg0.N) (k : Fin 1024) (l : Fin 4096) : iblk m c 4 t (ix2 k l) = w m c k l := by
  rw [← V_v7]
  unfold iblk
  rw [View.read_apply]
  show V m c main_v7 _ = V m c main_v7 _
  congr 1
  funext a
  apply Fin.ext
  match a with
  | ⟨0, _⟩ => show win0_4.index t 0 * 1024 + 1 * k.val = k.val; rw [(idx_rows t).2.2.2.2.1.1]; omega
  | ⟨1, _⟩ => show win0_4.index t 1 * 4096 + 1 * l.val = l.val; rw [(idx_rows t).2.2.2.2.1.2]; omega

/-- The gradient of the normalised row `p`. -/
def rowGrad (p : Fin 8192) (k : Fin 1024) : EReal := (∑ l, df m c p l * w m c k l) * g m c k

/-- An entry of the result that every block writes its rows of. -/
def dx (p : Fin 8192) (j : Fin 1024) : EReal := dx2 m c p j + kgrad (x m c p) (rowGrad m c p) j

/-- Row `p`'s part of the weight gradient. -/
def dwRow (k : Fin 1024) (j : Fin 4096) (p : Fin 8192) : EReal := x m c p k * rs (x m c p) * g m c k * df m c p j

/-- Row `p`'s part of the gain's gradient. -/
def dgRow (j : Fin 1024) (p : Fin 8192) : EReal := (∑ l, df m c p l * w m c j l) * (x m c p j * rs (x m c p))

theorem dxBlk_at (t : Fin cfg0.N) (r : Fin 512) (j : Fin 1024) :
    dxBlk (iblk m c 0 t) (iblk m c 1 t) (iblk m c 2 t) (iblk m c 3 t) (iblk m c 4 t) (ix2 r j) = dx m c (row t r) j := by
  simp only [dx_apply, blk_df, blk_dx2, blk_x, blk_g, blk_w]
  rfl

theorem dwBlk_at (t : Fin cfg0.N) (acc : Vec Ideal S1024x4096 .f32) (k : Fin 1024) (j : Fin 4096) :
    dwBlk (iblk m c 0 t) (iblk m c 2 t) (iblk m c 3 t) acc (ix2 k j) = acc (ix2 k j) + ∑ r, dwRow m c k j (row t r) := by
  simp only [dw_apply, blk_df, blk_x, blk_g]
  rfl

theorem dgBlk_at (t : Fin cfg0.N) (acc : Vec Ideal S1x1024 .f32) (j : Fin 1024) :
    dgBlk (iblk m c 0 t) (iblk m c 2 t) (iblk m c 4 t) acc (ix2 0 j) = acc (ix2 0 j) + ∑ r, dgRow m c j (row t r) := by
  simp only [dg_apply, blk_df, blk_x, blk_w]
  rfl

/-- What the first output buffer holds after point `t`. -/
theorem outs_dx (t : Fin cfg0.N) : (outsAt0 m c t.val t.isLt).1 =
    dxBlk (iblk m c 0 t) (iblk m c 1 t) (iblk m c 2 t) (iblk m c 3 t) (iblk m c 4 t) := by
  by_cases h : t.val % 16 = 0
  · rw [outsAt0_A m c t h]; dsimp only
    rw [out_A_5]
  · rw [outsAt0_B m c t h]; dsimp only
    rw [out_B_5]

theorem not_first (n : Nat) (h : n + 1 < cfg0.N) : ¬(n + 1) % 16 = 0 := by have hN : cfg0.N = 16 := N_0; omega

/-- A block's part of a total, the rows counted by number. -/
def part (f : Fin 8192 → EReal) (t : Nat) : EReal := ∑ r : Fin 512, if h : 512 * t + r.val < 8192 then f ⟨512 * t + r.val, h⟩ else 0

theorem part_eq (f : Fin 8192 → EReal) (t : Fin cfg0.N) : ∑ r, f (row t r) = part f t.val :=
  Finset.sum_congr rfl fun r _ => by rw [dif_pos (show 512 * t.val + r.val < 8192 from (row t r).isLt)]; rfl

theorem total_part (f : Fin 8192 → EReal) : ∑ t : Fin 16, part f t.val = ∑ p, f p := by
  unfold part
  rw [← sum_blocks 16 512 8192 rfl fun p => if h : p < 8192 then f ⟨p, h⟩ else 0]
  exact Finset.sum_congr rfl fun p _ => by rw [dif_pos p.isLt]

/-- The weight gradient's running total. -/
theorem outs_dw (k : Fin 1024) (j : Fin 4096) (n : Nat) (h : n < cfg0.N) :
    (outsAt0 m c n h).2.1 (ix2 k j) = ∑ t : Fin (n + 1), part (dwRow m c k j) t :=
  running_sum (fun n h => (outsAt0 m c n h).2.1 (ix2 k j)) (part (dwRow m c k j))
    (fun h => by
      rw [outsAt0_A m c ⟨0, h⟩ rfl]
      dsimp only
      rw [out_A_6]
      exact ((dwBlk_at m c ⟨0, h⟩ _ k j).trans (by rw [dw_start, part_eq])))
    (fun n h => by
      rw [outsAt0_B m c ⟨n + 1, h⟩ (not_first n h)]
      dsimp only
      rw [out_B_6]
      exact ((dwBlk_at m c ⟨n + 1, h⟩ _ k j).trans (by rw [part_eq]; rfl))) n h

/-- The gain gradient's running total. -/
theorem outs_dg (j : Fin 1024) (n : Nat) (h : n < cfg0.N) :
    (outsAt0 m c n h).2.2 (ix2 0 j) = ∑ t : Fin (n + 1), part (dgRow m c j) t :=
  running_sum (fun n h => (outsAt0 m c n h).2.2 (ix2 0 j)) (part (dgRow m c j))
    (fun h => by
      rw [outsAt0_A m c ⟨0, h⟩ rfl]
      dsimp only
      rw [out_A_7]
      exact ((dgBlk_at m c ⟨0, h⟩ _ j).trans (by rw [dg_start, part_eq])))
    (fun n h => by
      rw [outsAt0_B m c ⟨n + 1, h⟩ (not_first n h)]
      dsimp only
      rw [out_B_7]
      exact ((dgBlk_at m c ⟨n + 1, h⟩ _ j).trans (by rw [part_eq]; rfl))) n h

/-- The three result arrays. -/
def dxArr : Buf (Elt Ideal) (c.tc.loc main_v8_0 : Loc nD τ sig) := fun i => dx m c (i 0) (i 1)
def dwArr : Buf (Elt Ideal) (c.tc.loc main_v8_1 : Loc nD τ sig) := fun i => show EReal from ∑ p, dwRow m c (i 0) (i 1) p
def dgArr : Buf (Elt Ideal) (c.tc.loc main_v8_2 : Loc nD τ sig) := fun i => show EReal from ∑ p, dgRow m c (i 1) p

/-- The last block, and the block that holds row `p`. -/
def last : Fin cfg0.N := ⟨15, by have hN : cfg0.N = 16 := N_0; omega⟩
def blkOf (p : Fin 8192) : Fin cfg0.N := ⟨p.val / 512, by have hN : cfg0.N = 16 := N_0; omega⟩

theorem read_5 (A : Buf (Elt Ideal) (c.tc.loc main_v8_0 : Loc nD τ sig)) (t : Fin cfg0.N) (r : Fin 512) (j : Fin 1024) :
    ((cfg0.win 5).blk t).view.read (Elt Ideal) A (ix2 r j) = A (ix2 (row t r) j) := by
  rw [View.read_apply]
  show A _ = A _
  congr 1
  funext a
  apply Fin.ext
  have hi := (idx_rows t).2.2.2.2.2.1
  match a with
  | ⟨0, _⟩ => show win0_5.index t 0 * 512 + 1 * r.val = 512 * t.val + r.val; rw [hi.1]; omega
  | ⟨1, _⟩ => show win0_5.index t 1 * 1024 + 1 * j.val = j.val; rw [hi.2]; omega

theorem read_6 (A : Buf (Elt Ideal) (c.tc.loc main_v8_1 : Loc nD τ sig)) (t : Fin cfg0.N) (r : Fin 1024) (j : Fin 4096) :
    ((cfg0.win 6).blk t).view.read (Elt Ideal) A (ix2 r j) = A (ix2 r j) := by
  rw [View.read_apply]
  show A _ = A _
  congr 1
  funext a
  apply Fin.ext
  have hi := (idx_rows t).2.2.2.2.2.2.1
  match a with
  | ⟨0, _⟩ => show win0_6.index t 0 * 1024 + 1 * r.val = r.val; rw [hi.1]; omega
  | ⟨1, _⟩ => show win0_6.index t 1 * 4096 + 1 * j.val = j.val; rw [hi.2]; omega

theorem read_7 (A : Buf (Elt Ideal) (c.tc.loc main_v8_2 : Loc nD τ sig)) (t : Fin cfg0.N) (j : Fin 1024) :
    ((cfg0.win 7).blk t).view.read (Elt Ideal) A (ix2 0 j) = A (ix2 0 j) := by
  rw [View.read_apply]
  show A _ = A _
  congr 1
  funext a
  apply Fin.ext
  have hi := (idx_rows t).2.2.2.2.2.2.2
  match a with
  | ⟨0, _⟩ => show win0_7.index t 0 * 1 + 1 * 0 = 0; rw [hi.1]
  | ⟨1, _⟩ => show win0_7.index t 1 * 1024 + 1 * j.val = j.val; rw [hi.2]; omega

theorem cover_5 (i : (⟨2, ![8192, 1024]⟩ : Shape).Idx) : i ∈ ((cfg0.win 5).blk (blkOf (i 0))).view.set := by
  show i ∈ ((View.whole main_v8_0).slice (win0_5.rect (blkOf (i 0)))).set
  rw [View.set_slice_whole, Rect.mem_set_unit]
  intro a
  have h0 : (i 0 : Nat) < 8192 := (i 0).isLt
  have h1 : (i 1 : Nat) < 1024 := (i 1).isLt
  have hi := (idx_rows (blkOf (i 0))).2.2.2.2.2.1
  match a with
  | ⟨0, _⟩ =>
    show win0_5.index _ 0 * 512 ≤ (i 0 : Nat) ∧ (i 0 : Nat) < win0_5.index _ 0 * 512 + 512
    rw [hi.1]; unfold blkOf; dsimp only; omega
  | ⟨1, _⟩ =>
    show win0_5.index _ 1 * 1024 ≤ (i 1 : Nat) ∧ (i 1 : Nat) < win0_5.index _ 1 * 1024 + 1024
    rw [hi.2]; omega

theorem cover_6 (i : (⟨2, ![1024, 4096]⟩ : Shape).Idx) : i ∈ ((cfg0.win 6).blk last).view.set := by
  show i ∈ ((View.whole main_v8_1).slice (win0_6.rect last)).set
  rw [View.set_slice_whole, Rect.mem_set_unit]
  intro a
  have h0 : (i 0 : Nat) < 1024 := (i 0).isLt
  have h1 : (i 1 : Nat) < 4096 := (i 1).isLt
  have hi := (idx_rows last).2.2.2.2.2.2.1
  match a with
  | ⟨0, _⟩ =>
    show win0_6.index _ 0 * 1024 ≤ (i 0 : Nat) ∧ (i 0 : Nat) < win0_6.index _ 0 * 1024 + 1024
    rw [hi.1]; omega
  | ⟨1, _⟩ =>
    show win0_6.index _ 1 * 4096 ≤ (i 1 : Nat) ∧ (i 1 : Nat) < win0_6.index _ 1 * 4096 + 4096
    rw [hi.2]; omega

theorem cover_7 (i : (⟨2, ![1, 1024]⟩ : Shape).Idx) : i ∈ ((cfg0.win 7).blk last).view.set := by
  show i ∈ ((View.whole main_v8_2).slice (win0_7.rect last)).set
  rw [View.set_slice_whole, Rect.mem_set_unit]
  intro a
  have h0 : (i 0 : Nat) < 1 := (i 0).isLt
  have h1 : (i 1 : Nat) < 1024 := (i 1).isLt
  have hi := (idx_rows last).2.2.2.2.2.2.2
  match a with
  | ⟨0, _⟩ =>
    show win0_7.index _ 0 * 1 ≤ (i 0 : Nat) ∧ (i 0 : Nat) < win0_7.index _ 0 * 1 + 1
    rw [hi.1]; omega
  | ⟨1, _⟩ =>
    show win0_7.index _ 1 * 1024 ≤ (i 1 : Nat) ∧ (i 1 : Nat) < win0_7.index _ 1 * 1024 + 1024
    rw [hi.2]; omega

theorem flushed_dx (t : Fin cfg0.N) (_ : (cfg0.win 5).flush t = true) :
    (dats m 0 c).flushed 5 t = ((cfg0.win 5).blk t).view.read (Elt Ideal) (dxArr m c) := by
  rw [Value.flushed5, outs_dx]
  funext i
  idx_vars i
  exact (dxBlk_at m c t _ _).trans (read_5 c (dxArr m c) t _ _).symm

theorem flushed_dw (t : Fin cfg0.N) (hf : (cfg0.win 6).flush t = true) :
    (dats m 0 c).flushed 6 t = ((cfg0.win 6).blk t).view.read (Elt Ideal) (dwArr m c) := by
  obtain rfl : t = last := Fin.ext (by
    have hN : cfg0.N = 16 := N_0; have h := t.isLt; have := (flush0_6 t).mp hf; show t.val = 15; omega)
  rw [Value.flushed6]
  funext i
  idx_vars i
  exact ((outs_dw m c _ _ 15 last.isLt).trans (total_part _)).trans (read_6 c (dwArr m c) last _ _).symm

theorem flushed_dg (t : Fin cfg0.N) (hf : (cfg0.win 7).flush t = true) :
    (dats m 0 c).flushed 7 t = ((cfg0.win 7).blk t).view.read (Elt Ideal) (dgArr m c) := by
  obtain rfl : t = last := Fin.ext (by
    have hN : cfg0.N = 16 := N_0; have h := t.isLt; have := (flush0_7 t).mp hf; show t.val = 15; omega)
  rw [Value.flushed7]
  funext i
  idx_vars i
  obtain rfl : i0 = 0 := Subsingleton.elim _ _
  exact ((outs_dg m c _ 15 last.isLt).trans (total_part _)).trans (read_7 c (dgArr m c) last _).symm

/-- The residual stream's gradient, as the call leaves it. -/
theorem final_dx : (dats m 0 c).arrAt 5 cfg0.N = dxArr m c :=
  (dats m 0 c).arrAt_eq_of_cover 5 (dxArr m c) (flushed_dx m c) fun i => ⟨blkOf (i 0), flush0_5 _, cover_5 i⟩

/-- The weight gradient, as the call leaves it. -/
theorem final_dw : (dats m 0 c).arrAt 6 cfg0.N = dwArr m c :=
  (dats m 0 c).arrAt_eq_of_cover 6 (dwArr m c) (flushed_dw m c) fun i => ⟨last, (flush0_6 _).mpr rfl, cover_6 i⟩

/-- The gain's gradient, as the call leaves it. -/
theorem final_dg : (dats m 0 c).arrAt 7 cfg0.N = dgArr m c :=
  (dats m 0 c).arrAt_eq_of_cover 7 (dgArr m c) (flushed_dg m c) fun i => ⟨last, (flush0_7 _).mpr rfl, cover_7 i⟩

end Cert.MlpBIdeal.Hand

end
-- ==== Proof.MlpBRef.lean ====
/-
  The reference of the second feed-forward gradient call, read at an entry: what differentiation of the forward lines makes
  of each of its three results.
-/
module

public import proofs.«01_k».proof.Proof.Gen.MlpBRefIdeal.Run
public import proofs.«01_k».proof.Proof.Gen.MlpBRefIdeal.Read
public import proofs.«01_k».proof.Proof.NormGrad

@[expose] public section

set_option maxRecDepth 16384

noncomputable section

namespace Cert.MlpBRefIdeal.Hand

open Cert.NormGrad Cert.MlpBRefIdeal Cert.MlpBRefIdeal.Gen Cert.MlpBRefIdeal.Read Idealize.ShloMosaic

variable (x : FVec Ideal S1x8192x1024 .f32) (g : FVec Ideal S1x1024 .f32) (w : FVec Ideal S1x1024x4096 .f32)
  (dx2 : FVec Ideal S1x8192x1024 .f32) (df : FVec Ideal S1x8192x4096 .f32)

/-- An entry of the gradient of the normalised row: the product with the weight, scaled by the gain. -/
def rowGrad (p : Fin 8192) (k : Fin 1024) : EReal := (∑ l, df (ix3 0 p l) * w (ix3 0 k l)) * g (ix2 0 k)

/-- The gradient of the residual stream. -/
theorem dx_apply (p : Fin 8192) (j : Fin 1024) : val_main_v45 (F := Ideal) x g w dx2 df (ix2 p j) =
    dx2 (ix3 0 p j) + rowGrad g w df p j * rs (fun k => x (ix3 0 p k))
      + x (ix3 0 p j) * gms (fun k => x (ix3 0 p k)) (rowGrad g w df p)
      + gms (fun k => x (ix3 0 p k)) (rowGrad g w df p) * x (ix3 0 p j) := by
  pointwise [val_main_v0, val_main_v1, val_main_v2, val_main_v3, val_main_v4, val_main_v5, val_main_v6, val_main_v7,
    val_main_v8, val_main_v9, val_main_v10, val_main_v11, val_main_v12, val_main_v13, val_main_v16, val_main_v17,
    val_main_v20, val_main_v21, val_main_v24, val_main_v28, val_main_v29, val_main_v31, val_main_v32, val_main_v33,
    val_main_v34, val_main_v35, val_main_v36, val_main_v37, val_main_v38, val_main_v39, val_main_v40, val_main_v41,
    val_main_v42, val_main_v43, val_main_v44, val_main_v45, val_main_cst, val_main_cst_0, val_main_cst_1, val_main_cst_2,
    val_main_cst_5, val_main_cst_6, val_main_cst_7, Finset.univ_unique, Finset.sum_singleton]
  rfl

/-- The gradient of the weight. -/
theorem dw_apply (k : Fin 1024) (j : Fin 4096) : val_main_v23 (F := Ideal) x g df (ix2 k j) =
    ∑ p, df (ix3 0 p j) * (x (ix3 0 p k) * rs (fun l => x (ix3 0 p l)) * g (ix2 0 k)) := by
  pointwise [val_main_v0, val_main_v1, val_main_v3, val_main_v4, val_main_v5, val_main_v6, val_main_v7,
    val_main_v8, val_main_v9, val_main_v10, val_main_v14, val_main_v15, val_main_v16, val_main_v17, val_main_v18,
    val_main_v21, val_main_v22, val_main_v23, val_main_cst, val_main_cst_0, val_main_cst_1]
  rfl

/-- The gradient of the gain. -/
theorem dg_apply (j : Fin 1024) : val_main_v46 (F := Ideal) x w df (ix2 0 j) =
    ∑ p, x (ix3 0 p j) * rs (fun l => x (ix3 0 p l)) * ∑ l, df (ix3 0 p l) * w (ix3 0 j l) := by
  pointwise [val_main_v0, val_main_v2, val_main_v3, val_main_v4, val_main_v5, val_main_v6, val_main_v7,
    val_main_v8, val_main_v9, val_main_v10, val_main_v14, val_main_v15, val_main_v21, val_main_v24, val_main_v25, val_main_v26,
    val_main_v27, val_main_v30, val_main_v46, val_main_cst, val_main_cst_0, val_main_cst_1, val_main_cst_3, val_main_cst_4,
    Finset.univ_unique, Finset.sum_singleton]
  rfl

end Cert.MlpBRefIdeal.Hand

end
-- ==== Proof.MlpBEq.lean ====
/-
  The second feed-forward gradient call and its reference end with the same three arrays, where the residual stream, the
  norm's gain, the weight and the incoming gradient of the hidden layer are finite.
-/
module

public import proofs.«01_k».proof.Defs
public import proofs.«01_k».proof.Proof.Gen.MlpB.Frame
public import proofs.«01_k».proof.Proof.MlpBArrays
public import proofs.«01_k».proof.Proof.MlpBRef
public import proofs.«01_k».proof.Proof.Finite
public import Idealize.ShloMosaic.Lib.Quiescent

@[expose] public section

set_option maxRecDepth 16384

noncomputable section

namespace Cert.MlpBEq

open Cert.Reals Cert.NormGrad Idealize.ShloMosaic Idealize.ShloMosaic.TcCoe Idealize.SL.Sem
open Cert.MlpBIdeal (nD τ sig main_arg0 main_arg1 main_arg2 main_arg3 main_arg4)
open Cert.MlpBIdeal.Hand (x g w dx2 df dx dwRow dgRow rowGrad dxArr dwArr dgArr)

/-- The precondition's side conditions. -/
instance preFacts : Cert.Pre_finite_b.Facts where
  bcast_S_S1x8192x1024 := by decide
  reducesTo_S1x8192x1024_S_d0_1_2 := by decide
  h_S_ := by decide
  bcast_S_S1x1024 := by decide
  reducesTo_S1x1024_S_d0_1 := by decide
  bcast_S_S1x1024x4096 := by decide
  reducesTo_S1x1024x4096_S_d0_1_2 := by decide
  bcast_S_S1x8192x4096 := by decide
  reducesTo_S1x8192x4096_S_d0_1_2 := by decide

variable (m : (ℓ : Loc nD τ sig) → Buf (Elt Ideal) ℓ) (c : Dev nD)

/-- The four arrays that the precondition names hold real numbers. -/
theorem finite (h : Cert.Pre_MlpBIdeal_finite_b m) :
    (∃ a : Fin 8192 → Fin 1024 → ℝ, ∀ p k, x m c p k = ((a p k : ℝ) : EReal))
    ∧ (∃ a : Fin 1024 → ℝ, ∀ k, g m c k = ((a k : ℝ) : EReal))
    ∧ (∃ a : Fin 1024 → Fin 4096 → ℝ, ∀ k l, w m c k l = ((a k l : ℝ) : EReal))
    ∧ (∃ a : Fin 8192 → Fin 4096 → ℝ, ∀ p l, df m c p l = ((a p l : ℝ) : EReal)) := by
  have e := congrFun (h c) (fun a => a.elim0)
  obtain ⟨e, e4⟩ := Finite.and_one e
  obtain ⟨e, e2⟩ := Finite.and_one e
  obtain ⟨e0, e1⟩ := Finite.and_one e
  obtain ⟨a0, h0⟩ := Finite.real _ _ _ _ _ _ e0
  obtain ⟨a1, h1⟩ := Finite.real _ _ _ _ _ _ e1
  obtain ⟨a2, h2⟩ := Finite.real _ _ _ _ _ _ e2
  obtain ⟨a4, h4⟩ := Finite.real _ _ _ _ _ _ e4
  exact ⟨⟨fun p k => a0 (ix3 0 p k), fun p k => h0 _⟩, ⟨fun k => a1 (ix2 0 k), fun k => h1 _⟩,
    ⟨fun k l => a2 (ix3 0 k l), fun k l => h2 _⟩, ⟨fun p l => a4 (ix3 0 p l), fun p l => h4 _⟩⟩

/-- The residual stream's gradient is the reference's. -/
theorem dx_eq (h : Cert.Pre_MlpBIdeal_finite_b m) : dxArr m c =
    Cert.MlpBRefIdeal.Read.val_main_v45 (F := Ideal) (m (c.tc.loc main_arg0)) (m (c.tc.loc main_arg1)) (m (c.tc.loc main_arg2))
      (m (c.tc.loc main_arg3)) (m (c.tc.loc main_arg4)) := by
  obtain ⟨⟨rx, hx⟩, ⟨rg, hg⟩, ⟨rw', hw⟩, ⟨rf, hf⟩⟩ := finite m c h
  funext i
  idx_vars i
  have ex : x m c i0 = fun k => ((rx i0 k : ℝ) : EReal) := funext fun k => hx _ _
  have ed : rowGrad m c i0 = fun k => (((∑ l, rf i0 l * rw' k l) * rg k : ℝ) : EReal) := funext fun k => by
    unfold rowGrad
    simp only [hf, hw, hg, EReal.coe_mul, coe_sum]
  have key : dx2 m c i0 i1 + kgrad (x m c i0) (rowGrad m c i0) i1 = dx2 m c i0 i1 + rowGrad m c i0 i1 * rs (x m c i0)
      + x m c i0 i1 * gms (x m c i0) (rowGrad m c i0) + gms (x m c i0) (rowGrad m c i0) * x m c i0 i1 := by
    rw [ex, ed]
    exact kgrad_eq _ _ _ _
  exact key.trans (Cert.MlpBRefIdeal.Hand.dx_apply _ _ _ _ _ i0 i1).symm

/-- The weight's gradient is the reference's. -/
theorem dw_eq : dwArr m c = Cert.MlpBRefIdeal.Read.val_main_v23 (F := Ideal) (m (c.tc.loc main_arg0)) (m (c.tc.loc main_arg1))
    (m (c.tc.loc main_arg4)) := by
  funext i
  idx_vars i
  have e : ∑ p, dwRow m c i0 i1 p = ∑ p, df m c p i1 * (x m c p i0 * rs (x m c p) * g m c i0) :=
    Finset.sum_congr rfl fun p _ => mul_comm _ _
  exact e.trans (Cert.MlpBRefIdeal.Hand.dw_apply _ _ _ i0 i1).symm

/-- The gain's gradient is the reference's. -/
theorem dg_eq : dgArr m c = Cert.MlpBRefIdeal.Read.val_main_v46 (F := Ideal) (m (c.tc.loc main_arg0)) (m (c.tc.loc main_arg2))
    (m (c.tc.loc main_arg4)) := by
  funext i
  idx_vars i
  obtain rfl : i0 = 0 := Subsingleton.elim _ _
  have e : ∑ p, dgRow m c i1 p = ∑ p, x m c p i1 * rs (x m c p) * ∑ l, df m c p l * w m c i1 l :=
    Finset.sum_congr rfl fun p _ => mul_comm _ _
  exact e.trans (Cert.MlpBRefIdeal.Hand.dg_apply _ _ _ i1).symm

/-- The claim: from memories that agree on the arguments, the call and its reference both run and end with equal results. -/
theorem algebraic : Cert.algebraic_MlpBIdeal_MlpBRefIdeal_pre_finite_b (hMlpBIdeal := Cert.MlpBIdeal.Gen.facts)
    (hMlpBRefIdeal := Cert.MlpBRefIdeal.Gen.facts) (hPre_finite_b := preFacts) := by
  intro m g m' g' h hm
  refine ⟨fun c => dxArr m c, fun c => dwArr m c, fun c => dgArr m c, ?_, ?_⟩
  · refine (θ_run _ _ _).mono (fun r hr c => ?_) (Cert.MlpBIdeal.Value.run_blocks m g)
    obtain ⟨h0, h1, h2, hr⟩ := hr c
    exact ⟨h0.trans (Cert.MlpBIdeal.Hand.final_dx m c), h1.trans (Cert.MlpBIdeal.Hand.final_dw m c),
      h2.trans (Cert.MlpBIdeal.Hand.final_dg m c), hr⟩
  · refine (θ_run _ _ _).mono (fun r hr c => ?_) (Cert.MlpBRefIdeal.Value.run m' g')
    obtain ⟨h0, h1, h2, hr⟩ := hr c
    obtain ⟨e0, e1, e2, e3, e4⟩ := hm c
    refine ⟨h0.trans ?_, h1.trans ?_, h2.trans ?_, hr⟩
    · rw [Cert.MlpBRefIdeal.Read.val_main_v45_eq, e0, e1, e2, e3, e4]
      exact (dx_eq m c h).symm
    · rw [Cert.MlpBRefIdeal.Read.val_main_v23_eq, e0, e1, e4]
      exact (dw_eq m c).symm
    · rw [Cert.MlpBRefIdeal.Read.val_main_v46_eq, e0, e2, e4]
      exact (dg_eq m c).symm

/-- The reference runs, keeps its arguments, and ends with every counter at zero: it has no semaphores. -/
theorem refFrame : Cert.quiescent_MlpBRefIdeal (hMlpBRefIdeal := Cert.MlpBRefIdeal.Gen.facts) := fun m g _ =>
  (θ_run _ _ _).mono (fun r h => ⟨fun c => (h c).2.2.2, sem_eq_zero_of_no_sems (by decide) r.2⟩) (Cert.MlpBRefIdeal.Value.run m g)

end Cert.MlpBEq

end
-- ==== Proof.lean ====
/-
  The claims about the training step's backward calls, assembled from the modules under `Proof/`.
-/
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Pre_finite_ret
public import proofs.«01_k».proof.Proof.Gen.RetIdeal.Value
public import proofs.«01_k».proof.Proof.Gen.RetRefIdeal.Run
public import proofs.«01_k».proof.Proof.Gen.RetRefIdeal.Read
public import proofs.«01_k».proof.Proof.RetEq
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Pre_finite_mix
public import proofs.«01_k».proof.Proof.Gen.MixIdeal.Value
public import proofs.«01_k».proof.Proof.Gen.MixRefIdeal.Run
public import proofs.«01_k».proof.Proof.Gen.MixRefIdeal.Read
public import proofs.«01_k».proof.Proof.MixEq
public import proofs.«01_k».proof.Proof.Gen.MlpA
public import proofs.«01_k».proof.Proof.Gen.MlpA.Skeleton
public import proofs.«01_k».proof.Proof.Gen.MlpA.Launch
public import proofs.«01_k».proof.Proof.Gen.MlpA.Points
public import proofs.«01_k».proof.Proof.Gen.MlpA.Frame
public import proofs.«01_k».proof.Proof.Gen.MlpAIdeal
public import proofs.«01_k».proof.Proof.Gen.MlpAIdeal.Skeleton
public import proofs.«01_k».proof.Proof.Gen.MlpAIdeal.Launch
public import proofs.«01_k».proof.Proof.Gen.MlpAIdeal.Points
public import proofs.«01_k».proof.Proof.Gen.MlpAIdeal.Frame
public import proofs.«01_k».proof.Proof.Gen.MlpARefIdeal
public import proofs.«01_k».proof.Proof.Gen.Pre_finite_a
public import proofs.«01_k».proof.Proof.Gen.MlpAIdeal.Value
public import proofs.«01_k».proof.Proof.Gen.MlpARefIdeal.Run
public import proofs.«01_k».proof.Proof.Gen.MlpARefIdeal.Read
public import proofs.«01_k».proof.Proof.MlpAEq
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite_in
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjEq
public import proofs.«01_k».proof.Proof.Gen.MlpB
public import proofs.«01_k».proof.Proof.Gen.MlpB.Skeleton
public import proofs.«01_k».proof.Proof.Gen.MlpB.Launch
public import proofs.«01_k».proof.Proof.Gen.MlpB.Points
public import proofs.«01_k».proof.Proof.Gen.MlpB.Frame
public import proofs.«01_k».proof.Proof.Gen.MlpBIdeal
public import proofs.«01_k».proof.Proof.Gen.MlpBIdeal.Skeleton
public import proofs.«01_k».proof.Proof.Gen.MlpBIdeal.Launch
public import proofs.«01_k».proof.Proof.Gen.MlpBIdeal.Points
public import proofs.«01_k».proof.Proof.Gen.MlpBIdeal.Frame
public import proofs.«01_k».proof.Proof.Gen.MlpBRefIdeal
public import proofs.«01_k».proof.Proof.Gen.Pre_finite_b
public import proofs.«01_k».proof.Proof.Gen.MlpBIdeal.Value
public import proofs.«01_k».proof.Proof.Gen.MlpBRefIdeal.Run
public import proofs.«01_k».proof.Proof.Gen.MlpBRefIdeal.Read
public import proofs.«01_k».proof.Proof.MlpBEq
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Ret.Gen.facts, Cert.RetIdeal.Gen.facts, Cert.RetRefIdeal.Gen.facts, Cert.Mix.Gen.facts,
  Cert.MixIdeal.Gen.facts, Cert.MixRefIdeal.Gen.facts, Cert.MlpA.Gen.facts, Cert.MlpAIdeal.Gen.facts,
  Cert.MlpARefIdeal.Gen.facts, Cert.InProj.Gen.facts, Cert.InProjIdeal.Gen.facts, Cert.InProjRefIdeal.Gen.facts,
  Cert.MlpB.Gen.facts, Cert.MlpBIdeal.Gen.facts, Cert.MlpBRefIdeal.Gen.facts, Cert.Pre_finite_ret.Gen.facts,
  Cert.Pre_finite_mix.Gen.facts, Cert.Pre_finite_a.Gen.facts, Cert.Pre_finite_in.Gen.facts, Cert.Pre_finite_b.Gen.facts,
  fun m ρ _ => Cert.Ret.Gen.frame m ρ, fun m ρ _ => Cert.RetIdeal.Gen.frame m ρ, fun m ρ _ => Cert.RetIdeal.Gen.frame m ρ,
  Cert.RetEq.refFrame, fun m ρ _ => Cert.RetEq.refFrame m ρ trivial,
  fun m ρ _ => Cert.Mix.Gen.frame m ρ, fun m ρ _ => Cert.MixIdeal.Gen.frame m ρ, fun m ρ _ => Cert.MixIdeal.Gen.frame m ρ,
  Cert.MixEq.refFrame, fun m ρ _ => Cert.MixEq.refFrame m ρ trivial,
  fun m ρ _ => Cert.MlpA.Gen.frame m ρ, fun m ρ _ => Cert.MlpAIdeal.Gen.frame m ρ, fun m ρ _ => Cert.MlpAIdeal.Gen.frame m ρ,
  Cert.MlpAEq.refFrame, fun m ρ _ => Cert.MlpAEq.refFrame m ρ trivial,
  fun m ρ _ => Cert.InProj.Gen.frame m ρ, fun m ρ _ => Cert.InProjIdeal.Gen.frame m ρ, fun m ρ _ => Cert.InProjIdeal.Gen.frame m ρ,
  Cert.InProjEq.refFrame, fun m ρ _ => Cert.InProjEq.refFrame m ρ trivial,
  fun m ρ _ => Cert.MlpB.Gen.frame m ρ, fun m ρ _ => Cert.MlpBIdeal.Gen.frame m ρ, fun m ρ _ => Cert.MlpBIdeal.Gen.frame m ρ,
  Cert.MlpBEq.refFrame, fun m ρ _ => Cert.MlpBEq.refFrame m ρ trivial,
  trivial, Cert.RetEq.algebraic,
  ⟨IdealRules.named_const.statement _ _ _ _ _ rfl, IdealRules.named_const.statement _ _ _ _ _ rfl⟩, Cert.MixEq.algebraic,
  trivial, Cert.MlpAEq.algebraic,
  trivial, Cert.InProjEq.algebraic,
  trivial, Cert.MlpBEq.algebraic⟩

end Cert.Proof

end
